-- ==== Defs.lean ====
def Pre_RetSample (m : (ℓ : Loc Cert.RetSample.nD Cert.RetSample.τ Cert.RetSample.sig) → Buf (Elt Bits) ℓ) : Prop :=
  True

def Pre_RetSampleIdeal (m : (ℓ : Loc Cert.RetSampleIdeal.nD Cert.RetSampleIdeal.τ Cert.RetSampleIdeal.sig) → Buf (Elt Ideal) ℓ) : Prop :=
  True

def Pre_RetSampleRefIdeal (m : (ℓ : Loc Cert.RetSampleRefIdeal.nD Cert.RetSampleRefIdeal.τ Cert.RetSampleRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutRefIdeal (m : (ℓ : Loc Cert.RetOutRefIdeal.nD Cert.RetOutRefIdeal.τ Cert.RetOutRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_RwkvOut (m : (ℓ : Loc Cert.RwkvOut.nD Cert.RwkvOut.τ Cert.RwkvOut.sig) → Buf (Elt Bits) ℓ) : Prop :=
  True

def Pre_RwkvOutIdeal (m : (ℓ : Loc Cert.RwkvOutIdeal.nD Cert.RwkvOutIdeal.τ Cert.RwkvOutIdeal.sig) → Buf (Elt Ideal) ℓ) : Prop :=
  True

def Pre_RwkvOutRefIdeal (m : (ℓ : Loc Cert.RwkvOutRefIdeal.nD Cert.RwkvOutRefIdeal.τ Cert.RwkvOutRefIdeal.sig) → Buf (Elt Ideal) ℓ) : Prop :=
  True

def Pre_RetProj (m : (ℓ : Loc Cert.RetProj.nD Cert.RetProj.τ Cert.RetProj.sig) → Buf (Elt Bits) ℓ) : Prop :=
  True

def Pre_RetProjIdeal (m : (ℓ : Loc Cert.RetProjIdeal.nD Cert.RetProjIdeal.τ Cert.RetProjIdeal.sig) → Buf (Elt Ideal) ℓ) : Prop :=
  True

def Pre_RetProjRefIdeal (m : (ℓ : Loc Cert.RetProjRefIdeal.nD Cert.RetProjRefIdeal.τ Cert.RetProjRefIdeal.sig) → Buf (Elt Ideal) ℓ) : Prop :=
  True

def Pre_MlpFinal (m : (ℓ : Loc Cert.MlpFinal.nD Cert.MlpFinal.τ Cert.MlpFinal.sig) → Buf (Elt Bits) ℓ) : Prop :=
  True

def Pre_MlpFinalIdeal (m : (ℓ : Loc Cert.MlpFinalIdeal.nD Cert.MlpFinalIdeal.τ Cert.MlpFinalIdeal.sig) → Buf (Elt Ideal) ℓ) : Prop :=
  True

def Pre_MlpFinalRefIdeal (m : (ℓ : Loc Cert.MlpFinalRefIdeal.nD Cert.MlpFinalRefIdeal.τ Cert.MlpFinalRefIdeal.sig) → Buf (Elt Ideal) ℓ) : Prop :=
  True

def Pre_AttnCore (m : (ℓ : Loc Cert.AttnCore.nD Cert.AttnCore.τ Cert.AttnCore.sig) → Buf (Elt Bits) ℓ) : Prop :=
  True

def Pre_AttnCoreIdeal (m : (ℓ : Loc Cert.AttnCoreIdeal.nD Cert.AttnCoreIdeal.τ Cert.AttnCoreIdeal.sig) → Buf (Elt Ideal) ℓ) : Prop :=
  True

def Pre_AttnCoreIdeal_finite_scores [hPre_finite_scores : Cert.Pre_finite_scores.Facts] (m : (ℓ : Loc Cert.AttnCoreIdeal.nD Cert.AttnCoreIdeal.τ Cert.AttnCoreIdeal.sig) → Buf (Elt Ideal) ℓ) : Prop :=
  ∀ c : Dev Cert.AttnCoreIdeal.nD,
    (Cert.Pre_finite_scores.fn (F := Ideal) (m ((c.tc : Thread Cert.AttnCoreIdeal.nD Cert.AttnCoreIdeal.τ).loc Cert.AttnCoreIdeal.main_arg0)) (m ((c.tc : Thread Cert.AttnCoreIdeal.nD Cert.AttnCoreIdeal.τ).loc Cert.AttnCoreIdeal.main_arg1)) (m ((c.tc : Thread Cert.AttnCoreIdeal.nD Cert.AttnCoreIdeal.τ).loc Cert.AttnCoreIdeal.main_arg2)) (m ((c.tc : Thread Cert.AttnCoreIdeal.nD Cert.AttnCoreIdeal.τ).loc Cert.AttnCoreIdeal.main_arg3)) (m ((c.tc : Thread Cert.AttnCoreIdeal.nD Cert.AttnCoreIdeal.τ).loc Cert.AttnCoreIdeal.main_arg4)) (m ((c.tc : Thread Cert.AttnCoreIdeal.nD Cert.AttnCoreIdeal.τ).loc Cert.AttnCoreIdeal.main_arg5))).1 = (fun _ => 1#1)
    ∧ (Cert.Pre_finite_scores.fn (F := Ideal) (m ((c.tc : Thread Cert.AttnCoreIdeal.nD Cert.AttnCoreIdeal.τ).loc Cert.AttnCoreIdeal.main_arg0)) (m ((c.tc : Thread Cert.AttnCoreIdeal.nD Cert.AttnCoreIdeal.τ).loc Cert.AttnCoreIdeal.main_arg1)) (m ((c.tc : Thread Cert.AttnCoreIdeal.nD Cert.AttnCoreIdeal.τ).loc Cert.AttnCoreIdeal.main_arg2)) (m ((c.tc : Thread Cert.AttnCoreIdeal.nD Cert.AttnCoreIdeal.τ).loc Cert.AttnCoreIdeal.main_arg3)) (m ((c.tc : Thread Cert.AttnCoreIdeal.nD Cert.AttnCoreIdeal.τ).loc Cert.AttnCoreIdeal.main_arg4)) (m ((c.tc : Thread Cert.AttnCoreIdeal.nD Cert.AttnCoreIdeal.τ).loc Cert.AttnCoreIdeal.main_arg5))).2.1 = (fun _ => 1#1)
    ∧ (Cert.Pre_finite_scores.fn (F := Ideal) (m ((c.tc : Thread Cert.AttnCoreIdeal.nD Cert.AttnCoreIdeal.τ).loc Cert.AttnCoreIdeal.main_arg0)) (m ((c.tc : Thread Cert.AttnCoreIdeal.nD Cert.AttnCoreIdeal.τ).loc Cert.AttnCoreIdeal.main_arg1)) (m ((c.tc : Thread Cert.AttnCoreIdeal.nD Cert.AttnCoreIdeal.τ).loc Cert.AttnCoreIdeal.main_arg2)) (m ((c.tc : Thread Cert.AttnCoreIdeal.nD Cert.AttnCoreIdeal.τ).loc Cert.AttnCoreIdeal.main_arg3)) (m ((c.tc : Thread Cert.AttnCoreIdeal.nD Cert.AttnCoreIdeal.τ).loc Cert.AttnCoreIdeal.main_arg4)) (m ((c.tc : Thread Cert.AttnCoreIdeal.nD Cert.AttnCoreIdeal.τ).loc Cert.AttnCoreIdeal.main_arg5))).2.2.1 = (fun _ => 1#1)
    ∧ (Cert.Pre_finite_scores.fn (F := Ideal) (m ((c.tc : Thread Cert.AttnCoreIdeal.nD Cert.AttnCoreIdeal.τ).loc Cert.AttnCoreIdeal.main_arg0)) (m ((c.tc : Thread Cert.AttnCoreIdeal.nD Cert.AttnCoreIdeal.τ).loc Cert.AttnCoreIdeal.main_arg1)) (m ((c.tc : Thread Cert.AttnCoreIdeal.nD Cert.AttnCoreIdeal.τ).loc Cert.AttnCoreIdeal.main_arg2)) (m ((c.tc : Thread Cert.AttnCoreIdeal.nD Cert.AttnCoreIdeal.τ).loc Cert.AttnCoreIdeal.main_arg3)) (m ((c.tc : Thread Cert.AttnCoreIdeal.nD Cert.AttnCoreIdeal.τ).loc Cert.AttnCoreIdeal.main_arg4)) (m ((c.tc : Thread Cert.AttnCoreIdeal.nD Cert.AttnCoreIdeal.τ).loc Cert.AttnCoreIdeal.main_arg5))).2.2.2 = (fun _ => 1#1)

def Pre_AttnCoreRefIdeal (m : (ℓ : Loc Cert.AttnCoreRefIdeal.nD Cert.AttnCoreRefIdeal.τ Cert.AttnCoreRefIdeal.sig) → Buf (Elt Ideal) ℓ) : Prop :=
  True

def Pre_AttnCoreRefIdeal_finite_scores [hPre_finite_scores : Cert.Pre_finite_scores.Facts] (m : (ℓ : Loc Cert.AttnCoreRefIdeal.nD Cert.AttnCoreRefIdeal.τ Cert.AttnCoreRefIdeal.sig) → Buf (Elt Ideal) ℓ) : Prop :=
  ∀ c : Dev Cert.AttnCoreRefIdeal.nD,
    (Cert.Pre_finite_scores.fn (F := Ideal) (m ((c.tc : Thread Cert.AttnCoreRefIdeal.nD Cert.AttnCoreRefIdeal.τ).loc Cert.AttnCoreRefIdeal.main_arg0)) (m ((c.tc : Thread Cert.AttnCoreRefIdeal.nD Cert.AttnCoreRefIdeal.τ).loc Cert.AttnCoreRefIdeal.main_arg1)) (m ((c.tc : Thread Cert.AttnCoreRefIdeal.nD Cert.AttnCoreRefIdeal.τ).loc Cert.AttnCoreRefIdeal.main_arg2)) (m ((c.tc : Thread Cert.AttnCoreRefIdeal.nD Cert.AttnCoreRefIdeal.τ).loc Cert.AttnCoreRefIdeal.main_arg3)) (m ((c.tc : Thread Cert.AttnCoreRefIdeal.nD Cert.AttnCoreRefIdeal.τ).loc Cert.AttnCoreRefIdeal.main_arg4)) (m ((c.tc : Thread Cert.AttnCoreRefIdeal.nD Cert.AttnCoreRefIdeal.τ).loc Cert.AttnCoreRefIdeal.main_arg5))).1 = (fun _ => 1#1)
    ∧ (Cert.Pre_finite_scores.fn (F := Ideal) (m ((c.tc : Thread Cert.AttnCoreRefIdeal.nD Cert.AttnCoreRefIdeal.τ).loc Cert.AttnCoreRefIdeal.main_arg0)) (m ((c.tc : Thread Cert.AttnCoreRefIdeal.nD Cert.AttnCoreRefIdeal.τ).loc Cert.AttnCoreRefIdeal.main_arg1)) (m ((c.tc : Thread Cert.AttnCoreRefIdeal.nD Cert.AttnCoreRefIdeal.τ).loc Cert.AttnCoreRefIdeal.main_arg2)) (m ((c.tc : Thread Cert.AttnCoreRefIdeal.nD Cert.AttnCoreRefIdeal.τ).loc Cert.AttnCoreRefIdeal.main_arg3)) (m ((c.tc : Thread Cert.AttnCoreRefIdeal.nD Cert.AttnCoreRefIdeal.τ).loc Cert.AttnCoreRefIdeal.main_arg4)) (m ((c.tc : Thread Cert.AttnCoreRefIdeal.nD Cert.AttnCoreRefIdeal.τ).loc Cert.AttnCoreRefIdeal.main_arg5))).2.1 = (fun _ => 1#1)
    ∧ (Cert.Pre_finite_scores.fn (F := Ideal) (m ((c.tc : Thread Cert.AttnCoreRefIdeal.nD Cert.AttnCoreRefIdeal.τ).loc Cert.AttnCoreRefIdeal.main_arg0)) (m ((c.tc : Thread Cert.AttnCoreRefIdeal.nD Cert.AttnCoreRefIdeal.τ).loc Cert.AttnCoreRefIdeal.main_arg1)) (m ((c.tc : Thread Cert.AttnCoreRefIdeal.nD Cert.AttnCoreRefIdeal.τ).loc Cert.AttnCoreRefIdeal.main_arg2)) (m ((c.tc : Thread Cert.AttnCoreRefIdeal.nD Cert.AttnCoreRefIdeal.τ).loc Cert.AttnCoreRefIdeal.main_arg3)) (m ((c.tc : Thread Cert.AttnCoreRefIdeal.nD Cert.AttnCoreRefIdeal.τ).loc Cert.AttnCoreRefIdeal.main_arg4)) (m ((c.tc : Thread Cert.AttnCoreRefIdeal.nD Cert.AttnCoreRefIdeal.τ).loc Cert.AttnCoreRefIdeal.main_arg5))).2.2.1 = (fun _ => 1#1)
    ∧ (Cert.Pre_finite_scores.fn (F := Ideal) (m ((c.tc : Thread Cert.AttnCoreRefIdeal.nD Cert.AttnCoreRefIdeal.τ).loc Cert.AttnCoreRefIdeal.main_arg0)) (m ((c.tc : Thread Cert.AttnCoreRefIdeal.nD Cert.AttnCoreRefIdeal.τ).loc Cert.AttnCoreRefIdeal.main_arg1)) (m ((c.tc : Thread Cert.AttnCoreRefIdeal.nD Cert.AttnCoreRefIdeal.τ).loc Cert.AttnCoreRefIdeal.main_arg2)) (m ((c.tc : Thread Cert.AttnCoreRefIdeal.nD Cert.AttnCoreRefIdeal.τ).loc Cert.AttnCoreRefIdeal.main_arg3)) (m ((c.tc : Thread Cert.AttnCoreRefIdeal.nD Cert.AttnCoreRefIdeal.τ).loc Cert.AttnCoreRefIdeal.main_arg4)) (m ((c.tc : Thread Cert.AttnCoreRefIdeal.nD Cert.AttnCoreRefIdeal.τ).loc Cert.AttnCoreRefIdeal.main_arg5))).2.2.2 = (fun _ => 1#1)

def quiescent_RetSample [hRetSample : Cert.RetSample.Facts] : Prop :=
  ∀ (m : (ℓ : Loc Cert.RetSample.nD Cert.RetSample.τ Cert.RetSample.sig) → Buf (Elt Bits) ℓ) (g : Dev Cert.RetSample.nD → PrngReg), Pre_RetSample m →
    θ_run (Cert.RetSample.defs (F := Bits)) (onTc (τ := Cert.RetSample.τ) (Cert.RetSample.main (F := Bits))) ⟨m, fun _ => 0, g⟩ (fun r => (∀ c : Dev Cert.RetSample.nD,
      r.2.mem ((c.tc : Thread Cert.RetSample.nD Cert.RetSample.τ).loc Cert.RetSample.main_arg0) = m ((c.tc : Thread Cert.RetSample.nD Cert.RetSample.τ).loc Cert.RetSample.main_arg0)
      ∧ r.2.mem ((c.tc : Thread Cert.RetSample.nD Cert.RetSample.τ).loc Cert.RetSample.main_arg1) = m ((c.tc : Thread Cert.RetSample.nD Cert.RetSample.τ).loc Cert.RetSample.main_arg1)
      ∧ r.2.mem ((c.tc : Thread Cert.RetSample.nD Cert.RetSample.τ).loc Cert.RetSample.main_arg2) = m ((c.tc : Thread Cert.RetSample.nD Cert.RetSample.τ).loc Cert.RetSample.main_arg2))
      ∧ r.2.sem = fun _ => 0)

def quiescent_RetSampleIdeal [hRetSampleIdeal : Cert.RetSampleIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg), Pre_RetSampleIdeal m →
    θ_run (Cert.RetSampleIdeal.defs (F := Ideal)) (onTc (τ := Cert.RetSampleIdeal.τ) (Cert.RetSampleIdeal.main (F := Ideal))) ⟨m, fun _ => 0, g⟩ (fun r => (∀ c : Dev Cert.RetSampleIdeal.nD,
      r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
      ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1)
      ∧ r.2.mem ((c.tc : Thread Cert.RetSampleIdeal.nD Cert.RetSampleIdeal.τ).loc Cert.RetSampleIdeal.main_arg2) = m ((c.tc : Thread Cert.RetSampleIdeal.nD Cert.RetSampleIdeal.τ).loc Cert.RetSampleIdeal.main_arg2))
      ∧ r.2.sem = fun _ => 0)

def quiescent_RetSampleRefIdeal [hRetSampleRefIdeal : Cert.RetSampleRefIdeal.Facts] : Prop :=
  ∀ (m : (ℓ : Loc Cert.RetSampleRefIdeal.nD Cert.RetSampleRefIdeal.τ Cert.RetSampleRefIdeal.sig) → Buf (Elt Ideal) ℓ) (g : Dev Cert.RetSampleRefIdeal.nD → PrngReg), Pre_RetSampleRefIdeal m →
    θ_run (Cert.RetSampleRefIdeal.defs (F := Ideal)) (onTc (τ := Cert.RetSampleRefIdeal.τ) (Cert.RetSampleRefIdeal.main (F := Ideal))) ⟨m, fun _ => 0, g⟩ (fun r => (∀ c : Dev Cert.RetSampleRefIdeal.nD,
      r.2.mem ((c.tc : Thread Cert.RetSampleRefIdeal.nD Cert.RetSampleRefIdeal.τ).loc Cert.RetSampleRefIdeal.main_arg0) = m ((c.tc : Thread Cert.RetSampleRefIdeal.nD Cert.RetSampleRefIdeal.τ).loc Cert.RetSampleRefIdeal.main_arg0)
      ∧ r.2.mem ((c.tc : Thread Cert.RetSampleRefIdeal.nD Cert.RetSampleRefIdeal.τ).loc Cert.RetSampleRefIdeal.main_arg1) = m ((c.tc : Thread Cert.RetSampleRefIdeal.nD Cert.RetSampleRefIdeal.τ).loc Cert.RetSampleRefIdeal.main_arg1)
      ∧ r.2.mem ((c.tc : Thread Cert.RetSampleRefIdeal.nD Cert.RetSampleRefIdeal.τ).loc Cert.RetSampleRefIdeal.main_arg2) = m ((c.tc : Thread Cert.RetSampleRefIdeal.nD Cert.RetSampleRefIdeal.τ).loc Cert.RetSampleRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2)
      ∧ r.2.mem ((c.tc : Thread Cert.RetOut.nD Cert.RetOut.τ).loc Cert.RetOut.main_arg3) = m ((c.tc : Thread Cert.RetOut.nD Cert.RetOut.τ).loc Cert.RetOut.main_arg3))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2)
      ∧ r.2.mem ((c.tc : Thread Cert.RetOutRefIdeal.nD Cert.RetOutRefIdeal.τ).loc Cert.RetOutRefIdeal.main_arg3) = m ((c.tc : Thread Cert.RetOutRefIdeal.nD Cert.RetOutRefIdeal.τ).loc Cert.RetOutRefIdeal.main_arg3))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def quiescent_RwkvOut [hRwkvOut : Cert.RwkvOut.Facts] : Prop :=
  ∀ (m : (ℓ : Loc Cert.RwkvOut.nD Cert.RwkvOut.τ Cert.RwkvOut.sig) → Buf (Elt Bits) ℓ) (g : Dev Cert.RwkvOut.nD → PrngReg), Pre_RwkvOut m →
    θ_run (Cert.RwkvOut.defs (F := Bits)) (onTc (τ := Cert.RwkvOut.τ) (Cert.RwkvOut.main (F := Bits))) ⟨m, fun _ => 0, g⟩ (fun r => (∀ c : Dev Cert.RwkvOut.nD,
      r.2.mem ((c.tc : Thread Cert.RwkvOut.nD Cert.RwkvOut.τ).loc Cert.RwkvOut.main_arg0) = m ((c.tc : Thread Cert.RwkvOut.nD Cert.RwkvOut.τ).loc Cert.RwkvOut.main_arg0)
      ∧ r.2.mem ((c.tc : Thread Cert.RwkvOut.nD Cert.RwkvOut.τ).loc Cert.RwkvOut.main_arg1) = m ((c.tc : Thread Cert.RwkvOut.nD Cert.RwkvOut.τ).loc Cert.RwkvOut.main_arg1)
      ∧ r.2.mem ((c.tc : Thread Cert.RwkvOut.nD Cert.RwkvOut.τ).loc Cert.RwkvOut.main_arg2) = m ((c.tc : Thread Cert.RwkvOut.nD Cert.RwkvOut.τ).loc Cert.RwkvOut.main_arg2))
      ∧ r.2.sem = fun _ => 0)

def quiescent_RwkvOutIdeal [hRwkvOutIdeal : Cert.RwkvOutIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg), Pre_RwkvOutIdeal m →
    θ_run (Cert.RwkvOutIdeal.defs (F := Ideal)) (onTc (τ := Cert.RwkvOutIdeal.τ) (Cert.RwkvOutIdeal.main (F := Ideal))) ⟨m, fun _ => 0, g⟩ (fun r => (∀ c : Dev Cert.RwkvOutIdeal.nD,
      r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
      ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
      ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2))
      ∧ r.2.sem = fun _ => 0)

def quiescent_RwkvOutRefIdeal [hRwkvOutRefIdeal : Cert.RwkvOutRefIdeal.Facts] : Prop :=
  ∀ (m : (ℓ : Loc Cert.RwkvOutRefIdeal.nD Cert.RwkvOutRefIdeal.τ Cert.RwkvOutRefIdeal.sig) → Buf (Elt Ideal) ℓ) (g : Dev Cert.RwkvOutRefIdeal.nD → PrngReg), Pre_RwkvOutRefIdeal m →
    θ_run (Cert.RwkvOutRefIdeal.defs (F := Ideal)) (onTc (τ := Cert.RwkvOutRefIdeal.τ) (Cert.RwkvOutRefIdeal.main (F := Ideal))) ⟨m, fun _ => 0, g⟩ (fun r => (∀ c : Dev Cert.RwkvOutRefIdeal.nD,
      r.2.mem ((c.tc : Thread Cert.RwkvOutRefIdeal.nD Cert.RwkvOutRefIdeal.τ).loc Cert.RwkvOutRefIdeal.main_arg0) = m ((c.tc : Thread Cert.RwkvOutRefIdeal.nD Cert.RwkvOutRefIdeal.τ).loc Cert.RwkvOutRefIdeal.main_arg0)
      ∧ r.2.mem ((c.tc : Thread Cert.RwkvOutRefIdeal.nD Cert.RwkvOutRefIdeal.τ).loc Cert.RwkvOutRefIdeal.main_arg1) = m ((c.tc : Thread Cert.RwkvOutRefIdeal.nD Cert.RwkvOutRefIdeal.τ).loc Cert.RwkvOutRefIdeal.main_arg1)
      ∧ r.2.mem ((c.tc : Thread Cert.RwkvOutRefIdeal.nD Cert.RwkvOutRefIdeal.τ).loc Cert.RwkvOutRefIdeal.main_arg2) = m ((c.tc : Thread Cert.RwkvOutRefIdeal.nD Cert.RwkvOutRefIdeal.τ).loc Cert.RwkvOutRefIdeal.main_arg2))
      ∧ r.2.sem = fun _ => 0)

def quiescent_RetProj [hRetProj : Cert.RetProj.Facts] : Prop :=
  ∀ (m : (ℓ : Loc Cert.RetProj.nD Cert.RetProj.τ Cert.RetProj.sig) → Buf (Elt Bits) ℓ) (g : Dev Cert.RetProj.nD → PrngReg), Pre_RetProj m →
    θ_run (Cert.RetProj.defs (F := Bits)) (onTc (τ := Cert.RetProj.τ) (Cert.RetProj.main (F := Bits))) ⟨m, fun _ => 0, g⟩ (fun r => (∀ c : Dev Cert.RetProj.nD,
      r.2.mem ((c.tc : Thread Cert.RetProj.nD Cert.RetProj.τ).loc Cert.RetProj.main_arg0) = m ((c.tc : Thread Cert.RetProj.nD Cert.RetProj.τ).loc Cert.RetProj.main_arg0)
      ∧ r.2.mem ((c.tc : Thread Cert.RetProj.nD Cert.RetProj.τ).loc Cert.RetProj.main_arg1) = m ((c.tc : Thread Cert.RetProj.nD Cert.RetProj.τ).loc Cert.RetProj.main_arg1)
      ∧ r.2.mem ((c.tc : Thread Cert.RetProj.nD Cert.RetProj.τ).loc Cert.RetProj.main_arg2) = m ((c.tc : Thread Cert.RetProj.nD Cert.RetProj.τ).loc Cert.RetProj.main_arg2))
      ∧ r.2.sem = fun _ => 0)

def quiescent_RetProjIdeal [hRetProjIdeal : Cert.RetProjIdeal.Facts] : Prop :=
  ∀ (m : (ℓ : Loc Cert.RetProjIdeal.nD Cert.RetProjIdeal.τ Cert.RetProjIdeal.sig) → Buf (Elt Ideal) ℓ) (g : Dev Cert.RetProjIdeal.nD → PrngReg), Pre_RetProjIdeal m →
    θ_run (Cert.RetProjIdeal.defs (F := Ideal)) (onTc (τ := Cert.RetProjIdeal.τ) (Cert.RetProjIdeal.main (F := Ideal))) ⟨m, fun _ => 0, g⟩ (fun r => (∀ c : Dev Cert.RetProjIdeal.nD,
      r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
      ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
      ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2))
      ∧ r.2.sem = fun _ => 0)

def quiescent_RetProjRefIdeal [hRetProjRefIdeal : Cert.RetProjRefIdeal.Facts] : Prop :=
  ∀ (m : (ℓ : Loc Cert.RetProjRefIdeal.nD Cert.RetProjRefIdeal.τ Cert.RetProjRefIdeal.sig) → Buf (Elt Ideal) ℓ) (g : Dev Cert.RetProjRefIdeal.nD → PrngReg), Pre_RetProjRefIdeal m →
    θ_run (Cert.RetProjRefIdeal.defs (F := Ideal)) (onTc (τ := Cert.RetProjRefIdeal.τ) (Cert.RetProjRefIdeal.main (F := Ideal))) ⟨m, fun _ => 0, g⟩ (fun r => (∀ c : Dev Cert.RetProjRefIdeal.nD,
      r.2.mem ((c.tc : Thread Cert.RetProjRefIdeal.nD Cert.RetProjRefIdeal.τ).loc Cert.RetProjRefIdeal.main_arg0) = m ((c.tc : Thread Cert.RetProjRefIdeal.nD Cert.RetProjRefIdeal.τ).loc Cert.RetProjRefIdeal.main_arg0)
      ∧ r.2.mem ((c.tc : Thread Cert.RetProjRefIdeal.nD Cert.RetProjRefIdeal.τ).loc Cert.RetProjRefIdeal.main_arg1) = m ((c.tc : Thread Cert.RetProjRefIdeal.nD Cert.RetProjRefIdeal.τ).loc Cert.RetProjRefIdeal.main_arg1)
      ∧ r.2.mem ((c.tc : Thread Cert.RetProjRefIdeal.nD Cert.RetProjRefIdeal.τ).loc Cert.RetProjRefIdeal.main_arg2) = m ((c.tc : Thread Cert.RetProjRefIdeal.nD Cert.RetProjRefIdeal.τ).loc Cert.RetProjRefIdeal.main_arg2))
      ∧ r.2.sem = fun _ => 0)

def quiescent_MlpFinal [hMlpFinal : Cert.MlpFinal.Facts] : Prop :=
  ∀ (m : (ℓ : Loc Cert.MlpFinal.nD Cert.MlpFinal.τ Cert.MlpFinal.sig) → Buf (Elt Bits) ℓ) (g : Dev Cert.MlpFinal.nD → PrngReg), Pre_MlpFinal m →
    θ_run (Cert.MlpFinal.defs (F := Bits)) (onTc (τ := Cert.MlpFinal.τ) (Cert.MlpFinal.main (F := Bits))) ⟨m, fun _ => 0, g⟩ (fun r => (∀ c : Dev Cert.MlpFinal.nD,
      r.2.mem ((c.tc : Thread Cert.MlpFinal.nD Cert.MlpFinal.τ).loc Cert.MlpFinal.main_arg0) = m ((c.tc : Thread Cert.MlpFinal.nD Cert.MlpFinal.τ).loc Cert.MlpFinal.main_arg0)
      ∧ r.2.mem ((c.tc : Thread Cert.MlpFinal.nD Cert.MlpFinal.τ).loc Cert.MlpFinal.main_arg1) = m ((c.tc : Thread Cert.MlpFinal.nD Cert.MlpFinal.τ).loc Cert.MlpFinal.main_arg1)
      ∧ r.2.mem ((c.tc : Thread Cert.MlpFinal.nD Cert.MlpFinal.τ).loc Cert.MlpFinal.main_arg2) = m ((c.tc : Thread Cert.MlpFinal.nD Cert.MlpFinal.τ).loc Cert.MlpFinal.main_arg2)
      ∧ r.2.mem ((c.tc : Thread Cert.MlpFinal.nD Cert.MlpFinal.τ).loc Cert.MlpFinal.main_arg3) = m ((c.tc : Thread Cert.MlpFinal.nD Cert.MlpFinal.τ).loc Cert.MlpFinal.main_arg3)
      ∧ r.2.mem ((c.tc : Thread Cert.MlpFinal.nD Cert.MlpFinal.τ).loc Cert.MlpFinal.main_arg4) = m ((c.tc : Thread Cert.MlpFinal.nD Cert.MlpFinal.τ).loc Cert.MlpFinal.main_arg4))
      ∧ r.2.sem = fun _ => 0)

def quiescent_MlpFinalIdeal [hMlpFinalIdeal : Cert.MlpFinalIdeal.Facts] : Prop :=
  ∀ (m : (ℓ : Loc Cert.MlpFinalIdeal.nD Cert.MlpFinalIdeal.τ Cert.MlpFinalIdeal.sig) → Buf (Elt Ideal) ℓ) (g : Dev Cert.MlpFinalIdeal.nD → PrngReg), Pre_MlpFinalIdeal m →
    θ_run (Cert.MlpFinalIdeal.defs (F := Ideal)) (onTc (τ := Cert.MlpFinalIdeal.τ) (Cert.MlpFinalIdeal.main (F := Ideal))) ⟨m, fun _ => 0, g⟩ (fun r => (∀ c : Dev Cert.MlpFinalIdeal.nD,
      r.2.mem ((c.tc : Thread Cert.MlpFinalIdeal.nD Cert.MlpFinalIdeal.τ).loc Cert.MlpFinalIdeal.main_arg0) = m ((c.tc : Thread Cert.MlpFinalIdeal.nD Cert.MlpFinalIdeal.τ).loc Cert.MlpFinalIdeal.main_arg0)
      ∧ r.2.mem ((c.tc : Thread Cert.MlpFinalIdeal.nD Cert.MlpFinalIdeal.τ).loc Cert.MlpFinalIdeal.main_arg1) = m ((c.tc : Thread Cert.MlpFinalIdeal.nD Cert.MlpFinalIdeal.τ).loc Cert.MlpFinalIdeal.main_arg1)
      ∧ r.2.mem ((c.tc : Thread Cert.MlpFinalIdeal.nD Cert.MlpFinalIdeal.τ).loc Cert.MlpFinalIdeal.main_arg2) = m ((c.tc : Thread Cert.MlpFinalIdeal.nD Cert.MlpFinalIdeal.τ).loc Cert.MlpFinalIdeal.main_arg2)
      ∧ r.2.mem ((c.tc : Thread Cert.MlpFinalIdeal.nD Cert.MlpFinalIdeal.τ).loc Cert.MlpFinalIdeal.main_arg3) = m ((c.tc : Thread Cert.MlpFinalIdeal.nD Cert.MlpFinalIdeal.τ).loc Cert.MlpFinalIdeal.main_arg3)
      ∧ r.2.mem ((c.tc : Thread Cert.MlpFinalIdeal.nD Cert.MlpFinalIdeal.τ).loc Cert.MlpFinalIdeal.main_arg4) = m ((c.tc : Thread Cert.MlpFinalIdeal.nD Cert.MlpFinalIdeal.τ).loc Cert.MlpFinalIdeal.main_arg4))
      ∧ r.2.sem = fun _ => 0)

def quiescent_MlpFinalRefIdeal [hMlpFinalRefIdeal : Cert.MlpFinalRefIdeal.Facts] : Prop :=
  ∀ (m : (ℓ : Loc Cert.MlpFinalRefIdeal.nD Cert.MlpFinalRefIdeal.τ Cert.MlpFinalRefIdeal.sig) → Buf (Elt Ideal) ℓ) (g : Dev Cert.MlpFinalRefIdeal.nD → PrngReg), Pre_MlpFinalRefIdeal m →
    θ_run (Cert.MlpFinalRefIdeal.defs (F := Ideal)) (onTc (τ := Cert.MlpFinalRefIdeal.τ) (Cert.MlpFinalRefIdeal.main (F := Ideal))) ⟨m, fun _ => 0, g⟩ (fun r => (∀ c : Dev Cert.MlpFinalRefIdeal.nD,
      r.2.mem ((c.tc : Thread Cert.MlpFinalRefIdeal.nD Cert.MlpFinalRefIdeal.τ).loc Cert.MlpFinalRefIdeal.main_arg0) = m ((c.tc : Thread Cert.MlpFinalRefIdeal.nD Cert.MlpFinalRefIdeal.τ).loc Cert.MlpFinalRefIdeal.main_arg0)
      ∧ r.2.mem ((c.tc : Thread Cert.MlpFinalRefIdeal.nD Cert.MlpFinalRefIdeal.τ).loc Cert.MlpFinalRefIdeal.main_arg1) = m ((c.tc : Thread Cert.MlpFinalRefIdeal.nD Cert.MlpFinalRefIdeal.τ).loc Cert.MlpFinalRefIdeal.main_arg1)
      ∧ r.2.mem ((c.tc : Thread Cert.MlpFinalRefIdeal.nD Cert.MlpFinalRefIdeal.τ).loc Cert.MlpFinalRefIdeal.main_arg2) = m ((c.tc : Thread Cert.MlpFinalRefIdeal.nD Cert.MlpFinalRefIdeal.τ).loc Cert.MlpFinalRefIdeal.main_arg2)
      ∧ r.2.mem ((c.tc : Thread Cert.MlpFinalRefIdeal.nD Cert.MlpFinalRefIdeal.τ).loc Cert.MlpFinalRefIdeal.main_arg3) = m ((c.tc : Thread Cert.MlpFinalRefIdeal.nD Cert.MlpFinalRefIdeal.τ).loc Cert.MlpFinalRefIdeal.main_arg3)
      ∧ r.2.mem ((c.tc : Thread Cert.MlpFinalRefIdeal.nD Cert.MlpFinalRefIdeal.τ).loc Cert.MlpFinalRefIdeal.main_arg4) = m ((c.tc : Thread Cert.MlpFinalRefIdeal.nD Cert.MlpFinalRefIdeal.τ).loc Cert.MlpFinalRefIdeal.main_arg4))
      ∧ r.2.sem = fun _ => 0)

def quiescent_AttnCore [hAttnCore : Cert.AttnCore.Facts] : Prop :=
  ∀ (m : (ℓ : Loc Cert.AttnCore.nD Cert.AttnCore.τ Cert.AttnCore.sig) → Buf (Elt Bits) ℓ) (g : Dev Cert.AttnCore.nD → PrngReg), Pre_AttnCore m →
    θ_run (Cert.AttnCore.defs (F := Bits)) (onTc (τ := Cert.AttnCore.τ) (Cert.AttnCore.main (F := Bits))) ⟨m, fun _ => 0, g⟩ (fun r => (∀ c : Dev Cert.AttnCore.nD,
      r.2.mem ((c.tc : Thread Cert.AttnCore.nD Cert.AttnCore.τ).loc Cert.AttnCore.main_arg0) = m ((c.tc : Thread Cert.AttnCore.nD Cert.AttnCore.τ).loc Cert.AttnCore.main_arg0)
      ∧ r.2.mem ((c.tc : Thread Cert.AttnCore.nD Cert.AttnCore.τ).loc Cert.AttnCore.main_arg1) = m ((c.tc : Thread Cert.AttnCore.nD Cert.AttnCore.τ).loc Cert.AttnCore.main_arg1)
      ∧ r.2.mem ((c.tc : Thread Cert.AttnCore.nD Cert.AttnCore.τ).loc Cert.AttnCore.main_arg2) = m ((c.tc : Thread Cert.AttnCore.nD Cert.AttnCore.τ).loc Cert.AttnCore.main_arg2)
      ∧ r.2.mem ((c.tc : Thread Cert.AttnCore.nD Cert.AttnCore.τ).loc Cert.AttnCore.main_arg3) = m ((c.tc : Thread Cert.AttnCore.nD Cert.AttnCore.τ).loc Cert.AttnCore.main_arg3)
      ∧ r.2.mem ((c.tc : Thread Cert.AttnCore.nD Cert.AttnCore.τ).loc Cert.AttnCore.main_arg4) = m ((c.tc : Thread Cert.AttnCore.nD Cert.AttnCore.τ).loc Cert.AttnCore.main_arg4)
      ∧ r.2.mem ((c.tc : Thread Cert.AttnCore.nD Cert.AttnCore.τ).loc Cert.AttnCore.main_arg5) = m ((c.tc : Thread Cert.AttnCore.nD Cert.AttnCore.τ).loc Cert.AttnCore.main_arg5))
      ∧ r.2.sem = fun _ => 0)

def quiescent_AttnCoreIdeal [hAttnCoreIdeal : Cert.AttnCoreIdeal.Facts] : Prop :=
  ∀ (m : (ℓ : Loc Cert.AttnCoreIdeal.nD Cert.AttnCoreIdeal.τ Cert.AttnCoreIdeal.sig) → Buf (Elt Ideal) ℓ) (g : Dev Cert.AttnCoreIdeal.nD → PrngReg), Pre_AttnCoreIdeal m →
    θ_run (Cert.AttnCoreIdeal.defs (F := Ideal)) (onTc (τ := Cert.AttnCoreIdeal.τ) (Cert.AttnCoreIdeal.main (F := Ideal))) ⟨m, fun _ => 0, g⟩ (fun r => (∀ c : Dev Cert.AttnCoreIdeal.nD,
      r.2.mem ((c.tc : Thread Cert.AttnCoreIdeal.nD Cert.AttnCoreIdeal.τ).loc Cert.AttnCoreIdeal.main_arg0) = m ((c.tc : Thread Cert.AttnCoreIdeal.nD Cert.AttnCoreIdeal.τ).loc Cert.AttnCoreIdeal.main_arg0)
      ∧ r.2.mem ((c.tc : Thread Cert.AttnCoreIdeal.nD Cert.AttnCoreIdeal.τ).loc Cert.AttnCoreIdeal.main_arg1) = m ((c.tc : Thread Cert.AttnCoreIdeal.nD Cert.AttnCoreIdeal.τ).loc Cert.AttnCoreIdeal.main_arg1)
      ∧ r.2.mem ((c.tc : Thread Cert.AttnCoreIdeal.nD Cert.AttnCoreIdeal.τ).loc Cert.AttnCoreIdeal.main_arg2) = m ((c.tc : Thread Cert.AttnCoreIdeal.nD Cert.AttnCoreIdeal.τ).loc Cert.AttnCoreIdeal.main_arg2)
      ∧ r.2.mem ((c.tc : Thread Cert.AttnCoreIdeal.nD Cert.AttnCoreIdeal.τ).loc Cert.AttnCoreIdeal.main_arg3) = m ((c.tc : Thread Cert.AttnCoreIdeal.nD Cert.AttnCoreIdeal.τ).loc Cert.AttnCoreIdeal.main_arg3)
      ∧ r.2.mem ((c.tc : Thread Cert.AttnCoreIdeal.nD Cert.AttnCoreIdeal.τ).loc Cert.AttnCoreIdeal.main_arg4) = m ((c.tc : Thread Cert.AttnCoreIdeal.nD Cert.AttnCoreIdeal.τ).loc Cert.AttnCoreIdeal.main_arg4)
      ∧ r.2.mem ((c.tc : Thread Cert.AttnCoreIdeal.nD Cert.AttnCoreIdeal.τ).loc Cert.AttnCoreIdeal.main_arg5) = m ((c.tc : Thread Cert.AttnCoreIdeal.nD Cert.AttnCoreIdeal.τ).loc Cert.AttnCoreIdeal.main_arg5))
      ∧ r.2.sem = fun _ => 0)

def quiescent_AttnCoreIdeal_pre_finite_scores [hAttnCoreIdeal : Cert.AttnCoreIdeal.Facts] [hPre_finite_scores : Cert.Pre_finite_scores.Facts] : Prop :=
  ∀ (m : (ℓ : Loc Cert.AttnCoreIdeal.nD Cert.AttnCoreIdeal.τ Cert.AttnCoreIdeal.sig) → Buf (Elt Ideal) ℓ) (g : Dev Cert.AttnCoreIdeal.nD → PrngReg), Pre_AttnCoreIdeal_finite_scores m →
    θ_run (Cert.AttnCoreIdeal.defs (F := Ideal)) (onTc (τ := Cert.AttnCoreIdeal.τ) (Cert.AttnCoreIdeal.main (F := Ideal))) ⟨m, fun _ => 0, g⟩ (fun r => (∀ c : Dev Cert.AttnCoreIdeal.nD,
      r.2.mem ((c.tc : Thread Cert.AttnCoreIdeal.nD Cert.AttnCoreIdeal.τ).loc Cert.AttnCoreIdeal.main_arg0) = m ((c.tc : Thread Cert.AttnCoreIdeal.nD Cert.AttnCoreIdeal.τ).loc Cert.AttnCoreIdeal.main_arg0)
      ∧ r.2.mem ((c.tc : Thread Cert.AttnCoreIdeal.nD Cert.AttnCoreIdeal.τ).loc Cert.AttnCoreIdeal.main_arg1) = m ((c.tc : Thread Cert.AttnCoreIdeal.nD Cert.AttnCoreIdeal.τ).loc Cert.AttnCoreIdeal.main_arg1)
      ∧ r.2.mem ((c.tc : Thread Cert.AttnCoreIdeal.nD Cert.AttnCoreIdeal.τ).loc Cert.AttnCoreIdeal.main_arg2) = m ((c.tc : Thread Cert.AttnCoreIdeal.nD Cert.AttnCoreIdeal.τ).loc Cert.AttnCoreIdeal.main_arg2)
      ∧ r.2.mem ((c.tc : Thread Cert.AttnCoreIdeal.nD Cert.AttnCoreIdeal.τ).loc Cert.AttnCoreIdeal.main_arg3) = m ((c.tc : Thread Cert.AttnCoreIdeal.nD Cert.AttnCoreIdeal.τ).loc Cert.AttnCoreIdeal.main_arg3)
      ∧ r.2.mem ((c.tc : Thread Cert.AttnCoreIdeal.nD Cert.AttnCoreIdeal.τ).loc Cert.AttnCoreIdeal.main_arg4) = m ((c.tc : Thread Cert.AttnCoreIdeal.nD Cert.AttnCoreIdeal.τ).loc Cert.AttnCoreIdeal.main_arg4)
      ∧ r.2.mem ((c.tc : Thread Cert.AttnCoreIdeal.nD Cert.AttnCoreIdeal.τ).loc Cert.AttnCoreIdeal.main_arg5) = m ((c.tc : Thread Cert.AttnCoreIdeal.nD Cert.AttnCoreIdeal.τ).loc Cert.AttnCoreIdeal.main_arg5))
      ∧ r.2.sem = fun _ => 0)

def quiescent_AttnCoreRefIdeal [hAttnCoreRefIdeal : Cert.AttnCoreRefIdeal.Facts] : Prop :=
  ∀ (m : (ℓ : Loc Cert.AttnCoreRefIdeal.nD Cert.AttnCoreRefIdeal.τ Cert.AttnCoreRefIdeal.sig) → Buf (Elt Ideal) ℓ) (g : Dev Cert.AttnCoreRefIdeal.nD → PrngReg), Pre_AttnCoreRefIdeal m →
    θ_run (Cert.AttnCoreRefIdeal.defs (F := Ideal)) (onTc (τ := Cert.AttnCoreRefIdeal.τ) (Cert.AttnCoreRefIdeal.main (F := Ideal))) ⟨m, fun _ => 0, g⟩ (fun r => (∀ c : Dev Cert.AttnCoreRefIdeal.nD,
      r.2.mem ((c.tc : Thread Cert.AttnCoreRefIdeal.nD Cert.AttnCoreRefIdeal.τ).loc Cert.AttnCoreRefIdeal.main_arg0) = m ((c.tc : Thread Cert.AttnCoreRefIdeal.nD Cert.AttnCoreRefIdeal.τ).loc Cert.AttnCoreRefIdeal.main_arg0)
      ∧ r.2.mem ((c.tc : Thread Cert.AttnCoreRefIdeal.nD Cert.AttnCoreRefIdeal.τ).loc Cert.AttnCoreRefIdeal.main_arg1) = m ((c.tc : Thread Cert.AttnCoreRefIdeal.nD Cert.AttnCoreRefIdeal.τ).loc Cert.AttnCoreRefIdeal.main_arg1)
      ∧ r.2.mem ((c.tc : Thread Cert.AttnCoreRefIdeal.nD Cert.AttnCoreRefIdeal.τ).loc Cert.AttnCoreRefIdeal.main_arg2) = m ((c.tc : Thread Cert.AttnCoreRefIdeal.nD Cert.AttnCoreRefIdeal.τ).loc Cert.AttnCoreRefIdeal.main_arg2)
      ∧ r.2.mem ((c.tc : Thread Cert.AttnCoreRefIdeal.nD Cert.AttnCoreRefIdeal.τ).loc Cert.AttnCoreRefIdeal.main_arg3) = m ((c.tc : Thread Cert.AttnCoreRefIdeal.nD Cert.AttnCoreRefIdeal.τ).loc Cert.AttnCoreRefIdeal.main_arg3)
      ∧ r.2.mem ((c.tc : Thread Cert.AttnCoreRefIdeal.nD Cert.AttnCoreRefIdeal.τ).loc Cert.AttnCoreRefIdeal.main_arg4) = m ((c.tc : Thread Cert.AttnCoreRefIdeal.nD Cert.AttnCoreRefIdeal.τ).loc Cert.AttnCoreRefIdeal.main_arg4)
      ∧ r.2.mem ((c.tc : Thread Cert.AttnCoreRefIdeal.nD Cert.AttnCoreRefIdeal.τ).loc Cert.AttnCoreRefIdeal.main_arg5) = m ((c.tc : Thread Cert.AttnCoreRefIdeal.nD Cert.AttnCoreRefIdeal.τ).loc Cert.AttnCoreRefIdeal.main_arg5))
      ∧ r.2.sem = fun _ => 0)

def quiescent_AttnCoreRefIdeal_pre_finite_scores [hAttnCoreRefIdeal : Cert.AttnCoreRefIdeal.Facts] [hPre_finite_scores : Cert.Pre_finite_scores.Facts] : Prop :=
  ∀ (m : (ℓ : Loc Cert.AttnCoreRefIdeal.nD Cert.AttnCoreRefIdeal.τ Cert.AttnCoreRefIdeal.sig) → Buf (Elt Ideal) ℓ) (g : Dev Cert.AttnCoreRefIdeal.nD → PrngReg), Pre_AttnCoreRefIdeal_finite_scores m →
    θ_run (Cert.AttnCoreRefIdeal.defs (F := Ideal)) (onTc (τ := Cert.AttnCoreRefIdeal.τ) (Cert.AttnCoreRefIdeal.main (F := Ideal))) ⟨m, fun _ => 0, g⟩ (fun r => (∀ c : Dev Cert.AttnCoreRefIdeal.nD,
      r.2.mem ((c.tc : Thread Cert.AttnCoreRefIdeal.nD Cert.AttnCoreRefIdeal.τ).loc Cert.AttnCoreRefIdeal.main_arg0) = m ((c.tc : Thread Cert.AttnCoreRefIdeal.nD Cert.AttnCoreRefIdeal.τ).loc Cert.AttnCoreRefIdeal.main_arg0)
      ∧ r.2.mem ((c.tc : Thread Cert.AttnCoreRefIdeal.nD Cert.AttnCoreRefIdeal.τ).loc Cert.AttnCoreRefIdeal.main_arg1) = m ((c.tc : Thread Cert.AttnCoreRefIdeal.nD Cert.AttnCoreRefIdeal.τ).loc Cert.AttnCoreRefIdeal.main_arg1)
      ∧ r.2.mem ((c.tc : Thread Cert.AttnCoreRefIdeal.nD Cert.AttnCoreRefIdeal.τ).loc Cert.AttnCoreRefIdeal.main_arg2) = m ((c.tc : Thread Cert.AttnCoreRefIdeal.nD Cert.AttnCoreRefIdeal.τ).loc Cert.AttnCoreRefIdeal.main_arg2)
      ∧ r.2.mem ((c.tc : Thread Cert.AttnCoreRefIdeal.nD Cert.AttnCoreRefIdeal.τ).loc Cert.AttnCoreRefIdeal.main_arg3) = m ((c.tc : Thread Cert.AttnCoreRefIdeal.nD Cert.AttnCoreRefIdeal.τ).loc Cert.AttnCoreRefIdeal.main_arg3)
      ∧ r.2.mem ((c.tc : Thread Cert.AttnCoreRefIdeal.nD Cert.AttnCoreRefIdeal.τ).loc Cert.AttnCoreRefIdeal.main_arg4) = m ((c.tc : Thread Cert.AttnCoreRefIdeal.nD Cert.AttnCoreRefIdeal.τ).loc Cert.AttnCoreRefIdeal.main_arg4)
      ∧ r.2.mem ((c.tc : Thread Cert.AttnCoreRefIdeal.nD Cert.AttnCoreRefIdeal.τ).loc Cert.AttnCoreRefIdeal.main_arg5) = m ((c.tc : Thread Cert.AttnCoreRefIdeal.nD Cert.AttnCoreRefIdeal.τ).loc Cert.AttnCoreRefIdeal.main_arg5))
      ∧ r.2.sem = fun _ => 0)

def preserves_RetSample_RetSampleIdeal : Prop :=
  True

def algebraic_RetSampleIdeal_RetSampleRefIdeal [hRetSampleIdeal : Cert.RetSampleIdeal.Facts] [hRetSampleRefIdeal : Cert.RetSampleRefIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg)
    (m' : (ℓ : Loc Cert.RetSampleRefIdeal.nD Cert.RetSampleRefIdeal.τ Cert.RetSampleRefIdeal.sig) → Buf (Elt Ideal) ℓ) (g' : Dev Cert.RetSampleRefIdeal.nD → PrngReg), Pre_RetSampleIdeal m →
    (∀ c : Dev Cert.RetSampleIdeal.nD,
      m' ((c.tc : Thread Cert.RetSampleRefIdeal.nD Cert.RetSampleRefIdeal.τ).loc Cert.RetSampleRefIdeal.main_arg0) = m ((c.tc : Thread Cert.RetSampleIdeal.nD Cert.RetSampleIdeal.τ).loc Cert.RetSampleIdeal.main_arg0)
      ∧ m' ((c.tc : Thread Cert.RetSampleRefIdeal.nD Cert.RetSampleRefIdeal.τ).loc Cert.RetSampleRefIdeal.main_arg1) = m ((c.tc : Thread Cert.RetSampleIdeal.nD Cert.RetSampleIdeal.τ).loc Cert.RetSampleIdeal.main_arg1)
      ∧ m' ((c.tc : Thread Cert.RetSampleRefIdeal.nD Cert.RetSampleRefIdeal.τ).loc Cert.RetSampleRefIdeal.main_arg2) = m ((c.tc : Thread Cert.RetSampleIdeal.nD Cert.RetSampleIdeal.τ).loc Cert.RetSampleIdeal.main_arg2)) →
    ∃ (v0 : (c : Dev Cert.RetSampleIdeal.nD) → Buf (Elt Ideal) ((c.tc : Thread Cert.RetSampleIdeal.nD Cert.RetSampleIdeal.τ).loc Cert.RetSampleIdeal.main_v9_0)) (v1 : (c : Dev Cert.RetSampleIdeal.nD) → Buf (Elt Ideal) ((c.tc : Thread Cert.RetSampleIdeal.nD Cert.RetSampleIdeal.τ).loc Cert.RetSampleIdeal.main_v9_1)),
      θ_run (Cert.RetSampleIdeal.defs (F := Ideal)) (onTc (τ := Cert.RetSampleIdeal.τ) (Cert.RetSampleIdeal.main (F := Ideal))) ⟨m, fun _ => 0, g⟩ (fun r => ∀ c : Dev Cert.RetSampleIdeal.nD,
          r.2.mem ((c.tc : Thread Cert.RetSampleIdeal.nD Cert.RetSampleIdeal.τ).loc Cert.RetSampleIdeal.main_v9_0) = v0 c
          ∧ r.2.mem ((c.tc : Thread Cert.RetSampleIdeal.nD Cert.RetSampleIdeal.τ).loc Cert.RetSampleIdeal.main_v9_1) = v1 c
          ∧ r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
          ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1)
          ∧ r.2.mem ((c.tc : Thread Cert.RetSampleIdeal.nD Cert.RetSampleIdeal.τ).loc Cert.RetSampleIdeal.main_arg2) = m ((c.tc : Thread Cert.RetSampleIdeal.nD Cert.RetSampleIdeal.τ).loc Cert.RetSampleIdeal.main_arg2))
      ∧ θ_run (Cert.RetSampleRefIdeal.defs (F := Ideal)) (onTc (τ := Cert.RetSampleRefIdeal.τ) (Cert.RetSampleRefIdeal.main (F := Ideal))) ⟨m', fun _ => 0, g'⟩ (fun r => ∀ c : Dev Cert.RetSampleRefIdeal.nD,
          r.2.mem ((c.tc : Thread Cert.RetSampleRefIdeal.nD Cert.RetSampleRefIdeal.τ).loc Cert.RetSampleRefIdeal.main_v102) = v0 c
          ∧ r.2.mem ((c.tc : Thread Cert.RetSampleRefIdeal.nD Cert.RetSampleRefIdeal.τ).loc Cert.RetSampleRefIdeal.main_v75) = v1 c
          ∧ r.2.mem ((c.tc : Thread Cert.RetSampleRefIdeal.nD Cert.RetSampleRefIdeal.τ).loc Cert.RetSampleRefIdeal.main_arg0) = m' ((c.tc : Thread Cert.RetSampleRefIdeal.nD Cert.RetSampleRefIdeal.τ).loc Cert.RetSampleRefIdeal.main_arg0)
          ∧ r.2.mem ((c.tc : Thread Cert.RetSampleRefIdeal.nD Cert.RetSampleRefIdeal.τ).loc Cert.RetSampleRefIdeal.main_arg1) = m' ((c.tc : Thread Cert.RetSampleRefIdeal.nD Cert.RetSampleRefIdeal.τ).loc Cert.RetSampleRefIdeal.main_arg1)
          ∧ r.2.mem ((c.tc : Thread Cert.RetSampleRefIdeal.nD Cert.RetSampleRefIdeal.τ).loc Cert.RetSampleRefIdeal.main_arg2) = m' ((c.tc : Thread Cert.RetSampleRefIdeal.nD Cert.RetSampleRefIdeal.τ).loc Cert.RetSampleRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v21) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_RetOut_RetOutIdeal : Prop :=
  True

def algebraic_RetOutIdeal_RetOutRefIdeal [hRetOutIdeal : Cert.RetOutIdeal.Facts] [hRetOutRefIdeal : Cert.RetOutRefIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)
      ∧ m' ((c.tc : Thread Cert.RetOutRefIdeal.nD Cert.RetOutRefIdeal.τ).loc Cert.RetOutRefIdeal.main_arg3) = m ((c.tc : Thread Cert.RetOutIdeal.nD Cert.RetOutIdeal.τ).loc Cert.RetOutIdeal.main_arg3)) →
    ∃ (v0 : (c : Dev Cert.RetOutIdeal.nD) → Buf (Elt Ideal) ((c.tc : Thread Cert.RetOutIdeal.nD Cert.RetOutIdeal.τ).loc Cert.RetOutIdeal.main_v1)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v1) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v8) = v0 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2)
          ∧ r.2.mem ((c.tc : Thread Cert.RetOutRefIdeal.nD Cert.RetOutRefIdeal.τ).loc Cert.RetOutRefIdeal.main_arg3) = m' ((c.tc : Thread Cert.RetOutRefIdeal.nD Cert.RetOutRefIdeal.τ).loc Cert.RetOutRefIdeal.main_arg3))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v1)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v1) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v8) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3))

def preserves_RwkvOut_RwkvOutIdeal : Prop :=
  True

def algebraic_RwkvOutIdeal_RwkvOutRefIdeal [hRwkvOutIdeal : Cert.RwkvOutIdeal.Facts] [hRwkvOutRefIdeal : Cert.RwkvOutRefIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg)
    (m' : (ℓ : Loc Cert.RwkvOutRefIdeal.nD Cert.RwkvOutRefIdeal.τ Cert.RwkvOutRefIdeal.sig) → Buf (Elt Ideal) ℓ) (g' : Dev Cert.RwkvOutRefIdeal.nD → PrngReg), Pre_RwkvOutIdeal m →
    (∀ c : Dev Cert.RwkvOutIdeal.nD,
      m' ((c.tc : Thread Cert.RwkvOutRefIdeal.nD Cert.RwkvOutRefIdeal.τ).loc Cert.RwkvOutRefIdeal.main_arg0) = m ((c.tc : Thread Cert.RwkvOutIdeal.nD Cert.RwkvOutIdeal.τ).loc Cert.RwkvOutIdeal.main_arg0)
      ∧ m' ((c.tc : Thread Cert.RwkvOutRefIdeal.nD Cert.RwkvOutRefIdeal.τ).loc Cert.RwkvOutRefIdeal.main_arg1) = m ((c.tc : Thread Cert.RwkvOutIdeal.nD Cert.RwkvOutIdeal.τ).loc Cert.RwkvOutIdeal.main_arg1)
      ∧ m' ((c.tc : Thread Cert.RwkvOutRefIdeal.nD Cert.RwkvOutRefIdeal.τ).loc Cert.RwkvOutRefIdeal.main_arg2) = m ((c.tc : Thread Cert.RwkvOutIdeal.nD Cert.RwkvOutIdeal.τ).loc Cert.RwkvOutIdeal.main_arg2)) →
    ∃ (v0 : (c : Dev Cert.RwkvOutIdeal.nD) → Buf (Elt Ideal) ((c.tc : Thread Cert.RwkvOutIdeal.nD Cert.RwkvOutIdeal.τ).loc Cert.RwkvOutIdeal.main_v1)),
      θ_run (Cert.RwkvOutIdeal.defs (F := Ideal)) (onTc (τ := Cert.RwkvOutIdeal.τ) (Cert.RwkvOutIdeal.main (F := Ideal))) ⟨m, fun _ => 0, g⟩ (fun r => ∀ c : Dev Cert.RwkvOutIdeal.nD,
          r.2.mem ((c.tc : Thread Cert.RwkvOutIdeal.nD Cert.RwkvOutIdeal.τ).loc Cert.RwkvOutIdeal.main_v1) = v0 c
          ∧ r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
          ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
          ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2))
      ∧ θ_run (Cert.RwkvOutRefIdeal.defs (F := Ideal)) (onTc (τ := Cert.RwkvOutRefIdeal.τ) (Cert.RwkvOutRefIdeal.main (F := Ideal))) ⟨m', fun _ => 0, g'⟩ (fun r => ∀ c : Dev Cert.RwkvOutRefIdeal.nD,
          r.2.mem ((c.tc : Thread Cert.RwkvOutRefIdeal.nD Cert.RwkvOutRefIdeal.τ).loc Cert.RwkvOutRefIdeal.main_v2) = v0 c
          ∧ r.2.mem ((c.tc : Thread Cert.RwkvOutRefIdeal.nD Cert.RwkvOutRefIdeal.τ).loc Cert.RwkvOutRefIdeal.main_arg0) = m' ((c.tc : Thread Cert.RwkvOutRefIdeal.nD Cert.RwkvOutRefIdeal.τ).loc Cert.RwkvOutRefIdeal.main_arg0)
          ∧ r.2.mem ((c.tc : Thread Cert.RwkvOutRefIdeal.nD Cert.RwkvOutRefIdeal.τ).loc Cert.RwkvOutRefIdeal.main_arg1) = m' ((c.tc : Thread Cert.RwkvOutRefIdeal.nD Cert.RwkvOutRefIdeal.τ).loc Cert.RwkvOutRefIdeal.main_arg1)
          ∧ r.2.mem ((c.tc : Thread Cert.RwkvOutRefIdeal.nD Cert.RwkvOutRefIdeal.τ).loc Cert.RwkvOutRefIdeal.main_arg2) = m' ((c.tc : Thread Cert.RwkvOutRefIdeal.nD Cert.RwkvOutRefIdeal.τ).loc Cert.RwkvOutRefIdeal.main_arg2))

def preserves_RetProj_RetProjIdeal : Prop :=
  True

def algebraic_RetProjIdeal_RetProjRefIdeal [hRetProjIdeal : Cert.RetProjIdeal.Facts] [hRetProjRefIdeal : Cert.RetProjRefIdeal.Facts] : Prop :=
  ∀ (m : (ℓ : Loc Cert.RetProjIdeal.nD Cert.RetProjIdeal.τ Cert.RetProjIdeal.sig) → Buf (Elt Ideal) ℓ) (g : Dev Cert.RetProjIdeal.nD → PrngReg)
    (m' : (ℓ : Loc Cert.RetProjRefIdeal.nD Cert.RetProjRefIdeal.τ Cert.RetProjRefIdeal.sig) → Buf (Elt Ideal) ℓ) (g' : Dev Cert.RetProjRefIdeal.nD → PrngReg), Pre_RetProjIdeal m →
    (∀ c : Dev Cert.RetProjIdeal.nD,
      m' ((c.tc : Thread Cert.RetProjRefIdeal.nD Cert.RetProjRefIdeal.τ).loc Cert.RetProjRefIdeal.main_arg0) = m ((c.tc : Thread Cert.RetProjIdeal.nD Cert.RetProjIdeal.τ).loc Cert.RetProjIdeal.main_arg0)
      ∧ m' ((c.tc : Thread Cert.RetProjRefIdeal.nD Cert.RetProjRefIdeal.τ).loc Cert.RetProjRefIdeal.main_arg1) = m ((c.tc : Thread Cert.RetProjIdeal.nD Cert.RetProjIdeal.τ).loc Cert.RetProjIdeal.main_arg1)
      ∧ m' ((c.tc : Thread Cert.RetProjRefIdeal.nD Cert.RetProjRefIdeal.τ).loc Cert.RetProjRefIdeal.main_arg2) = m ((c.tc : Thread Cert.RetProjIdeal.nD Cert.RetProjIdeal.τ).loc Cert.RetProjIdeal.main_arg2)) →
    ∃ (v0 : (c : Dev Cert.RetProjIdeal.nD) → Buf (Elt Ideal) ((c.tc : Thread Cert.RetProjIdeal.nD Cert.RetProjIdeal.τ).loc Cert.RetProjIdeal.main_v24)),
      θ_run (Cert.RetProjIdeal.defs (F := Ideal)) (onTc (τ := Cert.RetProjIdeal.τ) (Cert.RetProjIdeal.main (F := Ideal))) ⟨m, fun _ => 0, g⟩ (fun r => ∀ c : Dev Cert.RetProjIdeal.nD,
          r.2.mem ((c.tc : Thread Cert.RetProjIdeal.nD Cert.RetProjIdeal.τ).loc Cert.RetProjIdeal.main_v24) = v0 c
          ∧ r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
          ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
          ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2))
      ∧ θ_run (Cert.RetProjRefIdeal.defs (F := Ideal)) (onTc (τ := Cert.RetProjRefIdeal.τ) (Cert.RetProjRefIdeal.main (F := Ideal))) ⟨m', fun _ => 0, g'⟩ (fun r => ∀ c : Dev Cert.RetProjRefIdeal.nD,
          r.2.mem ((c.tc : Thread Cert.RetProjRefIdeal.nD Cert.RetProjRefIdeal.τ).loc Cert.RetProjRefIdeal.main_v201) = v0 c
          ∧ r.2.mem ((c.tc : Thread Cert.RetProjRefIdeal.nD Cert.RetProjRefIdeal.τ).loc Cert.RetProjRefIdeal.main_arg0) = m' ((c.tc : Thread Cert.RetProjRefIdeal.nD Cert.RetProjRefIdeal.τ).loc Cert.RetProjRefIdeal.main_arg0)
          ∧ r.2.mem ((c.tc : Thread Cert.RetProjRefIdeal.nD Cert.RetProjRefIdeal.τ).loc Cert.RetProjRefIdeal.main_arg1) = m' ((c.tc : Thread Cert.RetProjRefIdeal.nD Cert.RetProjRefIdeal.τ).loc Cert.RetProjRefIdeal.main_arg1)
          ∧ r.2.mem ((c.tc : Thread Cert.RetProjRefIdeal.nD Cert.RetProjRefIdeal.τ).loc Cert.RetProjRefIdeal.main_arg2) = m' ((c.tc : Thread Cert.RetProjRefIdeal.nD Cert.RetProjRefIdeal.τ).loc Cert.RetProjRefIdeal.main_arg2))

def preserves_MlpFinal_MlpFinalIdeal : Prop :=
  True

def algebraic_MlpFinalIdeal_MlpFinalRefIdeal [hMlpFinalIdeal : Cert.MlpFinalIdeal.Facts] [hMlpFinalRefIdeal : Cert.MlpFinalRefIdeal.Facts] : Prop :=
  ∀ (m : (ℓ : Loc Cert.MlpFinalIdeal.nD Cert.MlpFinalIdeal.τ Cert.MlpFinalIdeal.sig) → Buf (Elt Ideal) ℓ) (g : Dev Cert.MlpFinalIdeal.nD → PrngReg)
    (m' : (ℓ : Loc Cert.MlpFinalRefIdeal.nD Cert.MlpFinalRefIdeal.τ Cert.MlpFinalRefIdeal.sig) → Buf (Elt Ideal) ℓ) (g' : Dev Cert.MlpFinalRefIdeal.nD → PrngReg), Pre_MlpFinalIdeal m →
    (∀ c : Dev Cert.MlpFinalIdeal.nD,
      m' ((c.tc : Thread Cert.MlpFinalRefIdeal.nD Cert.MlpFinalRefIdeal.τ).loc Cert.MlpFinalRefIdeal.main_arg0) = m ((c.tc : Thread Cert.MlpFinalIdeal.nD Cert.MlpFinalIdeal.τ).loc Cert.MlpFinalIdeal.main_arg0)
      ∧ m' ((c.tc : Thread Cert.MlpFinalRefIdeal.nD Cert.MlpFinalRefIdeal.τ).loc Cert.MlpFinalRefIdeal.main_arg1) = m ((c.tc : Thread Cert.MlpFinalIdeal.nD Cert.MlpFinalIdeal.τ).loc Cert.MlpFinalIdeal.main_arg1)
      ∧ m' ((c.tc : Thread Cert.MlpFinalRefIdeal.nD Cert.MlpFinalRefIdeal.τ).loc Cert.MlpFinalRefIdeal.main_arg2) = m ((c.tc : Thread Cert.MlpFinalIdeal.nD Cert.MlpFinalIdeal.τ).loc Cert.MlpFinalIdeal.main_arg2)
      ∧ m' ((c.tc : Thread Cert.MlpFinalRefIdeal.nD Cert.MlpFinalRefIdeal.τ).loc Cert.MlpFinalRefIdeal.main_arg3) = m ((c.tc : Thread Cert.MlpFinalIdeal.nD Cert.MlpFinalIdeal.τ).loc Cert.MlpFinalIdeal.main_arg3)
      ∧ m' ((c.tc : Thread Cert.MlpFinalRefIdeal.nD Cert.MlpFinalRefIdeal.τ).loc Cert.MlpFinalRefIdeal.main_arg4) = m ((c.tc : Thread Cert.MlpFinalIdeal.nD Cert.MlpFinalIdeal.τ).loc Cert.MlpFinalIdeal.main_arg4)) →
    ∃ (v0 : (c : Dev Cert.MlpFinalIdeal.nD) → Buf (Elt Ideal) ((c.tc : Thread Cert.MlpFinalIdeal.nD Cert.MlpFinalIdeal.τ).loc Cert.MlpFinalIdeal.main_v4_0)) (v1 : (c : Dev Cert.MlpFinalIdeal.nD) → Buf (Elt Ideal) ((c.tc : Thread Cert.MlpFinalIdeal.nD Cert.MlpFinalIdeal.τ).loc Cert.MlpFinalIdeal.main_v4_1)),
      θ_run (Cert.MlpFinalIdeal.defs (F := Ideal)) (onTc (τ := Cert.MlpFinalIdeal.τ) (Cert.MlpFinalIdeal.main (F := Ideal))) ⟨m, fun _ => 0, g⟩ (fun r => ∀ c : Dev Cert.MlpFinalIdeal.nD,
          r.2.mem ((c.tc : Thread Cert.MlpFinalIdeal.nD Cert.MlpFinalIdeal.τ).loc Cert.MlpFinalIdeal.main_v4_0) = v0 c
          ∧ r.2.mem ((c.tc : Thread Cert.MlpFinalIdeal.nD Cert.MlpFinalIdeal.τ).loc Cert.MlpFinalIdeal.main_v4_1) = v1 c
          ∧ r.2.mem ((c.tc : Thread Cert.MlpFinalIdeal.nD Cert.MlpFinalIdeal.τ).loc Cert.MlpFinalIdeal.main_arg0) = m ((c.tc : Thread Cert.MlpFinalIdeal.nD Cert.MlpFinalIdeal.τ).loc Cert.MlpFinalIdeal.main_arg0)
          ∧ r.2.mem ((c.tc : Thread Cert.MlpFinalIdeal.nD Cert.MlpFinalIdeal.τ).loc Cert.MlpFinalIdeal.main_arg1) = m ((c.tc : Thread Cert.MlpFinalIdeal.nD Cert.MlpFinalIdeal.τ).loc Cert.MlpFinalIdeal.main_arg1)
          ∧ r.2.mem ((c.tc : Thread Cert.MlpFinalIdeal.nD Cert.MlpFinalIdeal.τ).loc Cert.MlpFinalIdeal.main_arg2) = m ((c.tc : Thread Cert.MlpFinalIdeal.nD Cert.MlpFinalIdeal.τ).loc Cert.MlpFinalIdeal.main_arg2)
          ∧ r.2.mem ((c.tc : Thread Cert.MlpFinalIdeal.nD Cert.MlpFinalIdeal.τ).loc Cert.MlpFinalIdeal.main_arg3) = m ((c.tc : Thread Cert.MlpFinalIdeal.nD Cert.MlpFinalIdeal.τ).loc Cert.MlpFinalIdeal.main_arg3)
          ∧ r.2.mem ((c.tc : Thread Cert.MlpFinalIdeal.nD Cert.MlpFinalIdeal.τ).loc Cert.MlpFinalIdeal.main_arg4) = m ((c.tc : Thread Cert.MlpFinalIdeal.nD Cert.MlpFinalIdeal.τ).loc Cert.MlpFinalIdeal.main_arg4))
      ∧ θ_run (Cert.MlpFinalRefIdeal.defs (F := Ideal)) (onTc (τ := Cert.MlpFinalRefIdeal.τ) (Cert.MlpFinalRefIdeal.main (F := Ideal))) ⟨m', fun _ => 0, g'⟩ (fun r => ∀ c : Dev Cert.MlpFinalRefIdeal.nD,
          r.2.mem ((c.tc : Thread Cert.MlpFinalRefIdeal.nD Cert.MlpFinalRefIdeal.τ).loc Cert.MlpFinalRefIdeal.main_v58) = v0 c
          ∧ r.2.mem ((c.tc : Thread Cert.MlpFinalRefIdeal.nD Cert.MlpFinalRefIdeal.τ).loc Cert.MlpFinalRefIdeal.main_v71) = v1 c
          ∧ r.2.mem ((c.tc : Thread Cert.MlpFinalRefIdeal.nD Cert.MlpFinalRefIdeal.τ).loc Cert.MlpFinalRefIdeal.main_arg0) = m' ((c.tc : Thread Cert.MlpFinalRefIdeal.nD Cert.MlpFinalRefIdeal.τ).loc Cert.MlpFinalRefIdeal.main_arg0)
          ∧ r.2.mem ((c.tc : Thread Cert.MlpFinalRefIdeal.nD Cert.MlpFinalRefIdeal.τ).loc Cert.MlpFinalRefIdeal.main_arg1) = m' ((c.tc : Thread Cert.MlpFinalRefIdeal.nD Cert.MlpFinalRefIdeal.τ).loc Cert.MlpFinalRefIdeal.main_arg1)
          ∧ r.2.mem ((c.tc : Thread Cert.MlpFinalRefIdeal.nD Cert.MlpFinalRefIdeal.τ).loc Cert.MlpFinalRefIdeal.main_arg2) = m' ((c.tc : Thread Cert.MlpFinalRefIdeal.nD Cert.MlpFinalRefIdeal.τ).loc Cert.MlpFinalRefIdeal.main_arg2)
          ∧ r.2.mem ((c.tc : Thread Cert.MlpFinalRefIdeal.nD Cert.MlpFinalRefIdeal.τ).loc Cert.MlpFinalRefIdeal.main_arg3) = m' ((c.tc : Thread Cert.MlpFinalRefIdeal.nD Cert.MlpFinalRefIdeal.τ).loc Cert.MlpFinalRefIdeal.main_arg3)
          ∧ r.2.mem ((c.tc : Thread Cert.MlpFinalRefIdeal.nD Cert.MlpFinalRefIdeal.τ).loc Cert.MlpFinalRefIdeal.main_arg4) = m' ((c.tc : Thread Cert.MlpFinalRefIdeal.nD Cert.MlpFinalRefIdeal.τ).loc Cert.MlpFinalRefIdeal.main_arg4))

def preserves_AttnCore_AttnCoreIdeal : Prop :=
  True

def algebraic_AttnCoreIdeal_AttnCoreRefIdeal_pre_finite_scores [hAttnCoreIdeal : Cert.AttnCoreIdeal.Facts] [hAttnCoreRefIdeal : Cert.AttnCoreRefIdeal.Facts] [hPre_finite_scores : Cert.Pre_finite_scores.Facts] : Prop :=
  ∀ (m : (ℓ : Loc Cert.AttnCoreIdeal.nD Cert.AttnCoreIdeal.τ Cert.AttnCoreIdeal.sig) → Buf (Elt Ideal) ℓ) (g : Dev Cert.AttnCoreIdeal.nD → PrngReg)
    (m' : (ℓ : Loc Cert.AttnCoreRefIdeal.nD Cert.AttnCoreRefIdeal.τ Cert.AttnCoreRefIdeal.sig) → Buf (Elt Ideal) ℓ) (g' : Dev Cert.AttnCoreRefIdeal.nD → PrngReg), Pre_AttnCoreIdeal_finite_scores m →
    (∀ c : Dev Cert.AttnCoreIdeal.nD,
      m' ((c.tc : Thread Cert.AttnCoreRefIdeal.nD Cert.AttnCoreRefIdeal.τ).loc Cert.AttnCoreRefIdeal.main_arg0) = m ((c.tc : Thread Cert.AttnCoreIdeal.nD Cert.AttnCoreIdeal.τ).loc Cert.AttnCoreIdeal.main_arg0)
      ∧ m' ((c.tc : Thread Cert.AttnCoreRefIdeal.nD Cert.AttnCoreRefIdeal.τ).loc Cert.AttnCoreRefIdeal.main_arg1) = m ((c.tc : Thread Cert.AttnCoreIdeal.nD Cert.AttnCoreIdeal.τ).loc Cert.AttnCoreIdeal.main_arg1)
      ∧ m' ((c.tc : Thread Cert.AttnCoreRefIdeal.nD Cert.AttnCoreRefIdeal.τ).loc Cert.AttnCoreRefIdeal.main_arg2) = m ((c.tc : Thread Cert.AttnCoreIdeal.nD Cert.AttnCoreIdeal.τ).loc Cert.AttnCoreIdeal.main_arg2)
      ∧ m' ((c.tc : Thread Cert.AttnCoreRefIdeal.nD Cert.AttnCoreRefIdeal.τ).loc Cert.AttnCoreRefIdeal.main_arg3) = m ((c.tc : Thread Cert.AttnCoreIdeal.nD Cert.AttnCoreIdeal.τ).loc Cert.AttnCoreIdeal.main_arg3)
      ∧ m' ((c.tc : Thread Cert.AttnCoreRefIdeal.nD Cert.AttnCoreRefIdeal.τ).loc Cert.AttnCoreRefIdeal.main_arg4) = m ((c.tc : Thread Cert.AttnCoreIdeal.nD Cert.AttnCoreIdeal.τ).loc Cert.AttnCoreIdeal.main_arg4)
      ∧ m' ((c.tc : Thread Cert.AttnCoreRefIdeal.nD Cert.AttnCoreRefIdeal.τ).loc Cert.AttnCoreRefIdeal.main_arg5) = m ((c.tc : Thread Cert.AttnCoreIdeal.nD Cert.AttnCoreIdeal.τ).loc Cert.AttnCoreIdeal.main_arg5)) →
    ∃ (v0 : (c : Dev Cert.AttnCoreIdeal.nD) → Buf (Elt Ideal) ((c.tc : Thread Cert.AttnCoreIdeal.nD Cert.AttnCoreIdeal.τ).loc Cert.AttnCoreIdeal.main_v37)),
      θ_run (Cert.AttnCoreIdeal.defs (F := Ideal)) (onTc (τ := Cert.AttnCoreIdeal.τ) (Cert.AttnCoreIdeal.main (F := Ideal))) ⟨m, fun _ => 0, g⟩ (fun r => ∀ c : Dev Cert.AttnCoreIdeal.nD,
          r.2.mem ((c.tc : Thread Cert.AttnCoreIdeal.nD Cert.AttnCoreIdeal.τ).loc Cert.AttnCoreIdeal.main_v37) = v0 c
          ∧ r.2.mem ((c.tc : Thread Cert.AttnCoreIdeal.nD Cert.AttnCoreIdeal.τ).loc Cert.AttnCoreIdeal.main_arg0) = m ((c.tc : Thread Cert.AttnCoreIdeal.nD Cert.AttnCoreIdeal.τ).loc Cert.AttnCoreIdeal.main_arg0)
          ∧ r.2.mem ((c.tc : Thread Cert.AttnCoreIdeal.nD Cert.AttnCoreIdeal.τ).loc Cert.AttnCoreIdeal.main_arg1) = m ((c.tc : Thread Cert.AttnCoreIdeal.nD Cert.AttnCoreIdeal.τ).loc Cert.AttnCoreIdeal.main_arg1)
          ∧ r.2.mem ((c.tc : Thread Cert.AttnCoreIdeal.nD Cert.AttnCoreIdeal.τ).loc Cert.AttnCoreIdeal.main_arg2) = m ((c.tc : Thread Cert.AttnCoreIdeal.nD Cert.AttnCoreIdeal.τ).loc Cert.AttnCoreIdeal.main_arg2)
          ∧ r.2.mem ((c.tc : Thread Cert.AttnCoreIdeal.nD Cert.AttnCoreIdeal.τ).loc Cert.AttnCoreIdeal.main_arg3) = m ((c.tc : Thread Cert.AttnCoreIdeal.nD Cert.AttnCoreIdeal.τ).loc Cert.AttnCoreIdeal.main_arg3)
          ∧ r.2.mem ((c.tc : Thread Cert.AttnCoreIdeal.nD Cert.AttnCoreIdeal.τ).loc Cert.AttnCoreIdeal.main_arg4) = m ((c.tc : Thread Cert.AttnCoreIdeal.nD Cert.AttnCoreIdeal.τ).loc Cert.AttnCoreIdeal.main_arg4)
          ∧ r.2.mem ((c.tc : Thread Cert.AttnCoreIdeal.nD Cert.AttnCoreIdeal.τ).loc Cert.AttnCoreIdeal.main_arg5) = m ((c.tc : Thread Cert.AttnCoreIdeal.nD Cert.AttnCoreIdeal.τ).loc Cert.AttnCoreIdeal.main_arg5))
      ∧ θ_run (Cert.AttnCoreRefIdeal.defs (F := Ideal)) (onTc (τ := Cert.AttnCoreRefIdeal.τ) (Cert.AttnCoreRefIdeal.main (F := Ideal))) ⟨m', fun _ => 0, g'⟩ (fun r => ∀ c : Dev Cert.AttnCoreRefIdeal.nD,
          r.2.mem ((c.tc : Thread Cert.AttnCoreRefIdeal.nD Cert.AttnCoreRefIdeal.τ).loc Cert.AttnCoreRefIdeal.main_v88) = v0 c
          ∧ r.2.mem ((c.tc : Thread Cert.AttnCoreRefIdeal.nD Cert.AttnCoreRefIdeal.τ).loc Cert.AttnCoreRefIdeal.main_arg0) = m' ((c.tc : Thread Cert.AttnCoreRefIdeal.nD Cert.AttnCoreRefIdeal.τ).loc Cert.AttnCoreRefIdeal.main_arg0)
          ∧ r.2.mem ((c.tc : Thread Cert.AttnCoreRefIdeal.nD Cert.AttnCoreRefIdeal.τ).loc Cert.AttnCoreRefIdeal.main_arg1) = m' ((c.tc : Thread Cert.AttnCoreRefIdeal.nD Cert.AttnCoreRefIdeal.τ).loc Cert.AttnCoreRefIdeal.main_arg1)
          ∧ r.2.mem ((c.tc : Thread Cert.AttnCoreRefIdeal.nD Cert.AttnCoreRefIdeal.τ).loc Cert.AttnCoreRefIdeal.main_arg2) = m' ((c.tc : Thread Cert.AttnCoreRefIdeal.nD Cert.AttnCoreRefIdeal.τ).loc Cert.AttnCoreRefIdeal.main_arg2)
          ∧ r.2.mem ((c.tc : Thread Cert.AttnCoreRefIdeal.nD Cert.AttnCoreRefIdeal.τ).loc Cert.AttnCoreRefIdeal.main_arg3) = m' ((c.tc : Thread Cert.AttnCoreRefIdeal.nD Cert.AttnCoreRefIdeal.τ).loc Cert.AttnCoreRefIdeal.main_arg3)
          ∧ r.2.mem ((c.tc : Thread Cert.AttnCoreRefIdeal.nD Cert.AttnCoreRefIdeal.τ).loc Cert.AttnCoreRefIdeal.main_arg4) = m' ((c.tc : Thread Cert.AttnCoreRefIdeal.nD Cert.AttnCoreRefIdeal.τ).loc Cert.AttnCoreRefIdeal.main_arg4)
          ∧ r.2.mem ((c.tc : Thread Cert.AttnCoreRefIdeal.nD Cert.AttnCoreRefIdeal.τ).loc Cert.AttnCoreRefIdeal.main_arg5) = m' ((c.tc : Thread Cert.AttnCoreRefIdeal.nD Cert.AttnCoreRefIdeal.τ).loc Cert.AttnCoreRefIdeal.main_arg5))

def Claim : Prop :=
  ∃ (hRetSample : Cert.RetSample.Facts) (hRetSampleIdeal : Cert.RetSampleIdeal.Facts) (hRetSampleRefIdeal : Cert.RetSampleRefIdeal.Facts) (hMlp : Cert.Mlp.Facts) (hMlpIdeal : Cert.MlpIdeal.Facts) (hMlpRefIdeal : Cert.MlpRefIdeal.Facts) (hRetOut : Cert.RetOut.Facts) (hRetOutIdeal : Cert.RetOutIdeal.Facts) (hRetOutRefIdeal : Cert.RetOutRefIdeal.Facts) (hAttnOut : Cert.AttnOut.Facts) (hAttnOutIdeal : Cert.AttnOutIdeal.Facts) (hAttnOutRefIdeal : Cert.AttnOutRefIdeal.Facts) (hRwkvOut : Cert.RwkvOut.Facts) (hRwkvOutIdeal : Cert.RwkvOutIdeal.Facts) (hRwkvOutRefIdeal : Cert.RwkvOutRefIdeal.Facts) (hRetProj : Cert.RetProj.Facts) (hRetProjIdeal : Cert.RetProjIdeal.Facts) (hRetProjRefIdeal : Cert.RetProjRefIdeal.Facts) (hMlpFinal : Cert.MlpFinal.Facts) (hMlpFinalIdeal : Cert.MlpFinalIdeal.Facts) (hMlpFinalRefIdeal : Cert.MlpFinalRefIdeal.Facts) (hAttnCore : Cert.AttnCore.Facts) (hAttnCoreIdeal : Cert.AttnCoreIdeal.Facts) (hAttnCoreRefIdeal : Cert.AttnCoreRefIdeal.Facts) (hPre_finite_scores : Cert.Pre_finite_scores.Facts),
    quiescent_RetSample (hRetSample := hRetSample)
    ∧ quiescent_RetSampleIdeal (hRetSampleIdeal := hRetSampleIdeal)
    ∧ quiescent_RetSampleRefIdeal (hRetSampleRefIdeal := hRetSampleRefIdeal)
    ∧ quiescent_Mlp (hMlp := hMlp)
    ∧ quiescent_MlpIdeal (hMlpIdeal := hMlpIdeal)
    ∧ quiescent_MlpRefIdeal (hMlpRefIdeal := hMlpRefIdeal)
    ∧ quiescent_RetOut (hRetOut := hRetOut)
    ∧ quiescent_RetOutIdeal (hRetOutIdeal := hRetOutIdeal)
    ∧ quiescent_RetOutRefIdeal (hRetOutRefIdeal := hRetOutRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_RwkvOut (hRwkvOut := hRwkvOut)
    ∧ quiescent_RwkvOutIdeal (hRwkvOutIdeal := hRwkvOutIdeal)
    ∧ quiescent_RwkvOutRefIdeal (hRwkvOutRefIdeal := hRwkvOutRefIdeal)
    ∧ quiescent_RetProj (hRetProj := hRetProj)
    ∧ quiescent_RetProjIdeal (hRetProjIdeal := hRetProjIdeal)
    ∧ quiescent_RetProjRefIdeal (hRetProjRefIdeal := hRetProjRefIdeal)
    ∧ quiescent_MlpFinal (hMlpFinal := hMlpFinal)
    ∧ quiescent_MlpFinalIdeal (hMlpFinalIdeal := hMlpFinalIdeal)
    ∧ quiescent_MlpFinalRefIdeal (hMlpFinalRefIdeal := hMlpFinalRefIdeal)
    ∧ quiescent_AttnCore (hAttnCore := hAttnCore)
    ∧ quiescent_AttnCoreIdeal (hAttnCoreIdeal := hAttnCoreIdeal)
    ∧ quiescent_AttnCoreIdeal_pre_finite_scores (hAttnCoreIdeal := hAttnCoreIdeal) (hPre_finite_scores := hPre_finite_scores)
    ∧ quiescent_AttnCoreRefIdeal (hAttnCoreRefIdeal := hAttnCoreRefIdeal)
    ∧ quiescent_AttnCoreRefIdeal_pre_finite_scores (hAttnCoreRefIdeal := hAttnCoreRefIdeal) (hPre_finite_scores := hPre_finite_scores)
    ∧ preserves_RetSample_RetSampleIdeal
    ∧ algebraic_RetSampleIdeal_RetSampleRefIdeal (hRetSampleIdeal := hRetSampleIdeal) (hRetSampleRefIdeal := hRetSampleRefIdeal)
    ∧ preserves_Mlp_MlpIdeal
    ∧ algebraic_MlpIdeal_MlpRefIdeal (hMlpIdeal := hMlpIdeal) (hMlpRefIdeal := hMlpRefIdeal)
    ∧ preserves_RetOut_RetOutIdeal
    ∧ algebraic_RetOutIdeal_RetOutRefIdeal (hRetOutIdeal := hRetOutIdeal) (hRetOutRefIdeal := hRetOutRefIdeal)
    ∧ preserves_AttnOut_AttnOutIdeal
    ∧ algebraic_AttnOutIdeal_AttnOutRefIdeal (hAttnOutIdeal := hAttnOutIdeal) (hAttnOutRefIdeal := hAttnOutRefIdeal)
    ∧ preserves_RwkvOut_RwkvOutIdeal
    ∧ algebraic_RwkvOutIdeal_RwkvOutRefIdeal (hRwkvOutIdeal := hRwkvOutIdeal) (hRwkvOutRefIdeal := hRwkvOutRefIdeal)
    ∧ preserves_RetProj_RetProjIdeal
    ∧ algebraic_RetProjIdeal_RetProjRefIdeal (hRetProjIdeal := hRetProjIdeal) (hRetProjRefIdeal := hRetProjRefIdeal)
    ∧ preserves_MlpFinal_MlpFinalIdeal
    ∧ algebraic_MlpFinalIdeal_MlpFinalRefIdeal (hMlpFinalIdeal := hMlpFinalIdeal) (hMlpFinalRefIdeal := hMlpFinalRefIdeal)
    ∧ preserves_AttnCore_AttnCoreIdeal
    ∧ algebraic_AttnCoreIdeal_AttnCoreRefIdeal_pre_finite_scores (hAttnCoreIdeal := hAttnCoreIdeal) (hAttnCoreRefIdeal := hAttnCoreRefIdeal) (hPre_finite_scores := hPre_finite_scores)
-- ==== Pre_finite_scores.lean ====
abbrev S18432x2048 : Shape := ⟨2, ![18432, 2048]⟩
abbrev S18432x256 : Shape := ⟨2, ![18432, 256]⟩
abbrev S32x128x4x64 : Shape := ⟨4, ![32, 128, 4, 64]⟩
abbrev S32 : Shape := ⟨1, ![32]⟩
abbrev S_ : Shape := ⟨0, ![]⟩

class Facts : Prop where
  bitsLt_bf16_f32 : FTy.bits .bf16 < FTy.bits .f32
  bcast_S_S18432x2048 : S_.BroadcastsInDim S18432x2048 (![] : Fin 0 → Fin S18432x2048.rank)
  bcast_S_S18432x256 : S_.BroadcastsInDim S18432x256 (![] : Fin 0 → Fin S18432x256.rank)
  bcast_S_S32x128x4x64 : S_.BroadcastsInDim S32x128x4x64 (![] : Fin 0 → Fin S32x128x4x64.rank)
  bcast_S_S32 : S_.BroadcastsInDim S32 (![] : Fin 0 → Fin S32.rank)

variable [Facts]

def fn {F : FTy → Type} [FloatOps F] (main_arg0 : FVec F S18432x2048 .bf16) (main_arg1 : FVec F S18432x256 .bf16) (main_arg2 : FVec F S18432x256 .bf16) (main_arg3 : FVec F S32x128x4x64 .f32) (main_arg4 : FVec F S32x128x4x64 .f32) (main_arg5 : FVec F S32 .f32) : IVec S18432x2048 1 × IVec S18432x256 1 × IVec S32x128x4x64 1 × IVec S32 1 :=
  let main_v0 : FVec F S18432x2048 .f32 := (extf .f32 · bitsLt_bf16_f32) main_arg0
  let main_v1 : FVec F S18432x2048 .f32 := Host.absf main_v0
  let main_cst : FVec F S_ .f32 := constant S_ .f32 0x7F800000#32
  let main_v2 : FVec F S18432x2048 .f32 := broadcastInDim S18432x2048 ![] bcast_S_S18432x2048 main_cst
  let main_v3 : IVec S18432x2048 1 := cmpf .olt main_v1 main_v2
  let main_v4 : FVec F S18432x256 .f32 := (extf .f32 · bitsLt_bf16_f32) main_arg1
  let main_v5 : FVec F S18432x256 .f32 := Host.absf main_v4
  let main_cst_0 : FVec F S_ .f32 := constant S_ .f32 0x7F800000#32
  let main_v6 : FVec F S18432x256 .f32 := broadcastInDim S18432x256 ![] bcast_S_S18432x256 main_cst_0
  let main_v7 : IVec S18432x256 1 := cmpf .olt main_v5 main_v6
  let main_v8 : FVec F S32x128x4x64 .f32 := Host.absf main_arg3
  let main_cst_1 : FVec F S_ .f32 := constant S_ .f32 0x7F800000#32
  let main_v9 : FVec F S32x128x4x64 .f32 := broadcastInDim S32x128x4x64 ![] bcast_S_S32x128x4x64 main_cst_1
  let main_v10 : IVec S32x128x4x64 1 := cmpf .olt main_v8 main_v9
  let main_v11 : FVec F S32 .f32 := Host.absf main_arg5
  let main_cst_2 : FVec F S_ .f32 := constant S_ .f32 0x7F800000#32
  let main_v12 : FVec F S32 .f32 := broadcastInDim S32 ![] bcast_S_S32 main_cst_2
  let main_v13 : IVec S32 1 := cmpf .olt main_v11 main_v12
  (main_v3, main_v7, main_v10, main_v13)
-- ==== RetSample.lean ====
abbrev S18432x12288 : Shape := ⟨2, ![18432, 12288]⟩
abbrev S32x8x256x512 : Shape := ⟨4, ![32, 8, 256, 512]⟩
abbrev S4096 : Shape := ⟨1, ![4096]⟩
abbrev S8 : Shape := ⟨1, ![8]⟩
abbrev S_ : Shape := ⟨0, ![]⟩
abbrev S1x4096 : Shape := ⟨2, ![1, 4096]⟩
abbrev S2048x4096 : Shape := ⟨2, ![2048, 4096]⟩
abbrev S64x1024 : Shape := ⟨2, ![64, 1024]⟩
abbrev S64x2048 : Shape := ⟨2, ![64, 2048]⟩
abbrev S1x4x256x512 : Shape := ⟨4, ![1, 4, 256, 512]⟩
abbrev S1x2048 : Shape := ⟨2, ![1, 2048]⟩
abbrev S4x256x512 : Shape := ⟨3, ![4, 256, 512]⟩
abbrev S1 : Shape := ⟨1, ![1]⟩
abbrev S64x256 : Shape := ⟨2, ![64, 256]⟩
abbrev S64x512 : Shape := ⟨2, ![64, 512]⟩
abbrev S64x64 : Shape := ⟨2, ![64, 64]⟩
abbrev S64x1 : Shape := ⟨2, ![64, 1]⟩
abbrev S1x256x512 : Shape := ⟨3, ![1, 256, 512]⟩
abbrev S256x512 : Shape := ⟨2, ![256, 512]⟩
abbrev S256x64 : Shape := ⟨2, ![256, 64]⟩
abbrev S1x1x256x512 : Shape := ⟨4, ![1, 1, 256, 512]⟩
abbrev S64 : Shape := ⟨1, ![64]⟩
abbrev S1x512 : Shape := ⟨2, ![1, 512]⟩

abbrev nBuf : Space → Nat
  | .hbm => 16
  | .vmem => 17
  | .smem => 1
  | _ => 0

abbrev bufTy : (tb : Table) → Fin (tcTables nBuf tb) → BufTy
  | .hbm, ⟨0, _⟩ => ⟨S18432x12288, .bf16⟩
  | .hbm, ⟨1, _⟩ => ⟨S32x8x256x512, .f32⟩
  | .hbm, ⟨2, _⟩ => ⟨S4096, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S1x4096, .f32⟩
  | .hbm, ⟨14, _⟩ => ⟨S2048x4096, .bf16⟩
  | .hbm, ⟨15, _⟩ => ⟨S32x8x256x512, .f32⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S64x2048, .bf16⟩
  | .local _ .vmem, ⟨5, _⟩ => ⟨S64x2048, .bf16⟩
  | .local _ .vmem, ⟨6, _⟩ => ⟨S64x2048, .bf16⟩
  | .local _ .vmem, ⟨7, _⟩ => ⟨S64x2048, .bf16⟩
  | .local _ .vmem, ⟨8, _⟩ => ⟨S1x4x256x512, .f32⟩
  | .local _ .vmem, ⟨9, _⟩ => ⟨S1x4x256x512, .f32⟩
  | .local _ .vmem, ⟨10, _⟩ => ⟨S1x2048, .f32⟩
  | .local _ .vmem, ⟨11, _⟩ => ⟨S1x2048, .f32⟩
  | .local _ .vmem, ⟨12, _⟩ => ⟨S64x2048, .bf16⟩
  | .local _ .vmem, ⟨13, _⟩ => ⟨S64x2048, .bf16⟩
  | .local _ .vmem, ⟨14, _⟩ => ⟨S1x4x256x512, .f32⟩
  | .local _ .vmem, ⟨15, _⟩ => ⟨S1x4x256x512, .f32⟩
  | .local _ .vmem, ⟨16, _⟩ => ⟨S4x256x512, .f32⟩
  | .local _ .smem, ⟨0, _⟩ => ⟨S8, .f32⟩
  | _, _ => ⟨S18432x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 32], ![false, false]⟩

def k0_off1 (i : grid0.Coords) (c0_i32 : BitVec 32) : Fin 1 → Nat :=
  let arg0 : BitVec 32 := BitVec.ofNat 32 (i 0).val
  let c4_i32 : BitVec 32 := 4#32
  let v5 : BitVec 32 := Scalar.muli arg0 c4_i32
  let v6 : BitVec 32 := Scalar.addi v5 c0_i32
  let v7 : Index := Scalar.indexCast v6
  ![v7.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg1
  let c2_i32 : BitVec 32 := 2#32
  let v1 : BitVec 32 := Scalar.addi c2_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg1
  let c2_i32 : BitVec 32 := 2#32
  let v1 : BitVec 32 := Scalar.addi c2_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg1
  let c4_i32 : BitVec 32 := 4#32
  let v1 : BitVec 32 := Scalar.addi c4_i32 arg0
  let c0_i32 : BitVec 32 := 0#32
  ![v0.toNat, v1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RetSampleRefIdeal.lean ====
abbrev S18432x12288 : Shape := ⟨2, ![18432, 12288]⟩
abbrev S32x8x256x512 : Shape := ⟨4, ![32, 8, 256, 512]⟩
abbrev S4096 : Shape := ⟨1, ![4096]⟩
abbrev S2048x12288 : Shape := ⟨2, ![2048, 12288]⟩
abbrev S32x64x12288 : Shape := ⟨3, ![32, 64, 12288]⟩
abbrev S32x64x2048 : Shape := ⟨3, ![32, 64, 2048]⟩
abbrev S32x64x8x256 : Shape := ⟨4, ![32, 64, 8, 256]⟩
abbrev S32x64x4096 : Shape := ⟨3, ![32, 64, 4096]⟩
abbrev S32x64x8x512 : Shape := ⟨4, ![32, 64, 8, 512]⟩
abbrev S8 : Shape := ⟨1, ![8]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S32x8x64x64 : Shape := ⟨4, ![32, 8, 64, 64]⟩
abbrev S1x8x64x64 : Shape := ⟨4, ![1, 8, 64, 64]⟩
abbrev S1x8 : Shape := ⟨2, ![1, 8]⟩
abbrev S64x8 : Shape := ⟨2, ![64, 8]⟩
abbrev S32x8x512x64 : Shape := ⟨4, ![32, 8, 512, 64]⟩
abbrev S1x64x8x1 : Shape := ⟨4, ![1, 64, 8, 1]⟩
abbrev S1x8x1x1 : Shape := ⟨4, ![1, 8, 1, 1]⟩
abbrev S32x64x8 : Shape := ⟨3, ![32, 64, 8]⟩
abbrev S32x64x8x1 : Shape := ⟨4, ![32, 64, 8, 1]⟩
abbrev S1x1x4096 : Shape := ⟨3, ![1, 1, 4096]⟩
abbrev S2048x4096 : Shape := ⟨2, ![2048, 4096]⟩

abbrev nBuf : Space → Nat
  | .hbm => 130
  | .vmem => 0
  | .smem => 0
  | _ => 0

abbrev hbmTy0_0 (i : Nat) : BufTy := match i % 128 with
  | 0 => ⟨S18432x12288, .bf16⟩
  | 1 => ⟨S32x8x256x512, .f32⟩
  | 2 => ⟨S4096, .f32⟩
  | 3 => ⟨S2048x12288, .bf16⟩
  | 4 => ⟨S32x64x12288, .bf16⟩
  | 5 => ⟨S32x64x2048, .bf16⟩
  | 6 => ⟨S32x64x8x256, .bf16⟩
  | 7 => ⟨S32x64x2048, .bf16⟩
  | 8 => ⟨S32x64x8x256, .bf16⟩
  | 9 => ⟨S32x64x4096, .bf16⟩
  | 10 => ⟨S32x64x8x512, .bf16⟩
  | 11 => ⟨S32x64x4096, .bf16⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S8, .f32⟩
  | 20 => ⟨S8, .f32⟩
  | 21 => ⟨S8, .f32⟩
  | 22 => ⟨S64, .f32⟩
  | 23 => ⟨S64x1, .f32⟩
  | 24 => ⟨S1x64, .f32⟩
  | 25 => ⟨S64x64, .f32⟩
  | 26 => ⟨S64x64, .f32⟩
  | 27 => ⟨S64x64, .f32⟩
  | 28 => ⟨S_, .f32⟩
  | 29 => ⟨S64x64, .f32⟩
  | 30 => ⟨S64x64, .i1⟩
  | 31 => ⟨S8x1x1, .f32⟩
  | 32 => ⟨S_, .f32⟩
  | 33 => ⟨S64x64, .f32⟩
  | 34 => ⟨S64x64, .f32⟩
  | 35 => ⟨S1x64x64, .f32⟩
  | 36 => ⟨S8x64x64, .f32⟩
  | 37 => ⟨S8x64x64, .f32⟩
  | 38 => ⟨S8x64x64, .f32⟩
  | 39 => ⟨S8x64x64, .f32⟩
  | 40 => ⟨S_, .f32⟩
  | 41 => ⟨S_, .f32⟩
  | 42 => ⟨S8x64x64, .i1⟩
  | 43 => ⟨S8x64x64, .f32⟩
  | 44 => ⟨S8x64x64, .f32⟩
  | 45 => ⟨S32x64x8x256, .f32⟩
  | 46 => ⟨S32x64x8x256, .f32⟩
  | 47 => ⟨S32x64x8x512, .f32⟩
  | 48 => ⟨S32x8x64x64, .f32⟩
  | 49 => ⟨S1x8x64x64, .f32⟩
  | 50 => ⟨S32x8x64x64, .f32⟩
  | 51 => ⟨S32x8x64x64, .f32⟩
  | 52 => ⟨S1x8, .f32⟩
  | 53 => ⟨S_, .f32⟩
  | 54 => ⟨S64, .f32⟩
  | 55 => ⟨S64, .f32⟩
  | 56 => ⟨S64x1, .f32⟩
  | 57 => ⟨S64x8, .f32⟩
  | 58 => ⟨S64x8, .f32⟩
  | 59 => ⟨S64x8, .f32⟩
  | 60 => ⟨S64x8, .f32⟩
  | 61 => ⟨S1x8, .f32⟩
  | 62 => ⟨S_, .f32⟩
  | 63 => ⟨S64, .f32⟩
  | 64 => ⟨S64, .f32⟩
  | 65 => ⟨S64x1, .f32⟩
  | 66 => ⟨S64x8, .f32⟩
  | 67 => ⟨S64x8, .f32⟩
  | 68 => ⟨S64x8, .f32⟩
  | 69 => ⟨S64x8, .f32⟩
  | 70 => ⟨S32x8x512x64, .f32⟩
  | 71 => ⟨S32x64x8x512, .f32⟩
  | 72 => ⟨S1x64x8x1, .f32⟩
  | 73 => ⟨S32x64x8x256, .f32⟩
  | 74 => ⟨S32x64x8x256, .f32⟩
  | 75 => ⟨S32x8x512x64, .f32⟩
  | 76 => ⟨S32x64x8x512, .f32⟩
  | 77 => ⟨S32x64x8x512, .f32⟩
  | 78 => ⟨S_, .f32⟩
  | 79 => ⟨S8, .f32⟩
  | 80 => ⟨S8, .f32⟩
  | 81 => ⟨S8, .f32⟩
  | 82 => ⟨S1x8x1x1, .f32⟩
  | 83 => ⟨S32x8x256x512, .f32⟩
  | 84 => ⟨S32x8x256x512, .f32⟩
  | 85 => ⟨S1x64x8x1, .f32⟩
  | 86 => ⟨S32x64x8x256, .f32⟩
  | 87 => ⟨S32x64x8x256, .f32⟩
  | 88 => ⟨S32x8x256x512, .f32⟩
  | 89 => ⟨S32x8x256x512, .f32⟩
  | 90 => ⟨S_, .f32⟩
  | 91 => ⟨S32x64x8, .f32⟩
  | 92 => ⟨S32x64x8x1, .f32⟩
  | 93 => ⟨S_, .f32⟩
  | 94 => ⟨S32x64x8x1, .f32⟩
  | 95 => ⟨S32x64x8x1, .f32⟩
  | 96 => ⟨S32x64x8x512, .f32⟩
  | 97 => ⟨S32x64x8x512, .f32⟩
  | 98 => ⟨S32x64x8x512, .f32⟩
  | 99 => ⟨S_, .f32⟩
  | 100 => ⟨S32x64x8, .f32⟩
  | 101 => ⟨S32x64x8x1, .f32⟩
  | 102 => ⟨S_, .f32⟩
  | 103 => ⟨S32x64x8x1, .f32⟩
  | 104 => ⟨S32x64x8x1, .f32⟩
  | 105 => ⟨S32x64x8x512, .f32⟩
  | 106 => ⟨S32x64x8x512, .f32⟩
  | 107 => ⟨S_, .f32⟩
  | 108 => ⟨S32x64x8x1, .f32⟩
  | 109 => ⟨S32x64x8x1, .f32⟩
  | 110 => ⟨S32x64x8x1, .f32⟩
  | 111 => ⟨S32x64x8x512, .f32⟩
  | 112 => ⟨S32x64x8x512, .f32⟩
  | 113 => ⟨S32x64x4096, .f32⟩
  | 114 => ⟨S1x1x4096, .f32⟩
  | 115 => ⟨S32x64x4096, .f32⟩
  | 116 => ⟨S32x64x4096, .f32⟩
  | 117 => ⟨S32x64x4096, .f32⟩
  | 118 => ⟨S32x64x4096, .f32⟩
  | 119 => ⟨S32x64x4096, .f32⟩
  | 120 => ⟨S_, .f32⟩
  | 121 => ⟨S32x64x4096, .f32⟩
  | 122 => ⟨S32x64x4096, .f32⟩
  | 123 => ⟨S_, .f32⟩
  | 124 => ⟨S32x64x4096, .f32⟩
  | 125 => ⟨S32x64x4096, .f32⟩
  | 126 => ⟨S32x64x4096, .f32⟩
  | 127 => ⟨S32x64x4096, .f32⟩
  | _ => ⟨S18432x12288, .bf16⟩

abbrev hbmTy0_1 (i : Nat) : BufTy := match i % 128 with
  | 0 => ⟨S32x64x4096, .bf16⟩
  | 1 => ⟨S2048x4096, .bf16⟩
  | _ => ⟨S18432x12288, .bf16⟩

abbrev hbmTy (i : Nat) : BufTy := match i / 128 with
  | 0 => hbmTy0_0 i
  | 1 => hbmTy0_1 i
  | _ => ⟨S18432x12288, .bf16⟩

abbrev bufTy : (tb : Table) → Fin (tcTables nBuf tb) → BufTy
  | .hbm, ⟨i, _⟩ => hbmTy i
  | _, _ => ⟨S18432x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_6 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_7 : Ref sig .tc := ⟨.hbm, 90, rfl⟩
abbrev main_v76 : Ref sig .tc := ⟨.hbm, 91, rfl⟩
abbrev main_v77 : Ref sig .tc := ⟨.hbm, 92, rfl⟩
abbrev main_cst_8 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_9 : Ref sig .tc := ⟨.hbm, 99, rfl⟩
abbrev main_v83 : Ref sig .tc := ⟨.hbm, 100, rfl⟩
abbrev main_v84 : Ref sig .tc := ⟨.hbm, 101, rfl⟩
abbrev main_cst_10 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_cst_11 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_call1_v0 : Ref sig .tc := ⟨.hbm, 118, rfl⟩
abbrev main_call1_v1 : Ref sig .tc := ⟨.hbm, 119, rfl⟩
abbrev main_call1_cst : Ref sig .tc := ⟨.hbm, 120, rfl⟩
abbrev main_call1_v2 : Ref sig .tc := ⟨.hbm, 121, rfl⟩
abbrev main_call1_v3 : Ref sig .tc := ⟨.hbm, 122, rfl⟩
abbrev main_call1_cst_0 : Ref sig .tc := ⟨.hbm, 123, rfl⟩
abbrev main_call1_v4 : Ref sig .tc := ⟨.hbm, 124, rfl⟩
abbrev main_call1_v5 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩

abbrev nD : Nat := 1
abbrev τ : Topo := Topo.v7x

variable {F : FTy → Type} [FloatOps F]
-- ==== Mlp.lean ====
abbrev S18432x2048 : Shape := ⟨2, ![18432, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 10
  | .vmem => 11
  | .smem => 0
  | _ => 0

abbrev bufTy : (tb : Table) → Fin (tcTables nBuf tb) → BufTy
  | .hbm, ⟨0, _⟩ => ⟨S18432x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S4x2048x8192, .bf16⟩
  | .hbm, ⟨7, _⟩ => ⟨S4x8192x2048, .bf16⟩
  | .hbm, ⟨8, _⟩ => ⟨S1x2048, .f32⟩
  | .hbm, ⟨9, _⟩ => ⟨S18432x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![36, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S18432x2048 : Shape := ⟨2, ![18432, 2048]⟩
abbrev S2048 : Shape := ⟨1, ![2048]⟩
abbrev S4x2048x8192 : Shape := ⟨3, ![4, 2048, 8192]⟩
abbrev S4x8192x2048 : Shape := ⟨3, ![4, 8192, 2048]⟩
abbrev S_ : Shape := ⟨0, ![]⟩
abbrev S18432 : Shape := ⟨1, ![18432]⟩
abbrev S18432x1 : Shape := ⟨2, ![18432, 1]⟩
abbrev S1x2048 : Shape := ⟨2, ![1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S18432x8192 : Shape := ⟨2, ![18432, 8192]⟩

abbrev nBuf : Space → Nat
  | .hbm => 32
  | .vmem => 0
  | .smem => 0
  | _ => 0

abbrev bufTy : (tb : Table) → Fin (tcTables nBuf tb) → BufTy
  | .hbm, ⟨0, _⟩ => ⟨S18432x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S18432x2048, .f32⟩
  | .hbm, ⟨6, _⟩ => ⟨S_, .f32⟩
  | .hbm, ⟨7, _⟩ => ⟨S18432, .f32⟩
  | .hbm, ⟨8, _⟩ => ⟨S18432x1, .f32⟩
  | .hbm, ⟨9, _⟩ => ⟨S_, .f32⟩
  | .hbm, ⟨10, _⟩ => ⟨S18432x1, .f32⟩
  | .hbm, ⟨11, _⟩ => ⟨S18432x1, .f32⟩
  | .hbm, ⟨12, _⟩ => ⟨S_, .f32⟩
  | .hbm, ⟨13, _⟩ => ⟨S18432x1, .f32⟩
  | .hbm, ⟨14, _⟩ => ⟨S18432x1, .f32⟩
  | .hbm, ⟨15, _⟩ => ⟨S18432x1, .f32⟩
  | .hbm, ⟨16, _⟩ => ⟨S18432x2048, .f32⟩
  | .hbm, ⟨17, _⟩ => ⟨S18432x2048, .f32⟩
  | .hbm, ⟨18, _⟩ => ⟨S1x2048, .f32⟩
  | .hbm, ⟨19, _⟩ => ⟨S18432x2048, .f32⟩
  | .hbm, ⟨20, _⟩ => ⟨S18432x2048, .f32⟩
  | .hbm, ⟨21, _⟩ => ⟨S1x2048x8192, .f32⟩
  | .hbm, ⟨22, _⟩ => ⟨S2048x8192, .f32⟩
  | .hbm, ⟨23, _⟩ => ⟨S1x8192x2048, .f32⟩
  | .hbm, ⟨24, _⟩ => ⟨S8192x2048, .f32⟩
  | .hbm, ⟨25, _⟩ => ⟨S18432x8192, .f32⟩
  | .hbm, ⟨26, _⟩ => ⟨S_, .f32⟩
  | .hbm, ⟨27, _⟩ => ⟨S18432x8192, .f32⟩
  | .hbm, ⟨28, _⟩ => ⟨S18432x8192, .f32⟩
  | .hbm, ⟨29, _⟩ => ⟨S18432x8192, .f32⟩
  | .hbm, ⟨30, _⟩ => ⟨S18432x2048, .f32⟩
  | .hbm, ⟨31, _⟩ => ⟨S18432x2048, .f32⟩
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== RetOut.lean ====
abbrev S16384x4096 : Shape := ⟨2, ![16384, 4096]⟩
abbrev S2048x4096 : Shape := ⟨2, ![2048, 4096]⟩
abbrev S4096x2048 : Shape := ⟨2, ![4096, 2048]⟩
abbrev S18432x2048 : Shape := ⟨2, ![18432, 2048]⟩
abbrev S256x4096 : Shape := ⟨2, ![256, 4096]⟩
abbrev S256x2048 : Shape := ⟨2, ![256, 2048]⟩

abbrev nBuf : Space → Nat
  | .hbm => 6
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S2048x4096, .bf16⟩
  | .hbm, ⟨2, _⟩ => ⟨S4096x2048, .f32⟩
  | .hbm, ⟨3, _⟩ => ⟨S18432x2048, .f32⟩
  | .hbm, ⟨4, _⟩ => ⟨S4096x2048, .bf16⟩
  | .hbm, ⟨5, _⟩ => ⟨S18432x2048, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S4096x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![72], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RetOutRefIdeal.lean ====
abbrev S16384x4096 : Shape := ⟨2, ![16384, 4096]⟩
abbrev S2048x4096 : Shape := ⟨2, ![2048, 4096]⟩
abbrev S4096x2048 : Shape := ⟨2, ![4096, 2048]⟩
abbrev S18432x2048 : Shape := ⟨2, ![18432, 2048]⟩
abbrev S16384x2048 : Shape := ⟨2, ![16384, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2048x4096, .bf16⟩
  | .hbm, ⟨2, _⟩ => ⟨S4096x2048, .f32⟩
  | .hbm, ⟨3, _⟩ => ⟨S18432x2048, .f32⟩
  | .hbm, ⟨4, _⟩ => ⟨S16384x2048, .f32⟩
  | .hbm, ⟨5, _⟩ => ⟨S16384x4096, .f32⟩
  | .hbm, ⟨6, _⟩ => ⟨S16384x2048, .f32⟩
  | .hbm, ⟨7, _⟩ => ⟨S16384x2048, .f32⟩
  | .hbm, ⟨8, _⟩ => ⟨S2048x2048, .f32⟩
  | .hbm, ⟨9, _⟩ => ⟨S2048x4096, .f32⟩
  | .hbm, ⟨10, _⟩ => ⟨S2048x2048, .f32⟩
  | .hbm, ⟨11, _⟩ => ⟨S2048x2048, .f32⟩
  | .hbm, ⟨12, _⟩ => ⟨S18432x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== AttnOut.lean ====
abbrev S18432x2048 : Shape := ⟨2, ![18432, 2048]⟩
abbrev S2048x2048 : Shape := ⟨2, ![2048, 2048]⟩
abbrev S16384x2048 : Shape := ⟨2, ![16384, 2048]⟩
abbrev S512x2048 : Shape := ⟨2, ![512, 2048]⟩

abbrev nBuf : Space → Nat
  | .hbm => 6
  | .vmem => 9
  | .smem => 0
  | _ => 0

abbrev bufTy : (tb : Table) → Fin (tcTables nBuf tb) → BufTy
  | .hbm, ⟨0, _⟩ => ⟨S18432x2048, .bf16⟩
  | .hbm, ⟨1, _⟩ => ⟨S2048x2048, .f32⟩
  | .hbm, ⟨2, _⟩ => ⟨S16384x2048, .f32⟩
  | .hbm, ⟨3, _⟩ => ⟨S2048x2048, .f32⟩
  | .hbm, ⟨4, _⟩ => ⟨S2048x2048, .bf16⟩
  | .hbm, ⟨5, _⟩ => ⟨S18432x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c32_i32 : BitVec 32 := 32#32
  let v4 : BitVec 1 := Scalar.cmpi .slt arg0 c32_i32
  let v5 : BitVec 32 := Scalar.extui v4
  let c0_i32 : BitVec 32 := 0#32
  let v6 : BitVec 1 := Scalar.cmpi .ne v5 c0_i32
  v6

def k0_cond2 (i : grid0.Coords) : BitVec 1 :=
  let arg0 : BitVec 32 := BitVec.ofNat 32 (i 0).val
  let c32_i32_3 : BitVec 32 := 32#32
  let v7 : BitVec 1 := Scalar.cmpi .sge arg0 c32_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnOutRefIdeal.lean ====
abbrev S18432x2048 : Shape := ⟨2, ![18432, 2048]⟩
abbrev S2048x2048 : Shape := ⟨2, ![2048, 2048]⟩
abbrev S16384x2048 : Shape := ⟨2, ![16384, 2048]⟩

abbrev nBuf : Space → Nat
  | .hbm => 13
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S2048x2048, .f32⟩
  | .hbm, ⟨2, _⟩ => ⟨S16384x2048, .f32⟩
  | .hbm, ⟨3, _⟩ => ⟨S2048x2048, .f32⟩
  | .hbm, ⟨4, _⟩ => ⟨S18432x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S18432x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S18432x2048, .f32⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== RwkvOut.lean ====
abbrev S18432x2048 : Shape := ⟨2, ![18432, 2048]⟩
abbrev S2048x2048 : Shape := ⟨2, ![2048, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S18432x2048, .bf16⟩
  | .hbm, ⟨1, _⟩ => ⟨S2048x2048, .f32⟩
  | .hbm, ⟨2, _⟩ => ⟨S18432x2048, .f32⟩
  | .hbm, ⟨3, _⟩ => ⟨S2048x2048, .bf16⟩
  | .hbm, ⟨4, _⟩ => ⟨S18432x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RwkvOutRefIdeal.lean ====
abbrev S18432x2048 : Shape := ⟨2, ![18432, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S2048x2048, .f32⟩
  | .hbm, ⟨2, _⟩ => ⟨S18432x2048, .f32⟩
  | .hbm, ⟨3, _⟩ => ⟨S18432x2048, .f32⟩
  | .hbm, ⟨4, _⟩ => ⟨S18432x2048, .f32⟩
  | .hbm, ⟨5, _⟩ => ⟨S18432x2048, .f32⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== RetProj.lean ====
abbrev S18432x2048 : Shape := ⟨2, ![18432, 2048]⟩
abbrev S2048 : Shape := ⟨1, ![2048]⟩
abbrev S2048x12288 : Shape := ⟨2, ![2048, 12288]⟩
abbrev S16384 : Shape := ⟨1, ![16384]⟩
abbrev S64 : Shape := ⟨1, ![64]⟩
abbrev S_ : Shape := ⟨0, ![]⟩
abbrev S1x64 : Shape := ⟨2, ![1, 64]⟩
abbrev S32x64 : Shape := ⟨2, ![32, 64]⟩
abbrev S18432 : Shape := ⟨1, ![18432]⟩
abbrev S128 : Shape := ⟨1, ![128]⟩
abbrev S18432x1 : Shape := ⟨2, ![18432, 1]⟩
abbrev S1x128 : Shape := ⟨2, ![1, 128]⟩
abbrev S18432x128 : Shape := ⟨2, ![18432, 128]⟩
abbrev S1x2048 : Shape := ⟨2, ![1, 2048]⟩
abbrev S18432x12288 : Shape := ⟨2, ![18432, 12288]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩

abbrev nBuf : Space → Nat
  | .hbm => 31
  | .vmem => 12
  | .smem => 0
  | _ => 0

abbrev bufTy : (tb : Table) → Fin (tcTables nBuf tb) → BufTy
  | .hbm, ⟨0, _⟩ => ⟨S18432x2048, .f32⟩
  | .hbm, ⟨1, _⟩ => ⟨S2048, .f32⟩
  | .hbm, ⟨2, _⟩ => ⟨S2048x12288, .f32⟩
  | .hbm, ⟨3, _⟩ => ⟨S16384, .i32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S1x64, .i32⟩
  | .hbm, ⟨9, _⟩ => ⟨S32x64, .i32⟩
  | .hbm, ⟨10, _⟩ => ⟨S2048, .i32⟩
  | .hbm, ⟨11, _⟩ => ⟨S18432, .i32⟩
  | .hbm, ⟨12, _⟩ => ⟨S18432, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S18432x1, .f32⟩
  | .hbm, ⟨22, _⟩ => ⟨S1x128, .f32⟩
  | .hbm, ⟨23, _⟩ => ⟨S18432x128, .f32⟩
  | .hbm, ⟨24, _⟩ => ⟨S18432x128, .f32⟩
  | .hbm, ⟨25, _⟩ => ⟨S18432x128, .f32⟩
  | .hbm, ⟨26, _⟩ => ⟨S18432x128, .f32⟩
  | .hbm, ⟨27, _⟩ => ⟨S18432x128, .f32⟩
  | .hbm, ⟨28, _⟩ => ⟨S1x2048, .f32⟩
  | .hbm, ⟨29, _⟩ => ⟨S2048x12288, .bf16⟩
  | .hbm, ⟨30, _⟩ => ⟨S18432x12288, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![18, 12], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let c1_i32 : BitVec 32 := 1#32
  let v4 : BitVec 1 := Scalar.cmpi .eq arg1 c1_i32
  let v5 : BitVec 1 := Scalar.ori v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c2_i32 : BitVec 32 := 2#32
  let v8 : BitVec 1 := Scalar.cmpi .eq arg1 c2_i32
  let c3_i32 : BitVec 32 := 3#32
  let v9 : BitVec 1 := Scalar.cmpi .eq arg1 c3_i32
  let v10 : BitVec 1 := Scalar.ori v8 v9
  let v11 : BitVec 32 := Scalar.extui v10
  let c0_i32_3 : BitVec 32 := 0#32
  let v12 : BitVec 1 := Scalar.cmpi .ne v11 c0_i32_3
  v12

def k0_cond4 (i : grid0.Coords) : BitVec 1 :=
  let arg1 : BitVec 32 := BitVec.ofNat 32 (i 1).val
  let c4_i32 : BitVec 32 := 4#32
  let v13 : BitVec 1 := Scalar.cmpi .eq arg1 c4_i32
  let c5_i32 : BitVec 32 := 5#32
  let v14 : BitVec 1 := Scalar.cmpi .eq arg1 c5_i32
  let v21 : BitVec 1 := Scalar.ori v13 v14
  let c6_i32 : BitVec 32 := 6#32
  let v15 : BitVec 1 := Scalar.cmpi .eq arg1 c6_i32
  let v22 : BitVec 1 := Scalar.ori v21 v15
  let c7_i32 : BitVec 32 := 7#32
  let v16 : BitVec 1 := Scalar.cmpi .eq arg1 c7_i32
  let v23 : BitVec 1 := Scalar.ori v22 v16
  let c8_i32 : BitVec 32 := 8#32
  let v17 : BitVec 1 := Scalar.cmpi .eq arg1 c8_i32
  let v24 : BitVec 1 := Scalar.ori v23 v17
  let c9_i32 : BitVec 32 := 9#32
  let v18 : BitVec 1 := Scalar.cmpi .eq arg1 c9_i32
  let v25 : BitVec 1 := Scalar.ori v24 v18
  let c10_i32 : BitVec 32 := 10#32
  let v19 : BitVec 1 := Scalar.cmpi .eq arg1 c10_i32
  let v26 : BitVec 1 := Scalar.ori v25 v19
  let c11_i32 : BitVec 32 := 11#32
  let v20 : BitVec 1 := Scalar.cmpi .eq arg1 c11_i32
  let v27 : BitVec 1 := Scalar.ori v26 v20
  let v28 : BitVec 32 := Scalar.extui v27
  let c0_i32_4 : BitVec 32 := 0#32
  let v29 : BitVec 1 := Scalar.cmpi .ne v28 c0_i32_4
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RetProjRefIdeal.lean ====
abbrev S18432x2048 : Shape := ⟨2, ![18432, 2048]⟩
abbrev S2048 : Shape := ⟨1, ![2048]⟩
abbrev S2048x12288 : Shape := ⟨2, ![2048, 12288]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x16384x2048 : Shape := ⟨3, ![1, 16384, 2048]⟩
abbrev S1x16384x12288 : Shape := ⟨3, ![1, 16384, 12288]⟩
abbrev S1x16384x8x256 : Shape := ⟨4, ![1, 16384, 8, 256]⟩
abbrev S1x16384x4096 : Shape := ⟨3, ![1, 16384, 4096]⟩
abbrev S1x16384x8x512 : Shape := ⟨4, ![1, 16384, 8, 512]⟩
abbrev S128 : Shape := ⟨1, ![128]⟩
abbrev S1x128 : Shape := ⟨2, ![1, 128]⟩
abbrev S16384x128 : Shape := ⟨2, ![16384, 128]⟩
abbrev S16384x1x128 : Shape := ⟨3, ![16384, 1, 128]⟩
abbrev S1x16384x8x128 : Shape := ⟨4, ![1, 16384, 8, 128]⟩
abbrev S1x16384x1x128 : Shape := ⟨4, ![1, 16384, 1, 128]⟩
abbrev S1x16384x8x0 : Shape := ⟨4, ![1, 16384, 8, 0]⟩
abbrev S16384x4096 : Shape := ⟨2, ![16384, 4096]⟩
abbrev S16384x12288 : Shape := ⟨2, ![16384, 12288]⟩
abbrev S2048x2048 : Shape := ⟨2, ![2048, 2048]⟩
abbrev S2048x1 : Shape := ⟨2, ![2048, 1]⟩
abbrev S32x64x2048 : Shape := ⟨3, ![32, 64, 2048]⟩
abbrev S64 : Shape := ⟨1, ![64]⟩
abbrev S32x64x12288 : Shape := ⟨3, ![32, 64, 12288]⟩
abbrev S32x64x8x256 : Shape := ⟨4, ![32, 64, 8, 256]⟩
abbrev S32x64x4096 : Shape := ⟨3, ![32, 64, 4096]⟩
abbrev S32x64x8x512 : Shape := ⟨4, ![32, 64, 8, 512]⟩
abbrev S64x1 : Shape := ⟨2, ![64, 1]⟩
abbrev S64x128 : Shape := ⟨2, ![64, 128]⟩
abbrev S64x1x128 : Shape := ⟨3, ![64, 1, 128]⟩
abbrev S32x64x8x128 : Shape := ⟨4, ![32, 64, 8, 128]⟩
abbrev S1x64x1x128 : Shape := ⟨4, ![1, 64, 1, 128]⟩
abbrev S32x64x8x0 : Shape := ⟨4, ![32, 64, 8, 0]⟩
abbrev S2048x4096 : Shape := ⟨2, ![2048, 4096]⟩
abbrev S18432x12288 : Shape := ⟨2, ![18432, 12288]⟩

abbrev nBuf : Space → Nat
  | .hbm => 222
  | .vmem => 0
  | .smem => 0
  | _ => 0

abbrev hbmTy0_0 (i : Nat) : BufTy := match i % 128 with
  | 0 => ⟨S18432x2048, .f32⟩
  | 1 => ⟨S2048, .f32⟩
  | 2 => ⟨S2048x12288, .f32⟩
  | 3 => ⟨S16384x2048, .f32⟩
  | 4 => ⟨S16384x2048, .f32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S_, .f32⟩
  | 12 => ⟨S16384x1, .f32⟩
  | 13 => ⟨S16384x1, .f32⟩
  | 14 => ⟨S16384x1, .f32⟩
  | 15 => ⟨S16384x2048, .f32⟩
  | 16 => ⟨S16384x2048, .f32⟩
  | 17 => ⟨S1x2048, .f32⟩
  | 18 => ⟨S16384x2048, .f32⟩
  | 19 => ⟨S16384x2048, .f32⟩
  | 20 => ⟨S1x16384x2048, .f32⟩
  | 21 => ⟨S16384, .i32⟩
  | 22 => ⟨S1x16384x12288, .f32⟩
  | 23 => ⟨S1x16384x2048, .f32⟩
  | 24 => ⟨S1x16384x8x256, .f32⟩
  | 25 => ⟨S1x16384x2048, .f32⟩
  | 26 => ⟨S1x16384x8x256, .f32⟩
  | 27 => ⟨S1x16384x4096, .f32⟩
  | 28 => ⟨S1x16384x8x512, .f32⟩
  | 29 => ⟨S1x16384x4096, .f32⟩
  | 30 => ⟨S128, .f32⟩
  | 31 => ⟨S128, .f32⟩
  | 32 => ⟨S_, .f32⟩
  | 33 => ⟨S128, .f32⟩
  | 34 => ⟨S128, .f32⟩
  | 35 => ⟨S_, .f32⟩
  | 36 => ⟨S128, .f32⟩
  | 37 => ⟨S128, .f32⟩
  | 38 => ⟨S16384, .f32⟩
  | 39 => ⟨S16384x1, .f32⟩
  | 40 => ⟨S1x128, .f32⟩
  | 41 => ⟨S16384x128, .f32⟩
  | 42 => ⟨S16384x128, .f32⟩
  | 43 => ⟨S16384x128, .f32⟩
  | 44 => ⟨S16384x128, .f32⟩
  | 45 => ⟨S16384x1x128, .f32⟩
  | 46 => ⟨S16384x128, .f32⟩
  | 47 => ⟨S16384x1x128, .f32⟩
  | 48 => ⟨S1x16384x8x128, .f32⟩
  | 49 => ⟨S1x16384x8x128, .f32⟩
  | 50 => ⟨S1x16384x1x128, .f32⟩
  | 51 => ⟨S1x16384x8x128, .f32⟩
  | 52 => ⟨S1x16384x8x128, .f32⟩
  | 53 => ⟨S1x16384x1x128, .f32⟩
  | 54 => ⟨S1x16384x8x128, .f32⟩
  | 55 => ⟨S1x16384x8x128, .f32⟩
  | 56 => ⟨S1x16384x8x128, .f32⟩
  | 57 => ⟨S1x16384x1x128, .f32⟩
  | 58 => ⟨S1x16384x8x128, .f32⟩
  | 59 => ⟨S1x16384x8x128, .f32⟩
  | 60 => ⟨S1x16384x1x128, .f32⟩
  | 61 => ⟨S1x16384x8x128, .f32⟩
  | 62 => ⟨S1x16384x8x128, .f32⟩
  | 63 => ⟨S1x16384x8x128, .f32⟩
  | 64 => ⟨S1x16384x8x0, .f32⟩
  | 65 => ⟨S1x16384x8x256, .f32⟩
  | 66 => ⟨S128, .f32⟩
  | 67 => ⟨S128, .f32⟩
  | 68 => ⟨S_, .f32⟩
  | 69 => ⟨S128, .f32⟩
  | 70 => ⟨S128, .f32⟩
  | 71 => ⟨S_, .f32⟩
  | 72 => ⟨S128, .f32⟩
  | 73 => ⟨S128, .f32⟩
  | 74 => ⟨S16384, .f32⟩
  | 75 => ⟨S16384x1, .f32⟩
  | 76 => ⟨S1x128, .f32⟩
  | 77 => ⟨S16384x128, .f32⟩
  | 78 => ⟨S16384x128, .f32⟩
  | 79 => ⟨S16384x128, .f32⟩
  | 80 => ⟨S16384x128, .f32⟩
  | 81 => ⟨S16384x1x128, .f32⟩
  | 82 => ⟨S16384x128, .f32⟩
  | 83 => ⟨S16384x1x128, .f32⟩
  | 84 => ⟨S1x16384x8x128, .f32⟩
  | 85 => ⟨S1x16384x8x128, .f32⟩
  | 86 => ⟨S1x16384x1x128, .f32⟩
  | 87 => ⟨S1x16384x8x128, .f32⟩
  | 88 => ⟨S1x16384x8x128, .f32⟩
  | 89 => ⟨S1x16384x1x128, .f32⟩
  | 90 => ⟨S1x16384x8x128, .f32⟩
  | 91 => ⟨S1x16384x8x128, .f32⟩
  | 92 => ⟨S1x16384x8x128, .f32⟩
  | 93 => ⟨S1x16384x1x128, .f32⟩
  | 94 => ⟨S1x16384x8x128, .f32⟩
  | 95 => ⟨S1x16384x8x128, .f32⟩
  | 96 => ⟨S1x16384x1x128, .f32⟩
  | 97 => ⟨S1x16384x8x128, .f32⟩
  | 98 => ⟨S1x16384x8x128, .f32⟩
  | 99 => ⟨S1x16384x8x128, .f32⟩
  | 100 => ⟨S1x16384x8x0, .f32⟩
  | 101 => ⟨S1x16384x8x256, .f32⟩
  | 102 => ⟨S_, .f32⟩
  | 103 => ⟨S1x16384x8x256, .f32⟩
  | 104 => ⟨S1x16384x8x256, .f32⟩
  | 105 => ⟨S16384x2048, .f32⟩
  | 106 => ⟨S16384x2048, .f32⟩
  | 107 => ⟨S16384x4096, .f32⟩
  | 108 => ⟨S16384x4096, .f32⟩
  | 109 => ⟨S16384x12288, .f32⟩
  | 110 => ⟨S2048x2048, .f32⟩
  | 111 => ⟨S2048x2048, .f32⟩
  | 112 => ⟨S_, .f32⟩
  | 113 => ⟨S2048, .f32⟩
  | 114 => ⟨S2048x1, .f32⟩
  | 115 => ⟨S_, .f32⟩
  | 116 => ⟨S2048x1, .f32⟩
  | 117 => ⟨S2048x1, .f32⟩
  | 118 => ⟨S_, .f32⟩
  | 119 => ⟨S2048x1, .f32⟩
  | 120 => ⟨S2048x1, .f32⟩
  | 121 => ⟨S2048x1, .f32⟩
  | 122 => ⟨S2048x2048, .f32⟩
  | 123 => ⟨S2048x2048, .f32⟩
  | 124 => ⟨S1x2048, .f32⟩
  | 125 => ⟨S2048x2048, .f32⟩
  | 126 => ⟨S2048x2048, .f32⟩
  | 127 => ⟨S32x64x2048, .f32⟩
  | _ => ⟨S18432x2048, .f32⟩

abbrev hbmTy0_1 (i : Nat) : BufTy := match i % 128 with
  | 0 => ⟨S64, .i32⟩
  | 1 => ⟨S_, .i32⟩
  | 2 => ⟨S64, .i32⟩
  | 3 => ⟨S64, .i32⟩
  | 4 => ⟨S32x64x12288, .f32⟩
  | 5 => ⟨S32x64x2048, .f32⟩
  | 6 => ⟨S32x64x8x256, .f32⟩
  | 7 => ⟨S32x64x2048, .f32⟩
  | 8 => ⟨S32x64x8x256, .f32⟩
  | 9 => ⟨S32x64x4096, .f32⟩
  | 10 => ⟨S32x64x8x512, .f32⟩
  | 11 => ⟨S32x64x4096, .f32⟩
  | 12 => ⟨S128, .f32⟩
  | 13 => ⟨S128, .f32⟩
  | 14 => ⟨S_, .f32⟩
  | 15 => ⟨S128, .f32⟩
  | 16 => ⟨S128, .f32⟩
  | 17 => ⟨S_, .f32⟩
  | 18 => ⟨S128, .f32⟩
  | 19 => ⟨S128, .f32⟩
  | 20 => ⟨S64, .f32⟩
  | 21 => ⟨S64x1, .f32⟩
  | 22 => ⟨S1x128, .f32⟩
  | 23 => ⟨S64x128, .f32⟩
  | 24 => ⟨S64x128, .f32⟩
  | 25 => ⟨S64x128, .f32⟩
  | 26 => ⟨S64x128, .f32⟩
  | 27 => ⟨S64x1x128, .f32⟩
  | 28 => ⟨S64x128, .f32⟩
  | 29 => ⟨S64x1x128, .f32⟩
  | 30 => ⟨S32x64x8x128, .f32⟩
  | 31 => ⟨S32x64x8x128, .f32⟩
  | 32 => ⟨S1x64x1x128, .f32⟩
  | 33 => ⟨S32x64x8x128, .f32⟩
  | 34 => ⟨S32x64x8x128, .f32⟩
  | 35 => ⟨S1x64x1x128, .f32⟩
  | 36 => ⟨S32x64x8x128, .f32⟩
  | 37 => ⟨S32x64x8x128, .f32⟩
  | 38 => ⟨S32x64x8x128, .f32⟩
  | 39 => ⟨S1x64x1x128, .f32⟩
  | 40 => ⟨S32x64x8x128, .f32⟩
  | 41 => ⟨S32x64x8x128, .f32⟩
  | 42 => ⟨S1x64x1x128, .f32⟩
  | 43 => ⟨S32x64x8x128, .f32⟩
  | 44 => ⟨S32x64x8x128, .f32⟩
  | 45 => ⟨S32x64x8x128, .f32⟩
  | 46 => ⟨S32x64x8x0, .f32⟩
  | 47 => ⟨S32x64x8x256, .f32⟩
  | 48 => ⟨S128, .f32⟩
  | 49 => ⟨S128, .f32⟩
  | 50 => ⟨S_, .f32⟩
  | 51 => ⟨S128, .f32⟩
  | 52 => ⟨S128, .f32⟩
  | 53 => ⟨S_, .f32⟩
  | 54 => ⟨S128, .f32⟩
  | 55 => ⟨S128, .f32⟩
  | 56 => ⟨S64, .f32⟩
  | 57 => ⟨S64x1, .f32⟩
  | 58 => ⟨S1x128, .f32⟩
  | 59 => ⟨S64x128, .f32⟩
  | 60 => ⟨S64x128, .f32⟩
  | 61 => ⟨S64x128, .f32⟩
  | 62 => ⟨S64x128, .f32⟩
  | 63 => ⟨S64x1x128, .f32⟩
  | 64 => ⟨S64x128, .f32⟩
  | 65 => ⟨S64x1x128, .f32⟩
  | 66 => ⟨S32x64x8x128, .f32⟩
  | 67 => ⟨S32x64x8x128, .f32⟩
  | 68 => ⟨S1x64x1x128, .f32⟩
  | 69 => ⟨S32x64x8x128, .f32⟩
  | 70 => ⟨S32x64x8x128, .f32⟩
  | 71 => ⟨S1x64x1x128, .f32⟩
  | 72 => ⟨S32x64x8x128, .f32⟩
  | 73 => ⟨S32x64x8x128, .f32⟩
  | 74 => ⟨S32x64x8x128, .f32⟩
  | 75 => ⟨S1x64x1x128, .f32⟩
  | 76 => ⟨S32x64x8x128, .f32⟩
  | 77 => ⟨S32x64x8x128, .f32⟩
  | 78 => ⟨S1x64x1x128, .f32⟩
  | 79 => ⟨S32x64x8x128, .f32⟩
  | 80 => ⟨S32x64x8x128, .f32⟩
  | 81 => ⟨S32x64x8x128, .f32⟩
  | 82 => ⟨S32x64x8x0, .f32⟩
  | 83 => ⟨S32x64x8x256, .f32⟩
  | 84 => ⟨S_, .f32⟩
  | 85 => ⟨S32x64x8x256, .f32⟩
  | 86 => ⟨S32x64x8x256, .f32⟩
  | 87 => ⟨S2048x2048, .f32⟩
  | 88 => ⟨S2048x2048, .f32⟩
  | 89 => ⟨S2048x4096, .f32⟩
  | 90 => ⟨S2048x4096, .f32⟩
  | 91 => ⟨S2048x12288, .f32⟩
  | 92 => ⟨S18432x12288, .f32⟩
  | 93 => ⟨S18432x12288, .bf16⟩
  | _ => ⟨S18432x2048, .f32⟩

abbrev hbmTy (i : Nat) : BufTy := match i / 128 with
  | 0 => hbmTy0_0 i
  | 1 => hbmTy0_1 i
  | _ => ⟨S18432x2048, .f32⟩

abbrev bufTy : (tb : Table) → Fin (tcTables nBuf tb) → BufTy
  | .hbm, ⟨i, _⟩ => hbmTy i
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_4 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_cst_6 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_cst_7 : Ref sig .tc := ⟨.hbm, 112, rfl⟩
abbrev main_v101 : Ref sig .tc := ⟨.hbm, 113, rfl⟩
abbrev main_v102 : Ref sig .tc := ⟨.hbm, 114, rfl⟩
abbrev main_cst_8 : Ref sig .tc := ⟨.hbm, 115, rfl⟩
abbrev main_v103 : Ref sig .tc := ⟨.hbm, 116, rfl⟩
abbrev main_v104 : Ref sig .tc := ⟨.hbm, 117, rfl⟩
abbrev main_cst_9 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_c : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_cst_10 : Ref sig .tc := ⟨.hbm, 142, rfl⟩
abbrev main_v127 : Ref sig .tc := ⟨.hbm, 143, rfl⟩
abbrev main_v128 : Ref sig .tc := ⟨.hbm, 144, rfl⟩
abbrev main_cst_11 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_cst_12 : Ref sig .tc := ⟨.hbm, 178, rfl⟩
abbrev main_v161 : Ref sig .tc := ⟨.hbm, 179, rfl⟩
abbrev main_v162 : Ref sig .tc := ⟨.hbm, 180, rfl⟩
abbrev main_cst_13 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_cst_14 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩

abbrev nD : Nat := 1
abbrev τ : Topo := Topo.v7x

variable {F : FTy → Type} [FloatOps F]
-- ==== MlpFinal.lean ====
abbrev S18432x2048 : Shape := ⟨2, ![18432, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S16384x2048 : Shape := ⟨2, ![16384, 2048]⟩
abbrev S2048x2048 : Shape := ⟨2, ![2048, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 11
  | .vmem => 14
  | .smem => 0
  | _ => 0

abbrev bufTy : (tb : Table) → Fin (tcTables nBuf tb) → BufTy
  | .hbm, ⟨0, _⟩ => ⟨S18432x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S4x2048x8192, .bf16⟩
  | .hbm, ⟨7, _⟩ => ⟨S4x8192x2048, .bf16⟩
  | .hbm, ⟨8, _⟩ => ⟨S1x2048, .f32⟩
  | .hbm, ⟨9, _⟩ => ⟨S16384x2048, .f32⟩
  | .hbm, ⟨10, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![36, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let arg0 : BitVec 32 := BitVec.ofNat 32 (i 0).val
  let c32_i32 : BitVec 32 := 32#32
  let v20 : BitVec 1 := Scalar.cmpi .slt arg0 c32_i32
  let v21 : BitVec 1 := Scalar.andi v19 v20
  let v22 : BitVec 32 := Scalar.extui v21
  let c0_i32_14 : BitVec 32 := 0#32
  let v23 : BitVec 1 := Scalar.cmpi .ne v22 c0_i32_14
  v23

def k0_cond3 (i : grid0.Coords) : BitVec 1 :=
  let arg1 : BitVec 32 := BitVec.ofNat 32 (i 1).val
  let c7_i32_15 : BitVec 32 := 7#32
  let v24 : BitVec 1 := Scalar.cmpi .eq arg1 c7_i32_15
  let arg0 : BitVec 32 := BitVec.ofNat 32 (i 0).val
  let c32_i32_16 : BitVec 32 := 32#32
  let v25 : BitVec 1 := Scalar.cmpi .sge arg0 c32_i32_16
  let v26 : BitVec 1 := Scalar.andi v24 v25
  let v27 : BitVec 32 := Scalar.extui v26
  let c0_i32_17 : BitVec 32 := 0#32
  let v28 : BitVec 1 := Scalar.cmpi .ne v27 c0_i32_17
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MlpFinalRefIdeal.lean ====
abbrev S18432x2048 : Shape := ⟨2, ![18432, 2048]⟩
abbrev S2048 : Shape := ⟨1, ![2048]⟩
abbrev S4x2048x8192 : Shape := ⟨3, ![4, 2048, 8192]⟩
abbrev S4x8192x2048 : Shape := ⟨3, ![4, 8192, 2048]⟩
abbrev S16384x2048 : Shape := ⟨2, ![16384, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S16384x8192 : Shape := ⟨2, ![16384, 8192]⟩
abbrev S2048x1 : Shape := ⟨2, ![2048, 1]⟩

abbrev nBuf : Space → Nat
  | .hbm => 93
  | .vmem => 0
  | .smem => 0
  | _ => 0

abbrev bufTy : (tb : Table) → Fin (tcTables nBuf tb) → BufTy
  | .hbm, ⟨0, _⟩ => ⟨S18432x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S16384x2048, .f32⟩
  | .hbm, ⟨6, _⟩ => ⟨S2048x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S1x2048x8192, .f32⟩
  | .hbm, ⟨24, _⟩ => ⟨S2048x8192, .f32⟩
  | .hbm, ⟨25, _⟩ => ⟨S1x8192x2048, .f32⟩
  | .hbm, ⟨26, _⟩ => ⟨S8192x2048, .f32⟩
  | .hbm, ⟨27, _⟩ => ⟨S16384x8192, .f32⟩
  | .hbm, ⟨28, _⟩ => ⟨S_, .f32⟩
  | .hbm, ⟨29, _⟩ => ⟨S16384x8192, .f32⟩
  | .hbm, ⟨30, _⟩ => ⟨S16384x8192, .f32⟩
  | .hbm, ⟨31, _⟩ => ⟨S16384x8192, .f32⟩
  | .hbm, ⟨32, _⟩ => ⟨S16384x2048, .f32⟩
  | .hbm, ⟨33, _⟩ => ⟨S16384x2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S2048x2048, .f32⟩
  | .hbm, ⟨46, _⟩ => ⟨S2048x2048, .f32⟩
  | .hbm, ⟨47, _⟩ => ⟨S1x2048, .f32⟩
  | .hbm, ⟨48, _⟩ => ⟨S2048x2048, .f32⟩
  | .hbm, ⟨49, _⟩ => ⟨S2048x2048, .f32⟩
  | .hbm, ⟨50, _⟩ => ⟨S1x2048x8192, .f32⟩
  | .hbm, ⟨51, _⟩ => ⟨S2048x8192, .f32⟩
  | .hbm, ⟨52, _⟩ => ⟨S1x8192x2048, .f32⟩
  | .hbm, ⟨53, _⟩ => ⟨S8192x2048, .f32⟩
  | .hbm, ⟨54, _⟩ => ⟨S2048x8192, .f32⟩
  | .hbm, ⟨55, _⟩ => ⟨S_, .f32⟩
  | .hbm, ⟨56, _⟩ => ⟨S2048x8192, .f32⟩
  | .hbm, ⟨57, _⟩ => ⟨S2048x8192, .f32⟩
  | .hbm, ⟨58, _⟩ => ⟨S2048x8192, .f32⟩
  | .hbm, ⟨59, _⟩ => ⟨S2048x2048, .f32⟩
  | .hbm, ⟨60, _⟩ => ⟨S2048x2048, .f32⟩
  | .hbm, ⟨61, _⟩ => ⟨S16384x2048, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S16384x2048, .f32⟩
  | .hbm, ⟨73, _⟩ => ⟨S16384x2048, .f32⟩
  | .hbm, ⟨74, _⟩ => ⟨S1x2048, .f32⟩
  | .hbm, ⟨75, _⟩ => ⟨S16384x2048, .f32⟩
  | .hbm, ⟨76, _⟩ => ⟨S16384x2048, .f32⟩
  | .hbm, ⟨77, _⟩ => ⟨S2048x2048, .f32⟩
  | .hbm, ⟨78, _⟩ => ⟨S_, .f32⟩
  | .hbm, ⟨79, _⟩ => ⟨S2048, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048x1, .f32⟩
  | .hbm, ⟨86, _⟩ => ⟨S2048x1, .f32⟩
  | .hbm, ⟨87, _⟩ => ⟨S2048x1, .f32⟩
  | .hbm, ⟨88, _⟩ => ⟨S2048x2048, .f32⟩
  | .hbm, ⟨89, _⟩ => ⟨S2048x2048, .f32⟩
  | .hbm, ⟨90, _⟩ => ⟨S1x2048, .f32⟩
  | .hbm, ⟨91, _⟩ => ⟨S2048x2048, .f32⟩
  | .hbm, ⟨92, _⟩ => ⟨S2048x2048, .f32⟩
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call1_cst : Ref sig .tc := ⟨.hbm, 55, rfl⟩
abbrev main_call1_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== AttnCore.lean ====
abbrev S18432x2048 : Shape := ⟨2, ![18432, 2048]⟩
abbrev S18432x256 : Shape := ⟨2, ![18432, 256]⟩
abbrev S32x128x4x64 : Shape := ⟨4, ![32, 128, 4, 64]⟩
abbrev S32 : Shape := ⟨1, ![32]⟩
abbrev S18432x4x1x64 : Shape := ⟨4, ![18432, 4, 1, 64]⟩
abbrev S18432x4x2x64 : Shape := ⟨4, ![18432, 4, 2, 64]⟩
abbrev S18432x512 : Shape := ⟨2, ![18432, 512]⟩
abbrev S18432x1024 : Shape := ⟨2, ![18432, 1024]⟩
abbrev S4096x4x1x64 : Shape := ⟨4, ![4096, 4, 1, 64]⟩
abbrev S4096x4x2x64 : Shape := ⟨4, ![4096, 4, 2, 64]⟩
abbrev S4096x512 : Shape := ⟨2, ![4096, 512]⟩
abbrev S256 : Shape := ⟨1, ![256]⟩
abbrev S1x1x1x256 : Shape := ⟨4, ![1, 1, 1, 256]⟩
abbrev S3 : Shape := ⟨1, ![3]⟩
abbrev S_ : Shape := ⟨0, ![]⟩
abbrev S3x1x1x1 : Shape := ⟨4, ![3, 1, 1, 1]⟩
abbrev S4x8 : Shape := ⟨2, ![4, 8]⟩
abbrev S4x8x64 : Shape := ⟨3, ![4, 8, 64]⟩
abbrev S4x512 : Shape := ⟨2, ![4, 512]⟩
abbrev S1x4x512x1 : Shape := ⟨4, ![1, 4, 512, 1]⟩
abbrev S3x1x1x256 : Shape := ⟨4, ![3, 1, 1, 256]⟩
abbrev S1x4x512x256 : Shape := ⟨4, ![1, 4, 512, 256]⟩
abbrev S3x4x512x256 : Shape := ⟨4, ![3, 4, 512, 256]⟩
abbrev S64x2048 : Shape := ⟨2, ![64, 2048]⟩
abbrev S64x512 : Shape := ⟨2, ![64, 512]⟩
abbrev S256x512 : Shape := ⟨2, ![256, 512]⟩
abbrev S1x128 : Shape := ⟨2, ![1, 128]⟩
abbrev S256x128 : Shape := ⟨2, ![256, 128]⟩
abbrev S64x128 : Shape := ⟨2, ![64, 128]⟩
abbrev S512x128 : Shape := ⟨2, ![512, 128]⟩
abbrev S512x256 : Shape := ⟨2, ![512, 256]⟩
abbrev S1x1x512x256 : Shape := ⟨4, ![1, 1, 512, 256]⟩
abbrev S512 : Shape := ⟨1, ![512]⟩
abbrev S512x1 : Shape := ⟨2, ![512, 1]⟩
abbrev S256x256 : Shape := ⟨2, ![256, 256]⟩

abbrev nBuf : Space → Nat
  | .hbm => 62
  | .vmem => 26
  | .smem => 0
  | _ => 0

abbrev bufTy : (tb : Table) → Fin (tcTables nBuf tb) → BufTy
  | .hbm, ⟨0, _⟩ => ⟨S18432x2048, .bf16⟩
  | .hbm, ⟨1, _⟩ => ⟨S18432x256, .bf16⟩
  | .hbm, ⟨2, _⟩ => ⟨S18432x256, .bf16⟩
  | .hbm, ⟨3, _⟩ => ⟨S32x128x4x64, .f32⟩
  | .hbm, ⟨4, _⟩ => ⟨S32x128x4x64, .f32⟩
  | .hbm, ⟨5, _⟩ => ⟨S32, .f32⟩
  | .hbm, ⟨6, _⟩ => ⟨S18432x4x1x64, .bf16⟩
  | .hbm, ⟨7, _⟩ => ⟨S18432x4x2x64, .bf16⟩
  | .hbm, ⟨8, _⟩ => ⟨S18432x512, .bf16⟩
  | .hbm, ⟨9, _⟩ => ⟨S18432x4x1x64, .bf16⟩
  | .hbm, ⟨10, _⟩ => ⟨S18432x4x2x64, .bf16⟩
  | .hbm, ⟨11, _⟩ => ⟨S18432x512, .bf16⟩
  | .hbm, ⟨12, _⟩ => ⟨S18432x1024, .bf16⟩
  | .hbm, ⟨13, _⟩ => ⟨S32x128x4x64, .bf16⟩
  | .hbm, ⟨14, _⟩ => ⟨S4096x4x1x64, .bf16⟩
  | .hbm, ⟨15, _⟩ => ⟨S4096x4x2x64, .bf16⟩
  | .hbm, ⟨16, _⟩ => ⟨S4096x512, .bf16⟩
  | .hbm, ⟨17, _⟩ => ⟨S32x128x4x64, .bf16⟩
  | .hbm, ⟨18, _⟩ => ⟨S4096x4x1x64, .bf16⟩
  | .hbm, ⟨19, _⟩ => ⟨S4096x4x2x64, .bf16⟩
  | .hbm, ⟨20, _⟩ => ⟨S4096x512, .bf16⟩
  | .hbm, ⟨21, _⟩ => ⟨S256, .i32⟩
  | .hbm, ⟨22, _⟩ => ⟨S1x1x1x256, .i32⟩
  | .hbm, ⟨23, _⟩ => ⟨S3, .i32⟩
  | .hbm, ⟨24, _⟩ => ⟨S_, .i32⟩
  | .hbm, ⟨25, _⟩ => ⟨S3, .i32⟩
  | .hbm, ⟨26, _⟩ => ⟨S3, .i32⟩
  | .hbm, ⟨27, _⟩ => ⟨S3x1x1x1, .i32⟩
  | .hbm, ⟨28, _⟩ => ⟨S_, .i32⟩
  | .hbm, ⟨29, _⟩ => ⟨S3x1x1x1, .i32⟩
  | .hbm, ⟨30, _⟩ => ⟨S3x1x1x1, .i32⟩
  | .hbm, ⟨31, _⟩ => ⟨S4x8, .f32⟩
  | .hbm, ⟨32, _⟩ => ⟨S4x8x64, .f32⟩
  | .hbm, ⟨33, _⟩ => ⟨S4x512, .f32⟩
  | .hbm, ⟨34, _⟩ => ⟨S1x4x512x1, .f32⟩
  | .hbm, ⟨35, _⟩ => ⟨S3x1x1x256, .i32⟩
  | .hbm, ⟨36, _⟩ => ⟨S3x1x1x256, .i32⟩
  | .hbm, ⟨37, _⟩ => ⟨S3x1x1x256, .i1⟩
  | .hbm, ⟨38, _⟩ => ⟨S_, .i32⟩
  | .hbm, ⟨39, _⟩ => ⟨S1x1x1x256, .i32⟩
  | .hbm, ⟨40, _⟩ => ⟨S1x1x1x256, .i1⟩
  | .hbm, ⟨41, _⟩ => ⟨S_, .i32⟩
  | .hbm, ⟨42, _⟩ => ⟨S1x1x1x256, .i32⟩
  | .hbm, ⟨43, _⟩ => ⟨S1x1x1x256, .i1⟩
  | .hbm, ⟨44, _⟩ => ⟨S_, .f32⟩
  | .hbm, ⟨45, _⟩ => ⟨S_, .f32⟩
  | .hbm, ⟨46, _⟩ => ⟨S1x4x512x256, .i1⟩
  | .hbm, ⟨47, _⟩ => ⟨S1x4x512x256, .f32⟩
  | .hbm, ⟨48, _⟩ => ⟨S1x4x512x256, .f32⟩
  | .hbm, ⟨49, _⟩ => ⟨S1x4x512x256, .f32⟩
  | .hbm, ⟨50, _⟩ => ⟨S_, .f32⟩
  | .hbm, ⟨51, _⟩ => ⟨S_, .f32⟩
  | .hbm, ⟨52, _⟩ => ⟨S1x4x512x256, .i1⟩
  | .hbm, ⟨53, _⟩ => ⟨S1x4x512x256, .f32⟩
  | .hbm, ⟨54, _⟩ => ⟨S1x4x512x256, .f32⟩
  | .hbm, ⟨55, _⟩ => ⟨S_, .f32⟩
  | .hbm, ⟨56, _⟩ => ⟨S_, .f32⟩
  | .hbm, ⟨57, _⟩ => ⟨S3x4x512x256, .i1⟩
  | .hbm, ⟨58, _⟩ => ⟨S3x4x512x256, .f32⟩
  | .hbm, ⟨59, _⟩ => ⟨S3x4x512x256, .f32⟩
  | .hbm, ⟨60, _⟩ => ⟨S3x4x512x256, .f32⟩
  | .hbm, ⟨61, _⟩ => ⟨S18432x2048, .bf16⟩
  | .local _ .vmem, ⟨0, _⟩ => ⟨S1x4x512x256, .f32⟩
  | .local _ .vmem, ⟨1, _⟩ => ⟨S1x4x512x256, .f32⟩
  | .local _ .vmem, ⟨2, _⟩ => ⟨S64x2048, .bf16⟩
  | .local _ .vmem, ⟨3, _⟩ => ⟨S64x2048, .bf16⟩
  | .local _ .vmem, ⟨4, _⟩ => ⟨S64x512, .bf16⟩
  | .local _ .vmem, ⟨5, _⟩ => ⟨S64x512, .bf16⟩
  | .local _ .vmem, ⟨6, _⟩ => ⟨S64x512, .bf16⟩
  | .local _ .vmem, ⟨7, _⟩ => ⟨S64x512, .bf16⟩
  | .local _ .vmem, ⟨8, _⟩ => ⟨S64x512, .bf16⟩
  | .local _ .vmem, ⟨9, _⟩ => ⟨S64x512, .bf16⟩
  | .local _ .vmem, ⟨10, _⟩ => ⟨S64x512, .bf16⟩
  | .local _ .vmem, ⟨11, _⟩ => ⟨S64x512, .bf16⟩
  | .local _ .vmem, ⟨12, _⟩ => ⟨S64x512, .bf16⟩
  | .local _ .vmem, ⟨13, _⟩ => ⟨S64x512, .bf16⟩
  | .local _ .vmem, ⟨14, _⟩ => ⟨S64x512, .bf16⟩
  | .local _ .vmem, ⟨15, _⟩ => ⟨S64x512, .bf16⟩
  | .local _ .vmem, ⟨16, _⟩ => ⟨S64x512, .bf16⟩
  | .local _ .vmem, ⟨17, _⟩ => ⟨S64x512, .bf16⟩
  | .local _ .vmem, ⟨18, _⟩ => ⟨S64x512, .bf16⟩
  | .local _ .vmem, ⟨19, _⟩ => ⟨S64x512, .bf16⟩
  | .local _ .vmem, ⟨20, _⟩ => ⟨S64x512, .bf16⟩
  | .local _ .vmem, ⟨21, _⟩ => ⟨S64x512, .bf16⟩
  | .local _ .vmem, ⟨22, _⟩ => ⟨S64x512, .bf16⟩
  | .local _ .vmem, ⟨23, _⟩ => ⟨S64x512, .bf16⟩
  | .local _ .vmem, ⟨24, _⟩ => ⟨S64x2048, .bf16⟩
  | .local _ .vmem, ⟨25, _⟩ => ⟨S64x2048, .bf16⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_1 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_v34 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v35 : Ref sig .tc := ⟨.hbm, 54, rfl⟩
abbrev main_cst_4 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_v36 : Ref sig .tc := ⟨.hbm, 60, rfl⟩
abbrev main_v37 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![288], ![false]⟩

def cc0_transform_0 (i : grid0.Coords) : Fin 4 → Nat :=
  let arg0 : BitVec 32 := BitVec.ofNat 32 (i 0).val
  let c256_i32 : BitVec 32 := 256#32
  let v0 : BitVec 1 := Scalar.cmpi .slt arg0 c256_i32
  let c2_i32 : BitVec 32 := 2#32
  let v1 : BitVec 32 := Scalar.minsi arg0 c2_i32
  let c2_i32_0 : BitVec 32 := 2#32
  let v2 : BitVec 32 := Scalar.select v0 v1 c2_i32_0
  let c0_i32 : BitVec 32 := 0#32
  let c0_i32_1 : BitVec 32 := 0#32
  let c0_i32_2 : BitVec 32 := 0#32
  let c0_i32_3 : BitVec 32 := 0#32
  ![v2.toNat, c0_i32.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c255_i32 : BitVec 32 := 255#32
  let v0 : BitVec 32 := Scalar.minsi arg0 c255_i32
  let c2_i32 : BitVec 32 := 2#32
  let v1 : BitVec 32 := Scalar.subi v0 c2_i32
  let c0_i32 : BitVec 32 := 0#32
  let v2 : BitVec 32 := Scalar.addi v1 c0_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c255_i32 : BitVec 32 := 255#32
  let v0 : BitVec 32 := Scalar.minsi arg0 c255_i32
  let c2_i32 : BitVec 32 := 2#32
  let v1 : BitVec 32 := Scalar.subi v0 c2_i32
  let c1_i32 : BitVec 32 := 1#32
  let v2 : BitVec 32 := Scalar.addi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c256_i32 : BitVec 32 := 256#32
  let v0 : BitVec 32 := Scalar.subi arg0 c256_i32
  let c0_i32 : BitVec 32 := 0#32
  let v1 : BitVec 32 := Scalar.maxsi v0 c0_i32
  let c2_i32 : BitVec 32 := 2#32
  let v2 : BitVec 32 := Scalar.muli c2_i32 v1
  let c0_i32_0 : BitVec 32 := 0#32
  let v3 : BitVec 32 := Scalar.addi v2 c0_i32_0
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let c256_i32 : BitVec 32 := 256#32
  let v0 : BitVec 32 := Scalar.subi arg0 c256_i32
  let c0_i32 : BitVec 32 := 0#32
  let v1 : BitVec 32 := Scalar.maxsi v0 c0_i32
  let c2_i32 : BitVec 32 := 2#32
  let v2 : BitVec 32 := Scalar.muli c2_i32 v1
  let c1_i32 : BitVec 32 := 1#32
  let v3 : BitVec 32 := Scalar.addi v2 c1_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c255_i32 : BitVec 32 := 255#32
  let v0 : BitVec 32 := Scalar.minsi arg0 c255_i32
  let c2_i32 : BitVec 32 := 2#32
  let v1 : BitVec 32 := Scalar.subi v0 c2_i32
  let c0_i32 : BitVec 32 := 0#32
  let v2 : BitVec 32 := Scalar.addi v1 c0_i32
  let c0_i32_0 : BitVec 32 := 0#32
  let v3 : BitVec 32 := Scalar.maxsi v2 c0_i32_0
  let c1_i32 : BitVec 32 := 1#32
  let c0_i32_1 : BitVec 32 := 0#32
  ![v3.toNat, c1_i32.toNat]

def cc0_transform_8 (i : grid0.Coords) : Fin 2 → Nat :=
  let arg0 : BitVec 32 := BitVec.ofNat 32 (i 0).val
  let c255_i32 : BitVec 32 := 255#32
  let v0 : BitVec 32 := Scalar.minsi arg0 c255_i32
  let c2_i32 : BitVec 32 := 2#32
  let v1 : BitVec 32 := Scalar.subi v0 c2_i32
  let c1_i32 : BitVec 32 := 1#32
  let v2 : BitVec 32 := Scalar.addi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_9 (i : grid0.Coords) : Fin 2 → Nat :=
  let arg0 : BitVec 32 := BitVec.ofNat 32 (i 0).val
  let c256_i32 : BitVec 32 := 256#32
  let v0 : BitVec 32 := Scalar.subi arg0 c256_i32
  let c0_i32 : BitVec 32 := 0#32
  let v1 : BitVec 32 := Scalar.maxsi v0 c0_i32
  let c2_i32 : BitVec 32 := 2#32
  let v2 : BitVec 32 := Scalar.muli c2_i32 v1
  let c0_i32_0 : BitVec 32 := 0#32
  let v3 : BitVec 32 := Scalar.addi v2 c0_i32_0
  let c0_i32_1 : BitVec 32 := 0#32
  let c0_i32_2 : BitVec 32 := 0#32
  ![v3.toNat, c0_i32_1.toNat]

def cc0_transform_10 (i : grid0.Coords) : Fin 2 → Nat :=
  let arg0 : BitVec 32 := BitVec.ofNat 32 (i 0).val
  let c256_i32 : BitVec 32 := 256#32
  let v0 : BitVec 32 := Scalar.subi arg0 c256_i32
  let c0_i32 : BitVec 32 := 0#32
  let v1 : BitVec 32 := Scalar.maxsi v0 c0_i32
  let c2_i32 : BitVec 32 := 2#32
  let v2 : BitVec 32 := Scalar.muli c2_i32 v1
  let c1_i32 : BitVec 32 := 1#32
  let v3 : BitVec 32 := Scalar.addi v2 c1_i32
  let c0_i32_0 : BitVec 32 := 0#32
  let c0_i32_1 : BitVec 32 := 0#32
  ![v3.toNat, c0_i32_0.toNat]

def cc0_transform_11 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== AttnCoreRefIdeal.lean ====
abbrev S18432x2048 : Shape := ⟨2, ![18432, 2048]⟩
abbrev S18432x256 : Shape := ⟨2, ![18432, 256]⟩
abbrev S32x128x4x64 : Shape := ⟨4, ![32, 128, 4, 64]⟩
abbrev S32 : Shape := ⟨1, ![32]⟩
abbrev S16384x2048 : Shape := ⟨2, ![16384, 2048]⟩
abbrev S1x256x64x4x8x64 : Shape := ⟨6, ![1, 256, 64, 4, 8, 64]⟩
abbrev S256 : Shape := ⟨1, ![256]⟩
abbrev S256x1 : Shape := ⟨2, ![256, 1]⟩
abbrev S192 : Shape := ⟨1, ![192]⟩
abbrev S1x192 : Shape := ⟨2, ![1, 192]⟩
abbrev S_ : Shape := ⟨0, ![]⟩
abbrev S256x192 : Shape := ⟨2, ![256, 192]⟩
abbrev S1x256x1x1x1x192 : Shape := ⟨6, ![1, 256, 1, 1, 1, 192]⟩
abbrev S16384x256 : Shape := ⟨2, ![16384, 256]⟩
abbrev S1x16384x4x64 : Shape := ⟨4, ![1, 16384, 4, 64]⟩
abbrev S1x128x4x64 : Shape := ⟨4, ![1, 128, 4, 64]⟩
abbrev S1x16512x4x64 : Shape := ⟨4, ![1, 16512, 4, 64]⟩
abbrev S1x258x64x4x64 : Shape := ⟨5, ![1, 258, 64, 4, 64]⟩
abbrev S1x256x64x4x64 : Shape := ⟨5, ![1, 256, 64, 4, 64]⟩
abbrev S1x256x192x4x64 : Shape := ⟨5, ![1, 256, 192, 4, 64]⟩
abbrev S1x256x4x192x64x8 : Shape := ⟨6, ![1, 256, 4, 192, 64, 8]⟩
abbrev S1x256x4x8x64x192 : Shape := ⟨6, ![1, 256, 4, 8, 64, 192]⟩
abbrev S4x8x1x1 : Shape := ⟨4, ![4, 8, 1, 1]⟩
abbrev S1x256x4x8x64x1 : Shape := ⟨6, ![1, 256, 4, 8, 64, 1]⟩
abbrev S1x256x4x8x64x193 : Shape := ⟨6, ![1, 256, 4, 8, 64, 193]⟩
abbrev S1x256x4x8x64 : Shape := ⟨5, ![1, 256, 4, 8, 64]⟩
abbrev S1x256x4x64x8x64 : Shape := ⟨6, ![1, 256, 4, 64, 8, 64]⟩
abbrev S2048x256 : Shape := ⟨2, ![2048, 256]⟩
abbrev S32x64x4x64 : Shape := ⟨4, ![32, 64, 4, 64]⟩
abbrev S32x192x4x64 : Shape := ⟨4, ![32, 192, 4, 64]⟩
abbrev S2048x2048 : Shape := ⟨2, ![2048, 2048]⟩
abbrev S32x1x64x4x8x64 : Shape := ⟨6, ![32, 1, 64, 4, 8, 64]⟩
abbrev S32x1x192x4x64 : Shape := ⟨5, ![32, 1, 192, 4, 64]⟩
abbrev S32x1x4x192x64x8 : Shape := ⟨6, ![32, 1, 4, 192, 64, 8]⟩
abbrev S32x1x4x8x64x192 : Shape := ⟨6, ![32, 1, 4, 8, 64, 192]⟩
abbrev S32x1x4x8x64x1 : Shape := ⟨6, ![32, 1, 4, 8, 64, 1]⟩
abbrev S32x1x4x8x64x193 : Shape := ⟨6, ![32, 1, 4, 8, 64, 193]⟩
abbrev S32x1x4x8x64 : Shape := ⟨5, ![32, 1, 4, 8, 64]⟩
abbrev S32x1x4x64x8x64 : Shape := ⟨6, ![32, 1, 4, 64, 8, 64]⟩

abbrev nBuf : Space → Nat
  | .hbm => 126
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S18432x256, .bf16⟩
  | .hbm, ⟨2, _⟩ => ⟨S18432x256, .bf16⟩
  | .hbm, ⟨3, _⟩ => ⟨S32x128x4x64, .f32⟩
  | .hbm, ⟨4, _⟩ => ⟨S32x128x4x64, .f32⟩
  | .hbm, ⟨5, _⟩ => ⟨S32, .f32⟩
  | .hbm, ⟨6, _⟩ => ⟨S18432x2048, .f32⟩
  | .hbm, ⟨7, _⟩ => ⟨S18432x256, .f32⟩
  | .hbm, ⟨8, _⟩ => ⟨S18432x256, .f32⟩
  | .hbm, ⟨9, _⟩ => ⟨S16384x2048, .f32⟩
  | .hbm, ⟨10, _⟩ => ⟨S1x256x64x4x8x64, .f32⟩
  | .hbm, ⟨11, _⟩ => ⟨S256, .i32⟩
  | .hbm, ⟨12, _⟩ => ⟨S256x1, .i32⟩
  | .hbm, ⟨13, _⟩ => ⟨S192, .i32⟩
  | .hbm, ⟨14, _⟩ => ⟨S1x192, .i32⟩
  | .hbm, ⟨15, _⟩ => ⟨S_, .i32⟩
  | .hbm, ⟨16, _⟩ => ⟨S_, .i32⟩
  | .hbm, ⟨17, _⟩ => ⟨S1x192, .i32⟩
  | .hbm, ⟨18, _⟩ => ⟨S1x192, .i32⟩
  | .hbm, ⟨19, _⟩ => ⟨S1x192, .i32⟩
  | .hbm, ⟨20, _⟩ => ⟨S_, .i32⟩
  | .hbm, ⟨21, _⟩ => ⟨S1x192, .i32⟩
  | .hbm, ⟨22, _⟩ => ⟨S1x192, .i1⟩
  | .hbm, ⟨23, _⟩ => ⟨S1x192, .i32⟩
  | .hbm, ⟨24, _⟩ => ⟨S1x192, .i32⟩
  | .hbm, ⟨25, _⟩ => ⟨S_, .i32⟩
  | .hbm, ⟨26, _⟩ => ⟨S1x192, .i32⟩
  | .hbm, ⟨27, _⟩ => ⟨S1x192, .i1⟩
  | .hbm, ⟨28, _⟩ => ⟨S1x192, .i1⟩
  | .hbm, ⟨29, _⟩ => ⟨S_, .i32⟩
  | .hbm, ⟨30, _⟩ => ⟨S1x192, .i32⟩
  | .hbm, ⟨31, _⟩ => ⟨S1x192, .i32⟩
  | .hbm, ⟨32, _⟩ => ⟨S1x192, .i32⟩
  | .hbm, ⟨33, _⟩ => ⟨S256x192, .i32⟩
  | .hbm, ⟨34, _⟩ => ⟨S256x192, .i32⟩
  | .hbm, ⟨35, _⟩ => ⟨S256x192, .i32⟩
  | .hbm, ⟨36, _⟩ => ⟨S_, .i32⟩
  | .hbm, ⟨37, _⟩ => ⟨S256x192, .i32⟩
  | .hbm, ⟨38, _⟩ => ⟨S256x192, .i32⟩
  | .hbm, ⟨39, _⟩ => ⟨S_, .i32⟩
  | .hbm, ⟨40, _⟩ => ⟨S256x192, .i32⟩
  | .hbm, ⟨41, _⟩ => ⟨S256x192, .i1⟩
  | .hbm, ⟨42, _⟩ => ⟨S1x256x1x1x1x192, .i1⟩
  | .hbm, ⟨43, _⟩ => ⟨S16384x256, .f32⟩
  | .hbm, ⟨44, _⟩ => ⟨S1x16384x4x64, .f32⟩
  | .hbm, ⟨45, _⟩ => ⟨S_, .f32⟩
  | .hbm, ⟨46, _⟩ => ⟨S1x128x4x64, .f32⟩
  | .hbm, ⟨47, _⟩ => ⟨S1x16512x4x64, .f32⟩
  | .hbm, ⟨48, _⟩ => ⟨S1x258x64x4x64, .f32⟩
  | .hbm, ⟨49, _⟩ => ⟨S1x256x64x4x64, .f32⟩
  | .hbm, ⟨50, _⟩ => ⟨S1x256x64x4x64, .f32⟩
  | .hbm, ⟨51, _⟩ => ⟨S1x256x64x4x64, .f32⟩
  | .hbm, ⟨52, _⟩ => ⟨S1x256x192x4x64, .f32⟩
  | .hbm, ⟨53, _⟩ => ⟨S16384x256, .f32⟩
  | .hbm, ⟨54, _⟩ => ⟨S1x16384x4x64, .f32⟩
  | .hbm, ⟨55, _⟩ => ⟨S_, .f32⟩
  | .hbm, ⟨56, _⟩ => ⟨S1x128x4x64, .f32⟩
  | .hbm, ⟨57, _⟩ => ⟨S1x16512x4x64, .f32⟩
  | .hbm, ⟨58, _⟩ => ⟨S1x258x64x4x64, .f32⟩
  | .hbm, ⟨59, _⟩ => ⟨S1x256x64x4x64, .f32⟩
  | .hbm, ⟨60, _⟩ => ⟨S1x256x64x4x64, .f32⟩
  | .hbm, ⟨61, _⟩ => ⟨S1x256x64x4x64, .f32⟩
  | .hbm, ⟨62, _⟩ => ⟨S1x256x192x4x64, .f32⟩
  | .hbm, ⟨63, _⟩ => ⟨S1x256x4x192x64x8, .f32⟩
  | .hbm, ⟨64, _⟩ => ⟨S1x256x4x8x64x192, .f32⟩
  | .hbm, ⟨65, _⟩ => ⟨S_, .f32⟩
  | .hbm, ⟨66, _⟩ => ⟨S_, .f32⟩
  | .hbm, ⟨67, _⟩ => ⟨S1x256x4x8x64x192, .i1⟩
  | .hbm, ⟨68, _⟩ => ⟨S1x256x4x8x64x192, .f32⟩
  | .hbm, ⟨69, _⟩ => ⟨S1x256x4x8x64x192, .f32⟩
  | .hbm, ⟨70, _⟩ => ⟨S4x8x1x1, .f32⟩
  | .hbm, ⟨71, _⟩ => ⟨S1x256x4x8x64x1, .f32⟩
  | .hbm, ⟨72, _⟩ => ⟨S1x256x4x8x64x193, .f32⟩
  | .hbm, ⟨73, _⟩ => ⟨S_, .f32⟩
  | .hbm, ⟨74, _⟩ => ⟨S1x256x4x8x64, .f32⟩
  | .hbm, ⟨75, _⟩ => ⟨S_, .f32⟩
  | .hbm, ⟨76, _⟩ => ⟨S1x256x4x8x64, .f32⟩
  | .hbm, ⟨77, _⟩ => ⟨S1x256x4x8x64, .f32⟩
  | .hbm, ⟨78, _⟩ => ⟨S1x256x4x8x64x1, .f32⟩
  | .hbm, ⟨79, _⟩ => ⟨S1x256x4x8x64x193, .f32⟩
  | .hbm, ⟨80, _⟩ => ⟨S1x256x4x8x64x193, .f32⟩
  | .hbm, ⟨81, _⟩ => ⟨S1x256x4x8x64x193, .f32⟩
  | .hbm, ⟨82, _⟩ => ⟨S_, .f32⟩
  | .hbm, ⟨83, _⟩ => ⟨S1x256x4x8x64, .f32⟩
  | .hbm, ⟨84, _⟩ => ⟨S1x256x4x8x64x1, .f32⟩
  | .hbm, ⟨85, _⟩ => ⟨S1x256x4x8x64x193, .f32⟩
  | .hbm, ⟨86, _⟩ => ⟨S1x256x4x8x64x193, .f32⟩
  | .hbm, ⟨87, _⟩ => ⟨S1x256x4x8x64x192, .f32⟩
  | .hbm, ⟨88, _⟩ => ⟨S1x256x4x64x8x64, .f32⟩
  | .hbm, ⟨89, _⟩ => ⟨S1x256x64x4x8x64, .f32⟩
  | .hbm, ⟨90, _⟩ => ⟨S16384x2048, .f32⟩
  | .hbm, ⟨91, _⟩ => ⟨S2048x256, .f32⟩
  | .hbm, ⟨92, _⟩ => ⟨S32x64x4x64, .f32⟩
  | .hbm, ⟨93, _⟩ => ⟨S32x192x4x64, .f32⟩
  | .hbm, ⟨94, _⟩ => ⟨S2048x256, .f32⟩
  | .hbm, ⟨95, _⟩ => ⟨S32x64x4x64, .f32⟩
  | .hbm, ⟨96, _⟩ => ⟨S32x192x4x64, .f32⟩
  | .hbm, ⟨97, _⟩ => ⟨S2048x2048, .f32⟩
  | .hbm, ⟨98, _⟩ => ⟨S32x1x64x4x8x64, .f32⟩
  | .hbm, ⟨99, _⟩ => ⟨S32x1x192x4x64, .f32⟩
  | .hbm, ⟨100, _⟩ => ⟨S32x1x192x4x64, .f32⟩
  | .hbm, ⟨101, _⟩ => ⟨S32x1x4x192x64x8, .f32⟩
  | .hbm, ⟨102, _⟩ => ⟨S32x1x4x8x64x192, .f32⟩
  | .hbm, ⟨103, _⟩ => ⟨S4x8x1x1, .f32⟩
  | .hbm, ⟨104, _⟩ => ⟨S32x1x4x8x64x1, .f32⟩
  | .hbm, ⟨105, _⟩ => ⟨S32x1x4x8x64x193, .f32⟩
  | .hbm, ⟨106, _⟩ => ⟨S_, .f32⟩
  | .hbm, ⟨107, _⟩ => ⟨S32x1x4x8x64, .f32⟩
  | .hbm, ⟨108, _⟩ => ⟨S_, .f32⟩
  | .hbm, ⟨109, _⟩ => ⟨S32x1x4x8x64, .f32⟩
  | .hbm, ⟨110, _⟩ => ⟨S32x1x4x8x64, .f32⟩
  | .hbm, ⟨111, _⟩ => ⟨S32x1x4x8x64x1, .f32⟩
  | .hbm, ⟨112, _⟩ => ⟨S32x1x4x8x64x193, .f32⟩
  | .hbm, ⟨113, _⟩ => ⟨S32x1x4x8x64x193, .f32⟩
  | .hbm, ⟨114, _⟩ => ⟨S32x1x4x8x64x193, .f32⟩
  | .hbm, ⟨115, _⟩ => ⟨S_, .f32⟩
  | .hbm, ⟨116, _⟩ => ⟨S32x1x4x8x64, .f32⟩
  | .hbm, ⟨117, _⟩ => ⟨S32x1x4x8x64x1, .f32⟩
  | .hbm, ⟨118, _⟩ => ⟨S32x1x4x8x64x193, .f32⟩
  | .hbm, ⟨119, _⟩ => ⟨S32x1x4x8x64x193, .f32⟩
  | .hbm, ⟨120, _⟩ => ⟨S32x1x4x8x64x192, .f32⟩
  | .hbm, ⟨121, _⟩ => ⟨S32x1x4x64x8x64, .f32⟩
  | .hbm, ⟨122, _⟩ => ⟨S32x1x64x4x8x64, .f32⟩
  | .hbm, ⟨123, _⟩ => ⟨S2048x2048, .f32⟩
  | .hbm, ⟨124, _⟩ => ⟨S18432x2048, .f32⟩
  | .hbm, ⟨125, _⟩ => ⟨S18432x2048, .bf16⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_0 : Ref sig .tc := ⟨.hbm, 36, rfl⟩
abbrev main_v13 : Ref sig .tc := ⟨.hbm, 37, rfl⟩
abbrev main_v14 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_3 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_4 : Ref sig .tc := ⟨.hbm, 73, rfl⟩
abbrev main_v42 : Ref sig .tc := ⟨.hbm, 74, rfl⟩
abbrev main_cst_5 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_6 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_7 : Ref sig .tc := ⟨.hbm, 106, rfl⟩
abbrev main_v72 : Ref sig .tc := ⟨.hbm, 107, rfl⟩
abbrev main_cst_8 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_9 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩

abbrev nD : Nat := 1
abbrev τ : Topo := Topo.v7x

variable {F : FTy → Type} [FloatOps F]
-- ==== Proof.RetSpec.lean ====
/- Hand-written: retention over one chunk of a head, as plain sums over extended reals. Both programs of the retention claims are
   read back to these functions, one head and one sequence at a time. -/
module
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Ret

/-- A position as a float: the 32-bit counter converted. -/
def fl (n : ℕ) : EReal := FloatOps.sitofp (F := Ideal) FTy.f32 (BitVec.ofNat 32 n)

/-- The logarithm of head `h`'s decay, `log1p (-2^(-5-h))`, as both programs compute it (`2^x` as `exp (ln 2 · x)`). -/
def lg (h : ℕ) : EReal :=
  Ideal.log1p (-Ideal.exp (Ideal.ofBits .f32 1060205080#32 * (Ideal.ofBits .f32 3231711232#32 - fl h)))

/-- The decay between position `l` and an earlier position `m`; nothing flows back from a later one. -/
def decay (g : EReal) (l m : ℕ) : EReal := if 0 ≤ fl l - fl m then Ideal.exp (g * max (fl l - fl m) 0) else 0

/-- What position `l` reads: the earlier values of the chunk, each by its decayed score, and the state carried in, decayed. -/
def reads {L : ℕ} (g : EReal) (q k : Fin L → Fin 256 → EReal) (v : Fin L → Fin 512 → EReal) (s : Fin 256 → Fin 512 → EReal)
    (l : Fin L) (e : Fin 512) : EReal :=
  (∑ x, ((∑ d, q l d * k x d) * decay g l x) * v x e) + ∑ d, q l d * Ideal.exp (g * (fl l + 1)) * s d e

/-- The state handed on by a chunk of `L` positions: `n` is the float `L` and `z` the float `L - 1`. -/
def snew {L : ℕ} (n z : EReal) (g : EReal) (k : Fin L → Fin 256 → EReal) (v : Fin L → Fin 512 → EReal) (s : Fin 256 → Fin 512 → EReal)
    (d : Fin 256) (e : Fin 512) : EReal :=
  Ideal.exp (g * n) * s d e + ∑ x : Fin L, k x d * Ideal.exp (g * (z - fl x)) * v x e

/-- The mean of a head's 512 outputs. -/
def mean (o : Fin 512 → EReal) : EReal := Ideal.div (∑ x, o x) (Ideal.ofBits .f32 1140850688#32)

/-- The head's outputs centred and scaled to unit variance. -/
def normed (o : Fin 512 → EReal) (e : Fin 512) : EReal :=
  (o e - mean o) * Ideal.rsqrt (Ideal.div (∑ x, (o x - mean o) * (o x - mean o)) (Ideal.ofBits .f32 1140850688#32) + Ideal.ofBits .f32 925353388#32)

/-- The normalised output under its gate and its weight. -/
def gated (p : EReal) (o : Fin 512 → EReal) (w : EReal) (e : Fin 512) : EReal :=
  p * FloatOps.logistic (F := Ideal) (φ := .f32) p * (normed o e * w)

/-- A small count read as an integer is itself. -/
theorem toInt_small (n : ℕ) (h : n < 2 ^ 30) : (BitVec.ofNat 32 n).toInt = (n : ℤ) := by
  rw [BitVec.toInt_ofNat']; norm_num
  exact Int.bmod_eq_of_le (by omega) (by omega)

/-- Small counts as floats: one alone, or a difference of two. -/
theorem fl_eq (n : ℕ) (h : n < 2 ^ 30) : fl n = (((n : ℤ) : ℝ) : EReal) := by
  unfold fl
  show (((BitVec.ofNat 32 n).toInt : ℝ) : EReal) = _
  rw [toInt_small n h]

/-- The difference of two positions is the same taken on counters or on floats. -/
theorem fl_sub (l m : ℕ) (hl : l < 2 ^ 30) (hm : m < 2 ^ 30) :
    FloatOps.sitofp (F := Ideal) FTy.f32 (IntOp.subi (BitVec.ofNat 32 l) (BitVec.ofNat 32 m)) = fl l - fl m := by
  rw [fl_eq l hl, fl_eq m hm]
  show (((BitVec.ofNat 32 l - BitVec.ofNat 32 m).toInt : ℝ) : EReal) = _
  have : (BitVec.ofNat 32 l - BitVec.ofNat 32 m).toInt = (l : ℤ) - m := by
    rw [BitVec.toInt_sub, toInt_small l hl, toInt_small m hm]
    exact Int.bmod_eq_of_le (by omega) (by omega)
  rw [this, ← EReal.coe_sub]; push_cast; rfl

/-- Small counts as floats: one alone, or a difference of two. -/
theorem fl_sub64 (l m : Fin 64) :
    FloatOps.sitofp (F := Ideal) FTy.f32 (IntOp.subi (BitVec.ofNat 32 l) (BitVec.ofNat 32 m)) = fl l - fl m :=
  fl_sub l m (by omega) (by omega)

/-- Equal ingredients give equal values. -/
theorem reads_congr {L : ℕ} {g g' : EReal} {q q' k k' : Fin L → Fin 256 → EReal} {v v' : Fin L → Fin 512 → EReal}
    {s s' : Fin 256 → Fin 512 → EReal} (hg : g = g') (hq : ∀ l d, q l d = q' l d) (hk : ∀ l d, k l d = k' l d)
    (hv : ∀ l e, v l e = v' l e) (hs : ∀ d e, s d e = s' d e) (l : Fin L) (e : Fin 512) :
    reads g q k v s l e = reads g' q' k' v' s' l e := by
  obtain rfl := hg
  obtain rfl : q = q' := funext₂ hq
  obtain rfl : k = k' := funext₂ hk
  obtain rfl : v = v' := funext₂ hv
  obtain rfl : s = s' := funext₂ hs
  rfl

/-- Equal ingredients give equal values. -/
theorem snew_congr {L : ℕ} {n z : EReal} {g g' : EReal} {k k' : Fin L → Fin 256 → EReal} {v v' : Fin L → Fin 512 → EReal}
    {s s' : Fin 256 → Fin 512 → EReal} {d d' : Fin 256} {e e' : Fin 512} (hg : g = g') (hk : ∀ l d, k l d = k' l d)
    (hv : ∀ l e, v l e = v' l e) (hs : ∀ d e, s d e = s' d e) (hd : d = d') (he : e = e') :
    snew n z g k v s d e = snew n z g' k' v' s' d' e' := by
  obtain rfl := hg
  obtain rfl : k = k' := funext₂ hk
  obtain rfl : v = v' := funext₂ hv
  obtain rfl : s = s' := funext₂ hs
  rw [hd, he]

/-- Equal ingredients give equal values. -/
theorem gated_congr {p p' : EReal} {o o' : Fin 512 → EReal} {w w' : EReal} {e e' : Fin 512} (hp : p = p') (ho : ∀ e, o e = o' e)
    (hw : w = w') (he : e = e') : gated p o w e = gated p' o' w' e' := by
  obtain rfl := hp; obtain rfl : o = o' := funext ho; obtain rfl := hw; obtain rfl := he; rfl

end Cert.Ret

end
-- ==== Proof.RetSamplePieces.lean ====
/- Hand-written: what one grid step of the sample-batch retention kernel stores for each of its four heads, read at an index. -/
module
public import proofs.«01_k».proof.Proof.Gen.RetSampleIdeal.Skeleton
public import proofs.«01_k».proof.Proof.RetSpec

@[expose] public section

set_option maxRecDepth 16384

noncomputable section

open Idealize.ShloMosaic Idealize.ShloMosaic.TcCoe Idealize.SL.Sem

namespace Cert.RetSampleIdeal.Pieces

open Cert.RetSampleIdeal Cert.RetSampleIdeal.Gen Cert.Ret

variable (g : EReal) (q k : FVec Ideal S64x256 .bf16) (v : FVec Ideal S64x512 .bf16) (s : FVec Ideal S1x256x512 .f32)
  (p : FVec Ideal S64x512 .bf16) (w : FVec Ideal S1x512 .f32)

/-- The state a head hands on, over its loaded rows. -/
abbrev stepState (d : Fin 256) (e : Fin 512) : EReal :=
  snew (L := 64) (Ideal.ofBits .f32 1115684864#32) (Ideal.ofBits .f32 1115422720#32) g (fun l d => k (ix2 l d)) (fun l e => v (ix2 l e))
    (fun d e => s (ix3 0 d e)) d e

/-- A head's gated output, over its loaded rows. -/
abbrev stepOut (l : Fin 64) (e : Fin 512) : EReal :=
  gated (p (ix2 l e)) (reads (L := 64) g (fun l d => q (ix2 l d)) (fun l d => k (ix2 l d)) (fun l e => v (ix2 l e)) (fun d e => s (ix3 0 d e)) l)
    (w (ix2 0 e)) e

/-- The state stored for head 0 of a step. -/
theorem state0 (x : S1x1x256x512.Idx) :
    k0_pay39 (F := Ideal) (k0_pay32 g k v (k0_pay16 g k0_pay6) (k0_pay20 s)) x = stepState g k v s (x 2) (x 3) := by
  idx_vars x
  pointwise [k0_pay39, k0_pay32, k0_pay16, k0_pay20, k0_pay6, stepState, snew]
  rfl
/-- The state stored for head 1 of a step. -/
theorem state1 (x : S1x1x256x512.Idx) :
    k0_pay41 (F := Ideal) (k0_pay33 g k v (k0_pay17 g k0_pay6) (k0_pay21 s)) x = stepState g k v s (x 2) (x 3) := by
  idx_vars x
  pointwise [k0_pay41, k0_pay33, k0_pay17, k0_pay21, k0_pay6, stepState, snew]
  rfl
/-- The state stored for head 2 of a step. -/
theorem state2 (x : S1x1x256x512.Idx) :
    k0_pay43 (F := Ideal) (k0_pay34 g k v (k0_pay18 g k0_pay6) (k0_pay22 s)) x = stepState g k v s (x 2) (x 3) := by
  idx_vars x
  pointwise [k0_pay43, k0_pay34, k0_pay18, k0_pay22, k0_pay6, stepState, snew]
  rfl
/-- The state stored for head 3 of a step. -/
theorem state3 (x : S1x1x256x512.Idx) :
    k0_pay45 (F := Ideal) (k0_pay37 v (k0_pay35 g (k0_pay23 s)) (k0_pay36 k (k0_pay19 g k0_pay6))) x = stepState g k v s (x 2) (x 3) := by
  idx_vars x
  pointwise [k0_pay45, k0_pay37, k0_pay35, k0_pay23, k0_pay36, k0_pay19, k0_pay6, stepState, snew]
  rfl

/-- The output stored for head 0 of a step. -/
theorem out0 (x : S64x512.Idx) :
    k0_pay53 (F := Ideal) (k0_pay49 (k0_pay25 q k v (k0_pay7 g) (k0_pay12 g k0_pay6) s)) p w x = stepOut g q k v s p w (x 0) (x 1) := by
  idx_vars x
  pointwise [k0_pay53, k0_pay49, k0_pay25, k0_pay20, k0_pay7, k0_pay5, k0_pay12, k0_pay6, stepOut, gated, normed, mean, reads, decay, fl_sub64]
  rw [mul_assoc]; rfl
/-- The output stored for head 1 of a step. -/
theorem out1 (x : S64x512.Idx) :
    k0_pay1 (F := Ideal) (k0_pay54 (k0_pay46 (k0_pay26 q k v (k0_pay8 g) (k0_pay13 g k0_pay6) s)) (k0_pay50 (k0_pay26 q k v (k0_pay8 g) (k0_pay13 g k0_pay6) s)) p w) x = stepOut g q k v s p w (x 0) (x 1) := by
  idx_vars x
  pointwise [k0_pay1, k0_pay54, k0_pay46, k0_pay50, k0_pay26, k0_pay21, k0_pay8, k0_pay5, k0_pay13, k0_pay6, stepOut, gated, normed, mean, reads, decay, fl_sub64]
  rw [mul_assoc]; rfl
/-- The output stored for head 2 of a step. -/
theorem out2 (x : S64x512.Idx) :
    k0_pay2 (F := Ideal) (k0_pay51 (k0_pay47 (k0_pay30 (k0_pay27 q k v (k0_pay9 g)) (k0_pay28 q (k0_pay14 g k0_pay6)) (k0_pay29 s) (constant S64x512 FTy.f32 0#32)))) p w x = stepOut g q k v s p w (x 0) (x 1) := by
  idx_vars x
  pointwise [k0_pay2, k0_pay51, k0_pay47, k0_pay30, k0_pay27, k0_pay9, k0_pay28, k0_pay14, k0_pay29, k0_pay22, k0_pay5, k0_pay6, stepOut, gated, normed, mean, reads, decay, fl_sub64]
  rw [mul_assoc]; rfl
/-- The output stored for head 3 of a step. -/
theorem out3 (x : S64x512.Idx) :
    k0_pay3 (F := Ideal) (k0_pay52 (k0_pay48 (k0_pay31 q v (k0_pay15 g k0_pay6) (k0_pay23 s) (k0_pay24 q k (k0_pay11 g k0_pay5 (k0_pay10 (F := Ideal))))))) p w x = stepOut g q k v s p w (x 0) (x 1) := by
  idx_vars x
  pointwise [k0_pay3, k0_pay52, k0_pay48, k0_pay31, k0_pay15, k0_pay23, k0_pay24, k0_pay11, k0_pay10, k0_pay5, k0_pay6, stepOut, gated, normed, mean, reads, decay, fl_sub64]
  rw [mul_assoc]; rfl

end Cert.RetSampleIdeal.Pieces

end
-- ==== Proof.RetSampleArr.lean ====
/- Hand-written: the two result arrays of the sample-batch retention kernel as functions of its arguments. -/
module
public import proofs.«01_k».proof.Proof.Gen.RetSampleIdeal.Value
public import proofs.«01_k».proof.Proof.RetSamplePieces
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetSampleIdeal.Arr

open Cert.RetSampleIdeal Cert.RetSampleIdeal.Gen Cert.RetSampleIdeal.Pieces Cert.Ret

/-- The sample-batch states after the chunk: sequence `b`, head `h`. -/
def stateOf (X : FVec Ideal S18432x12288 .bf16) (S : FVec Ideal S32x8x256x512 .f32) (b : Fin 32) (h : Fin 8) (d : Fin 256) (e : Fin 512) : EReal :=
  snew (L := 64) (Ideal.ofBits .f32 1115684864#32) (Ideal.ofBits .f32 1115422720#32) (lg h)
    (fun l d => X (ix2 ⟨16384 + 64 * b + l, by omega⟩ ⟨2048 + 256 * h + d, by omega⟩))
    (fun l e => X (ix2 ⟨16384 + 64 * b + l, by omega⟩ ⟨4096 + 512 * h + e, by omega⟩))
    (fun d e => S (ix4 b h d e)) d e

/-- The sample-batch outputs: sequence `b`, position `l`, head `h`, lane `e`. -/
def outOf (X : FVec Ideal S18432x12288 .bf16) (S : FVec Ideal S32x8x256x512 .f32) (W : FVec Ideal S4096 .f32)
    (b : Fin 32) (l : Fin 64) (h : Fin 8) (e : Fin 512) : EReal :=
  gated (X (ix2 ⟨16384 + 64 * b + l, by omega⟩ ⟨8192 + 512 * h + e, by omega⟩))
    (reads (L := 64) (lg h)
      (fun l d => X (ix2 ⟨16384 + 64 * b + l, by omega⟩ ⟨256 * h + d, by omega⟩))
      (fun l d => X (ix2 ⟨16384 + 64 * b + l, by omega⟩ ⟨2048 + 256 * h + d, by omega⟩))
      (fun l e => X (ix2 ⟨16384 + 64 * b + l, by omega⟩ ⟨4096 + 512 * h + e, by omega⟩))
      (fun d e => S (ix4 b h d e)) l)
    (W (ix1 ⟨512 * h + e, by omega⟩)) e

/-- The states as an array. -/
def stateArr (X : FVec Ideal S18432x12288 .bf16) (S : FVec Ideal S32x8x256x512 .f32) : FVec Ideal S32x8x256x512 .f32 :=
  fun j => stateOf X S (j 0) (j 1) (j 2) (j 3)

/-- The outputs as an array: row `64 b + l`, column `512 h + e`. -/
def outArr (X : FVec Ideal S18432x12288 .bf16) (S : FVec Ideal S32x8x256x512 .f32) (W : FVec Ideal S4096 .f32) : FVec Ideal S2048x4096 .bf16 :=
  fun j => outOf X S W ⟨(j 0 : ℕ) / 64, by have : (j 0 : ℕ) < 2048 := (j 0).isLt; omega⟩ ⟨(j 0 : ℕ) % 64, by omega⟩
    ⟨(j 1 : ℕ) / 512, by have : (j 1 : ℕ) < 4096 := (j 1).isLt; omega⟩ ⟨(j 1 : ℕ) % 512, by omega⟩

/-- The same, entry by entry. -/
theorem stateArr_at (X : FVec Ideal S18432x12288 .bf16) (S : FVec Ideal S32x8x256x512 .f32) (j : S32x8x256x512.Idx)
    (b : Fin 32) (h : Fin 8) (d : Fin 256) (e : Fin 512) (hb : (j 0 : ℕ) = b) (hh : (j 1 : ℕ) = h) (hd : (j 2 : ℕ) = d) (he : (j 3 : ℕ) = e) :
    stateOf X S b h d e = stateArr X S j := by
  obtain rfl : b = j 0 := Fin.ext hb.symm
  obtain rfl : h = j 1 := Fin.ext hh.symm
  obtain rfl : d = j 2 := Fin.ext hd.symm
  obtain rfl : e = j 3 := Fin.ext he.symm
  rfl

/-- The same, entry by entry. -/
theorem outArr_at (X : FVec Ideal S18432x12288 .bf16) (S : FVec Ideal S32x8x256x512 .f32) (W : FVec Ideal S4096 .f32) (j : S2048x4096.Idx)
    (b : Fin 32) (l : Fin 64) (h : Fin 8) (e : Fin 512) (hr : (j 0 : ℕ) = 64 * b + l) (hc : (j 1 : ℕ) = 512 * h + e) :
    outOf X S W b l h e = outArr X S W j := by
  unfold outArr
  congr 1 <;> (apply Fin.ext; simp only; omega)

/-- The block each window is at, point by point. -/
theorem idx : ∀ t : Fin cfg0.N, win0_0.index t = ![0]
    ∧ win0_1.index t = ![256 + (t.val % 32), t.val / 32]
    ∧ win0_2.index t = ![256 + (t.val % 32), 2 + (t.val / 32)]
    ∧ win0_3.index t = ![256 + (t.val % 32), 2 + (t.val / 32)]
    ∧ win0_4.index t = ![256 + (t.val % 32), 4 + (t.val / 32)]
    ∧ win0_5.index t = ![t.val % 32, t.val / 32, 0, 0]
    ∧ win0_6.index t = ![0, t.val / 32]
    ∧ win0_7.index t = ![t.val % 32, t.val / 32]
    ∧ win0_8.index t = ![t.val % 32, t.val / 32, 0, 0] :=
  (by decide +kernel : ∀ t : Fin grid0.N, _)

/-- The first of the four heads a point handles, and the next three. -/
theorem off : ∀ t : Fin cfg0.N, k0_off1 (grid0.coords t) 0#32 = ![t.val / 32 * 4] ∧ k0_off1 (grid0.coords t) 1#32 = ![t.val / 32 * 4 + 1]
    ∧ k0_off1 (grid0.coords t) 2#32 = ![t.val / 32 * 4 + 2] ∧ k0_off1 (grid0.coords t) 3#32 = ![t.val / 32 * 4 + 3] :=
  (by decide +kernel : ∀ t : Fin grid0.N, _)

variable (m : (ℓ : Loc nD τ sig) → Buf (Elt Ideal) ℓ)

/-- This array at launch, read from the arguments. -/
theorem lg_read (c : Dev nD) (x : S8.Idx) : V (F := Ideal) m c main_v7 x = lg (x 0) := by
  entry_read
  idx_vars x
  pointwise [lg]
  rfl

/-- The weights enter the kernel with a unit axis added. -/
theorem w_read (c : Dev nD) (x : S1x4096.Idx) : V (F := Ideal) m c main_v8 x = m ((c : Thread nD τ).loc main_arg2) (ix1 (x 1)) := by
  entry_read
  idx_vars x
  pointwise

set_option maxHeartbeats 1600000 in
/-- The kernel's second result array: the states handed on. -/
theorem states (c : Dev nD) : (dats m 0 c).arrAt 8 (cfgs 0).N
    = stateArr (m ((c : Thread nD τ).loc main_arg0)) (m ((c : Thread nD τ).loc main_arg1)) := by
  refine (dats m 0 c).arrAt_eq_of_covers 8 _ (by decide +kernel) fun t hf y => ?_
  blk_simp; rw [after0_8]
  unfold outsAt0
  have ht : t.val < 64 := lt_of_lt_of_eq t.isLt N_0
  obtain ⟨o0, o1, o2, o3⟩ := off t
  frame_out
  canon_tiles x h
  · refine (state3 _ _ _ _ x).trans (Eq.trans ?_ (stateArr_at _ _ _ ⟨t.val % 32, by omega⟩ ⟨4 * (t.val / 32) + 3, by omega⟩ (x 2) (x 3) ?_ ?_ ?_ ?_))
    · refine snew_congr ?_ ?_ ?_ ?_ rfl rfl
      · pointwise; blk_simp [iblk, idx t]
        refine (lg_read m c _).trans (congrArg lg ?_)
        blk_simp [idx t]; refine (congrFun o3 0).trans ?_; simp; try omega
      · intro l d; pointwise; blk_ext [iblk, V, idx t]
      · intro l d; pointwise; blk_ext [iblk, V, idx t]
      · intro d e; rw [View.readCov_fill _ _ _ _ _ (by decide)]; pointwise [k0_pay4]; blk_ext [iblk, V, idx t]
    all_goals (blk_simp [idx t]; try simp only []; try omega)
  · refine (state2 _ _ _ _ x).trans (Eq.trans ?_ (stateArr_at _ _ _ ⟨t.val % 32, by omega⟩ ⟨4 * (t.val / 32) + 2, by omega⟩ (x 2) (x 3) ?_ ?_ ?_ ?_))
    · refine snew_congr ?_ ?_ ?_ ?_ rfl rfl
      · pointwise; blk_simp [iblk, idx t]
        refine (lg_read m c _).trans (congrArg lg ?_)
        blk_simp [idx t]; refine (congrFun o2 0).trans ?_; simp; try omega
      · intro l d; pointwise; blk_ext [iblk, V, idx t]
      · intro l d; pointwise; blk_ext [iblk, V, idx t]
      · intro d e; rw [View.readCov_fill _ _ _ _ _ (by decide)]; pointwise [k0_pay4]; blk_ext [iblk, V, idx t]
    all_goals (blk_simp [idx t]; try simp only []; try omega)
  · refine (state1 _ _ _ _ x).trans (Eq.trans ?_ (stateArr_at _ _ _ ⟨t.val % 32, by omega⟩ ⟨4 * (t.val / 32) + 1, by omega⟩ (x 2) (x 3) ?_ ?_ ?_ ?_))
    · refine snew_congr ?_ ?_ ?_ ?_ rfl rfl
      · pointwise; blk_simp [iblk, idx t]
        refine (lg_read m c _).trans (congrArg lg ?_)
        blk_simp [idx t]; refine (congrFun o1 0).trans ?_; simp; try omega
      · intro l d; pointwise; blk_ext [iblk, V, idx t]
      · intro l d; pointwise; blk_ext [iblk, V, idx t]
      · intro d e; rw [View.readCov_fill _ _ _ _ _ (by decide)]; pointwise [k0_pay4]; blk_ext [iblk, V, idx t]
    all_goals (blk_simp [idx t]; try simp only []; try omega)
  · refine (state0 _ _ _ _ x).trans (Eq.trans ?_ (stateArr_at _ _ _ ⟨t.val % 32, by omega⟩ ⟨4 * (t.val / 32) + 0, by omega⟩ (x 2) (x 3) ?_ ?_ ?_ ?_))
    · refine snew_congr ?_ ?_ ?_ ?_ rfl rfl
      · pointwise; blk_simp [iblk, idx t]
        refine (lg_read m c _).trans (congrArg lg ?_)
        blk_simp [idx t]; refine (congrFun o0 0).trans ?_; simp; try omega
      · intro l d; pointwise; blk_ext [iblk, V, idx t]
      · intro l d; pointwise; blk_ext [iblk, V, idx t]
      · intro d e; rw [View.readCov_fill _ _ _ _ _ (by decide)]; pointwise [k0_pay4]; blk_ext [iblk, V, idx t]
    all_goals (blk_simp [idx t]; try simp only []; try omega)

set_option maxHeartbeats 1600000 in
/-- The kernel's first result array: the gated outputs. -/
theorem outs (c : Dev nD) : (dats m 0 c).arrAt 7 (cfgs 0).N
    = outArr (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp; rw [after0_7]
  unfold outsAt0
  have ht : t.val < 64 := lt_of_lt_of_eq t.isLt N_0
  obtain ⟨o0, o1, o2, o3⟩ := off t
  frame_out
  canon_tiles x h
  · refine (out3 _ _ _ _ _ _ _ x).trans (Eq.trans ?_ (outArr_at _ _ _ _ ⟨t.val % 32, by omega⟩ (x 0) ⟨4 * (t.val / 32) + 3, by omega⟩ (x 1) ?_ ?_))
    · refine gated_congr ?_ (fun e => reads_congr ?_ ?_ ?_ ?_ ?_ _ _) ?_ rfl
      · pointwise; blk_ext [iblk, V, idx t]
      · pointwise; blk_simp [iblk, idx t]
        refine (lg_read m c _).trans (congrArg lg ?_)
        blk_simp [idx t]; refine (congrFun o3 0).trans ?_; simp; try omega
      · intro l d; pointwise; blk_ext [iblk, V, idx t]
      · intro l d; pointwise; blk_ext [iblk, V, idx t]
      · intro l d; pointwise; blk_ext [iblk, V, idx t]
      · intro d e; rw [View.readCov_fill _ _ _ _ _ (by decide)]; pointwise [k0_pay4]; blk_ext [iblk, V, idx t]
      · pointwise; blk_simp [iblk, idx t]; refine (w_read m c _).trans (congrArg _ ?_); blk_ext [idx t]
    all_goals (blk_simp [idx t]; try simp only []; try omega)
  · refine (out2 _ _ _ _ _ _ _ x).trans (Eq.trans ?_ (outArr_at _ _ _ _ ⟨t.val % 32, by omega⟩ (x 0) ⟨4 * (t.val / 32) + 2, by omega⟩ (x 1) ?_ ?_))
    · refine gated_congr ?_ (fun e => reads_congr ?_ ?_ ?_ ?_ ?_ _ _) ?_ rfl
      · pointwise; blk_ext [iblk, V, idx t]
      · pointwise; blk_simp [iblk, idx t]
        refine (lg_read m c _).trans (congrArg lg ?_)
        blk_simp [idx t]; refine (congrFun o2 0).trans ?_; simp; try omega
      · intro l d; pointwise; blk_ext [iblk, V, idx t]
      · intro l d; pointwise; blk_ext [iblk, V, idx t]
      · intro l d; pointwise; blk_ext [iblk, V, idx t]
      · intro d e; rw [View.readCov_fill _ _ _ _ _ (by decide)]; pointwise [k0_pay4]; blk_ext [iblk, V, idx t]
      · pointwise; blk_simp [iblk, idx t]; refine (w_read m c _).trans (congrArg _ ?_); blk_ext [idx t]
    all_goals (blk_simp [idx t]; try simp only []; try omega)
  · refine (out1 _ _ _ _ _ _ _ x).trans (Eq.trans ?_ (outArr_at _ _ _ _ ⟨t.val % 32, by omega⟩ (x 0) ⟨4 * (t.val / 32) + 1, by omega⟩ (x 1) ?_ ?_))
    · refine gated_congr ?_ (fun e => reads_congr ?_ ?_ ?_ ?_ ?_ _ _) ?_ rfl
      · pointwise; blk_ext [iblk, V, idx t]
      · pointwise; blk_simp [iblk, idx t]
        refine (lg_read m c _).trans (congrArg lg ?_)
        blk_simp [idx t]; refine (congrFun o1 0).trans ?_; simp; try omega
      · intro l d; pointwise; blk_ext [iblk, V, idx t]
      · intro l d; pointwise; blk_ext [iblk, V, idx t]
      · intro l d; pointwise; blk_ext [iblk, V, idx t]
      · intro d e; rw [View.readCov_fill _ _ _ _ _ (by decide)]; pointwise [k0_pay4]; blk_ext [iblk, V, idx t]
      · pointwise; blk_simp [iblk, idx t]; refine (w_read m c _).trans (congrArg _ ?_); blk_ext [idx t]
    all_goals (blk_simp [idx t]; try simp only []; try omega)
  · refine (out0 _ _ _ _ _ _ _ x).trans (Eq.trans ?_ (outArr_at _ _ _ _ ⟨t.val % 32, by omega⟩ (x 0) ⟨4 * (t.val / 32) + 0, by omega⟩ (x 1) ?_ ?_))
    · refine gated_congr ?_ (fun e => reads_congr ?_ ?_ ?_ ?_ ?_ _ _) ?_ rfl
      · pointwise; blk_ext [iblk, V, idx t]
      · pointwise; blk_simp [iblk, idx t]
        refine (lg_read m c _).trans (congrArg lg ?_)
        blk_simp [idx t]; refine (congrFun o0 0).trans ?_; simp; try omega
      · intro l d; pointwise; blk_ext [iblk, V, idx t]
      · intro l d; pointwise; blk_ext [iblk, V, idx t]
      · intro l d; pointwise; blk_ext [iblk, V, idx t]
      · intro d e; rw [View.readCov_fill _ _ _ _ _ (by decide)]; pointwise [k0_pay4]; blk_ext [iblk, V, idx t]
      · pointwise; blk_simp [iblk, idx t]; refine (w_read m c _).trans (congrArg _ ?_); blk_ext [idx t]
    all_goals (blk_simp [idx t]; try simp only []; try omega)

end Cert.RetSampleIdeal.Arr

end
-- ==== Proof.RetSampleRef.lean ====
/- Hand-written: the two results of the sample-batch reference as the same functions of its arguments. -/
module
public import proofs.«01_k».proof.Proof.Gen.RetSampleRefIdeal.Run
public import proofs.«01_k».proof.Proof.RetSampleArr

@[expose] public section

set_option maxRecDepth 16384

noncomputable section

open Idealize.ShloMosaic Idealize.ShloMosaic.TcCoe Idealize.SL.Sem

namespace Cert.RetSampleRefIdeal.RefValue

open Cert.RetSampleRefIdeal Cert.RetSampleRefIdeal.Gen Cert.RetSampleIdeal.Arr Cert.Ret

variable (m : (ℓ : Loc nD τ sig) → Buf (Elt Ideal) ℓ)

/-- The reference's first result: the gated outputs. -/
theorem outs (c : Dev nD) : Value.res_main_v102 (F := Ideal) m c
    = outArr (m ((c : Thread nD τ).loc main_arg0)) (m ((c : Thread nD τ).loc main_arg1)) (m ((c : Thread nD τ).loc main_arg2)) := by
  funext x
  unfold Value.res_main_v102
  idx_vars x
  pointwise [outArr, outOf, gated, normed, mean, reads, decay, lg, fl, Ideal.logistic, id_eq]
  blk_point []
  all_goals contradiction

/-- The reference's second result, the operations' term over its arguments. -/
abbrev ref1 (a0 : FVec Ideal S18432x12288 .bf16) (a1 : FVec Ideal S32x8x256x512 .f32) : FVec Ideal S32x8x256x512 .f32 :=
  addf (F := Ideal) (mulf (broadcastInDim S32x8x256x512 ![0, 1, 2, 3] bcast_S1x8x1x1_S32x8x256x512_0_1_2_3 (broadcastInDim S1x8x1x1 ![1] bcast_S8_S1x8x1x1_1 (Host.exp (mulf (Host.log1p (Host.negf (Host.exp (mulf (broadcastInDim S8 ![] bcast_S_S8 (constant S_ .f32 0x3F317218#32)) (subf (broadcastInDim S8 ![] bcast_S_S8 (constant S_ .f32 0xC0A00000#32)) (sitofp .f32 (iotaInDim S8 32 0))))))) (broadcastInDim S8 ![] bcast_S_S8 (constant S_ .f32 0x42800000#32)))))) a1) (Host.dotGeneral dot_S32x64x8x256_S32x64x8x512_S32x8x256x512_1_1_3_3_02_02 none (mulf (extf .f32 (shapeCast _ (extractStridedSlice S32x64x2048 ![0, 0, 2048] (shapeCast _ (extractStridedSlice S2048x12288 ![16384, 0] a0 slices_S18432x12288_S2048x12288_16384_0) shapeCasts_S2048x12288_S32x64x12288) slices_S32x64x12288_S32x64x2048_0_0_2048) shapeCasts_S32x64x2048_S32x64x8x256) bitsLt_bf16_f32) (broadcastInDim S32x64x8x256 ![0, 1, 2, 3] bcast_S1x64x8x1_S32x64x8x256_0_1_2_3 (broadcastInDim S1x64x8x1 ![1, 2] bcast_S64x8_S1x64x8x1_1_2 (Host.exp (mulf (broadcastInDim S64x8 ![0, 1] bcast_S1x8_S64x8_0_1 (broadcastInDim S1x8 ![1] bcast_S8_S1x8_1 (Host.log1p (Host.negf (Host.exp (mulf (broadcastInDim S8 ![] bcast_S_S8 (constant S_ .f32 0x3F317218#32)) (subf (broadcastInDim S8 ![] bcast_S_S8 (constant S_ .f32 0xC0A00000#32)) (sitofp .f32 (iotaInDim S8 32 0))))))))) (broadcastInDim S64x8 ![0, 1] bcast_S64x1_S64x8_0_1 (broadcastInDim S64x1 ![0] bcast_S64_S64x1_0 (subf (broadcastInDim S64 ![] bcast_S_S64 (constant S_ .f32 0x427C0000#32)) (sitofp .f32 (iotaInDim S64 32 0)))))))))) (extf .f32 (shapeCast _ (extractStridedSlice S32x64x4096 ![0, 0, 4096] (shapeCast _ (extractStridedSlice S2048x12288 ![16384, 0] a0 slices_S18432x12288_S2048x12288_16384_0) shapeCasts_S2048x12288_S32x64x12288) slices_S32x64x12288_S32x64x4096_0_0_4096) shapeCasts_S32x64x4096_S32x64x8x512) bitsLt_bf16_f32))

/-- The states handed on. -/
theorem states (c : Dev nD) : ref1 (m ((c : Thread nD τ).loc main_arg0)) (m ((c : Thread nD τ).loc main_arg1))
    = stateArr (m ((c : Thread nD τ).loc main_arg0)) (m ((c : Thread nD τ).loc main_arg1)) := by
  funext x
  idx_vars x
  pointwise [ref1, stateArr, stateOf, snew, lg, fl]
  blk_point []

end Cert.RetSampleRefIdeal.RefValue

end
-- ==== Proof.RetSampleClaim.lean ====
/- Hand-written: the claims about the sample-batch retention call. -/
module
public import proofs.«01_k».proof.Defs
public import proofs.«01_k».proof.Proof.Gen.RetSample
public import proofs.«01_k».proof.Proof.Gen.RetSample.Frame
public import proofs.«01_k».proof.Proof.RetSampleRef
public import Idealize.ShloMosaic.Adequacy
public import Idealize.ShloMosaic.Init

@[expose] public section

noncomputable section

namespace Cert.Proof.RetSample

open Idealize.ShloMosaic Idealize.ShloMosaic.TcCoe Idealize.SL.Sem

/-- The kernel runs, keeps its arguments and ends with every counter at zero. -/
theorem frame_P : Cert.quiescent_RetSample (hRetSample := Cert.RetSample.Gen.facts) := fun m g _ => Cert.RetSample.Gen.frame m g

/-- So does its idealisation. -/
theorem frame_PI : Cert.quiescent_RetSampleIdeal (hRetSampleIdeal := Cert.RetSampleIdeal.Gen.facts) := fun m g _ => Cert.RetSampleIdeal.Gen.frame m g

/-- So does the reference, which has no counters. -/
theorem frame_RI : Cert.quiescent_RetSampleRefIdeal (hRetSampleRefIdeal := Cert.RetSampleRefIdeal.Gen.facts) := fun m g _ =>
  (θ_run _ _ _).mono (fun r h => ⟨fun c => (h c).2.2, sem_eq_zero_of_no_sems (by decide) r.2⟩) (Cert.RetSampleRefIdeal.Value.run (F := Ideal) m g)

/-- Kernel and reference end with equal outputs and equal states, for any arguments. -/
theorem algebraic : Cert.algebraic_RetSampleIdeal_RetSampleRefIdeal (hRetSampleIdeal := Cert.RetSampleIdeal.Gen.facts)
    (hRetSampleRefIdeal := Cert.RetSampleRefIdeal.Gen.facts) := by
  intro m g m' g' _ hagree
  refine ⟨_, _, (θ_run _ _ _).mono (fun r h c => ⟨((h c).1).trans (Cert.RetSampleIdeal.Arr.outs m c),
      ((h c).2.1).trans (Cert.RetSampleIdeal.Arr.states m c), (h c).2.2⟩) (Cert.RetSampleIdeal.Value.run_blocks (F := Ideal) m g),
    (θ_run _ _ _).mono (fun r h c => ⟨((h c).1).trans ?_, ((h c).2.1).trans ?_, (h c).2.2⟩) (Cert.RetSampleRefIdeal.Value.run (F := Ideal) m' g')⟩
  · refine (Cert.RetSampleRefIdeal.RefValue.outs m' c).trans ?_
    rw [(hagree c).1, (hagree c).2.1, (hagree c).2.2]
  · refine (Cert.RetSampleRefIdeal.RefValue.states m' c).trans ?_
    rw [(hagree c).1, (hagree c).2.1]

end Cert.Proof.RetSample

end
-- ==== Proof.MlpSpec.lean ====
/- Hand-written: the normalised squared-ReLU network of one row, as plain sums over extended reals. -/
module
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Row

/-- A row under root-mean-square normalisation and its weights. -/
def rms (a g : Fin 2048 → EReal) (k : Fin 2048) : EReal :=
  a k * Ideal.rsqrt (Ideal.div (∑ x, a x * a x) (Ideal.ofBits .f32 1157627904#32) + Ideal.ofBits .f32 925353388#32) * g k

/-- One hidden unit: the squared positive part of its dot product. -/
def sqUnit (h u : Fin 2048 → EReal) : EReal := max (∑ k, h k * u k) 0 * max (∑ k, h k * u k) 0

/-- The row with the network's output added. -/
def mlp (a g : Fin 2048 → EReal) (u : Fin 2048 → Fin 8192 → EReal) (d : Fin 8192 → Fin 2048 → EReal) (n : Fin 2048) : EReal :=
  a n + ∑ f, sqUnit (rms a g) (fun k => u k f) * d f n

/-- Equal ingredients give equal values. -/
theorem rms_congr {a a' g g' : Fin 2048 → EReal} {k k' : Fin 2048} (ha : ∀ x, a x = a' x) (hg : ∀ x, g x = g' x) (hk : k = k') :
    rms a g k = rms a' g' k' := by
  obtain rfl : a = a' := funext ha
  obtain rfl : g = g' := funext hg
  rw [hk]

/-- Equal ingredients give equal values. -/
theorem sqUnit_congr {h h' u u' : Fin 2048 → EReal} (hh : ∀ x, h x = h' x) (hu : ∀ x, u x = u' x) : sqUnit h u = sqUnit h' u' := by
  obtain rfl : h = h' := funext hh
  obtain rfl : u = u' := funext hu
  rfl

end Cert.Row

end
-- ==== Proof.RunSum.lean ====
/- Hand-written: a quantity that is started from a run's own first value and added to at the run's later points. -/
module
public import Idealize.ShloMosaic.Lib.Pipeline.ValueKit
public import Idealize.ShloMosaic.Lib.Pipeline.ValueKit.Held

@[expose] public section

noncomputable section

open Idealize.ShloMosaic

namespace Cert.RunSum

variable {M : Type*} [AddCommMonoid M] {N : ℕ} {ι : Type*}

/-- A block that holds `init` plus the first term after the first point of every run of `J` points, and one more term after each
    later point, holds at the run's last point `init` plus all `J` terms. -/
theorem run_sum (f : (n : Nat) → n < N → ι → M) (J : Nat) (init term : Fin N → ι → M)
    (h0 : ∀ t : Fin N, t.val % J = 0 → ∀ i, f t.val t.isLt i = init t i + term t i)
    (hs : ∀ t : Fin N, ¬t.val % J = 0 → ∀ i,
      f t.val t.isLt i = f (t.val - 1) (Nat.lt_of_le_of_lt (Nat.sub_le _ _) t.isLt) i + term t i)
    (t : Fin N) [NeZero J] (hr : t.val % J = J - 1) (i : ι) :
    f t.val t.isLt i = init ⟨J * (t.val / J), Pipeline.run_start_lt t⟩ i
      + ∑ s : Fin J, term ⟨J * (t.val / J) + s.val, Pipeline.run_point_lt_of_flush t hr s⟩ i := by
  rw [Pipeline.eq_sum_fin_of_reset_step_apply_of_flush f J (fun _ => 0)
    (fun t i => (if t.val % J = 0 then init t i else 0) + term t i)
    (fun t h i => by rw [h0 t h i, zero_add, if_pos h]) (fun t h i => by rw [hs t h i, if_neg h, zero_add]) t hr i, zero_add,
    Finset.sum_add_distrib]
  congr 1
  rw [Finset.sum_eq_single (0 : Fin J)]
  · simp
  · intro b _ hb
    refine if_neg ?_
    have hb' : b.val ≠ 0 := fun h => hb (Fin.ext h)
    simp only [Nat.mul_add_mod]
    rw [Nat.mod_eq_of_lt b.isLt]; exact hb'
  · intro h; exact absurd (Finset.mem_univ _) h

end Cert.RunSum

end
-- ==== Proof.MlpArr.lean ====
/- Hand-written: the result array of the network kernel as a function of its arguments. -/
module
public import proofs.«01_k».proof.Proof.Gen.MlpIdeal.Value
public import proofs.«01_k».proof.Proof.MlpSpec
public import proofs.«01_k».proof.Proof.RunSum
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlpIdeal.Arr

open Cert.MlpIdeal Cert.MlpIdeal.Gen Cert.Row

/-- The kernel's result: every row with the network's output added, under the first layer's weights. -/
def outArr (X : FVec Ideal S18432x2048 .f32) (g : FVec Ideal S2048 .f32) (U : FVec Ideal S4x2048x8192 .f32) (D : FVec Ideal S4x8192x2048 .f32) :
    FVec Ideal S18432x2048 .f32 :=
  fun j => mlp (fun k => X (ix2 (j 0) k)) (fun k => g (ix1 k)) (fun k f => U (ix3 0 k f)) (fun f n => D (ix3 0 f n)) (j 1)

/-- The normalised rows a run stores in its scratch. -/
theorem norm_at (x : FVec Ideal S512x2048 .f32) (g : FVec Ideal S1x2048 .f32) (j : S512x2048.Idx) :
    k0_pay1 (F := Ideal) x g j = rms (fun k => x (ix2 (j 0) k)) (fun k => g (ix2 0 k)) (j 1) := by
  idx_vars j
  pointwise [k0_pay1, rms]

/-- One step adds the part of the network that passes through the step's 1024 hidden units. -/
theorem step_at (h : FVec Ideal S512x2048 .bf16) (u : FVec Ideal S1x2048x1024 .bf16) (a : FVec Ideal S512x2048 .f32)
    (d : FVec Ideal S1x1024x2048 .bf16) (j : S512x2048.Idx) :
    k0_pay2 (F := Ideal) h u a d j
      = a j + ∑ f : Fin 1024, sqUnit (fun k => h (ix2 (j 0) k)) (fun k => u (ix3 0 k f)) * d (ix3 0 f (j 1)) := by
  idx_vars j
  pointwise [k0_pay2, sqUnit]

/-- The same, for a scratch whose rows are known. -/
theorem step_of (h : FVec Ideal S512x2048 .bf16) (u : FVec Ideal S1x2048x1024 .bf16) (a : FVec Ideal S512x2048 .f32)
    (d : FVec Ideal S1x1024x2048 .bf16) (j : S512x2048.Idx) (n : Fin 2048 → EReal) (hn : ∀ k, h (ix2 (j 0) k) = n k) :
    k0_pay2 (F := Ideal) h u a d j = a j + ∑ f : Fin 1024, sqUnit n (fun k => u (ix3 0 k f)) * d (ix3 0 f (j 1)) := by
  rw [step_at]
  obtain rfl : (fun k => h (ix2 (j 0) k)) = n := funext hn
  rfl

/-- The block each window is at, point by point. -/
theorem idx : ∀ t : Fin cfg0.N, win0_0.index t = ![t.val / 8, 0]
    ∧ win0_1.index t = ![0, 0]
    ∧ win0_2.index t = ![0, 0, t.val % 8]
    ∧ win0_3.index t = ![0, t.val % 8, 0]
    ∧ win0_4.index t = ![0, 0]
    ∧ win0_5.index t = ![t.val / 8, 0] :=
  (by decide +kernel : ∀ t : Fin grid0.N, _)

variable (m : (ℓ : Loc nD τ sig) → Buf (Elt Ideal) ℓ)

/-- This array at launch, read from the arguments. -/
theorem g_read (c : Dev nD) (x : S1x2048.Idx) : V (F := Ideal) m c main_v0 x = m ((c : Thread nD τ).loc main_arg1) (ix1 (x 1)) := by
  entry_read
  idx_vars x
  pointwise

/-- This array at launch, read from the arguments. -/
theorem u_read (c : Dev nD) (x : S4x2048x8192.Idx) : V (F := Ideal) m c main_v1 x = m ((c : Thread nD τ).loc main_arg2) x := by
  entry_read
  idx_vars x
  pointwise

/-- This array at launch, read from the arguments. -/
theorem d_read (c : Dev nD) (x : S4x8192x2048.Idx) : V (F := Ideal) m c main_v2 x = m ((c : Thread nD τ).loc main_arg3) x := by
  entry_read
  idx_vars x
  pointwise

/-- The scratch holds the normalised rows of the run's block. -/
theorem norm_run (c : Dev nD) (t : Fin cfg0.N) (j : S512x2048.Idx) :
    (outsAt0 m c t.val t.isLt).2 j = rms (fun k => iblk m c 0 t (ix2 (j 0) k)) (fun k => iblk m c 1 t (ix2 0 k)) (j 1) := by
  refine (Pipeline.eq_of_write_hold_apply (fun n h => (outsAt0 m c n h).2) 8
    (fun t j => rms (fun k => iblk m c 0 t (ix2 (j 0) k)) (fun k => iblk m c 1 t (ix2 0 k)) (j 1))
    (fun t h j => by rw [outsAt0_A m c t h]; frame_out; exact norm_at _ _ j)
    (fun t h j => by rw [outsAt0_B m c t h]; rfl) t j).trans ?_
  refine rms_congr (fun k => ?_) (fun k => ?_) rfl
  · blk_ext [iblk, V, idx t, idx ⟨8 * (t.val / 8), Pipeline.run_start_lt t⟩]
  · blk_simp [iblk]; rw [g_read, g_read]; blk_ext [idx t, idx ⟨8 * (t.val / 8), Pipeline.run_start_lt t⟩]

/-- What one grid point adds to its block. -/
abbrev part (c : Dev nD) (t : Fin cfg0.N) (j : S512x2048.Idx) : EReal :=
  ∑ f : Fin 1024, sqUnit (rms (fun k => (show FVec Ideal S512x2048 .f32 from iblk m c 0 t) (ix2 (j 0) k)) (fun k => (show FVec Ideal S1x2048 .f32 from iblk m c 1 t) (ix2 0 k)))
    (fun k => (show FVec Ideal S1x2048x1024 .bf16 from iblk m c 2 t) (ix3 0 k f)) * (show FVec Ideal S1x1024x2048 .bf16 from iblk m c 3 t) (ix3 0 f (j 1))

/-- The kernel's result array. -/
theorem outs (c : Dev nD) : (dats m 0 c).arrAt 5 (cfgs 0).N
    = outArr (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp; rw [after0_5]
  have hr : t.val % 8 = 7 := (flush0_5 t).mp hf
  have ht : t.val < 288 := lt_of_lt_of_eq t.isLt N_0
  refine (RunSum.run_sum (M := EReal) (fun n h => (outsAt0 m c n h).1) 8 (fun t => iblk m c 0 t) (part m c)
    (fun t h j => ?_) (fun t h j => ?_) t hr _).trans ?_
  · rw [outsAt0_A m c t h]; frame_out
    exact step_of _ _ _ _ j _ fun k => norm_at _ _ _
  · rw [outsAt0_B m c t h]; frame_out
    refine step_of _ _ _ _ j _ fun k => ?_
    refine (congrFun (Memref.IsWhole.read_unread (Memref.isWhole_whole _) _) _).trans ?_
    refine (norm_run m c ⟨t.val - 1, Nat.lt_of_le_of_lt (Nat.sub_le _ _) t.isLt⟩ _).trans (rms_congr (fun k => ?_) (fun k => ?_) rfl)
    · have h1 : (t.val - 1) / 8 = t.val / 8 := by omega
      blk_ext [iblk, V, idx t, idx ⟨t.val - 1, Nat.lt_of_le_of_lt (Nat.sub_le _ _) t.isLt⟩]
    · blk_simp [iblk]; rw [g_read, g_read]; blk_ext [idx t, idx ⟨t.val - 1, Nat.lt_of_le_of_lt (Nat.sub_le _ _) t.isLt⟩]
  · unfold outArr mlp
    refine congrArg₂ (· + ·) ?_ (Fin.sum_mul_add_congr fun s f hl => ?_)
    · blk_ext [iblk, V, idx t, idx ⟨8 * (t.val / 8), Pipeline.run_start_lt t⟩]
    · have e := idx ⟨_, Pipeline.run_point_lt_of_flush t hr s⟩
      refine congrArg₂ (· * ·) (sqUnit_congr (fun k => rms_congr (fun k => ?_) (fun k => ?_) rfl) fun k => ?_) ?_
      · blk_ext [iblk, V, idx t, e]
      · blk_simp [iblk]; rw [g_read]; blk_ext [idx t, e]
      · blk_simp [iblk]; rw [u_read]; blk_ext [idx t, e]
      · blk_simp [iblk]; rw [d_read]; blk_ext [idx t, e]

end Cert.MlpIdeal.Arr

end
-- ==== Proof.MlpRef.lean ====
/- Hand-written: the reference's result as the same function of its arguments. -/
module
public import proofs.«01_k».proof.Proof.Gen.MlpRefIdeal.Run
public import proofs.«01_k».proof.Proof.MlpArr

@[expose] public section

set_option maxRecDepth 16384

noncomputable section

open Idealize.ShloMosaic Idealize.ShloMosaic.TcCoe Idealize.SL.Sem

namespace Cert.MlpRefIdeal.RefValue

open Cert.MlpRefIdeal Cert.MlpRefIdeal.Gen Cert.MlpIdeal.Arr Cert.Row

/-- The reference's result: its operations composed over its arguments. -/
abbrev ref0 (a0 : FVec Ideal S18432x2048 .f32) (a1 : FVec Ideal S2048 .f32) (a2 : FVec Ideal S4x2048x8192 .f32) (a3 : FVec Ideal S4x8192x2048 .f32) : FVec Ideal S18432x2048 .f32 :=
  addf (F := Ideal) a0 (Host.dotGeneral dot_S18432x8192_S8192x2048_S18432x2048_1_0_0_1_n_n none (mulf (maximumf (Host.dotGeneral dot_S18432x2048_S2048x8192_S18432x8192_1_0_0_1_n_n none (mulf (mulf a0 (broadcastInDim S18432x2048 ![0, 1] bcast_S18432x1_S18432x2048_0_1 (Host.rsqrt (addf (Host.divf (broadcastInDim S18432x1 ![0] bcast_S18432_S18432x1_0 (Host.reduceAdd (mulf a0 a0) (constant S_ .f32 0x00000000#32) reducesTo_S18432x2048_S18432_d1 h_S_)) (broadcastInDim S18432x1 ![] bcast_S_S18432x1 (constant S_ .f32 0x45000000#32))) (broadcastInDim S18432x1 ![] bcast_S_S18432x1 (constant S_ .f32 0x3727C5AC#32)))))) (broadcastInDim S18432x2048 ![0, 1] bcast_S1x2048_S18432x2048_0_1 (broadcastInDim S1x2048 ![1] bcast_S2048_S1x2048_1 a1))) (shapeCast _ (extractStridedSlice S1x2048x8192 ![0, 0, 0] a2 slices_S4x2048x8192_S1x2048x8192_0_0_0) shapeCasts_S1x2048x8192_S2048x8192)) (broadcastInDim S18432x8192 ![] bcast_S_S18432x8192 (constant S_ .f32 0x00000000#32))) (maximumf (Host.dotGeneral dot_S18432x2048_S2048x8192_S18432x8192_1_0_0_1_n_n none (mulf (mulf a0 (broadcastInDim S18432x2048 ![0, 1] bcast_S18432x1_S18432x2048_0_1 (Host.rsqrt (addf (Host.divf (broadcastInDim S18432x1 ![0] bcast_S18432_S18432x1_0 (Host.reduceAdd (mulf a0 a0) (constant S_ .f32 0x00000000#32) reducesTo_S18432x2048_S18432_d1 h_S_)) (broadcastInDim S18432x1 ![] bcast_S_S18432x1 (constant S_ .f32 0x45000000#32))) (broadcastInDim S18432x1 ![] bcast_S_S18432x1 (constant S_ .f32 0x3727C5AC#32)))))) (broadcastInDim S18432x2048 ![0, 1] bcast_S1x2048_S18432x2048_0_1 (broadcastInDim S1x2048 ![1] bcast_S2048_S1x2048_1 a1))) (shapeCast _ (extractStridedSlice S1x2048x8192 ![0, 0, 0] a2 slices_S4x2048x8192_S1x2048x8192_0_0_0) shapeCasts_S1x2048x8192_S2048x8192)) (broadcastInDim S18432x8192 ![] bcast_S_S18432x8192 (constant S_ .f32 0x00000000#32)))) (shapeCast _ (extractStridedSlice S1x8192x2048 ![0, 0, 0] a3 slices_S4x8192x2048_S1x8192x2048_0_0_0) shapeCasts_S1x8192x2048_S8192x2048))

/-- The reference's result is the network added to every row. -/
theorem outs (a0 : FVec Ideal S18432x2048 .f32) (a1 : FVec Ideal S2048 .f32) (a2 : FVec Ideal S4x2048x8192 .f32) (a3 : FVec Ideal S4x8192x2048 .f32) :
    ref0 a0 a1 a2 a3 = outArr a0 a1 a2 a3 := by
  funext x
  idx_vars x
  pointwise [ref0, outArr, mlp, sqUnit, rms]

end Cert.MlpRefIdeal.RefValue

end
-- ==== Proof.MlpClaim.lean ====
/- Hand-written: the claims about the network call. -/
module
public import proofs.«01_k».proof.Defs
public import proofs.«01_k».proof.Proof.Gen.Mlp
public import proofs.«01_k».proof.Proof.Gen.Mlp.Frame
public import proofs.«01_k».proof.Proof.MlpRef
public import Idealize.ShloMosaic.Adequacy
public import Idealize.ShloMosaic.Init

@[expose] public section

noncomputable section

namespace Cert.Proof.Mlp

open Idealize.ShloMosaic Idealize.ShloMosaic.TcCoe Idealize.SL.Sem

/-- The kernel runs, keeps its arguments and ends with every counter at zero. -/
theorem frame_P : Cert.quiescent_Mlp (hMlp := Cert.Mlp.Gen.facts) := fun m g _ => Cert.Mlp.Gen.frame m g

/-- So does its idealisation. -/
theorem frame_PI : Cert.quiescent_MlpIdeal (hMlpIdeal := Cert.MlpIdeal.Gen.facts) := fun m g _ => Cert.MlpIdeal.Gen.frame m g

/-- So does the reference, which has no counters. -/
theorem frame_RI : Cert.quiescent_MlpRefIdeal (hMlpRefIdeal := Cert.MlpRefIdeal.Gen.facts) := fun m g _ =>
  (θ_run _ _ _).mono (fun r h => ⟨fun c => (h c).2, sem_eq_zero_of_no_sems (by decide) r.2⟩) (Cert.MlpRefIdeal.Value.run (F := Ideal) m g)

/-- Kernel and reference end with equal results, for any arguments. -/
theorem algebraic : Cert.algebraic_MlpIdeal_MlpRefIdeal (hMlpIdeal := Cert.MlpIdeal.Gen.facts)
    (hMlpRefIdeal := Cert.MlpRefIdeal.Gen.facts) := by
  intro m g m' g' _ hagree
  refine ⟨_, (θ_run _ _ _).mono (fun r h c => ⟨((h c).1).trans (Cert.MlpIdeal.Arr.outs m c), (h c).2⟩) (Cert.MlpIdeal.Value.run_blocks (F := Ideal) m g),
    (θ_run _ _ _).mono (fun r h c => ⟨((h c).1).trans ?_, (h c).2⟩) (Cert.MlpRefIdeal.Value.run (F := Ideal) m' g')⟩
  · refine (Cert.MlpRefIdeal.RefValue.outs _ _ _ _).trans ?_
    rw [(hagree c).1, (hagree c).2.1, (hagree c).2.2.1, (hagree c).2.2.2.1]

end Cert.Proof.Mlp

end
-- ==== Proof.RetOutArr.lean ====
/- Hand-written: the result array of the retention's output projection, whose rows lie in two arrays. -/
module
public import proofs.«01_k».proof.Proof.Gen.RetOutIdeal.Value
public import proofs.«01_k».proof.Proof.MlpSpec
public import proofs.«01_k».proof.Proof.RunSum
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetOutIdeal.Arr

open Cert.RetOutIdeal Cert.RetOutIdeal.Gen Cert.Row

/-- The result: every row of the residual with the projection of its row, taken from the first array or the second. -/
def outArr (P : FVec Ideal S16384x4096 .bf16) (S : FVec Ideal S2048x4096 .bf16) (W : FVec Ideal S4096x2048 .f32) (X : FVec Ideal S18432x2048 .f32) :
    FVec Ideal S18432x2048 .f32 :=
  fun j => X j + ∑ k : Fin 4096, (if h : (j 0 : ℕ) < 16384 then P (ix2 ⟨j 0, h⟩ k)
      else S (ix2 ⟨(j 0 : ℕ) - 16384, by have : (j 0 : ℕ) < 18432 := (j 0).isLt; omega⟩ k)) * W (ix2 k (j 1))

/-- One step of the running sum, entry by entry. -/
theorem step_A (x : FVec Ideal S256x2048 .f32) (y : FVec Ideal S256x4096 .bf16) (w : FVec Ideal S4096x2048 .bf16) (j : S256x2048.Idx) :
    k0_pay1 (F := Ideal) x y w j = x j + ∑ k : Fin 4096, y (ix2 (j 0) k) * w (ix2 k (j 1)) := by
  idx_vars j
  pointwise [k0_pay1]

/-- One step of the running sum, entry by entry. -/
theorem step_B (x : FVec Ideal S256x2048 .f32) (y : FVec Ideal S256x4096 .bf16) (w : FVec Ideal S4096x2048 .bf16) (j : S256x2048.Idx) :
    k0_pay2 (F := Ideal) x y w j = x j + ∑ k : Fin 4096, y (ix2 (j 0) k) * w (ix2 k (j 1)) := by
  idx_vars j
  pointwise [k0_pay2]

/-- The block each window is at, point by point. -/
theorem idx : ∀ t : Fin cfg0.N, win0_0.index t = ![min t.val 63, 0]
    ∧ win0_1.index t = ![t.val - 64, 0]
    ∧ win0_2.index t = ![0, 0]
    ∧ win0_3.index t = ![t.val, 0]
    ∧ win0_4.index t = ![t.val, 0] :=
  (by decide +kernel : ∀ t : Fin grid0.N, _)

variable (m : (ℓ : Loc nD τ sig) → Buf (Elt Ideal) ℓ)

/-- This array at launch, read from the arguments. -/
theorem w_read (c : Dev nD) (x : S4096x2048.Idx) : V (F := Ideal) m c main_v0 x = m ((c : Thread nD τ).loc main_arg2) x := by
  entry_read
  idx_vars x
  pointwise

/-- The kernel's result array. -/
theorem outs (c : Dev nD) : (dats m 0 c).arrAt 4 (cfgs 0).N
    = outArr (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp; rw [after0_4]
  have ht : t.val < 72 := lt_of_lt_of_eq t.isLt N_0
  have hy : (y 0 : ℕ) < 256 := (y 0).isLt
  by_cases h : t.val < 64
  · rw [outsAt0_A m c t h (by omega)]; frame_out
    refine (step_A _ _ _ y).trans ?_
    unfold outArr
    refine congrArg₂ (· + ·) ?_ (Fin.sum_fin_congr fun k => congrArg₂ (· * ·) ?_ ?_)
    · blk_ext [iblk, V, idx t]
    · rw [dif_pos (by blk_simp [idx t]; omega)]; blk_ext [iblk, V, idx t]
    · blk_simp [iblk]; rw [w_read]; blk_ext [idx t]
  · rw [outsAt0_B m c t h (by omega)]; frame_out
    refine (step_B _ _ _ y).trans ?_
    unfold outArr
    refine congrArg₂ (· + ·) ?_ (Fin.sum_fin_congr fun k => congrArg₂ (· * ·) ?_ ?_)
    · blk_ext [iblk, V, idx t]
    · rw [dif_neg (by blk_simp [idx t]; omega)]; blk_ext [iblk, V, idx t]
    · blk_simp [iblk]; rw [w_read]; blk_ext [idx t]

end Cert.RetOutIdeal.Arr

end
-- ==== Proof.RetOutRef.lean ====
/- Hand-written: the reference's result as the same function of its arguments. -/
module
public import proofs.«01_k».proof.Proof.Gen.RetOutRefIdeal.Run
public import proofs.«01_k».proof.Proof.RetOutArr

@[expose] public section

set_option maxRecDepth 16384

noncomputable section

open Idealize.ShloMosaic Idealize.ShloMosaic.TcCoe Idealize.SL.Sem

namespace Cert.RetOutRefIdeal.RefValue

open Cert.RetOutRefIdeal Cert.RetOutRefIdeal.Gen Cert.RetOutIdeal.Arr Cert.Row

/-- The reference's result: its operations composed over its arguments. -/
abbrev ref0 (a0 : FVec Ideal S16384x4096 .bf16) (a1 : FVec Ideal S2048x4096 .bf16) (a2 : FVec Ideal S4096x2048 .f32) (a3 : FVec Ideal S18432x2048 .f32) : FVec Ideal S18432x2048 .f32 :=
  concatenate S18432x2048 0 [⟨S16384x2048, (addf (extractStridedSlice S16384x2048 ![0, 0] a3 slices_S18432x2048_S16384x2048_0_0) (Host.dotGeneral dot_S16384x4096_S4096x2048_S16384x2048_1_0_0_1_n_n none (extf .f32 a0 bitsLt_bf16_f32) a2))⟩, ⟨S2048x2048, (addf (extractStridedSlice S2048x2048 ![16384, 0] a3 slices_S18432x2048_S2048x2048_16384_0) (Host.dotGeneral dot_S2048x4096_S4096x2048_S2048x2048_1_0_0_1_n_n none (extf .f32 a1 bitsLt_bf16_f32) a2))⟩] concatenates_S16384x2048_S2048x2048_S18432x2048_d0

/-- The reference adds to every row its projection. -/
theorem outs (a0 : FVec Ideal S16384x4096 .bf16) (a1 : FVec Ideal S2048x4096 .bf16) (a2 : FVec Ideal S4096x2048 .f32) (a3 : FVec Ideal S18432x2048 .f32) :
    ref0 a0 a1 a2 a3 = outArr a0 a1 a2 a3 := by
  funext x
  idx_vars x
  pointwise [ref0, outArr]
  blk_point []
  all_goals contradiction

end Cert.RetOutRefIdeal.RefValue

end
-- ==== Proof.RetOutClaim.lean ====
/- Hand-written: the claims about the retention's output projection. -/
module
public import proofs.«01_k».proof.Defs
public import proofs.«01_k».proof.Proof.Gen.RetOut
public import proofs.«01_k».proof.Proof.Gen.RetOut.Frame
public import proofs.«01_k».proof.Proof.RetOutRef
public import Idealize.ShloMosaic.Adequacy
public import Idealize.ShloMosaic.Init

@[expose] public section

noncomputable section

namespace Cert.Proof.RetOut

open Idealize.ShloMosaic Idealize.ShloMosaic.TcCoe Idealize.SL.Sem

/-- The kernel runs, keeps its arguments and ends with every counter at zero. -/
theorem frame_P : Cert.quiescent_RetOut (hRetOut := Cert.RetOut.Gen.facts) := fun m g _ => Cert.RetOut.Gen.frame m g

/-- So does its idealisation. -/
theorem frame_PI : Cert.quiescent_RetOutIdeal (hRetOutIdeal := Cert.RetOutIdeal.Gen.facts) := fun m g _ => Cert.RetOutIdeal.Gen.frame m g

/-- So does the reference, which has no counters. -/
theorem frame_RI : Cert.quiescent_RetOutRefIdeal (hRetOutRefIdeal := Cert.RetOutRefIdeal.Gen.facts) := fun m g _ =>
  (θ_run _ _ _).mono (fun r h => ⟨fun c => (h c).2, sem_eq_zero_of_no_sems (by decide) r.2⟩) (Cert.RetOutRefIdeal.Value.run (F := Ideal) m g)

/-- Kernel and reference end with equal results, for any arguments. -/
theorem algebraic : Cert.algebraic_RetOutIdeal_RetOutRefIdeal (hRetOutIdeal := Cert.RetOutIdeal.Gen.facts)
    (hRetOutRefIdeal := Cert.RetOutRefIdeal.Gen.facts) := by
  intro m g m' g' _ hagree
  refine ⟨_, (θ_run _ _ _).mono (fun r h c => ⟨((h c).1).trans (Cert.RetOutIdeal.Arr.outs m c), (h c).2⟩) (Cert.RetOutIdeal.Value.run_blocks (F := Ideal) m g),
    (θ_run _ _ _).mono (fun r h c => ⟨((h c).1).trans ?_, (h c).2⟩) (Cert.RetOutRefIdeal.Value.run (F := Ideal) m' g')⟩
  · refine (Cert.RetOutRefIdeal.RefValue.outs _ _ _ _).trans ?_
    rw [(hagree c).1, (hagree c).2.1, (hagree c).2.2.1, (hagree c).2.2.2]

end Cert.Proof.RetOut

end
-- ==== Proof.AttnOutArr.lean ====
/- Hand-written: the result array of the output projection whose residual lies in two arrays. -/
module
public import proofs.«01_k».proof.Proof.Gen.AttnOutIdeal.Value
public import proofs.«01_k».proof.Proof.MlpSpec
public import proofs.«01_k».proof.Proof.RunSum
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnOutIdeal.Arr

open Cert.AttnOutIdeal Cert.AttnOutIdeal.Gen Cert.Row

/-- The result: every row of the two residuals, one after the other, with its projection added. -/
def outArr (O : FVec Ideal S18432x2048 .bf16) (W : FVec Ideal S2048x2048 .f32) (P : FVec Ideal S16384x2048 .f32) (S : FVec Ideal S2048x2048 .f32) :
    FVec Ideal S18432x2048 .f32 :=
  fun j => (if h : (j 0 : ℕ) < 16384 then P (ix2 ⟨j 0, h⟩ (j 1))
      else S (ix2 ⟨(j 0 : ℕ) - 16384, by have : (j 0 : ℕ) < 18432 := (j 0).isLt; omega⟩ (j 1)))
    + ∑ k : Fin 2048, O (ix2 (j 0) k) * W (ix2 k (j 1))

/-- One step of the running sum, entry by entry. -/
theorem step_A (y : FVec Ideal S512x2048 .bf16) (w : FVec Ideal S2048x2048 .bf16) (x : FVec Ideal S512x2048 .f32) (j : S512x2048.Idx) :
    k0_pay2 (F := Ideal) y w x j = x j + ∑ k : Fin 2048, y (ix2 (j 0) k) * w (ix2 k (j 1)) := by
  idx_vars j
  pointwise [k0_pay2, k0_pay1]

/-- One step of the running sum, entry by entry. -/
theorem step_B (y : FVec Ideal S512x2048 .bf16) (w : FVec Ideal S2048x2048 .bf16) (x : FVec Ideal S512x2048 .f32) (j : S512x2048.Idx) :
    k0_pay3 (F := Ideal) y w x j = x j + ∑ k : Fin 2048, y (ix2 (j 0) k) * w (ix2 k (j 1)) := by
  idx_vars j
  pointwise [k0_pay3, k0_pay1]

/-- The block each window is at, point by point. -/
theorem idx : ∀ t : Fin cfg0.N, win0_0.index t = ![t.val, 0]
    ∧ win0_1.index t = ![0, 0]
    ∧ win0_2.index t = ![min t.val 31, 0]
    ∧ win0_3.index t = ![t.val - 32, 0]
    ∧ win0_4.index t = ![t.val, 0] :=
  (by decide +kernel : ∀ t : Fin grid0.N, _)

variable (m : (ℓ : Loc nD τ sig) → Buf (Elt Ideal) ℓ)

/-- This array at launch, read from the arguments. -/
theorem w_read (c : Dev nD) (x : S2048x2048.Idx) : V (F := Ideal) m c main_v0 x = m ((c : Thread nD τ).loc main_arg1) x := by
  entry_read
  idx_vars x
  pointwise

/-- The kernel's result array. -/
theorem outs (c : Dev nD) : (dats m 0 c).arrAt 4 (cfgs 0).N
    = outArr (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp; rw [after0_4]
  have ht : t.val < 36 := lt_of_lt_of_eq t.isLt N_0
  have hy : (y 0 : ℕ) < 512 := (y 0).isLt
  by_cases h : t.val < 32
  · rw [outsAt0_A m c t h (by omega)]; frame_out
    refine (step_A _ _ _ y).trans ?_
    unfold outArr
    rw [dif_pos (by blk_simp [idx t]; omega)]
    refine congrArg₂ (· + ·) ?_ (Fin.sum_fin_congr fun k => congrArg₂ (· * ·) ?_ ?_)
    · blk_ext [iblk, V, idx t]
    · blk_ext [iblk, V, idx t]
    · blk_simp [iblk]; rw [w_read]; blk_ext [idx t]
  · rw [outsAt0_B m c t h (by omega)]; frame_out
    refine (step_B _ _ _ y).trans ?_
    unfold outArr
    rw [dif_neg (by blk_simp [idx t]; omega)]
    refine congrArg₂ (· + ·) ?_ (Fin.sum_fin_congr fun k => congrArg₂ (· * ·) ?_ ?_)
    · blk_ext [iblk, V, idx t]
    · blk_ext [iblk, V, idx t]
    · blk_simp [iblk]; rw [w_read]; blk_ext [idx t]

end Cert.AttnOutIdeal.Arr

end
-- ==== Proof.AttnOutRef.lean ====
/- Hand-written: the reference's result as the same function of its arguments. -/
module
public import proofs.«01_k».proof.Proof.Gen.AttnOutRefIdeal.Run
public import proofs.«01_k».proof.Proof.AttnOutArr

@[expose] public section

set_option maxRecDepth 16384

noncomputable section

open Idealize.ShloMosaic Idealize.ShloMosaic.TcCoe Idealize.SL.Sem

namespace Cert.AttnOutRefIdeal.RefValue

open Cert.AttnOutRefIdeal Cert.AttnOutRefIdeal.Gen Cert.AttnOutIdeal.Arr Cert.Row

/-- The reference's result: its operations composed over its arguments. -/
abbrev ref0 (a0 : FVec Ideal S18432x2048 .bf16) (a1 : FVec Ideal S2048x2048 .f32) (a2 : FVec Ideal S16384x2048 .f32) (a3 : FVec Ideal S2048x2048 .f32) : FVec Ideal S18432x2048 .f32 :=
  concatenate S18432x2048 0 [⟨S16384x2048, (addf a2 (Host.dotGeneral dot_S16384x2048_S2048x2048_S16384x2048_1_0_0_1_n_n none (extractStridedSlice S16384x2048 ![0, 0] (extf .f32 a0 bitsLt_bf16_f32) slices_S18432x2048_S16384x2048_0_0) a1))⟩, ⟨S2048x2048, (addf a3 (Host.dotGeneral dot_S2048x2048_S2048x2048_S2048x2048_1_0_0_1_n_n none (extractStridedSlice S2048x2048 ![16384, 0] (extf .f32 a0 bitsLt_bf16_f32) slices_S18432x2048_S2048x2048_16384_0) a1))⟩] concatenates_S16384x2048_S2048x2048_S18432x2048_d0

/-- The reference adds to every row its projection. -/
theorem outs (a0 : FVec Ideal S18432x2048 .bf16) (a1 : FVec Ideal S2048x2048 .f32) (a2 : FVec Ideal S16384x2048 .f32) (a3 : FVec Ideal S2048x2048 .f32) :
    ref0 a0 a1 a2 a3 = outArr a0 a1 a2 a3 := by
  funext x
  idx_vars x
  pointwise [ref0, outArr]
  blk_point []
  all_goals contradiction

end Cert.AttnOutRefIdeal.RefValue

end
-- ==== Proof.AttnOutClaim.lean ====
/- Hand-written: the claims about the output projection whose residual lies in two arrays. -/
module
public import proofs.«01_k».proof.Defs
public import proofs.«01_k».proof.Proof.Gen.AttnOut
public import proofs.«01_k».proof.Proof.Gen.AttnOut.Frame
public import proofs.«01_k».proof.Proof.AttnOutRef
public import Idealize.ShloMosaic.Adequacy
public import Idealize.ShloMosaic.Init

@[expose] public section

noncomputable section

namespace Cert.Proof.AttnOut

open Idealize.ShloMosaic Idealize.ShloMosaic.TcCoe Idealize.SL.Sem

/-- The kernel runs, keeps its arguments and ends with every counter at zero. -/
theorem frame_P : Cert.quiescent_AttnOut (hAttnOut := Cert.AttnOut.Gen.facts) := fun m g _ => Cert.AttnOut.Gen.frame m g

/-- So does its idealisation. -/
theorem frame_PI : Cert.quiescent_AttnOutIdeal (hAttnOutIdeal := Cert.AttnOutIdeal.Gen.facts) := fun m g _ => Cert.AttnOutIdeal.Gen.frame m g

/-- So does the reference, which has no counters. -/
theorem frame_RI : Cert.quiescent_AttnOutRefIdeal (hAttnOutRefIdeal := Cert.AttnOutRefIdeal.Gen.facts) := fun m g _ =>
  (θ_run _ _ _).mono (fun r h => ⟨fun c => (h c).2, sem_eq_zero_of_no_sems (by decide) r.2⟩) (Cert.AttnOutRefIdeal.Value.run (F := Ideal) m g)

/-- Kernel and reference end with equal results, for any arguments. -/
theorem algebraic : Cert.algebraic_AttnOutIdeal_AttnOutRefIdeal (hAttnOutIdeal := Cert.AttnOutIdeal.Gen.facts)
    (hAttnOutRefIdeal := Cert.AttnOutRefIdeal.Gen.facts) := by
  intro m g m' g' _ hagree
  refine ⟨_, (θ_run _ _ _).mono (fun r h c => ⟨((h c).1).trans (Cert.AttnOutIdeal.Arr.outs m c), (h c).2⟩) (Cert.AttnOutIdeal.Value.run_blocks (F := Ideal) m g),
    (θ_run _ _ _).mono (fun r h c => ⟨((h c).1).trans ?_, (h c).2⟩) (Cert.AttnOutRefIdeal.Value.run (F := Ideal) m' g')⟩
  · refine (Cert.AttnOutRefIdeal.RefValue.outs _ _ _ _).trans ?_
    rw [(hagree c).1, (hagree c).2.1, (hagree c).2.2.1, (hagree c).2.2.2]

end Cert.Proof.AttnOut

end
-- ==== Proof.RwkvOutArr.lean ====
/- Hand-written: the result array of the output projection with one residual. -/
module
public import proofs.«01_k».proof.Proof.Gen.RwkvOutIdeal.Value
public import proofs.«01_k».proof.Proof.MlpSpec
public import proofs.«01_k».proof.Proof.RunSum
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RwkvOutIdeal.Arr

open Cert.RwkvOutIdeal Cert.RwkvOutIdeal.Gen Cert.Row

/-- The result: every row with its projection added. -/
def outArr (Y : FVec Ideal S18432x2048 .bf16) (W : FVec Ideal S2048x2048 .f32) (X : FVec Ideal S18432x2048 .f32) : FVec Ideal S18432x2048 .f32 :=
  fun j => X j + ∑ k : Fin 2048, Y (ix2 (j 0) k) * W (ix2 k (j 1))

/-- One step of the running sum, entry by entry. -/
theorem step_at (y : FVec Ideal S512x2048 .bf16) (w : FVec Ideal S2048x2048 .bf16) (x : FVec Ideal S512x2048 .f32) (j : S512x2048.Idx) :
    k0_pay1 (F := Ideal) y w x j = x j + ∑ k : Fin 2048, y (ix2 (j 0) k) * w (ix2 k (j 1)) := by
  idx_vars j
  pointwise [k0_pay1]

/-- The block each window is at, point by point. -/
theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

variable (m : (ℓ : Loc nD τ sig) → Buf (Elt Ideal) ℓ)

/-- This array at launch, read from the arguments. -/
theorem w_read (c : Dev nD) (x : S2048x2048.Idx) : V (F := Ideal) m c main_v0 x = m ((c : Thread nD τ).loc main_arg1) x := by
  entry_read
  idx_vars x
  pointwise

/-- The kernel's result array. -/
theorem outs (c : Dev nD) : (dats m 0 c).arrAt 3 (cfgs 0).N
    = outArr (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  refine (step_at _ _ _ y).trans ?_
  unfold outArr
  refine congrArg₂ (· + ·) ?_ (Fin.sum_fin_congr fun k => congrArg₂ (· * ·) ?_ ?_)
  · blk_ext [iblk, V, idx t]
  · blk_ext [iblk, V, idx t]
  · blk_simp [iblk]; rw [w_read]; blk_ext [idx t]

end Cert.RwkvOutIdeal.Arr

end
-- ==== Proof.RwkvOutRef.lean ====
/- Hand-written: the reference's result as the same function of its arguments. -/
module
public import proofs.«01_k».proof.Proof.Gen.RwkvOutRefIdeal.Run
public import proofs.«01_k».proof.Proof.RwkvOutArr

@[expose] public section

set_option maxRecDepth 16384

noncomputable section

open Idealize.ShloMosaic Idealize.ShloMosaic.TcCoe Idealize.SL.Sem

namespace Cert.RwkvOutRefIdeal.RefValue

open Cert.RwkvOutRefIdeal Cert.RwkvOutRefIdeal.Gen Cert.RwkvOutIdeal.Arr Cert.Row

/-- The reference's result: its operations composed over its arguments. -/
abbrev ref0 (a0 : FVec Ideal S18432x2048 .bf16) (a1 : FVec Ideal S2048x2048 .f32) (a2 : FVec Ideal S18432x2048 .f32) : FVec Ideal S18432x2048 .f32 :=
  addf (F := Ideal) a2 (Host.dotGeneral dot_S18432x2048_S2048x2048_S18432x2048_1_0_0_1_n_n none (extf .f32 a0 bitsLt_bf16_f32) a1)

/-- The reference adds to every row its projection. -/
theorem outs (a0 : FVec Ideal S18432x2048 .bf16) (a1 : FVec Ideal S2048x2048 .f32) (a2 : FVec Ideal S18432x2048 .f32) :
    ref0 a0 a1 a2 = outArr a0 a1 a2 := by
  funext x
  idx_vars x
  pointwise [ref0, outArr]

end Cert.RwkvOutRefIdeal.RefValue

end
-- ==== Proof.RwkvOutClaim.lean ====
/- Hand-written: the claims about the output projection with one residual. -/
module
public import proofs.«01_k».proof.Defs
public import proofs.«01_k».proof.Proof.Gen.RwkvOut
public import proofs.«01_k».proof.Proof.Gen.RwkvOut.Frame
public import proofs.«01_k».proof.Proof.RwkvOutRef
public import Idealize.ShloMosaic.Adequacy
public import Idealize.ShloMosaic.Init

@[expose] public section

noncomputable section

namespace Cert.Proof.RwkvOut

open Idealize.ShloMosaic Idealize.ShloMosaic.TcCoe Idealize.SL.Sem

/-- The kernel runs, keeps its arguments and ends with every counter at zero. -/
theorem frame_P : Cert.quiescent_RwkvOut (hRwkvOut := Cert.RwkvOut.Gen.facts) := fun m g _ => Cert.RwkvOut.Gen.frame m g

/-- So does its idealisation. -/
theorem frame_PI : Cert.quiescent_RwkvOutIdeal (hRwkvOutIdeal := Cert.RwkvOutIdeal.Gen.facts) := fun m g _ => Cert.RwkvOutIdeal.Gen.frame m g

/-- So does the reference, which has no counters. -/
theorem frame_RI : Cert.quiescent_RwkvOutRefIdeal (hRwkvOutRefIdeal := Cert.RwkvOutRefIdeal.Gen.facts) := fun m g _ =>
  (θ_run _ _ _).mono (fun r h => ⟨fun c => (h c).2, sem_eq_zero_of_no_sems (by decide) r.2⟩) (Cert.RwkvOutRefIdeal.Value.run (F := Ideal) m g)

/-- Kernel and reference end with equal results, for any arguments. -/
theorem algebraic : Cert.algebraic_RwkvOutIdeal_RwkvOutRefIdeal (hRwkvOutIdeal := Cert.RwkvOutIdeal.Gen.facts)
    (hRwkvOutRefIdeal := Cert.RwkvOutRefIdeal.Gen.facts) := by
  intro m g m' g' _ hagree
  refine ⟨_, (θ_run _ _ _).mono (fun r h c => ⟨((h c).1).trans (Cert.RwkvOutIdeal.Arr.outs m c), (h c).2⟩) (Cert.RwkvOutIdeal.Value.run_blocks (F := Ideal) m g),
    (θ_run _ _ _).mono (fun r h c => ⟨((h c).1).trans ?_, (h c).2⟩) (Cert.RwkvOutRefIdeal.Value.run (F := Ideal) m' g')⟩
  · refine (Cert.RwkvOutRefIdeal.RefValue.outs _ _ _).trans ?_
    rw [(hagree c).1, (hagree c).2.1, (hagree c).2.2]

end Cert.Proof.RwkvOut

end
-- ==== Proof.RotSpec.lean ====
/- Hand-written: the rotary embedding of one row. -/
module
public import Idealize.ShloMosaic.Lib.Pipeline.ValueKit
public import Idealize.ShloMosaic.Lib.Pointwise

@[expose] public section

noncomputable section

open Idealize.ShloMosaic

namespace Cert.Rot

/-- The position of a row: prompt rows count from zero, the rows of a sample from the length of its past. -/
def pos (r : ℕ) : BitVec 32 := if _h : r < 16384 then BitVec.ofNat 32 r else IntOp.addi (4096#32) (BitVec.ofNat 32 ((r - 16384) % 64))

/-- The angle of the `i`-th pair of 128 at row `r`. -/
def ang (r i : ℕ) : EReal :=
  FloatOps.sitofp (F := Ideal) .f32 (pos r) * Ideal.pow (Ideal.ofBits .f32 1176256512#32)
    (Ideal.div (-FloatOps.sitofp (F := Ideal) .f32 (BitVec.ofNat 32 i)) (Ideal.ofBits .f32 1124073472#32))

/-- Two halves of 128 turned by the angles whose cosines and sines are given. -/
def rot (p : Fin 256 → EReal) (cs sn : Fin 128 → EReal) (n : Fin 256) : EReal :=
  if h : (n : ℕ) < 128 then p n * cs ⟨n, h⟩ - p ⟨128 + n, by omega⟩ * sn ⟨n, h⟩
  else p n * cs ⟨(n : ℕ) - 128, by omega⟩ + p ⟨(n : ℕ) - 128, by omega⟩ * sn ⟨(n : ℕ) - 128, by omega⟩

/-- Equal ingredients give equal values. -/
theorem rot_congr {p p' : Fin 256 → EReal} {cs cs' sn sn' : Fin 128 → EReal} {n n' : Fin 256} (h : ∀ i, p i = p' i)
    (hc : ∀ i, cs i = cs' i) (hs : ∀ i, sn i = sn' i) (hn : n = n') : rot p cs sn n = rot p' cs' sn' n' := by
  obtain rfl : p = p' := funext h
  obtain rfl : cs = cs' := funext hc
  obtain rfl : sn = sn' := funext hs
  rw [hn]

end Cert.Rot

end
-- ==== Proof.RetProjArr.lean ====
/- Hand-written: the result array of the retention projection, whose queries and keys are turned by their position. -/
module
public import proofs.«01_k».proof.Proof.Gen.RetProjIdeal.Value
public import proofs.«01_k».proof.Proof.MlpSpec
public import proofs.«01_k».proof.Proof.RunSum
public import proofs.«01_k».proof.Proof.RotSpec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetProjIdeal.Arr

open Cert.RetProjIdeal Cert.RetProjIdeal.Gen Cert.Row Cert.Rot

/-- One column of a row's projection. -/
def col (h : Fin 2048 → EReal) (W : FVec Ideal S2048x12288 .f32) (n : Fin 12288) : EReal := ∑ k : Fin 2048, h k * W (ix2 k n)

/-- The row of a query head's columns, turned. -/
def turned (r : ℕ) (h : Fin 2048 → EReal) (W : FVec Ideal S2048x12288 .f32) (n : Fin 12288) : EReal :=
  rot (fun i => col h W ⟨256 * ((n : ℕ) / 256) + i, by omega⟩) (fun i => Ideal.cos (ang r i)) (fun i => Ideal.sin (ang r i))
    ⟨(n : ℕ) % 256, by omega⟩

/-- The result: queries turned, keys turned and scaled, the rest as projected. -/
def outArr (X : FVec Ideal S18432x2048 .f32) (g : FVec Ideal S2048 .f32) (W : FVec Ideal S2048x12288 .f32) : FVec Ideal S18432x12288 .bf16 :=
  fun j =>
    if (j 1 : ℕ) < 2048 then turned (j 0) (rms (fun k => X (ix2 (j 0) k)) (fun k => g (ix1 k))) W (j 1)
    else if (j 1 : ℕ) < 4096 then turned (j 0) (rms (fun k => X (ix2 (j 0) k)) (fun k => g (ix1 k))) W (j 1) * Ideal.ofBits .f32 1031798784#32
    else col (rms (fun k => X (ix2 (j 0) k)) (fun k => g (ix1 k))) W (j 1)

/-- The normalised rows a run stores in its scratch. -/
theorem norm_at (x : FVec Ideal S1024x2048 .f32) (g : FVec Ideal S1x2048 .f32) (j : S1024x2048.Idx) :
    k0_pay1 (F := Ideal) x g j = rms (fun k => x (ix2 (j 0) k)) (fun k => g (ix2 0 k)) (j 1) := by
  idx_vars j
  pointwise [k0_pay1, rms]

/-- The block each window is at, point by point. -/
theorem idx : ∀ t : Fin cfg0.N, win0_0.index t = ![t.val / 12, 0]
    ∧ win0_1.index t = ![0, 0]
    ∧ win0_2.index t = ![0, t.val % 12]
    ∧ win0_3.index t = ![t.val / 12, 0]
    ∧ win0_4.index t = ![t.val / 12, 0]
    ∧ win0_5.index t = ![t.val / 12, t.val % 12] :=
  (by decide +kernel : ∀ t : Fin grid0.N, _)

section Pieces

variable (h : FVec Ideal S1024x2048 .bf16) (w : FVec Ideal S2048x256 .bf16) (a b : FVec Ideal S1024x128 .f32)

/-- Columns of the block's projection, for rows that are known. -/
abbrev cols (n : Fin 2048 → EReal) : Fin 256 → EReal := fun i => ∑ k : Fin 2048, n k * w (ix2 k i)

/-- A stored piece that is projected only. -/
theorem plain3 (x : S1024x256.Idx) (n : Fin 2048 → EReal) (hn : ∀ k, h (ix2 (x 0) k) = n k) :
    k0_pay3 (F := Ideal) h w x = cols w n (x 1) := by
  obtain rfl : (fun k => h (ix2 (x 0) k)) = n := funext hn
  idx_vars x
  pointwise [k0_pay3]

/-- A stored piece that is projected only. -/
theorem plain4 (x : S1024x256.Idx) (n : Fin 2048 → EReal) (hn : ∀ k, h (ix2 (x 0) k) = n k) :
    k0_pay4 (F := Ideal) h w x = cols w n (x 1) := by
  obtain rfl : (fun k => h (ix2 (x 0) k)) = n := funext hn
  idx_vars x
  pointwise [k0_pay4]

/-- A stored piece that is projected only. -/
theorem plain5 (x : S1024x256.Idx) (n : Fin 2048 → EReal) (hn : ∀ k, h (ix2 (x 0) k) = n k) :
    k0_pay5 (F := Ideal) h w x = cols w n (x 1) := by
  obtain rfl : (fun k => h (ix2 (x 0) k)) = n := funext hn
  idx_vars x
  pointwise [k0_pay5]

/-- A stored piece that is projected only. -/
theorem plain6 (x : S1024x256.Idx) (n : Fin 2048 → EReal) (hn : ∀ k, h (ix2 (x 0) k) = n k) :
    k0_pay6 (F := Ideal) h w x = cols w n (x 1) := by
  obtain rfl : (fun k => h (ix2 (x 0) k)) = n := funext hn
  idx_vars x
  pointwise [k0_pay6]

/-- A stored piece that is turned. -/
theorem turn7 (x : S1024x256.Idx) (n : Fin 2048 → EReal) (hn : ∀ k, h (ix2 (x 0) k) = n k) :
    k0_pay7 (F := Ideal) h w a b x = rot (cols w n) (fun i => a (ix2 (x 0) i)) (fun i => b (ix2 (x 0) i)) (x 1) := by
  obtain rfl : (fun k => h (ix2 (x 0) k)) = n := funext hn
  idx_vars x
  pointwise [k0_pay7, rot, cols]
  by_cases hx : (x1 : ℕ) < 128
  · simp only [dif_pos hx]
  · have e : (⟨128 + ((x1 : ℕ) - 128), by omega⟩ : Fin 256) = x1 := Fin.ext (by simp only; omega)
    simp only [dif_neg hx, e]

/-- A stored piece that is turned. -/
theorem turn8 (x : S1024x256.Idx) (n : Fin 2048 → EReal) (hn : ∀ k, h (ix2 (x 0) k) = n k) :
    k0_pay8 (F := Ideal) h w a b x = rot (cols w n) (fun i => a (ix2 (x 0) i)) (fun i => b (ix2 (x 0) i)) (x 1) := by
  obtain rfl : (fun k => h (ix2 (x 0) k)) = n := funext hn
  idx_vars x
  pointwise [k0_pay8, rot, cols]
  by_cases hx : (x1 : ℕ) < 128
  · simp only [dif_pos hx]
  · have e : (⟨128 + ((x1 : ℕ) - 128), by omega⟩ : Fin 256) = x1 := Fin.ext (by simp only; omega)
    simp only [dif_neg hx, e]

/-- A stored piece that is turned. -/
theorem turn9 (x : S1024x256.Idx) (n : Fin 2048 → EReal) (hn : ∀ k, h (ix2 (x 0) k) = n k) :
    k0_pay9 (F := Ideal) h w a b x = rot (cols w n) (fun i => a (ix2 (x 0) i)) (fun i => b (ix2 (x 0) i)) (x 1) := by
  obtain rfl : (fun k => h (ix2 (x 0) k)) = n := funext hn
  idx_vars x
  pointwise [k0_pay9, rot, cols]
  by_cases hx : (x1 : ℕ) < 128
  · simp only [dif_pos hx]
  · have e : (⟨128 + ((x1 : ℕ) - 128), by omega⟩ : Fin 256) = x1 := Fin.ext (by simp only; omega)
    simp only [dif_neg hx, e]

/-- A stored piece that is turned. -/
theorem turn10 (x : S1024x256.Idx) (n : Fin 2048 → EReal) (hn : ∀ k, h (ix2 (x 0) k) = n k) :
    k0_pay10 (F := Ideal) h w a b x = rot (cols w n) (fun i => a (ix2 (x 0) i)) (fun i => b (ix2 (x 0) i)) (x 1) := by
  obtain rfl : (fun k => h (ix2 (x 0) k)) = n := funext hn
  idx_vars x
  pointwise [k0_pay10, rot, cols]
  by_cases hx : (x1 : ℕ) < 128
  · simp only [dif_pos hx]
  · have e : (⟨128 + ((x1 : ℕ) - 128), by omega⟩ : Fin 256) = x1 := Fin.ext (by simp only; omega)
    simp only [dif_neg hx, e]

/-- A stored piece that is turned and scaled. -/
theorem scaled11 (x : S1024x256.Idx) (n : Fin 2048 → EReal) (hn : ∀ k, h (ix2 (x 0) k) = n k) :
    k0_pay11 (F := Ideal) h w a b x = rot (cols w n) (fun i => a (ix2 (x 0) i)) (fun i => b (ix2 (x 0) i)) (x 1) * Ideal.ofBits .f32 1031798784#32 := by
  obtain rfl : (fun k => h (ix2 (x 0) k)) = n := funext hn
  idx_vars x
  pointwise [k0_pay11, rot, cols]
  by_cases hx : (x1 : ℕ) < 128
  · simp only [dif_pos hx]
  · have e : (⟨128 + ((x1 : ℕ) - 128), by omega⟩ : Fin 256) = x1 := Fin.ext (by simp only; omega)
    simp only [dif_neg hx, e]

/-- A stored piece that is turned and scaled. -/
theorem scaled13 (x : S1024x256.Idx) (n : Fin 2048 → EReal) (hn : ∀ k, h (ix2 (x 0) k) = n k) :
    k0_pay13 (F := Ideal) (k0_pay12 h w a b) x = rot (cols w n) (fun i => a (ix2 (x 0) i)) (fun i => b (ix2 (x 0) i)) (x 1) * Ideal.ofBits .f32 1031798784#32 := by
  obtain rfl : (fun k => h (ix2 (x 0) k)) = n := funext hn
  idx_vars x
  pointwise [k0_pay13, k0_pay12, rot, cols]
  by_cases hx : (x1 : ℕ) < 128
  · simp only [dif_pos hx]
  · have e : (⟨128 + ((x1 : ℕ) - 128), by omega⟩ : Fin 256) = x1 := Fin.ext (by simp only; omega)
    simp only [dif_neg hx, e]

/-- A stored piece that is turned and scaled. -/
theorem scaled14 (x : S1024x256.Idx) (n : Fin 2048 → EReal) (hn : ∀ k, h (ix2 (x 0) k) = n k) :
    k0_pay14 (F := Ideal) h w a b x = rot (cols w n) (fun i => a (ix2 (x 0) i)) (fun i => b (ix2 (x 0) i)) (x 1) * Ideal.ofBits .f32 1031798784#32 := by
  obtain rfl : (fun k => h (ix2 (x 0) k)) = n := funext hn
  idx_vars x
  pointwise [k0_pay14, rot, cols]
  by_cases hx : (x1 : ℕ) < 128
  · simp only [dif_pos hx]
  · have e : (⟨128 + ((x1 : ℕ) - 128), by omega⟩ : Fin 256) = x1 := Fin.ext (by simp only; omega)
    simp only [dif_neg hx, e]

/-- A stored piece that is turned and scaled. -/
theorem scaled2 (x : S1024x256.Idx) (n : Fin 2048 → EReal) (hn : ∀ k, h (ix2 (x 0) k) = n k) :
    k0_pay2 (F := Ideal) (k0_pay15 h w) (k0_pay16 a) (k0_pay17 b) (k0_pay18 h w) x = rot (cols w n) (fun i => a (ix2 (x 0) i)) (fun i => b (ix2 (x 0) i)) (x 1) * Ideal.ofBits .f32 1031798784#32 := by
  obtain rfl : (fun k => h (ix2 (x 0) k)) = n := funext hn
  idx_vars x
  pointwise [k0_pay2, k0_pay15, k0_pay16, k0_pay17, k0_pay18, rot, cols]
  by_cases hx : (x1 : ℕ) < 128
  · simp only [dif_pos hx]
  · have e : (⟨128 + ((x1 : ℕ) - 128), by omega⟩ : Fin 256) = x1 := Fin.ext (by simp only; omega)
    simp only [dif_neg hx, e]

end Pieces

variable (m : (ℓ : Loc nD τ sig) → Buf (Elt Ideal) ℓ)

/-- This array at launch, read from the arguments. -/
theorem g_read (c : Dev nD) (x : S1x2048.Idx) : V (F := Ideal) m c main_v22 x = m ((c : Thread nD τ).loc main_arg1) (ix1 (x 1)) := by
  entry_read
  idx_vars x
  pointwise

/-- This array at launch, read from the arguments. -/
theorem w_read (c : Dev nD) (x : S2048x12288.Idx) : V (F := Ideal) m c main_v23 x = m ((c : Thread nD τ).loc main_arg2) x := by
  entry_read
  idx_vars x
  pointwise

/-- This array at launch, read from the arguments. -/
theorem cos_read (c : Dev nD) (x : S18432x128.Idx) : V (F := Ideal) m c main_v20 x = Ideal.cos (ang (x 0) (x 1)) := by
  entry_read
  idx_vars x
  pointwise [ang, pos]

/-- This array at launch, read from the arguments. -/
theorem sin_read (c : Dev nD) (x : S18432x128.Idx) : V (F := Ideal) m c main_v21 x = Ideal.sin (ang (x 0) (x 1)) := by
  entry_read
  idx_vars x
  pointwise [ang, pos]

/-- The scratch holds the normalised rows of the run's block. -/
theorem norm_run (c : Dev nD) (t : Fin cfg0.N) (j : S1024x2048.Idx) :
    (outsAt0 m c t.val t.isLt).2 j = rms (fun k => iblk m c 0 t (ix2 (j 0) k)) (fun k => iblk m c 1 t (ix2 0 k)) (j 1) := by
  refine (Pipeline.eq_of_write_hold_apply (fun n h => (outsAt0 m c n h).2) 12
    (fun t j => rms (fun k => iblk m c 0 t (ix2 (j 0) k)) (fun k => iblk m c 1 t (ix2 0 k)) (j 1))
    (fun t h j => by rw [outsAt0_A m c t h (by omega) (by omega) (by omega)]; frame_out; exact norm_at _ _ j)
    (fun t h j => by
      by_cases h1 : t.val % 12 ≤ 1
      · rw [outsAt0_B m c t h h1 (by omega) (by omega)]; rfl
      · by_cases h2 : 4 ≤ t.val % 12
        · rw [outsAt0_D m c t h h1 (by omega) h2]; rfl
        · rw [outsAt0_C m c t h h1 (by omega) h2]; rfl) t j).trans ?_
  refine rms_congr (fun k => ?_) (fun k => ?_) rfl
  · blk_ext [iblk, V, idx t, idx ⟨12 * (t.val / 12), Pipeline.run_start_lt t⟩]
  · blk_simp [iblk]; rw [g_read, g_read]; blk_ext [idx t, idx ⟨12 * (t.val / 12), Pipeline.run_start_lt t⟩]

/-- The normalised row, from the arrays. -/
abbrev row (c : Dev nD) (t : Fin cfg0.N) (i : Fin 1024) : Fin 2048 → EReal :=
  rms (fun k => m ((c : Thread nD τ).loc main_arg0) (ix2 ⟨1024 * (t.val / 12) + i, by have : t.val < 216 := lt_of_lt_of_eq t.isLt N_0; omega⟩ k))
    (fun k => m ((c : Thread nD τ).loc main_arg1) (ix1 k))

/-- The normalised row of a block is that of the arrays. -/
theorem row_of (c : Dev nD) (t : Fin cfg0.N) (i : Fin 1024) (k : Fin 2048) :
    rms (fun k => iblk m c 0 t (ix2 i k)) (fun k => iblk m c 1 t (ix2 0 k)) k = row m c t i k := by
  refine rms_congr (fun k => ?_) (fun k => ?_) rfl
  · blk_ext [iblk, V, idx t]
  · blk_simp [iblk]; rw [g_read]; blk_ext [idx t]

/-- What the first point of a run stores. -/
theorem fresh (c : Dev nD) (t : Fin cfg0.N) (i : Fin 1024) (k : Fin 2048) :
    k0_pay1 (F := Ideal) (iblk m c 0 t) (iblk m c 1 t) (ix2 i k) = row m c t i k :=
  (norm_at _ _ _).trans (row_of m c t i k)

/-- What the later points of a run find. -/
theorem held (c : Dev nD) (t : Fin cfg0.N) (h0 : ¬t.val % 12 = 0) (i : Fin 1024) (k : Fin 2048) :
    (outsAt0 m c (t.val - 1) (Nat.lt_of_le_of_lt (Nat.sub_le _ _) t.isLt)).2 (ix2 i k) = row m c t i k := by
  refine (norm_run m c ⟨t.val - 1, Nat.lt_of_le_of_lt (Nat.sub_le _ _) t.isLt⟩ _).trans ((row_of m c ⟨t.val - 1, Nat.lt_of_le_of_lt (Nat.sub_le _ _) t.isLt⟩ i k).trans ?_)
  have h1 : (t.val - 1) / 12 = t.val / 12 := by omega
  exact rms_congr (fun k => congrArg (m ((c : Thread nD τ).loc main_arg0)) (congrArg (fun r => ix2 r k) (Fin.ext (by simp only [h1])))) (fun _ => rfl) rfl

/-- Where a block's entry lies in the result. -/
theorem at_emb (t : Fin cfg0.N) (y : S1024x1024.Idx) : ((View.whole main_v24).slice (win0_5.rect t)).emb y
    = ix2 (⟨1024 * (t.val / 12) + (y 0 : ℕ), by have : t.val < 216 := lt_of_lt_of_eq t.isLt N_0; have : (y 0 : ℕ) < 1024 := (y 0).isLt; omega⟩ : Fin 18432)
        (⟨1024 * (t.val % 12) + (y 1 : ℕ), by have : (y 1 : ℕ) < 1024 := (y 1).isLt; omega⟩ : Fin 12288) := by
  have e0 : (((View.whole main_v24).slice (win0_5.rect t)).emb y 0 : ℕ) = 1024 * (t.val / 12) + (y 0 : ℕ) := by blk_simp [idx t]; omega
  have e1 : (((View.whole main_v24).slice (win0_5.rect t)).emb y 1 : ℕ) = 1024 * (t.val % 12) + (y 1 : ℕ) := by blk_simp [idx t]; omega
  exact funext fun d => match d with
    | ⟨0, _⟩ => Fin.ext e0
    | ⟨1, _⟩ => Fin.ext e1

section Block

variable (n : Fin 2048 → EReal) (w : FVec Ideal S2048x1024 .bf16) (a b : FVec Ideal S1024x128 .f32) (i j : ℕ) (hi : i < 1024) (hj : j < 1024)

/-- A column of a block's projection. -/
abbrev bcol : EReal := ∑ k : Fin 2048, n k * w (ix2 k ⟨j, hj⟩)

/-- The same, turned within its head's 256 columns. -/
abbrev bturn : EReal :=
  rot (fun c => bcol n w (256 * (j / 256) + c) (by omega)) (fun k => a (ix2 ⟨i, hi⟩ k)) (fun k => b (ix2 ⟨i, hi⟩ k)) ⟨j % 256, by omega⟩

end Block

/-- This window's block, read from the arguments. -/
theorem w_at (c : Dev nD) (t : Fin cfg0.N) (k : Fin 2048) (j : ℕ) (hj : j < 1024) :
    (show FVec Ideal S2048x1024 .bf16 from iblk m c 2 t) (ix2 k ⟨j, hj⟩) = m ((c : Thread nD τ).loc main_arg2) (ix2 k ⟨1024 * (t.val % 12) + j, by omega⟩) := by
  blk_simp [iblk]; rw [w_read]; blk_ext [idx t]

/-- This window's block, read from the arguments. -/
theorem cos_at (c : Dev nD) (t : Fin cfg0.N) (k : Fin 128) (i : ℕ) (hi : i < 1024) :
    (show FVec Ideal S1024x128 .f32 from iblk m c 3 t) (ix2 ⟨i, hi⟩ k) = Ideal.cos (ang (1024 * (t.val / 12) + i) k) := by
  blk_simp [iblk]; rw [cos_read]; blk_simp [idx t]; rw [Nat.mul_comm]

/-- This window's block, read from the arguments. -/
theorem sin_at (c : Dev nD) (t : Fin cfg0.N) (k : Fin 128) (i : ℕ) (hi : i < 1024) :
    (show FVec Ideal S1024x128 .f32 from iblk m c 4 t) (ix2 ⟨i, hi⟩ k) = Ideal.sin (ang (1024 * (t.val / 12) + i) k) := by
  blk_simp [iblk]; rw [sin_read]; blk_simp [idx t]; rw [Nat.mul_comm]

/-- A turned block entry is the result's. -/
theorem bturn_eq (c : Dev nD) (t : Fin cfg0.N) (i j : ℕ) (hi : i < 1024) (hj : j < 1024) :
    bturn (row m c t ⟨i, hi⟩) (iblk m c 2 t) (iblk m c 3 t) (iblk m c 4 t) i j hi hj
      = turned (1024 * (t.val / 12) + i) (row m c t ⟨i, hi⟩) (m ((c : Thread nD τ).loc main_arg2)) ⟨1024 * (t.val % 12) + j, by omega⟩ := by
  unfold turned col
  refine rot_congr (fun d => Finset.sum_congr rfl fun k _ => congrArg₂ (· * ·) rfl ((w_at m c t k _ _).trans ?_))
    (fun k => cos_at m c t k i hi) (fun k => sin_at m c t k i hi) (Fin.ext ?_)
  · exact congrArg (m ((c : Thread nD τ).loc main_arg2)) (congrArg (ix2 k) (Fin.ext (by simp only; omega)))
  · simp only; omega

set_option maxHeartbeats 1600000 in
/-- The kernel's result array. -/
theorem outs (c : Dev nD) : (dats m 0 c).arrAt 5 (cfgs 0).N
    = outArr (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp; rw [after0_5]
  have ht : t.val < 216 := lt_of_lt_of_eq t.isLt N_0
  have yl0 : (y 0 : ℕ) < 1024 := (y 0).isLt
  have yl1 : (y 1 : ℕ) < 1024 := (y 1).isLt
  refine Eq.trans ?_ (congrArg (outArr _ _ _) (at_emb t y).symm)
  unfold outArr
  by_cases c1 : t.val % 12 ≤ 1
  · refine Eq.trans ?_ (if_pos (show 1024 * (t.val % 12) + (y 1 : ℕ) < 2048 by omega)).symm
    refine Eq.trans ?_ (bturn_eq m c t (y 0) (y 1) yl0 yl1)
    by_cases c0 : t.val % 12 = 0
    · rw [outsAt0_A m c t c0 c1 (by omega) (by omega)]; frame_out
      clear hf
      canon_tiles x h
      · refine (turn10 _ _ _ _ x _ (fun k => fresh m c t _ k)).trans ?_
        have e : 256 * ((y 1 : ℕ) / 256) = 768 := by omega
        refine rot_congr (fun i => Finset.sum_congr rfl fun k _ => congrArg₂ (· * ·) (congrFun (congrArg (row m c t) (Fin.ext h0.symm)) k) ?_) (fun i => ?_) (fun i => ?_) (Fin.ext ?_)
        · refine View.ld_unit_apply_of _ _ _ _ _ _ fun d => ?_
          match d with
          | ⟨0, _⟩ => exact (Nat.zero_add _).symm
          | ⟨1, _⟩ => exact congrArg (· + (i : ℕ)) e
        · blk_ext [h0]
        · blk_ext [h0]
        · simp only [h1]; omega
      · refine (turn9 _ _ _ _ x _ (fun k => fresh m c t _ k)).trans ?_
        have e : 256 * ((y 1 : ℕ) / 256) = 512 := by omega
        refine rot_congr (fun i => Finset.sum_congr rfl fun k _ => congrArg₂ (· * ·) (congrFun (congrArg (row m c t) (Fin.ext h0.symm)) k) ?_) (fun i => ?_) (fun i => ?_) (Fin.ext ?_)
        · refine View.ld_unit_apply_of _ _ _ _ _ _ fun d => ?_
          match d with
          | ⟨0, _⟩ => exact (Nat.zero_add _).symm
          | ⟨1, _⟩ => exact congrArg (· + (i : ℕ)) e
        · blk_ext [h0]
        · blk_ext [h0]
        · simp only [h1]; omega
      · refine (turn8 _ _ _ _ x _ (fun k => fresh m c t _ k)).trans ?_
        have e : 256 * ((y 1 : ℕ) / 256) = 256 := by omega
        refine rot_congr (fun i => Finset.sum_congr rfl fun k _ => congrArg₂ (· * ·) (congrFun (congrArg (row m c t) (Fin.ext h0.symm)) k) ?_) (fun i => ?_) (fun i => ?_) (Fin.ext ?_)
        · refine View.ld_unit_apply_of _ _ _ _ _ _ fun d => ?_
          match d with
          | ⟨0, _⟩ => exact (Nat.zero_add _).symm
          | ⟨1, _⟩ => exact congrArg (· + (i : ℕ)) e
        · blk_ext [h0]
        · blk_ext [h0]
        · simp only [h1]; omega
      · refine (turn7 _ _ _ _ x _ (fun k => fresh m c t _ k)).trans ?_
        have e : 256 * ((y 1 : ℕ) / 256) = 0 := by omega
        refine rot_congr (fun i => Finset.sum_congr rfl fun k _ => congrArg₂ (· * ·) (congrFun (congrArg (row m c t) (Fin.ext h0.symm)) k) ?_) (fun i => ?_) (fun i => ?_) (Fin.ext ?_)
        · refine View.ld_unit_apply_of _ _ _ _ _ _ fun d => ?_
          match d with
          | ⟨0, _⟩ => exact (Nat.zero_add _).symm
          | ⟨1, _⟩ => exact congrArg (· + (i : ℕ)) e
        · blk_ext [h0]
        · blk_ext [h0]
        · simp only [h1]; omega
    · rw [outsAt0_B m c t c0 c1 (by omega) (by omega)]; frame_out
      clear hf
      canon_tiles x h
      · refine (turn10 _ _ _ _ x _ (fun k => (congrFun (Memref.IsWhole.read_unread (Memref.isWhole_whole _) _) _).trans (held m c t c0 _ k))).trans ?_
        have e : 256 * ((y 1 : ℕ) / 256) = 768 := by omega
        refine rot_congr (fun i => Finset.sum_congr rfl fun k _ => congrArg₂ (· * ·) (congrFun (congrArg (row m c t) (Fin.ext h0.symm)) k) ?_) (fun i => ?_) (fun i => ?_) (Fin.ext ?_)
        · refine View.ld_unit_apply_of _ _ _ _ _ _ fun d => ?_
          match d with
          | ⟨0, _⟩ => exact (Nat.zero_add _).symm
          | ⟨1, _⟩ => exact congrArg (· + (i : ℕ)) e
        · blk_ext [h0]
        · blk_ext [h0]
        · simp only [h1]; omega
      · refine (turn9 _ _ _ _ x _ (fun k => (congrFun (Memref.IsWhole.read_unread (Memref.isWhole_whole _) _) _).trans (held m c t c0 _ k))).trans ?_
        have e : 256 * ((y 1 : ℕ) / 256) = 512 := by omega
        refine rot_congr (fun i => Finset.sum_congr rfl fun k _ => congrArg₂ (· * ·) (congrFun (congrArg (row m c t) (Fin.ext h0.symm)) k) ?_) (fun i => ?_) (fun i => ?_) (Fin.ext ?_)
        · refine View.ld_unit_apply_of _ _ _ _ _ _ fun d => ?_
          match d with
          | ⟨0, _⟩ => exact (Nat.zero_add _).symm
          | ⟨1, _⟩ => exact congrArg (· + (i : ℕ)) e
        · blk_ext [h0]
        · blk_ext [h0]
        · simp only [h1]; omega
      · refine (turn8 _ _ _ _ x _ (fun k => (congrFun (Memref.IsWhole.read_unread (Memref.isWhole_whole _) _) _).trans (held m c t c0 _ k))).trans ?_
        have e : 256 * ((y 1 : ℕ) / 256) = 256 := by omega
        refine rot_congr (fun i => Finset.sum_congr rfl fun k _ => congrArg₂ (· * ·) (congrFun (congrArg (row m c t) (Fin.ext h0.symm)) k) ?_) (fun i => ?_) (fun i => ?_) (Fin.ext ?_)
        · refine View.ld_unit_apply_of _ _ _ _ _ _ fun d => ?_
          match d with
          | ⟨0, _⟩ => exact (Nat.zero_add _).symm
          | ⟨1, _⟩ => exact congrArg (· + (i : ℕ)) e
        · blk_ext [h0]
        · blk_ext [h0]
        · simp only [h1]; omega
      · refine (turn7 _ _ _ _ x _ (fun k => (congrFun (Memref.IsWhole.read_unread (Memref.isWhole_whole _) _) _).trans (held m c t c0 _ k))).trans ?_
        have e : 256 * ((y 1 : ℕ) / 256) = 0 := by omega
        refine rot_congr (fun i => Finset.sum_congr rfl fun k _ => congrArg₂ (· * ·) (congrFun (congrArg (row m c t) (Fin.ext h0.symm)) k) ?_) (fun i => ?_) (fun i => ?_) (Fin.ext ?_)
        · refine View.ld_unit_apply_of _ _ _ _ _ _ fun d => ?_
          match d with
          | ⟨0, _⟩ => exact (Nat.zero_add _).symm
          | ⟨1, _⟩ => exact congrArg (· + (i : ℕ)) e
        · blk_ext [h0]
        · blk_ext [h0]
        · simp only [h1]; omega
  · have c0 : ¬t.val % 12 = 0 := by omega
    refine Eq.trans ?_ (if_neg (show ¬1024 * (t.val % 12) + (y 1 : ℕ) < 2048 by omega)).symm
    by_cases c2 : 4 ≤ t.val % 12
    · refine Eq.trans ?_ (if_neg (show ¬1024 * (t.val % 12) + (y 1 : ℕ) < 4096 by omega)).symm
      refine Eq.trans (b := bcol (row m c t ⟨y 0, yl0⟩) (iblk m c 2 t) (y 1) yl1) ?_
        (Finset.sum_congr rfl fun k _ => congrArg₂ (· * ·) rfl (w_at m c t k _ _))
      rw [outsAt0_D m c t c0 c1 (by omega) c2]; frame_out
      clear hf
      canon_tiles x h
      · refine (plain6 _ _ x _ (fun k => (congrFun (Memref.IsWhole.read_unread (Memref.isWhole_whole _) _) _).trans (held m c t c0 _ k))).trans ?_
        refine Finset.sum_congr rfl fun k _ => congrArg₂ (· * ·) (congrFun (congrArg (row m c t) (Fin.ext h0.symm)) k) ?_
        refine View.ld_unit_apply_of _ _ _ _ _ _ fun d => ?_
        match d with
        | ⟨0, _⟩ => exact (Nat.zero_add _).symm
        | ⟨1, _⟩ => exact h1
      · refine (plain5 _ _ x _ (fun k => (congrFun (Memref.IsWhole.read_unread (Memref.isWhole_whole _) _) _).trans (held m c t c0 _ k))).trans ?_
        refine Finset.sum_congr rfl fun k _ => congrArg₂ (· * ·) (congrFun (congrArg (row m c t) (Fin.ext h0.symm)) k) ?_
        refine View.ld_unit_apply_of _ _ _ _ _ _ fun d => ?_
        match d with
        | ⟨0, _⟩ => exact (Nat.zero_add _).symm
        | ⟨1, _⟩ => exact h1
      · refine (plain4 _ _ x _ (fun k => (congrFun (Memref.IsWhole.read_unread (Memref.isWhole_whole _) _) _).trans (held m c t c0 _ k))).trans ?_
        refine Finset.sum_congr rfl fun k _ => congrArg₂ (· * ·) (congrFun (congrArg (row m c t) (Fin.ext h0.symm)) k) ?_
        refine View.ld_unit_apply_of _ _ _ _ _ _ fun d => ?_
        match d with
        | ⟨0, _⟩ => exact (Nat.zero_add _).symm
        | ⟨1, _⟩ => exact h1
      · refine (plain3 _ _ x _ (fun k => (congrFun (Memref.IsWhole.read_unread (Memref.isWhole_whole _) _) _).trans (held m c t c0 _ k))).trans ?_
        refine Finset.sum_congr rfl fun k _ => congrArg₂ (· * ·) (congrFun (congrArg (row m c t) (Fin.ext h0.symm)) k) ?_
        refine View.ld_unit_apply_of _ _ _ _ _ _ fun d => ?_
        match d with
        | ⟨0, _⟩ => exact (Nat.zero_add _).symm
        | ⟨1, _⟩ => exact h1.trans (Nat.zero_add _).symm
    · refine Eq.trans ?_ (if_pos (show 1024 * (t.val % 12) + (y 1 : ℕ) < 4096 by omega)).symm
      refine Eq.trans ?_ (congrArg (· * Ideal.ofBits .f32 1031798784#32) (bturn_eq m c t (y 0) (y 1) yl0 yl1))
      rw [outsAt0_C m c t c0 c1 (by omega) c2]; frame_out
      clear hf
      canon_tiles x h
      · refine (scaled2 _ _ _ _ x _ (fun k => (congrFun (Memref.IsWhole.read_unread (Memref.isWhole_whole _) _) _).trans (held m c t c0 _ k))).trans ?_
        have e : 256 * ((y 1 : ℕ) / 256) = 768 := by omega
        refine congrArg (· * Ideal.ofBits .f32 1031798784#32) (rot_congr (fun i => Finset.sum_congr rfl fun k _ => congrArg₂ (· * ·) (congrFun (congrArg (row m c t) (Fin.ext h0.symm)) k) ?_) (fun i => ?_) (fun i => ?_) (Fin.ext ?_))
        · refine View.ld_unit_apply_of _ _ _ _ _ _ fun d => ?_
          match d with
          | ⟨0, _⟩ => exact (Nat.zero_add _).symm
          | ⟨1, _⟩ => exact congrArg (· + (i : ℕ)) e
        · blk_ext [h0]
        · blk_ext [h0]
        · simp only [h1]; omega
      · refine (scaled14 _ _ _ _ x _ (fun k => (congrFun (Memref.IsWhole.read_unread (Memref.isWhole_whole _) _) _).trans (held m c t c0 _ k))).trans ?_
        have e : 256 * ((y 1 : ℕ) / 256) = 512 := by omega
        refine congrArg (· * Ideal.ofBits .f32 1031798784#32) (rot_congr (fun i => Finset.sum_congr rfl fun k _ => congrArg₂ (· * ·) (congrFun (congrArg (row m c t) (Fin.ext h0.symm)) k) ?_) (fun i => ?_) (fun i => ?_) (Fin.ext ?_))
        · refine View.ld_unit_apply_of _ _ _ _ _ _ fun d => ?_
          match d with
          | ⟨0, _⟩ => exact (Nat.zero_add _).symm
          | ⟨1, _⟩ => exact congrArg (· + (i : ℕ)) e
        · blk_ext [h0]
        · blk_ext [h0]
        · simp only [h1]; omega
      · refine (scaled13 _ _ _ _ x _ (fun k => (congrFun (Memref.IsWhole.read_unread (Memref.isWhole_whole _) _) _).trans (held m c t c0 _ k))).trans ?_
        have e : 256 * ((y 1 : ℕ) / 256) = 256 := by omega
        refine congrArg (· * Ideal.ofBits .f32 1031798784#32) (rot_congr (fun i => Finset.sum_congr rfl fun k _ => congrArg₂ (· * ·) (congrFun (congrArg (row m c t) (Fin.ext h0.symm)) k) ?_) (fun i => ?_) (fun i => ?_) (Fin.ext ?_))
        · refine View.ld_unit_apply_of _ _ _ _ _ _ fun d => ?_
          match d with
          | ⟨0, _⟩ => exact (Nat.zero_add _).symm
          | ⟨1, _⟩ => exact congrArg (· + (i : ℕ)) e
        · blk_ext [h0]
        · blk_ext [h0]
        · simp only [h1]; omega
      · refine (scaled11 _ _ _ _ x _ (fun k => (congrFun (Memref.IsWhole.read_unread (Memref.isWhole_whole _) _) _).trans (held m c t c0 _ k))).trans ?_
        have e : 256 * ((y 1 : ℕ) / 256) = 0 := by omega
        refine congrArg (· * Ideal.ofBits .f32 1031798784#32) (rot_congr (fun i => Finset.sum_congr rfl fun k _ => congrArg₂ (· * ·) (congrFun (congrArg (row m c t) (Fin.ext h0.symm)) k) ?_) (fun i => ?_) (fun i => ?_) (Fin.ext ?_))
        · refine View.ld_unit_apply_of _ _ _ _ _ _ fun d => ?_
          match d with
          | ⟨0, _⟩ => exact (Nat.zero_add _).symm
          | ⟨1, _⟩ => exact congrArg (· + (i : ℕ)) e
        · blk_ext [h0]
        · blk_ext [h0]
        · simp only [h1]; omega

end Cert.RetProjIdeal.Arr

end
-- ==== Proof.RetProjRef.lean ====
/- Hand-written: the reference's projection as the same function of its arguments. -/
module
public import proofs.«01_k».proof.Proof.Gen.RetProjRefIdeal.Run
public import proofs.«01_k».proof.Proof.RetProjArr

@[expose] public section

set_option maxRecDepth 16384

noncomputable section

open Idealize.ShloMosaic Idealize.ShloMosaic.TcCoe Idealize.SL.Sem

namespace Cert.RetProjRefIdeal.RefValue

open Cert.RetProjRefIdeal Cert.RetProjRefIdeal.Gen Cert.RetProjIdeal.Arr Cert.Row Cert.Rot

variable (V0 : Valuation τ sig (Elt Ideal))

/-- The three arguments. -/
abbrev argX : FVec Ideal S18432x2048 .f32 := V0 (Proc.devRef .tc main_arg0)
abbrev argG : FVec Ideal S2048 .f32 := V0 (Proc.devRef .tc main_arg1)
abbrev argW : FVec Ideal S2048x12288 .f32 := V0 (Proc.devRef .tc main_arg2)

/-- The normalised row. -/
abbrev nrow (r : Fin 18432) : Fin 2048 → EReal := rms (fun k => argX V0 (ix2 r k)) (fun k => argG V0 (ix1 k))

/-- The prompt's projection. -/
theorem prompt_col (x : S1x16384x12288.Idx) : Value.res_main_v16 (F := Ideal) V0 x = col (nrow V0 ⟨x 1, by have : (x 1 : ℕ) < 16384 := (x 1).isLt; omega⟩) (argW V0) (x 2) := by
  idx_vars x
  pointwise [Value.res_main_v16, Value.res_main_v0, col, rms]

/-- The samples' projection. -/
theorem sample_col (x : S32x64x12288.Idx) : Value.res_main_v117 (F := Ideal) V0 x
    = col (nrow V0 ⟨16384 + ((x 0 : ℕ) * 64 + (x 1 : ℕ)), by have : (x 0 : ℕ) < 32 := (x 0).isLt; have : (x 1 : ℕ) < 64 := (x 1).isLt; omega⟩) (argW V0) (x 2) := by
  idx_vars x
  pointwise [Value.res_main_v117, Value.res_main_v99, col, rms]

/-- A table of the reference: the cosine or sine of the row's angles. -/
theorem tab37 (x : S16384x1x128.Idx) : Value.res_main_v37 (F := Ideal) V0 x = Ideal.cos (ang (x 0) (x 2)) := by
  have hx : (x 0 : ℕ) < 16384 := (x 0).isLt
  unfold ang pos
  rw [dif_pos hx]
  idx_vars x
  pointwise [Value.res_main_v37, Value.res_main_v35, Value.res_main_v15]

/-- A table of the reference: the cosine or sine of the row's angles. -/
theorem tab39 (x : S16384x1x128.Idx) : Value.res_main_v39 (F := Ideal) V0 x = Ideal.sin (ang (x 0) (x 2)) := by
  have hx : (x 0 : ℕ) < 16384 := (x 0).isLt
  unfold ang pos
  rw [dif_pos hx]
  idx_vars x
  pointwise [Value.res_main_v39, Value.res_main_v35, Value.res_main_v15]

/-- A table of the reference: the cosine or sine of the row's angles. -/
theorem tab71 (x : S16384x1x128.Idx) : Value.res_main_v71 (F := Ideal) V0 x = Ideal.cos (ang (x 0) (x 2)) := by
  have hx : (x 0 : ℕ) < 16384 := (x 0).isLt
  unfold ang pos
  rw [dif_pos hx]
  idx_vars x
  pointwise [Value.res_main_v71, Value.res_main_v69, Value.res_main_v15]

/-- A table of the reference: the cosine or sine of the row's angles. -/
theorem tab73 (x : S16384x1x128.Idx) : Value.res_main_v73 (F := Ideal) V0 x = Ideal.sin (ang (x 0) (x 2)) := by
  have hx : (x 0 : ℕ) < 16384 := (x 0).isLt
  unfold ang pos
  rw [dif_pos hx]
  idx_vars x
  pointwise [Value.res_main_v73, Value.res_main_v69, Value.res_main_v15]

/-- A table of the reference: the cosine or sine of the row's angles. -/
theorem tab138 (x : S64x1x128.Idx) (b : ℕ) : Value.res_main_v138 (F := Ideal) V0 x = Ideal.cos (ang (16384 + (b * 64 + (x 0 : ℕ))) (x 2)) := by
  have hx : (16384 + (b * 64 + (x 0 : ℕ)) - 16384) % 64 = x 0 := by have : (x 0 : ℕ) < 64 := (x 0).isLt; omega
  unfold ang pos
  rw [dif_neg (by omega), hx]
  idx_vars x
  pointwise [Value.res_main_v138, Value.res_main_v136, Value.res_main_v116]

/-- A table of the reference: the cosine or sine of the row's angles. -/
theorem tab140 (x : S64x1x128.Idx) (b : ℕ) : Value.res_main_v140 (F := Ideal) V0 x = Ideal.sin (ang (16384 + (b * 64 + (x 0 : ℕ))) (x 2)) := by
  have hx : (16384 + (b * 64 + (x 0 : ℕ)) - 16384) % 64 = x 0 := by have : (x 0 : ℕ) < 64 := (x 0).isLt; omega
  unfold ang pos
  rw [dif_neg (by omega), hx]
  idx_vars x
  pointwise [Value.res_main_v140, Value.res_main_v136, Value.res_main_v116]

/-- A table of the reference: the cosine or sine of the row's angles. -/
theorem tab172 (x : S64x1x128.Idx) (b : ℕ) : Value.res_main_v172 (F := Ideal) V0 x = Ideal.cos (ang (16384 + (b * 64 + (x 0 : ℕ))) (x 2)) := by
  have hx : (16384 + (b * 64 + (x 0 : ℕ)) - 16384) % 64 = x 0 := by have : (x 0 : ℕ) < 64 := (x 0).isLt; omega
  unfold ang pos
  rw [dif_neg (by omega), hx]
  idx_vars x
  pointwise [Value.res_main_v172, Value.res_main_v170, Value.res_main_v116]

/-- A table of the reference: the cosine or sine of the row's angles. -/
theorem tab174 (x : S64x1x128.Idx) (b : ℕ) : Value.res_main_v174 (F := Ideal) V0 x = Ideal.sin (ang (16384 + (b * 64 + (x 0 : ℕ))) (x 2)) := by
  have hx : (16384 + (b * 64 + (x 0 : ℕ)) - 16384) % 64 = x 0 := by have : (x 0 : ℕ) < 64 := (x 0).isLt; omega
  unfold ang pos
  rw [dif_neg (by omega), hx]
  idx_vars x
  pointwise [Value.res_main_v174, Value.res_main_v170, Value.res_main_v116]

/-- The rotary embedding as the reference's operations make it, on the prompt's rows. -/
def turnP (A : FVec Ideal S1x16384x8x256 .f32) (c s : FVec Ideal S16384x1x128 .f32) : FVec Ideal S1x16384x8x256 .f32 :=
  concatenate S1x16384x8x256 3 [⟨S1x16384x8x128, ((subf (mulf (extractStridedSlice S1x16384x8x128 ![0, 0, 0, 0] A slices_S1x16384x8x256_S1x16384x8x128_0_0_0_0) (broadcastInDim S1x16384x8x128 ![0, 1, 2, 3] bcast_S1x16384x1x128_S1x16384x8x128_0_1_2_3 (broadcastInDim S1x16384x1x128 ![1, 2, 3] bcast_S16384x1x128_S1x16384x1x128_1_2_3 c))) (mulf (extractStridedSlice S1x16384x8x128 ![0, 0, 0, 128] A slices_S1x16384x8x256_S1x16384x8x128_0_0_0_128) (broadcastInDim S1x16384x8x128 ![0, 1, 2, 3] bcast_S1x16384x1x128_S1x16384x8x128_0_1_2_3 (broadcastInDim S1x16384x1x128 ![1, 2, 3] bcast_S16384x1x128_S1x16384x1x128_1_2_3 s)))))⟩, ⟨S1x16384x8x128, ((addf (mulf (extractStridedSlice S1x16384x8x128 ![0, 0, 0, 128] A slices_S1x16384x8x256_S1x16384x8x128_0_0_0_128) (broadcastInDim S1x16384x8x128 ![0, 1, 2, 3] bcast_S1x16384x1x128_S1x16384x8x128_0_1_2_3 (broadcastInDim S1x16384x1x128 ![1, 2, 3] bcast_S16384x1x128_S1x16384x1x128_1_2_3 c))) (mulf (extractStridedSlice S1x16384x8x128 ![0, 0, 0, 0] A slices_S1x16384x8x256_S1x16384x8x128_0_0_0_0) (broadcastInDim S1x16384x8x128 ![0, 1, 2, 3] bcast_S1x16384x1x128_S1x16384x8x128_0_1_2_3 (broadcastInDim S1x16384x1x128 ![1, 2, 3] bcast_S16384x1x128_S1x16384x1x128_1_2_3 s)))))⟩, ⟨S1x16384x8x0, ((extractStridedSlice S1x16384x8x0 ![0, 0, 0, 256] A slices_S1x16384x8x256_S1x16384x8x0_0_0_0_256))⟩] concatenates_S1x16384x8x128_S1x16384x8x128_S1x16384x8x0_S1x16384x8x256_d3

/-- The same on the samples' rows. -/
def turnS (A : FVec Ideal S32x64x8x256 .f32) (c s : FVec Ideal S64x1x128 .f32) : FVec Ideal S32x64x8x256 .f32 :=
  concatenate S32x64x8x256 3 [⟨S32x64x8x128, ((subf (mulf (extractStridedSlice S32x64x8x128 ![0, 0, 0, 0] A slices_S32x64x8x256_S32x64x8x128_0_0_0_0) (broadcastInDim S32x64x8x128 ![0, 1, 2, 3] bcast_S1x64x1x128_S32x64x8x128_0_1_2_3 (broadcastInDim S1x64x1x128 ![1, 2, 3] bcast_S64x1x128_S1x64x1x128_1_2_3 c))) (mulf (extractStridedSlice S32x64x8x128 ![0, 0, 0, 128] A slices_S32x64x8x256_S32x64x8x128_0_0_0_128) (broadcastInDim S32x64x8x128 ![0, 1, 2, 3] bcast_S1x64x1x128_S32x64x8x128_0_1_2_3 (broadcastInDim S1x64x1x128 ![1, 2, 3] bcast_S64x1x128_S1x64x1x128_1_2_3 s)))))⟩, ⟨S32x64x8x128, ((addf (mulf (extractStridedSlice S32x64x8x128 ![0, 0, 0, 128] A slices_S32x64x8x256_S32x64x8x128_0_0_0_128) (broadcastInDim S32x64x8x128 ![0, 1, 2, 3] bcast_S1x64x1x128_S32x64x8x128_0_1_2_3 (broadcastInDim S1x64x1x128 ![1, 2, 3] bcast_S64x1x128_S1x64x1x128_1_2_3 c))) (mulf (extractStridedSlice S32x64x8x128 ![0, 0, 0, 0] A slices_S32x64x8x256_S32x64x8x128_0_0_0_0) (broadcastInDim S32x64x8x128 ![0, 1, 2, 3] bcast_S1x64x1x128_S32x64x8x128_0_1_2_3 (broadcastInDim S1x64x1x128 ![1, 2, 3] bcast_S64x1x128_S1x64x1x128_1_2_3 s)))))⟩, ⟨S32x64x8x0, ((extractStridedSlice S32x64x8x0 ![0, 0, 0, 256] A slices_S32x64x8x256_S32x64x8x0_0_0_0_256))⟩] concatenates_S32x64x8x128_S32x64x8x128_S32x64x8x0_S32x64x8x256_d3

/-- The four parts of a prompt row side by side. -/
def rowsP (Q K : FVec Ideal S1x16384x8x256 .f32) (B : FVec Ideal S1x16384x12288 .f32) : FVec Ideal S16384x12288 .f32 :=
  concatenate S16384x12288 1 [⟨S16384x2048, ((shapeCast _ ((Q)) shapeCasts_S1x16384x8x256_S16384x2048))⟩, ⟨S16384x2048, ((shapeCast _ (mulf ((K)) (broadcastInDim S1x16384x8x256 ![] bcast_S_S1x16384x8x256 (constant S_ .f32 0x3D800000#32))) shapeCasts_S1x16384x8x256_S16384x2048))⟩, ⟨S16384x4096, ((shapeCast _ (shapeCast _ (extractStridedSlice S1x16384x4096 ![0, 0, 4096] B slices_S1x16384x12288_S1x16384x4096_0_0_4096) shapeCasts_S1x16384x4096_S1x16384x8x512) shapeCasts_S1x16384x8x512_S16384x4096))⟩, ⟨S16384x4096, ((shapeCast _ (extractStridedSlice S1x16384x4096 ![0, 0, 8192] B slices_S1x16384x12288_S1x16384x4096_0_0_8192) shapeCasts_S1x16384x4096_S16384x4096))⟩] concatenates_S16384x2048_S16384x2048_S16384x4096_S16384x4096_S16384x12288_d1

/-- The same of a sample's row. -/
def rowsS (Q K : FVec Ideal S32x64x8x256 .f32) (B : FVec Ideal S32x64x12288 .f32) : FVec Ideal S2048x12288 .f32 :=
  concatenate S2048x12288 1 [⟨S2048x2048, ((shapeCast _ ((Q)) shapeCasts_S32x64x8x256_S2048x2048))⟩, ⟨S2048x2048, ((shapeCast _ (mulf ((K)) (broadcastInDim S32x64x8x256 ![] bcast_S_S32x64x8x256 (constant S_ .f32 0x3D800000#32))) shapeCasts_S32x64x8x256_S2048x2048))⟩, ⟨S2048x4096, ((shapeCast _ (shapeCast _ (extractStridedSlice S32x64x4096 ![0, 0, 4096] B slices_S32x64x12288_S32x64x4096_0_0_4096) shapeCasts_S32x64x4096_S32x64x8x512) shapeCasts_S32x64x8x512_S2048x4096))⟩, ⟨S2048x4096, ((shapeCast _ (extractStridedSlice S32x64x4096 ![0, 0, 8192] B slices_S32x64x12288_S32x64x4096_0_0_8192) shapeCasts_S32x64x4096_S2048x4096))⟩] concatenates_S2048x2048_S2048x2048_S2048x4096_S2048x4096_S2048x12288_d1

/-- What the prompt rows' embedding holds at an index. -/
theorem turnP_at (A : FVec Ideal S1x16384x8x256 .f32) (c s : FVec Ideal S16384x1x128 .f32) (x : S1x16384x8x256.Idx) :
    turnP A c s x = rot (fun i => A (ix4 0 (x 1) (x 2) i)) (fun i => c (ix3 (x 1) 0 i)) (fun i => s (ix3 (x 1) 0 i)) (x 3) := by
  idx_vars x
  pointwise [turnP, rot]
  by_cases h : (x3 : ℕ) < 128
  · rw [dif_pos h, dif_pos h]
  · rw [dif_neg h, dif_neg h, dif_pos (show (x3 : ℕ) - 128 < 128 by omega)]
    have e : ∀ p, (⟨128 + ((x3 : ℕ) - 128), p⟩ : Fin 256) = x3 := fun p => Fin.ext (by simp only; omega)
    rw [e]

/-- What the sample rows' embedding holds at an index. -/
theorem turnS_at (A : FVec Ideal S32x64x8x256 .f32) (c s : FVec Ideal S64x1x128 .f32) (x : S32x64x8x256.Idx) :
    turnS A c s x = rot (fun i => A (ix4 (x 0) (x 1) (x 2) i)) (fun i => c (ix3 (x 1) 0 i)) (fun i => s (ix3 (x 1) 0 i)) (x 3) := by
  idx_vars x
  pointwise [turnS, rot]
  by_cases h : (x3 : ℕ) < 128
  · rw [dif_pos h, dif_pos h]
  · rw [dif_neg h, dif_neg h, dif_pos (show (x3 : ℕ) - 128 < 128 by omega)]
    have e : ∀ p, (⟨128 + ((x3 : ℕ) - 128), p⟩ : Fin 256) = x3 := fun p => Fin.ext (by simp only; omega)
    rw [e]

/-- What a prompt row holds at a column. -/
theorem rowsP_at (Q K : FVec Ideal S1x16384x8x256 .f32) (B : FVec Ideal S1x16384x12288 .f32) (x : S16384x12288.Idx) :
    rowsP Q K B x = if h : (x 1 : ℕ) < 2048 then Q (ix4 0 (x 0) ⟨(x 1 : ℕ) / 256, by omega⟩ ⟨(x 1 : ℕ) % 256, by omega⟩)
      else if h' : (x 1 : ℕ) < 4096 then K (ix4 0 (x 0) ⟨((x 1 : ℕ) - 2048) / 256, by omega⟩ ⟨((x 1 : ℕ) - 2048) % 256, by omega⟩) * Ideal.ofBits .f32 1031798784#32
      else B (ix3 0 (x 0) (x 1)) := by
  idx_vars x
  pointwise [rowsP]
  by_cases h : (x1 : ℕ) < 2048
  · rw [dif_pos h, dif_pos h]
  rw [dif_neg h, dif_neg h]
  by_cases h' : (x1 : ℕ) < 4096
  · rw [dif_pos h', dif_pos (show (x1 : ℕ) - 2048 < 2048 by omega)]
  rw [dif_neg h', dif_neg (show ¬ (x1 : ℕ) - 2048 < 2048 by omega)]
  by_cases h'' : (x1 : ℕ) < 8192
  · rw [dif_pos (show (x1 : ℕ) - 2048 - 2048 < 4096 by omega)]
    exact congrArg B (congrArg _ (Fin.ext (by simp only; omega)))
  · rw [dif_neg (show ¬ (x1 : ℕ) - 2048 - 2048 < 4096 by omega)]
    exact congrArg B (congrArg _ (Fin.ext (by simp only; omega)))

/-- What a sample row holds at a column. -/
theorem rowsS_at (Q K : FVec Ideal S32x64x8x256 .f32) (B : FVec Ideal S32x64x12288 .f32) (x : S2048x12288.Idx) :
    rowsS Q K B x = if h : (x 1 : ℕ) < 2048 then Q (ix4 ⟨(x 0 : ℕ) / 64, by have : (x 0 : ℕ) < 2048 := (x 0).isLt; omega⟩ ⟨(x 0 : ℕ) % 64, by omega⟩ ⟨(x 1 : ℕ) / 256, by omega⟩ ⟨(x 1 : ℕ) % 256, by omega⟩)
      else if h' : (x 1 : ℕ) < 4096 then K (ix4 ⟨(x 0 : ℕ) / 64, by have : (x 0 : ℕ) < 2048 := (x 0).isLt; omega⟩ ⟨(x 0 : ℕ) % 64, by omega⟩ ⟨((x 1 : ℕ) - 2048) / 256, by omega⟩ ⟨((x 1 : ℕ) - 2048) % 256, by omega⟩) * Ideal.ofBits .f32 1031798784#32
      else B (ix3 ⟨(x 0 : ℕ) / 64, by have : (x 0 : ℕ) < 2048 := (x 0).isLt; omega⟩ ⟨(x 0 : ℕ) % 64, by omega⟩ (x 1)) := by
  idx_vars x
  pointwise [rowsS]
  by_cases h : (x1 : ℕ) < 2048
  · rw [dif_pos h, dif_pos h]
  rw [dif_neg h, dif_neg h]
  by_cases h' : (x1 : ℕ) < 4096
  · rw [dif_pos h', dif_pos (show (x1 : ℕ) - 2048 < 2048 by omega)]
  rw [dif_neg h', dif_neg (show ¬ (x1 : ℕ) - 2048 < 2048 by omega)]
  by_cases h'' : (x1 : ℕ) < 8192
  · rw [dif_pos (show (x1 : ℕ) - 2048 - 2048 < 4096 by omega)]
    exact congrArg B (congrArg _ (Fin.ext (by simp only; omega)))
  · rw [dif_neg (show ¬ (x1 : ℕ) - 2048 - 2048 < 4096 by omega)]
    exact congrArg B (congrArg _ (Fin.ext (by simp only; omega)))

/-- The reference's result, from these. -/
theorem parts : Value.res_main_v200 (F := Ideal) V0 = concatenate S18432x12288 0 [⟨S16384x12288, ((rowsP (turnP (Value.res_main_v18 V0) (Value.res_main_v37 V0) (Value.res_main_v39 V0)) (turnP (Value.res_main_v20 V0) (Value.res_main_v71 V0) (Value.res_main_v73 V0)) (Value.res_main_v16 V0)))⟩, ⟨S2048x12288, ((rowsS (turnS (Value.res_main_v119 V0) (Value.res_main_v138 V0) (Value.res_main_v140 V0)) (turnS (Value.res_main_v121 V0) (Value.res_main_v172 V0) (Value.res_main_v174 V0)) (Value.res_main_v117 V0)))⟩] concatenates_S16384x12288_S2048x12288_S18432x12288_d0 := by
  unfold Value.res_main_v200 rowsP rowsS turnP turnS Value.res_main_v40 Value.res_main_v41 Value.res_main_v74 Value.res_main_v75 Value.res_main_v141 Value.res_main_v142 Value.res_main_v175 Value.res_main_v176
  rfl
/-- A head's columns of the projection. -/
theorem head18 (x : S1x16384x8x256.Idx) : Value.res_main_v18 (F := Ideal) V0 x = col (nrow V0 ⟨x 1, by have : (x 1 : ℕ) < 16384 := (x 1).isLt; omega⟩) (argW V0)
    ⟨0 + (256 * (x 2 : ℕ) + (x 3 : ℕ)), by have : (x 2 : ℕ) < 8 := (x 2).isLt; have : (x 3 : ℕ) < 256 := (x 3).isLt; omega⟩ := by
  idx_vars x
  pointwise [Value.res_main_v18, prompt_col]
  exact congrArg (col _ _) (Fin.ext (by simp only; omega))

/-- A head's columns of the projection. -/
theorem head20 (x : S1x16384x8x256.Idx) : Value.res_main_v20 (F := Ideal) V0 x = col (nrow V0 ⟨x 1, by have : (x 1 : ℕ) < 16384 := (x 1).isLt; omega⟩) (argW V0)
    ⟨2048 + (256 * (x 2 : ℕ) + (x 3 : ℕ)), by have : (x 2 : ℕ) < 8 := (x 2).isLt; have : (x 3 : ℕ) < 256 := (x 3).isLt; omega⟩ := by
  idx_vars x
  pointwise [Value.res_main_v20, prompt_col]
  exact congrArg (col _ _) (Fin.ext (by simp only; omega))

/-- A head's columns of the projection. -/
theorem head119 (x : S32x64x8x256.Idx) : Value.res_main_v119 (F := Ideal) V0 x = col (nrow V0 ⟨16384 + ((x 0 : ℕ) * 64 + (x 1 : ℕ)), by have : (x 0 : ℕ) < 32 := (x 0).isLt; have : (x 1 : ℕ) < 64 := (x 1).isLt; omega⟩) (argW V0)
    ⟨0 + (256 * (x 2 : ℕ) + (x 3 : ℕ)), by have : (x 2 : ℕ) < 8 := (x 2).isLt; have : (x 3 : ℕ) < 256 := (x 3).isLt; omega⟩ := by
  idx_vars x
  pointwise [Value.res_main_v119, sample_col]
  exact congrArg (col _ _) (Fin.ext (by simp only; omega))

/-- A head's columns of the projection. -/
theorem head121 (x : S32x64x8x256.Idx) : Value.res_main_v121 (F := Ideal) V0 x = col (nrow V0 ⟨16384 + ((x 0 : ℕ) * 64 + (x 1 : ℕ)), by have : (x 0 : ℕ) < 32 := (x 0).isLt; have : (x 1 : ℕ) < 64 := (x 1).isLt; omega⟩) (argW V0)
    ⟨2048 + (256 * (x 2 : ℕ) + (x 3 : ℕ)), by have : (x 2 : ℕ) < 8 := (x 2).isLt; have : (x 3 : ℕ) < 256 := (x 3).isLt; omega⟩ := by
  idx_vars x
  pointwise [Value.res_main_v121, sample_col]
  exact congrArg (col _ _) (Fin.ext (by simp only; omega))

/-- The prompt's rows are as the result's function says. -/
theorem rowsP_val (x : S16384x12288.Idx) : rowsP (turnP (Value.res_main_v18 V0) (Value.res_main_v37 V0) (Value.res_main_v39 V0)) (turnP (Value.res_main_v20 V0) (Value.res_main_v71 V0) (Value.res_main_v73 V0)) (Value.res_main_v16 V0) x
    = outArr (argX V0) (argG V0) (argW V0) (ix2 ⟨x 0, by have : (x 0 : ℕ) < 16384 := (x 0).isLt; omega⟩ (x 1)) := by
  have h0 : (x 0 : ℕ) < 16384 := (x 0).isLt
  rw [rowsP_at]
  unfold outArr
  by_cases h : (x 1 : ℕ) < 2048
  · rw [dif_pos h]
    refine Eq.trans ?_ (if_pos h).symm
    rw [turnP_at]
    refine rot_congr (fun i => (head18 V0 _).trans ?_) (fun i => tab37 V0 _) (fun i => tab39 V0 _) rfl
    exact congrArg (col _ _) (Fin.ext (by show 0 + (256 * ((x 1 : ℕ) / 256) + i) = 256 * ((x 1 : ℕ) / 256) + i; omega))
  rw [dif_neg h]
  refine Eq.trans ?_ (if_neg h).symm
  by_cases h' : (x 1 : ℕ) < 4096
  · rw [dif_pos h']
    refine Eq.trans ?_ (if_pos h').symm
    rw [turnP_at]
    refine congrArg (· * Ideal.ofBits .f32 1031798784#32) ?_
    refine rot_congr (fun i => (head20 V0 _).trans ?_) (fun i => tab71 V0 _) (fun i => tab73 V0 _) (Fin.ext (by show ((x 1 : ℕ) - 2048) % 256 = (x 1 : ℕ) % 256; omega))
    exact congrArg (col _ _) (Fin.ext (by show 2048 + (256 * (((x 1 : ℕ) - 2048) / 256) + i) = 256 * ((x 1 : ℕ) / 256) + i; omega))
  · rw [dif_neg h']
    refine Eq.trans ?_ (if_neg h').symm
    exact prompt_col V0 _

/-- So are the samples'. -/
theorem rowsS_val (x : S2048x12288.Idx) : rowsS (turnS (Value.res_main_v119 V0) (Value.res_main_v138 V0) (Value.res_main_v140 V0)) (turnS (Value.res_main_v121 V0) (Value.res_main_v172 V0) (Value.res_main_v174 V0)) (Value.res_main_v117 V0) x
    = outArr (argX V0) (argG V0) (argW V0) (ix2 ⟨16384 + (x 0 : ℕ), by have : (x 0 : ℕ) < 2048 := (x 0).isLt; omega⟩ (x 1)) := by
  have h0 : (x 0 : ℕ) < 2048 := (x 0).isLt
  have hr : 16384 + ((x 0 : ℕ) / 64 * 64 + (x 0 : ℕ) % 64) = 16384 + (x 0 : ℕ) := by omega
  have hn : ∀ p p', nrow V0 ⟨16384 + ((x 0 : ℕ) / 64 * 64 + (x 0 : ℕ) % 64), p⟩ = nrow V0 ⟨16384 + (x 0 : ℕ), p'⟩ :=
    fun p p' => congrArg (nrow V0) (Fin.ext hr)
  rw [rowsS_at]
  unfold outArr
  by_cases h : (x 1 : ℕ) < 2048
  · rw [dif_pos h]
    refine Eq.trans ?_ (if_pos h).symm
    rw [turnS_at]
    refine rot_congr (fun i => (head119 V0 _).trans ?_) (fun i => (tab138 V0 _ ((x 0 : ℕ) / 64)).trans ?_) (fun i => (tab140 V0 _ ((x 0 : ℕ) / 64)).trans ?_) rfl
    · exact congrArg₂ (fun n j => col n (argW V0) j) (hn _ _) (Fin.ext (by show 0 + (256 * ((x 1 : ℕ) / 256) + i) = 256 * ((x 1 : ℕ) / 256) + i; omega))
    · exact congrArg (fun r => Ideal.cos (ang r i)) hr
    · exact congrArg (fun r => Ideal.sin (ang r i)) hr
  rw [dif_neg h]
  refine Eq.trans ?_ (if_neg h).symm
  by_cases h' : (x 1 : ℕ) < 4096
  · rw [dif_pos h']
    refine Eq.trans ?_ (if_pos h').symm
    rw [turnS_at]
    refine congrArg (· * Ideal.ofBits .f32 1031798784#32) ?_
    refine rot_congr (fun i => (head121 V0 _).trans ?_) (fun i => (tab172 V0 _ ((x 0 : ℕ) / 64)).trans ?_) (fun i => (tab174 V0 _ ((x 0 : ℕ) / 64)).trans ?_) (Fin.ext (by show ((x 1 : ℕ) - 2048) % 256 = (x 1 : ℕ) % 256; omega))
    · exact congrArg₂ (fun n j => col n (argW V0) j) (hn _ _) (Fin.ext (by show 2048 + (256 * (((x 1 : ℕ) - 2048) / 256) + i) = 256 * ((x 1 : ℕ) / 256) + i; omega))
    · exact congrArg (fun r => Ideal.cos (ang r i)) hr
    · exact congrArg (fun r => Ideal.sin (ang r i)) hr
  · rw [dif_neg h']
    refine Eq.trans ?_ (if_neg h').symm
    exact (sample_col V0 _).trans (congrArg (fun n => col n (argW V0) (x 1)) (hn _ _))

/-- The reference's result is the same function of its arguments. -/
theorem out_eq : Value.res_main_v200 (F := Ideal) V0 = outArr (argX V0) (argG V0) (argW V0) := by
  rw [parts]
  funext x
  have h1 : (x 0 : ℕ) < 18432 := (x 0).isLt
  rw [concatenate_pair_apply]
  by_cases h : (x 0 : ℕ) < 16384
  · refine (dif_pos h).trans ((rowsP_val V0 _).trans (congrArg (outArr (argX V0) (argG V0) (argW V0)) (funext fun d => ?_)))
    match d with
    | ⟨0, _⟩ => rfl
    | ⟨1, _⟩ => rfl
  · refine (dif_neg h).trans ((rowsS_val V0 _).trans (congrArg (outArr (argX V0) (argG V0) (argW V0)) (funext fun d => ?_)))
    match d with
    | ⟨0, _⟩ => exact Fin.ext (by show 16384 + ((x 0 : ℕ) - 16384) = (x 0 : ℕ); omega)
    | ⟨1, _⟩ => rfl

/-- The stored result: its narrowing to bfloat16 is exact here. -/
theorem outs (X : FVec Ideal S18432x2048 .f32) (g : FVec Ideal S2048 .f32) (W : FVec Ideal S2048x12288 .f32) (hX : argX V0 = X) (hg : argG V0 = g) (hW : argW V0 = W) :
    (truncf .bf16 (Value.res_main_v200 (F := Ideal) V0) bitsLt_bf16_f32 : FVec Ideal S18432x12288 .bf16) = outArr X g W := by
  rw [← hX, ← hg, ← hW]
  exact out_eq V0

/-- The same of a run's memory. -/
theorem outs_run (m : (ℓ : Loc nD τ sig) → Buf (Elt Ideal) ℓ) (c : Dev nD) (X : FVec Ideal S18432x2048 .f32) (g : FVec Ideal S2048 .f32) (W : FVec Ideal S2048x12288 .f32)
    (hX : m ((c : Thread nD τ).loc main_arg0) = X) (hg : m ((c : Thread nD τ).loc main_arg1) = g) (hW : m ((c : Thread nD τ).loc main_arg2) = W) :
    (truncf .bf16 (Value.res_main_v200 (F := Ideal) (StableHlo.launchContents m c)) bitsLt_bf16_f32 : FVec Ideal S18432x12288 .bf16) = outArr X g W :=
  outs (StableHlo.launchContents m c) X g W hX hg hW

end Cert.RetProjRefIdeal.RefValue

end
-- ==== Proof.RetProjClaim.lean ====
/- Hand-written: the claims about the retention's projection. -/
module
public import proofs.«01_k».proof.Defs
public import proofs.«01_k».proof.Proof.Gen.RetProj
public import proofs.«01_k».proof.Proof.Gen.RetProj.Frame
public import proofs.«01_k».proof.Proof.RetProjRef
public import Idealize.ShloMosaic.Adequacy
public import Idealize.ShloMosaic.Init

@[expose] public section

noncomputable section

namespace Cert.Proof.RetProj

open Idealize.ShloMosaic Idealize.ShloMosaic.TcCoe Idealize.SL.Sem

/-- The kernel runs, keeps its arguments and ends with every counter at zero. -/
theorem frame_P : Cert.quiescent_RetProj (hRetProj := Cert.RetProj.Gen.facts) := fun m g _ => Cert.RetProj.Gen.frame m g

/-- So does its idealisation. -/
theorem frame_PI : Cert.quiescent_RetProjIdeal (hRetProjIdeal := Cert.RetProjIdeal.Gen.facts) := fun m g _ => Cert.RetProjIdeal.Gen.frame m g

/-- So does the reference, which has no counters. -/
theorem frame_RI : Cert.quiescent_RetProjRefIdeal (hRetProjRefIdeal := Cert.RetProjRefIdeal.Gen.facts) := fun m g _ =>
  (θ_run _ _ _).mono (fun r h => ⟨fun c => (h c).2, sem_eq_zero_of_no_sems (by decide) r.2⟩) (Cert.RetProjRefIdeal.Value.run (F := Ideal) m g)

/-- Kernel and reference end with equal results, for any arguments. -/
theorem algebraic : Cert.algebraic_RetProjIdeal_RetProjRefIdeal (hRetProjIdeal := Cert.RetProjIdeal.Gen.facts)
    (hRetProjRefIdeal := Cert.RetProjRefIdeal.Gen.facts) := by
  intro m g m' g' _ hagree
  refine ⟨_, (θ_run _ _ _).mono (fun r h c => ⟨((h c).1).trans (Cert.RetProjIdeal.Arr.outs m c), (h c).2⟩) (Cert.RetProjIdeal.Value.run_blocks (F := Ideal) m g),
    (θ_run _ _ _).mono (fun r h c => ⟨((h c).1).trans ?_, (h c).2⟩) (Cert.RetProjRefIdeal.Value.run (F := Ideal) m' g')⟩
  · exact Cert.RetProjRefIdeal.RefValue.outs_run m' c _ _ _ (hagree c).1 (hagree c).2.1 (hagree c).2.2

end Cert.Proof.RetProj

end
-- ==== Proof.MlpFinalIdealRun.lean ====
/- Hand-written: the body of the last network call, run case by case over its memory operations. -/
module
public import proofs.«01_k».proof.Proof.Gen.MlpFinalIdeal.Frame
public import Idealize.ShloMosaic.Lib.Pipeline.Value
public import Idealize.ShloMosaic.Lib.Pipeline.ValueKit
public import Idealize.ShloMosaic.Lib.Pipeline.TableIdle

@[expose] public section

set_option maxRecDepth 16384

noncomputable section

namespace Cert.MlpFinalIdeal.Body

open Cert.MlpFinalIdeal Cert.MlpFinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows a block's first point stores in the scratch of normalised rows. -/
noncomputable def k0_pay1 (v29 : Vec F S512x2048 .f32) (v30 : Vec F S1x2048 .f32) : FVec F S512x2048 .bf16 :=
  have v31 : FVec F S1x2048 .f32 := shapeCast S1x2048 v30 shapeCasts_S1x2048_S1x2048
  have v32 : FVec F S512x2048 .f32 := mulf v29 v29
  have v33 : FVec F S512 .f32 := multiReduction .add [1] S512 v32 0x00000000#32 reduces_S512x2048_S512 (.inl rfl) rfl
  have v34 : FVec F S512x1 .f32 := shapeCast S512x1 v33 shapeCasts_S512_S512x1
  have cst_23 : F .f32 := Scalar.ofBits .f32 0x45000000#32
  have v35 : FVec F S512x1 .f32 := broadcast S512x1 cst_23
  have v36 : FVec F S512x1 .f32 := divf v34 v35
  have cst_24 : F .f32 := Scalar.ofBits .f32 0x3727C5AC#32
  have v37 : FVec F S512x1 .f32 := broadcast S512x1 cst_24
  have v38 : FVec F S512x1 .f32 := addf v36 v37
  have v39 : FVec F S512x1 .f32 := rsqrt v38
  have v40 : FVec F S512x2048 .f32 := broadcastTo S512x2048 v39 broadcasts_S512x1_S512x2048
  have v41 : FVec F S512x2048 .f32 := mulf v29 v40
  have v42 : FVec F S512x2048 .f32 := broadcastTo S512x2048 v31 broadcasts_S1x2048_S512x2048
  have v43 : FVec F S512x2048 .f32 := mulf v41 v42
  have v44 : FVec F S512x2048 .bf16 := truncf .bf16 v43 bitsLt_bf16_f32
  have v47 : FVec F S512x2048 .bf16 := shapeCast S512x2048 v44 shapeCasts_S512x2048_S512x2048
  v47

/-- The rows a block's first point stores in the running sum. -/
noncomputable def k0_pay0 (v29 : Vec F S512x2048 .f32) : FVec F S512x2048 .f32 :=
  have v50 : FVec F S512x2048 .f32 := shapeCast S512x2048 v29 shapeCasts_S512x2048_S512x2048
  v50

/-- The running sum with one point's part of the network added. -/
noncomputable def k0_pay2 (v3 : Vec F S512x2048 .bf16) (v4 : Vec F S1x2048x1024 .bf16) (v11 : Vec F S512x2048 .f32) (v12 : Vec F S1x1024x2048 .bf16) : FVec F S512x2048 .f32 :=
  have v5 : FVec F S2048x1024 .bf16 := shapeCast S2048x1024 v4 shapeCasts_S1x2048x1024_S2048x1024
  have cst : FVec F S512x1024 .f32 := constant S512x1024 .f32 0x00000000#32
  have v6 : FVec F S512x1024 .f32 := matmul dot_S512x2048_S2048x1024_S512x1024_1_0_0_1_n_n none v3 v5 cst
  have cst_5 : F .f32 := Scalar.ofBits .f32 0x00000000#32
  have v7 : FVec F S512x1024 .f32 := broadcast S512x1024 cst_5
  have v8 : FVec F S512x1024 .f32 := maximumf v6 v7
  have v9 : FVec F S512x1024 .f32 := mulf v8 v8
  have v10 : FVec F S512x1024 .bf16 := truncf .bf16 v9 bitsLt_bf16_f32
  have v13 : FVec F S1024x2048 .bf16 := shapeCast S1024x2048 v12 shapeCasts_S1x1024x2048_S1024x2048
  have cst_11 : FVec F S512x2048 .f32 := constant S512x2048 .f32 0x00000000#32
  have v14 : FVec F S512x2048 .f32 := matmul dot_S512x1024_S1024x2048_S512x2048_1_0_0_1_n_n none v10 v13 cst_11
  have v15 : FVec F S512x2048 .f32 := addf v11 v14
  have v18 : FVec F S512x2048 .f32 := shapeCast S512x2048 v15 shapeCasts_S512x2048_S512x2048
  v18

/-- The normalised running sum, which a block's last point stores in a result. -/
noncomputable def k0_pay3 (v29 : Vec F S512x2048 .f32) (v30 : Vec F S1x2048 .f32) : FVec F S512x2048 .f32 :=
  have v31 : FVec F S1x2048 .f32 := shapeCast S1x2048 v30 shapeCasts_S1x2048_S1x2048
  have v32 : FVec F S512x2048 .f32 := mulf v29 v29
  have v33 : FVec F S512 .f32 := multiReduction .add [1] S512 v32 0x00000000#32 reduces_S512x2048_S512 (.inl rfl) rfl
  have v34 : FVec F S512x1 .f32 := shapeCast S512x1 v33 shapeCasts_S512_S512x1
  have cst_23 : F .f32 := Scalar.ofBits .f32 0x45000000#32
  have v35 : FVec F S512x1 .f32 := broadcast S512x1 cst_23
  have v36 : FVec F S512x1 .f32 := divf v34 v35
  have cst_24 : F .f32 := Scalar.ofBits .f32 0x3727C5AC#32
  have v37 : FVec F S512x1 .f32 := broadcast S512x1 cst_24
  have v38 : FVec F S512x1 .f32 := addf v36 v37
  have v39 : FVec F S512x1 .f32 := rsqrt v38
  have v40 : FVec F S512x2048 .f32 := broadcastTo S512x2048 v39 broadcasts_S512x1_S512x2048
  have v41 : FVec F S512x2048 .f32 := mulf v29 v40
  have v42 : FVec F S512x2048 .f32 := broadcastTo S512x2048 v31 broadcasts_S1x2048_S512x2048
  have v43 : FVec F S512x2048 .f32 := mulf v41 v42
  v43

/-- The body as its memory operations over those payloads. -/
noncomputable def cc0_mlp_skel (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) :
    Prog (TpuEff nD τ sig (Elt F) Λ₀ .tc) PUnit := do
  let arg0 : BitVec 32 := BitVec.ofNat 32 (i 0).val
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let v29 : Vec F S512x2048 .f32 ← Prog.lift (.load arg2 (Rect.unit (s := S512x2048) ![0, 0] S512x2048.size inb_S512x2048_S512x2048_0_0).toLoadRect (View.loadsAt_vmem h_S512x2048))
    let v30 : Vec F S1x2048 .f32 ← Prog.lift (.load arg3 (Rect.unit (s := S1x2048) ![0, 0] S1x2048.size inb_S1x2048_S1x2048_0_0).toLoadRect (View.loadsAt_vmem h_S1x2048))
    let v45 : Vec F S512x2048 .bf16 ← Prog.lift (.load arg9 (Rect.unit (s := S512x2048) ![0, 0] S512x2048.size inb_S512x2048_S512x2048_0_0).toLoadRect (View.loadsAt_vmem h_S512x2048))
    Prog.lift (.store arg9 (Rect.unit (s := S512x2048) ![0, 0] S512x2048.size inb_S512x2048_S512x2048_0_0) (k0_pay1 v29 v30) Finset.univ (View.stores_vmem h_S512x2048 (harg9.storeExact_slice rfl _ packedbf16_S512x2048_S512x2048_0_0) (fun _ => rfl)) (.inl rfl))
    let v48 : Vec F S512x2048 .f32 ← Prog.lift (.load arg10 (Rect.unit (s := S512x2048) ![0, 0] S512x2048.size inb_S512x2048_S512x2048_0_0).toLoadRect (View.loadsAt_vmem h_S512x2048))
    Prog.lift (.store arg10 (Rect.unit (s := S512x2048) ![0, 0] S512x2048.size inb_S512x2048_S512x2048_0_0) (k0_pay0 v29) Finset.univ (View.stores_vmem_bits_univ h_S512x2048 rfl) (.inl rfl))
    pure ⟨⟩
  else do
    pure ⟨⟩
  let v3 : Vec F S512x2048 .bf16 ← Prog.lift (.load arg9 (Rect.unit (s := S512x2048) ![0, 0] S512x2048.size inb_S512x2048_S512x2048_0_0).toLoadRect (View.loadsAt_vmem h_S512x2048))
  let v4 : Vec F S1x2048x1024 .bf16 ← Prog.lift (.load arg4 (Rect.unit (s := S1x2048x1024) ![0, 0, 0] S1x2048x1024.size inb_S1x2048x1024_S1x2048x1024_0_0_0).toLoadRect (View.loadsAt_vmem h_S1x2048x1024))
  let v11 : Vec F S512x2048 .f32 ← Prog.lift (.load arg10 (Rect.unit (s := S512x2048) ![0, 0] S512x2048.size inb_S512x2048_S512x2048_0_0).toLoadRect (View.loadsAt_vmem h_S512x2048))
  let v12 : Vec F S1x1024x2048 .bf16 ← Prog.lift (.load arg5 (Rect.unit (s := S1x1024x2048) ![0, 0, 0] S1x1024x2048.size inb_S1x1024x2048_S1x1024x2048_0_0_0).toLoadRect (View.loadsAt_vmem h_S1x1024x2048))
  let v16 : Vec F S512x2048 .f32 ← Prog.lift (.load arg10 (Rect.unit (s := S512x2048) ![0, 0] S512x2048.size inb_S512x2048_S512x2048_0_0).toLoadRect (View.loadsAt_vmem h_S512x2048))
  Prog.lift (.store arg10 (Rect.unit (s := S512x2048) ![0, 0] S512x2048.size inb_S512x2048_S512x2048_0_0) (k0_pay2 v3 v4 v11 v12) Finset.univ (View.stores_vmem_bits_univ h_S512x2048 rfl) (.inl rfl))
  if k0_h2 : k0_cond2 i = 1#1 then do
    let v29 : Vec F S512x2048 .f32 ← Prog.lift (.load arg10 (Rect.unit (s := S512x2048) ![0, 0] S512x2048.size inb_S512x2048_S512x2048_0_0).toLoadRect (View.loadsAt_vmem h_S512x2048))
    let v30 : Vec F S1x2048 .f32 ← Prog.lift (.load arg6 (Rect.unit (s := S1x2048) ![0, 0] S1x2048.size inb_S1x2048_S1x2048_0_0).toLoadRect (View.loadsAt_vmem h_S1x2048))
    let v44 : Vec F S512x2048 .f32 ← Prog.lift (.load arg7 (Rect.unit (s := S512x2048) ![0, 0] S512x2048.size inb_S512x2048_S512x2048_0_0).toLoadRect (View.loadsAt_vmem h_S512x2048))
    Prog.lift (.store arg7 (Rect.unit (s := S512x2048) ![0, 0] S512x2048.size inb_S512x2048_S512x2048_0_0) (k0_pay3 v29 v30) Finset.univ (View.stores_vmem_bits_univ h_S512x2048 rfl) (.inl rfl))
    pure ⟨⟩
  else do
    pure ⟨⟩
  if k0_h3 : k0_cond3 i = 1#1 then do
    let v29 : Vec F S512x2048 .f32 ← Prog.lift (.load arg10 (Rect.unit (s := S512x2048) ![0, 0] S512x2048.size inb_S512x2048_S512x2048_0_0).toLoadRect (View.loadsAt_vmem h_S512x2048))
    let v30 : Vec F S1x2048 .f32 ← Prog.lift (.load arg6 (Rect.unit (s := S1x2048) ![0, 0] S1x2048.size inb_S1x2048_S1x2048_0_0).toLoadRect (View.loadsAt_vmem h_S1x2048))
    let v44 : Vec F S512x2048 .f32 ← Prog.lift (.load arg8 (Rect.unit (s := S512x2048) ![0, 0] S512x2048.size inb_S512x2048_S512x2048_0_0).toLoadRect (View.loadsAt_vmem h_S512x2048))
    Prog.lift (.store arg8 (Rect.unit (s := S512x2048) ![0, 0] S512x2048.size inb_S512x2048_S512x2048_0_0) (k0_pay3 v29 v30) Finset.univ (View.stores_vmem_bits_univ h_S512x2048 rfl) (.inl rfl))
    pure ⟨⟩
  else do
    pure ⟨⟩
  pure ⟨⟩

set_option maxRecDepth 65536 in
/-- The body is its memory operations over the payloads. -/
theorem skel_eq : cc0_mlp (F := F) = cc0_mlp_skel (F := F) := rfl

/-- The condition of the body's first branch: the block's first point. -/
abbrev cond0_0 (i : grid0.Coords) : Prop := (Scalar.cmpi .ne (Scalar.extui (Scalar.cmpi .eq (BitVec.ofNat 32 (i 1).val) 0#32)) 0#32) = 1#1

/-- The scratch of normalised rows and the scratch of the running sum. -/
abbrev scM0_0 : Memref sig .tc .vmem S512x2048 .bf16 := Memref.whole cc0_scratch0
abbrev scM0_1 : Memref sig .tc .vmem S512x2048 .f32 := Memref.whole cc0_scratch1
abbrev VS0_0 : View sig .tc .vmem S512x2048 .bf16 := scM0_0.view
abbrev VS0_1 : View sig .tc .vmem S512x2048 .f32 := scM0_1.view
abbrev VO0_5 : View sig .tc .vmem S512x2048 .f32 := (Memref.whole cc0_stg5_0 : Memref sig .tc .vmem S512x2048 .f32).view

set_option maxHeartbeats 1000000 in
/-- The body run at the first point of a block: both scratches are stored; what its stores leave is found as the lists of stored pieces. -/
noncomputable def runA (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : cond0_0 i) (h2 : ¬k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) :
    Σ' (LS0 : List (View.Piece (Elt F) S512x2048 .bf16)), { LS1 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10) K } := by
  refine ⟨?_, ?_, fun E K => ?run⟩
  case run =>
    simp only [skel_eq]; unfold cc0_mlp_skel
    unfold owns
    iintro ⟨⟨%f0, %hf0, H0⟩, ⟨%f1, %hf1, H1⟩, ⟨%f2, %hf2, H2⟩, ⟨%f3, %hf3, H3⟩, ⟨%f4, %hf4, H4⟩, ⟨%darg9, %farg9, -, HS0⟩, ⟨%darg10, %farg10, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; iexact HS0
    iexists _; iexact HS1

/-- The pieces cover the buffer they are stored in. -/
theorem covA_LS0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : cond0_0 i) (h2 : ¬k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) (y : S512x2048.Idx) :
    ∃ pc ∈ (runA c i arg2 harg2 arg3 harg3 arg4 harg4 arg5 harg5 arg6 harg6 arg7 harg7 arg8 harg8 arg9 harg9 arg10 harg10 h1 h2 h3 x0 x1 x2 x3 x4).1, y ∈ pc.1.set :=
  View.cover_of_tiledL (runA c i arg2 harg2 arg3 harg3 arg4 harg4 arg5 harg5 arg6 harg6 arg7 harg7 arg8 harg8 arg9 harg9 arg10 harg10 h1 h2 h3 x0 x1 x2 x3 x4).1 S512x2048.size (by sl_kernel_rfl) y

/-- The pieces read back over any earlier contents. -/
def rbA_LS0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : cond0_0 i) (h2 : ¬k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) : Vec F S512x2048 .bf16 :=
  VS0_0.read (Elt F) (VS0_0.writes (Elt F) VS0_0.junk (runA c i arg2 harg2 arg3 harg3 arg4 harg4 arg5 harg5 arg6 harg6 arg7 harg7 arg8 harg8 arg9 harg9 arg10 harg10 h1 h2 h3 x0 x1 x2 x3 x4).1)

/-- What is read back is the payload. -/
theorem valA_LS0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : cond0_0 i) (h2 : ¬k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) :
    rbA_LS0 c i arg2 harg2 arg3 harg3 arg4 harg4 arg5 harg5 arg6 harg6 arg7 harg7 arg8 harg8 arg9 harg9 arg10 harg10 h1 h2 h3 x0 x1 x2 x3 x4 = k0_pay1 x0 x1 := by
  frame_out

/-- The pieces cover the buffer they are stored in. -/
theorem covA_LS1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : cond0_0 i) (h2 : ¬k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) (y : S512x2048.Idx) :
    ∃ pc ∈ (runA c i arg2 harg2 arg3 harg3 arg4 harg4 arg5 harg5 arg6 harg6 arg7 harg7 arg8 harg8 arg9 harg9 arg10 harg10 h1 h2 h3 x0 x1 x2 x3 x4).2.1, y ∈ pc.1.set :=
  View.cover_of_tiledL (runA c i arg2 harg2 arg3 harg3 arg4 harg4 arg5 harg5 arg6 harg6 arg7 harg7 arg8 harg8 arg9 harg9 arg10 harg10 h1 h2 h3 x0 x1 x2 x3 x4).2.1 S512x2048.size (by sl_kernel_rfl) y

/-- The pieces read back over any earlier contents. -/
def rbA_LS1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : cond0_0 i) (h2 : ¬k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) : Vec F S512x2048 .f32 :=
  VS0_1.read (Elt F) (VS0_1.writes (Elt F) VS0_1.junk (runA c i arg2 harg2 arg3 harg3 arg4 harg4 arg5 harg5 arg6 harg6 arg7 harg7 arg8 harg8 arg9 harg9 arg10 harg10 h1 h2 h3 x0 x1 x2 x3 x4).2.1)

/-- What is read back is the payload. -/
theorem valA_LS1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : cond0_0 i) (h2 : ¬k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) :
    rbA_LS1 c i arg2 harg2 arg3 harg3 arg4 harg4 arg5 harg5 arg6 harg6 arg7 harg7 arg8 harg8 arg9 harg9 arg10 harg10 h1 h2 h3 x0 x1 x2 x3 x4 = k0_pay2 (k0_pay1 x0 x1) x2 (k0_pay0 x0) x3 := by
  frame_out

set_option maxHeartbeats 1000000 in
/-- The body run at a middle point of a block: the running sum is stored; what its stores leave is found as the lists of stored pieces. -/
noncomputable def runB (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : ¬k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) :
    { LS1 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg9 fullShare xs0 ∗ (∃ f, arg10.view.loc (c : Thread nD τ) ↦[arg10.view.set]{fullShare} arg10.view.writes (Elt F) f LS1)) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10) K } := by
  refine ⟨?_, fun E K => ?run⟩
  case run =>
    simp only [skel_eq]; unfold cc0_mlp_skel
    unfold owns
    iintro ⟨⟨%f0, %hf0, H0⟩, ⟨%f1, %hf1, H1⟩, ⟨%f2, %hf2, H2⟩, ⟨%f3, %hf3, H3⟩, ⟨%f4, %hf4, H4⟩, ⟨%farg9, %hfarg9, HS0⟩, ⟨%farg10, %hfarg10, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfarg9; obtain rfl := harg10.eq_unread hfarg10
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; · ipureintro; exact harg9.read_unread _
      iexact HS0
    iexists _; iexact HS1

/-- The pieces cover the buffer they are stored in. -/
theorem covB_LS1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : ¬k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) (y : S512x2048.Idx) :
    ∃ pc ∈ (runB c i arg2 harg2 arg3 harg3 arg4 harg4 arg5 harg5 arg6 harg6 arg7 harg7 arg8 harg8 arg9 harg9 arg10 harg10 h1 h2 h3 x0 x1 x2 x3 x4 xs0 xs1).1, y ∈ pc.1.set :=
  View.cover_of_tiledL (runB c i arg2 harg2 arg3 harg3 arg4 harg4 arg5 harg5 arg6 harg6 arg7 harg7 arg8 harg8 arg9 harg9 arg10 harg10 h1 h2 h3 x0 x1 x2 x3 x4 xs0 xs1).1 S512x2048.size (by sl_kernel_rfl) y

/-- The pieces read back over any earlier contents. -/
def rbB_LS1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : ¬k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) : Vec F S512x2048 .f32 :=
  VS0_1.read (Elt F) (VS0_1.writes (Elt F) VS0_1.junk (runB c i arg2 harg2 arg3 harg3 arg4 harg4 arg5 harg5 arg6 harg6 arg7 harg7 arg8 harg8 arg9 harg9 arg10 harg10 h1 h2 h3 x0 x1 x2 x3 x4 xs0 xs1).1)

/-- What is read back is the payload. -/
theorem valB_LS1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : ¬k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) :
    rbB_LS1 c i arg2 harg2 arg3 harg3 arg4 harg4 arg5 harg5 arg6 harg6 arg7 harg7 arg8 harg8 arg9 harg9 arg10 harg10 h1 h2 h3 x0 x1 x2 x3 x4 xs0 xs1 = k0_pay2 xs0 x2 xs1 x3 := by
  frame_out

set_option maxHeartbeats 1000000 in
/-- The body run at the last point of a block of the first result: the running sum and the result are stored; what its stores leave is found as the lists of stored pieces. -/
noncomputable def runC (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) :
    Σ' (LS1 : List (View.Piece (Elt F) S512x2048 .f32)), { L5 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg9 fullShare xs0 ∗ owns (c : Thread nD τ) arg10 fullShare xs1 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg9 fullShare xs0 ∗ (∃ f, arg10.view.loc (c : Thread nD τ) ↦[arg10.view.set]{fullShare} arg10.view.writes (Elt F) f LS1) ∗ (∃ f, arg7.view.loc (c : Thread nD τ) ↦[arg7.view.set]{fullShare} arg7.view.writes (Elt F) f L5)) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10) K } := by
  refine ⟨?_, ?_, fun E K => ?run⟩
  case run =>
    simp only [skel_eq]; unfold cc0_mlp_skel
    unfold owns
    iintro ⟨⟨%f0, %hf0, H0⟩, ⟨%f1, %hf1, H1⟩, ⟨%f2, %hf2, H2⟩, ⟨%f3, %hf3, H3⟩, ⟨%f4, %hf4, H4⟩, ⟨%farg9, %hfarg9, HS0⟩, ⟨%farg10, %hfarg10, HS1⟩, ⟨%darg7, %farg7, -, H5⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfarg9; obtain rfl := harg10.eq_unread hfarg10
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; · ipureintro; exact harg9.read_unread _
      iexact HS0
    isplitl [HS1]
    · iexists _; iexact HS1
    iexists _; iexact H5

/-- The pieces cover the buffer they are stored in. -/
theorem covC_LS1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) (y : S512x2048.Idx) :
    ∃ pc ∈ (runC c i arg2 harg2 arg3 harg3 arg4 harg4 arg5 harg5 arg6 harg6 arg7 harg7 arg8 harg8 arg9 harg9 arg10 harg10 h1 h2 h3 x0 x1 x2 x3 x4 xs0 xs1).1, y ∈ pc.1.set :=
  View.cover_of_tiledL (runC c i arg2 harg2 arg3 harg3 arg4 harg4 arg5 harg5 arg6 harg6 arg7 harg7 arg8 harg8 arg9 harg9 arg10 harg10 h1 h2 h3 x0 x1 x2 x3 x4 xs0 xs1).1 S512x2048.size (by sl_kernel_rfl) y

/-- The pieces read back over any earlier contents. -/
def rbC_LS1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) : Vec F S512x2048 .f32 :=
  VS0_1.read (Elt F) (VS0_1.writes (Elt F) VS0_1.junk (runC c i arg2 harg2 arg3 harg3 arg4 harg4 arg5 harg5 arg6 harg6 arg7 harg7 arg8 harg8 arg9 harg9 arg10 harg10 h1 h2 h3 x0 x1 x2 x3 x4 xs0 xs1).1)

/-- What is read back is the payload. -/
theorem valC_LS1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) :
    rbC_LS1 c i arg2 harg2 arg3 harg3 arg4 harg4 arg5 harg5 arg6 harg6 arg7 harg7 arg8 harg8 arg9 harg9 arg10 harg10 h1 h2 h3 x0 x1 x2 x3 x4 xs0 xs1 = k0_pay2 xs0 x2 xs1 x3 := by
  frame_out

/-- The pieces cover the buffer they are stored in. -/
theorem covC_L5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) (y : S512x2048.Idx) :
    ∃ pc ∈ (runC c i arg2 harg2 arg3 harg3 arg4 harg4 arg5 harg5 arg6 harg6 arg7 harg7 arg8 harg8 arg9 harg9 arg10 harg10 h1 h2 h3 x0 x1 x2 x3 x4 xs0 xs1).2.1, y ∈ pc.1.set :=
  View.cover_of_tiledL (runC c i arg2 harg2 arg3 harg3 arg4 harg4 arg5 harg5 arg6 harg6 arg7 harg7 arg8 harg8 arg9 harg9 arg10 harg10 h1 h2 h3 x0 x1 x2 x3 x4 xs0 xs1).2.1 S512x2048.size (by sl_kernel_rfl) y

/-- The pieces read back over any earlier contents. -/
def rbC_L5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) : Vec F S512x2048 .f32 :=
  VO0_5.read (Elt F) (VO0_5.writes (Elt F) VO0_5.junk (runC c i arg2 harg2 arg3 harg3 arg4 harg4 arg5 harg5 arg6 harg6 arg7 harg7 arg8 harg8 arg9 harg9 arg10 harg10 h1 h2 h3 x0 x1 x2 x3 x4 xs0 xs1).2.1)

/-- What is read back is the payload. -/
theorem valC_L5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : k0_cond2 i = 1#1) (h3 : ¬k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) :
    rbC_L5 c i arg2 harg2 arg3 harg3 arg4 harg4 arg5 harg5 arg6 harg6 arg7 harg7 arg8 harg8 arg9 harg9 arg10 harg10 h1 h2 h3 x0 x1 x2 x3 x4 xs0 xs1 = k0_pay3 (k0_pay2 xs0 x2 xs1 x3) x4 := by
  frame_out

set_option maxHeartbeats 1000000 in
/-- The body run at the last point of a block of the second result: the running sum and the result are stored; what its stores leave is found as the lists of stored pieces. -/
noncomputable def runD (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : ¬k0_cond2 i = 1#1) (h3 : k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) :
    Σ' (LS1 : List (View.Piece (Elt F) S512x2048 .f32)), { L6 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg9 fullShare xs0 ∗ owns (c : Thread nD τ) arg10 fullShare xs1 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg9 fullShare xs0 ∗ (∃ f, arg10.view.loc (c : Thread nD τ) ↦[arg10.view.set]{fullShare} arg10.view.writes (Elt F) f LS1) ∗ (∃ f, arg8.view.loc (c : Thread nD τ) ↦[arg8.view.set]{fullShare} arg8.view.writes (Elt F) f L6)) -∗ K ⟨⟩))
          ⊢ wp frame (wpE (defs₀ (F := F)) Variants.none c none) E (cc0_mlp i arg2 harg2 arg3 harg3 arg4 harg4 arg5 harg5 arg6 harg6 arg7 harg7 arg8 harg8 arg9 harg9 arg10 harg10) K } := by
  refine ⟨?_, ?_, fun E K => ?run⟩
  case run =>
    simp only [skel_eq]; unfold cc0_mlp_skel
    unfold owns
    iintro ⟨⟨%f0, %hf0, H0⟩, ⟨%f1, %hf1, H1⟩, ⟨%f2, %hf2, H2⟩, ⟨%f3, %hf3, H3⟩, ⟨%f4, %hf4, H4⟩, ⟨%farg9, %hfarg9, HS0⟩, ⟨%farg10, %hfarg10, HS1⟩, ⟨%darg8, %farg8, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfarg9; obtain rfl := harg10.eq_unread hfarg10
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; · ipureintro; exact harg9.read_unread _
      iexact HS0
    isplitl [HS1]
    · iexists _; iexact HS1
    iexists _; iexact H6

/-- The pieces cover the buffer they are stored in. -/
theorem covD_LS1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : ¬k0_cond2 i = 1#1) (h3 : k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) (y : S512x2048.Idx) :
    ∃ pc ∈ (runD c i arg2 harg2 arg3 harg3 arg4 harg4 arg5 harg5 arg6 harg6 arg7 harg7 arg8 harg8 arg9 harg9 arg10 harg10 h1 h2 h3 x0 x1 x2 x3 x4 xs0 xs1).1, y ∈ pc.1.set :=
  View.cover_of_tiledL (runD c i arg2 harg2 arg3 harg3 arg4 harg4 arg5 harg5 arg6 harg6 arg7 harg7 arg8 harg8 arg9 harg9 arg10 harg10 h1 h2 h3 x0 x1 x2 x3 x4 xs0 xs1).1 S512x2048.size (by sl_kernel_rfl) y

/-- The pieces read back over any earlier contents. -/
def rbD_LS1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : ¬k0_cond2 i = 1#1) (h3 : k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) : Vec F S512x2048 .f32 :=
  VS0_1.read (Elt F) (VS0_1.writes (Elt F) VS0_1.junk (runD c i arg2 harg2 arg3 harg3 arg4 harg4 arg5 harg5 arg6 harg6 arg7 harg7 arg8 harg8 arg9 harg9 arg10 harg10 h1 h2 h3 x0 x1 x2 x3 x4 xs0 xs1).1)

/-- What is read back is the payload. -/
theorem valD_LS1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : ¬k0_cond2 i = 1#1) (h3 : k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) :
    rbD_LS1 c i arg2 harg2 arg3 harg3 arg4 harg4 arg5 harg5 arg6 harg6 arg7 harg7 arg8 harg8 arg9 harg9 arg10 harg10 h1 h2 h3 x0 x1 x2 x3 x4 xs0 xs1 = k0_pay2 xs0 x2 xs1 x3 := by
  frame_out

/-- The pieces cover the buffer they are stored in. -/
theorem covD_L6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : ¬k0_cond2 i = 1#1) (h3 : k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) (y : S512x2048.Idx) :
    ∃ pc ∈ (runD c i arg2 harg2 arg3 harg3 arg4 harg4 arg5 harg5 arg6 harg6 arg7 harg7 arg8 harg8 arg9 harg9 arg10 harg10 h1 h2 h3 x0 x1 x2 x3 x4 xs0 xs1).2.1, y ∈ pc.1.set :=
  View.cover_of_tiledL (runD c i arg2 harg2 arg3 harg3 arg4 harg4 arg5 harg5 arg6 harg6 arg7 harg7 arg8 harg8 arg9 harg9 arg10 harg10 h1 h2 h3 x0 x1 x2 x3 x4 xs0 xs1).2.1 S512x2048.size (by sl_kernel_rfl) y

/-- The pieces read back over any earlier contents. -/
def rbD_L6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : ¬k0_cond2 i = 1#1) (h3 : k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) : Vec F S512x2048 .f32 :=
  VO0_5.read (Elt F) (VO0_5.writes (Elt F) VO0_5.junk (runD c i arg2 harg2 arg3 harg3 arg4 harg4 arg5 harg5 arg6 harg6 arg7 harg7 arg8 harg8 arg9 harg9 arg10 harg10 h1 h2 h3 x0 x1 x2 x3 x4 xs0 xs1).2.1)

/-- What is read back is the payload. -/
theorem valD_L6 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S1x1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .bf16) (harg9 : arg9.IsWhole) (arg10 : Memref sig .tc .vmem S512x2048 .f32) (harg10 : arg10.IsWhole) (h1 : ¬cond0_0 i) (h2 : ¬k0_cond2 i = 1#1) (h3 : k0_cond3 i = 1#1)
    (x0 : Vec F S512x2048 .f32) (x1 : Vec F S1x2048 .f32) (x2 : Vec F S1x2048x1024 .bf16) (x3 : Vec F S1x1024x2048 .bf16) (x4 : Vec F S1x2048 .f32) (xs0 : Vec F S512x2048 .bf16) (xs1 : Vec F S512x2048 .f32) :
    rbD_L6 c i arg2 harg2 arg3 harg3 arg4 harg4 arg5 harg5 arg6 harg6 arg7 harg7 arg8 harg8 arg9 harg9 arg10 harg10 h1 h2 h3 x0 x1 x2 x3 x4 xs0 xs1 = k0_pay3 (k0_pay2 xs0 x2 xs1 x3) x4 := by
  frame_out

end Cert.MlpFinalIdeal.Body

end
-- ==== Proof.MlpFinalIdealFrame.lean ====
/- Hand-written: the last network call from any memory: what its buffers hold after each grid point, and its run. -/
module
public import proofs.«01_k».proof.Proof.MlpFinalIdealRun
public import Idealize.ShloMosaic.Lib.Pipeline.Value
public import Idealize.ShloMosaic.Lib.Pipeline.ValueKit
public import Idealize.ShloMosaic.Lib.Pipeline.TableIdle

@[expose] public section

set_option maxRecDepth 16384

noncomputable section

namespace Cert.MlpFinalIdeal.Body

open Cert.MlpFinalIdeal Cert.MlpFinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .f32 := win0_6.stage (cfg0.slots t 6)
abbrev hs0_6 (t : Fin cfg0.N) : (ms0_6 t).IsWhole := hstage0_6 ((cfg0.slots t 6).cast nbuf0_6)

/-- What is known between points: the two scratches held whole, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The first branch is taken at the first point of a block. -/
theorem hc1 : ∀ t : Fin cfg0.N, cond0_0 (grid0.coords t) ↔ t.val % 8 = 0 :=
  (by decide +kernel : ∀ t : Fin grid0.N, _)

/-- The second branch is taken at the last point of a block of the first result. -/
theorem hc2 : ∀ t : Fin cfg0.N, k0_cond2 (grid0.coords t) = 1#1 ↔ t.val % 8 = 7 ∧ t.val < 256 :=
  (by decide +kernel : ∀ t : Fin grid0.N, _)

/-- The third branch is taken at the last point of a block of the second result. -/
theorem hc3 : ∀ t : Fin cfg0.N, k0_cond3 (grid0.coords t) = 1#1 ↔ t.val % 8 = 7 ∧ 256 ≤ t.val :=
  (by decide +kernel : ∀ t : Fin grid0.N, _)

/-- The first result's blocks are written back at their last points, the last block at the grid's last point. -/
theorem flush5 : ∀ t : Fin cfg0.N, (cfg0.win 5).flush t = true ↔ (t.val % 8 = 7 ∧ t.val < 248) ∨ t.val = 287 :=
  (by decide +kernel : ∀ t : Fin grid0.N, win0_5.flush t = true ↔ (t.val % 8 = 7 ∧ t.val < 248) ∨ t.val = 287)

/-- The second result's blocks are written back at their last points. -/
theorem flush6 : ∀ t : Fin cfg0.N, (cfg0.win 6).flush t = true ↔ t.val % 8 = 7 ∧ 256 ≤ t.val :=
  (by decide +kernel : ∀ t : Fin grid0.N, win0_6.flush t = true ↔ t.val % 8 = 7 ∧ 256 ≤ t.val)

/-- Where the body leaves this result's buffer alone. -/
theorem idle5 (t : Fin cfg0.N) : cfg0.idle 5 (cfg0.grid.coords t) = true ↔ ¬(t.val % 8 = 7 ∧ t.val < 256) := by
  rw [← hc2 t]
  show (!(k0_cond2 (grid0.coords t) == 1#1)) = true ↔ _
  simp

/-- Where the body leaves this result's buffer alone. -/
theorem idle6 (t : Fin cfg0.N) : cfg0.idle 6 (cfg0.grid.coords t) = true ↔ ¬(t.val % 8 = 7 ∧ 256 ≤ t.val) := by
  rw [← hc3 t]
  show (!(k0_cond3 (grid0.coords t) == 1#1)) = true ↔ _
  simp

/-! ## What the scratches hold after each point -/

/-- After the first point of a block. -/
def scFirst (c : Dev nD) (t : Fin cfg0.N) : Vec F S512x2048 .bf16 × Vec F S512x2048 .f32 :=
  (k0_pay1 (iblk m c 0 t) (iblk m c 1 t), k0_pay2 (k0_pay1 (iblk m c 0 t) (iblk m c 1 t)) (iblk m c 2 t) (k0_pay0 (iblk m c 0 t)) (iblk m c 3 t))

/-- After a later point, over what the point before left. -/
def scNext (c : Dev nD) (t : Fin cfg0.N) (p : Vec F S512x2048 .bf16 × Vec F S512x2048 .f32) : Vec F S512x2048 .bf16 × Vec F S512x2048 .f32 :=
  (p.1, k0_pay2 p.1 (iblk m c 2 t) p.2 (iblk m c 3 t))

/-- The normalised rows and the running sum after the point `n`. -/
def sc (c : Dev nD) : (n : ℕ) → n < cfg0.N → Vec F S512x2048 .bf16 × Vec F S512x2048 .f32
  | 0, h => scFirst m c ⟨0, h⟩
  | n + 1, h => if (n + 1) % 8 = 0 then scFirst m c ⟨n + 1, h⟩ else scNext m c ⟨n + 1, h⟩ (sc c n (Nat.lt_of_succ_lt h))

/-- The scratches after a block's first point. -/
theorem sc_first (c : Dev nD) (t : Fin cfg0.N) (h0 : t.val % 8 = 0) : sc m c t.val t.isLt = scFirst m c t := by
  obtain ⟨n, hn⟩ := t
  cases n with
  | zero => exact rfl
  | succ n => exact (if_pos h0).trans rfl

/-- The scratches after a later point. -/
theorem sc_next (c : Dev nD) (t : Fin cfg0.N) (h0 : ¬t.val % 8 = 0) :
    sc m c t.val t.isLt = scNext m c t (sc m c (t.val - 1) (Nat.lt_of_le_of_lt (Nat.sub_le _ _) t.isLt)) := by
  obtain ⟨n, hn⟩ := t
  cases n with
  | zero => exact absurd (Nat.zero_mod _) h0
  | succ n => exact (if_neg h0).trans rfl

/-- The normalised running sum after the point `t`. -/
def fin (c : Dev nD) (t : Fin cfg0.N) : Vec F S512x2048 .f32 := k0_pay3 (sc m c t.val t.isLt).2 (iblk m c 4 t)

/-- The point that last stored into the first result's buffer, from the grid's point 255 on. -/
def clip (t : Fin cfg0.N) : Fin cfg0.N := ⟨min t.val 255, Nat.lt_of_le_of_lt (Nat.min_le_left _ _) t.isLt⟩

/-- The invariant before the position `n`: before the first point the scratches hold anything, afterwards what the point before left. -/
def PhiS (c : Dev nD) : (n : ℕ) → n ≤ cfg0.N → sProp 𝕄
  | 0, _ => Pipeline.ΦA spec0 c
  | n + 1, hn => iprop(iprop(owns (c : Thread nD τ) scM0_0 fullShare ((sc m c n hn).1) ∗ owns (c : Thread nD τ) scM0_1 fullShare ((sc m c n hn).2)) ∗ (∃ r, prngReg c r))

/-- The invariant at this position, spelled out. -/
theorem PhiS_zero (c : Dev nD) (n : ℕ) (h : n ≤ cfg0.N) (hz : n = 0) : PhiS m c n h = Pipeline.ΦA spec0 c := by
  subst hz; rfl

/-- The invariant at this position, spelled out. -/
theorem PhiS_succ (c : Dev nD) (n : ℕ) (hn : n < cfg0.N) :
    PhiS m c (n + 1) hn = iprop(iprop(owns (c : Thread nD τ) scM0_0 fullShare ((sc m c n hn).1) ∗ owns (c : Thread nD τ) scM0_1 fullShare ((sc m c n hn).2)) ∗ (∃ r, prngReg c r)) := rfl

/-- The invariant at this position, spelled out. -/
theorem PhiS_pos (c : Dev nD) (n : ℕ) (h : n ≤ cfg0.N) (hz : n ≠ 0) :
    PhiS m c n h = iprop(iprop(owns (c : Thread nD τ) scM0_0 fullShare ((sc m c (n - 1) (by omega)).1) ∗ owns (c : Thread nD τ) scM0_1 fullShare ((sc m c (n - 1) (by omega)).2)) ∗ (∃ r, prngReg c r)) := by
  cases n with
  | zero => exact absurd rfl hz
  | succ n => rfl

/-- After any point, the invariant gives the scratches at some contents. -/
theorem PhiS_any (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    iintro ⟨⟨HS0, HS1⟩, Hg⟩
    isplitl [HS0 HS1]
    · isplitl [HS0]
      · iexists _; iexact HS0
      iexists _; iexact HS1
    iexact Hg

/-- The pipeline's data: the arrays as found; each input's buffer at its block, the results' buffers at the normalised sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fin m c (clip t)
    | ⟨6, _⟩ => fin m c t
  Φ t := PhiS m c t.val (Nat.le_of_lt_succ t.isLt)
  q _ := fullShare
  owed _ := 0

/-- The arrays the data starts from. -/
theorem A_eq (c : Dev nD) (w : Fin cfg0.W) : (dats m 0 c).A w = V m c (Pipeline.arrRef spec0 w) := by
  dsimp only [dats]

/-- The invariant at this position, spelled out. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What this window's buffer holds after a point. -/
theorem after0_0 (c : Dev nD) (t : Fin cfg0.N) : (dats m 0 c).after 0 t = iblk m c 0 t := by dsimp only [dats]
/-- What this window's buffer holds after a point. -/
theorem after0_1 (c : Dev nD) (t : Fin cfg0.N) : (dats m 0 c).after 1 t = iblk m c 1 t := by dsimp only [dats]
/-- What this window's buffer holds after a point. -/
theorem after0_2 (c : Dev nD) (t : Fin cfg0.N) : (dats m 0 c).after 2 t = iblk m c 2 t := by dsimp only [dats]
/-- What this window's buffer holds after a point. -/
theorem after0_3 (c : Dev nD) (t : Fin cfg0.N) : (dats m 0 c).after 3 t = iblk m c 3 t := by dsimp only [dats]
/-- What this window's buffer holds after a point. -/
theorem after0_4 (c : Dev nD) (t : Fin cfg0.N) : (dats m 0 c).after 4 t = iblk m c 4 t := by dsimp only [dats]
/-- What this window's buffer holds after a point. -/
theorem after0_5 (c : Dev nD) (t : Fin cfg0.N) : (dats m 0 c).after 5 t = fin m c (clip t) := by dsimp only [dats]
/-- What this window's buffer holds after a point. -/
theorem after0_6 (c : Dev nD) (t : Fin cfg0.N) : (dats m 0 c).after 6 t = fin m c t := by dsimp only [dats]

/-- What this input's buffer holds before a point. -/
theorem before0_0 (c : Dev nD) (t : Fin cfg0.N) (d) : (dats m 0 c).before 0 t d = iblk m c 0 t :=
  before0_0_of m (dats m 0 c) (A_eq m c 0) (after0_0 m c) t d
/-- What this input's buffer holds before a point. -/
theorem before0_1 (c : Dev nD) (t : Fin cfg0.N) (d) : (dats m 0 c).before 1 t d = iblk m c 1 t :=
  before0_1_of m (dats m 0 c) (A_eq m c 1) (after0_1 m c) t d
/-- What this input's buffer holds before a point. -/
theorem before0_2 (c : Dev nD) (t : Fin cfg0.N) (d) : (dats m 0 c).before 2 t d = iblk m c 2 t :=
  before0_2_of m (dats m 0 c) (A_eq m c 2) (after0_2 m c) t d
/-- What this input's buffer holds before a point. -/
theorem before0_3 (c : Dev nD) (t : Fin cfg0.N) (d) : (dats m 0 c).before 3 t d = iblk m c 3 t :=
  before0_3_of m (dats m 0 c) (A_eq m c 3) (after0_3 m c) t d
/-- What this input's buffer holds before a point. -/
theorem before0_4 (c : Dev nD) (t : Fin cfg0.N) (d) : (dats m 0 c).before 4 t d = iblk m c 4 t :=
  before0_4_of m (dats m 0 c) (A_eq m c 4) (after0_4 m c) t d

/-- At the grid's last point the first result's buffer still holds what the point 255 stored. -/
theorem before5_last (c : Dev nD) (t : Fin cfg0.N) (ht : t.val = 287) (d) : (dats m 0 c).before 5 t d = fin m c (clip t) := by
  have hN : cfg0.N = 288 := N_0
  rw [(dats m 0 c).before_idle_run 5 (fun _ => rfl) d 31 t (by omega) (fun j h1 h2 => ⟨(idle5 j).mpr (by omega), Bool.eq_false_iff.mpr fun h => by
    have := (flush5 j).mp h; omega⟩)]
  have e : ∀ s : Fin cfg0.N, s.val = 256 → (dats m 0 c).before 5 s d = fin m c (clip t) := by
    intro s hs
    rw [Dat.before_of_pos _ 5 s (by omega) rfl, if_neg (fun h => by have := (flush5 _).mp h; dsimp only at this; omega)]
    unfold Dat.left
    have hi : cfg0.idle 5 (cfg0.grid.coords ⟨s.val - 1, Nat.lt_of_le_of_lt (Nat.sub_le _ _) s.isLt⟩) = false :=
      Bool.eq_false_iff.mpr fun h => (idle5 _).mp h (by dsimp only; omega)
    rw [hi]
    show (dats m 0 c).after 5 _ = _
    rw [after0_5]
    refine congrArg (fin m c) (Fin.ext ?_)
    show min (s.val - 1) 255 = min t.val 255
    omega
  exact e _ (by show t.val - 31 = 256; omega)

/-! ## The body obligation -/

/-- What the body leaves in a result's buffer: at a point that does not store it, what it found, unless the block is written back there. -/
def left0 (w : Fin cfg0.W) (c : Dev nD) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- A buffer the body did not touch is left as required. -/
theorem left5_idle (c : Dev nD) (t : Fin cfg0.N) (h : ¬(t.val % 8 = 7 ∧ t.val < 256)) (d) :
    (owns (c : Thread nD τ) (ms0_5 t) fullShare ((dats m 0 c).before 5 t d) : sProp 𝕄) ⊢ left0 m 5 c t := by
  unfold left0
  rw [(idle5 t).mpr h]
  dsimp only
  by_cases hl : t.val = 287
  · rw [(flush5 t).mpr (Or.inr hl)]
    dsimp only
    rw [before5_last m c t hl, after0_5]
  · have hf : (cfg0.win 5).flush t = false := Bool.eq_false_iff.mpr fun hf => by have := (flush5 t).mp hf; omega
    rw [hf]
    dsimp only
    iintro H
    iexists d
    iexact H

/-- A buffer the body did not touch is left as required. -/
theorem left6_idle (c : Dev nD) (t : Fin cfg0.N) (h : ¬(t.val % 8 = 7 ∧ 256 ≤ t.val)) (d) :
    (owns (c : Thread nD τ) (ms0_6 t) fullShare ((dats m 0 c).before 6 t d) : sProp 𝕄) ⊢ left0 m 6 c t := by
  unfold left0
  rw [(idle6 t).mpr h, Bool.eq_false_iff.mpr fun hf => h ((flush6 t).mp hf)]
  dsimp only
  iintro H
  iexists d
  iexact H

/-- A buffer the body stored is left as required. -/
theorem left5_live (c : Dev nD) (t : Fin cfg0.N) (h : t.val % 8 = 7 ∧ t.val < 256) :
    (owns (c : Thread nD τ) (ms0_5 t) fullShare (fin m c t) : sProp 𝕄) ⊢ left0 m 5 c t := by
  unfold left0
  rw [Bool.eq_false_iff.mpr fun hi => (idle5 t).mp hi h]
  dsimp only
  rw [after0_5, show clip t = t from Fin.ext (show min t.val 255 = t.val by omega)]

/-- A buffer the body stored is left as required. -/
theorem left6_live (c : Dev nD) (t : Fin cfg0.N) (h : t.val % 8 = 7 ∧ 256 ≤ t.val) :
    (owns (c : Thread nD τ) (ms0_6 t) fullShare (fin m c t) : sProp 𝕄) ⊢ left0 m 6 c t := by
  unfold left0
  rw [Bool.eq_false_iff.mpr fun hi => (idle6 t).mp hi h]
  dsimp only
  rw [after0_6]

/-- What the body is called with at the point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ left0 m 5 c t ∗ left0 m 6 c t)

set_option maxHeartbeats 3200000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 288 := lt_of_lt_of_eq t.isLt (show cfg0.N = 288 from N_0)
  by_cases h0 : t.val % 8 = 0
  · have h5 : ¬(t.val % 8 = 7 ∧ t.val < 256) := by omega
    have h6 : ¬(t.val % 8 = 7 ∧ 256 ≤ t.val) := by omega
    rw [PhiS_castSucc m c t]
    refine (sep_mono_left (PhiS_any m c _ _)).trans ?_
    rw [PhiA0_eq, sc_first m c t h0]
    unfold scFirst
    dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hc1 t).mpr h0) (fun h => h5 ((hc2 t).mp h)) (fun h => h6 ((hc3 t).mp h)) (iblk m c 0 t) (iblk m c 1 t) (iblk m c 2 t) (iblk m c 3 t) (iblk m c 4 t)).2.2 Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%earg9, HS0⟩, ⟨%earg10, HS1⟩⟩
    isplitl [HS0 HS1 Hg]
    · isplitl [HS0 HS1]
      · isplitl [HS0]
        · unfold owns; iexists _; isplitr
          swap; · iexact HS0
          ipureintro; exact (View.read_writes_of_cover _ _ _ _ _ (covA_LS0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hc1 t).mpr h0) (fun h => h5 ((hc2 t).mp h)) (fun h => h6 ((hc3 t).mp h)) (iblk m c 0 t) (iblk m c 1 t) (iblk m c 2 t) (iblk m c 3 t) (iblk m c 4 t))).trans (valA_LS0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hc1 t).mpr h0) (fun h => h5 ((hc2 t).mp h)) (fun h => h6 ((hc3 t).mp h)) (iblk m c 0 t) (iblk m c 1 t) (iblk m c 2 t) (iblk m c 3 t) (iblk m c 4 t))
        unfold owns; iexists _; isplitr
        swap; · iexact HS1
        ipureintro; exact (View.read_writes_of_cover _ _ _ _ _ (covA_LS1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hc1 t).mpr h0) (fun h => h5 ((hc2 t).mp h)) (fun h => h6 ((hc3 t).mp h)) (iblk m c 0 t) (iblk m c 1 t) (iblk m c 2 t) (iblk m c 3 t) (iblk m c 4 t))).trans (valA_LS1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hc1 t).mpr h0) (fun h => h5 ((hc2 t).mp h)) (fun h => h6 ((hc3 t).mp h)) (iblk m c 0 t) (iblk m c 1 t) (iblk m c 2 t) (iblk m c 3 t) (iblk m c 4 t))
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (left5_idle m c t h5 d5); iexact H5
    · iapply (left6_idle m c t h6 d6); iexact H6
  · have hz : t.val ≠ 0 := fun h => h0 (by rw [h])
    by_cases h7 : t.val % 8 = 7
    · by_cases hs : t.val < 256
      · have h5 : t.val % 8 = 7 ∧ t.val < 256 := ⟨h7, hs⟩
        have h6 : ¬(t.val % 8 = 7 ∧ 256 ≤ t.val) := by omega
        rw [PhiS_castSucc m c t, PhiS_pos m c _ _ hz, sc_next m c t h0]
        unfold scNext
        dsimp only
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hc1 t).mp h)) ((hc2 t).mpr h5) (fun h => h6 ((hc3 t).mp h)) (iblk m c 0 t) (iblk m c 1 t) (iblk m c 2 t) (iblk m c 3 t) (iblk m c 4 t) (sc m c (t.val - 1) (Nat.lt_of_le_of_lt (Nat.sub_le _ _) t.isLt)).1 (sc m c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [H5]; · iexists _; iexact H5
        iintro ⟨H0, H1, H2, H3, H4, HS0, ⟨%earg10, HS1⟩, ⟨%earg7, H5⟩⟩
        isplitl [HS0 HS1 Hg]
        · isplitl [HS0 HS1]
          · isplitl [HS0]
            · iexact HS0
            unfold owns; iexists _; isplitr
            swap; · iexact HS1
            ipureintro; exact (View.read_writes_of_cover _ _ _ _ _ (covC_LS1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hc1 t).mp h)) ((hc2 t).mpr h5) (fun h => h6 ((hc3 t).mp h)) (iblk m c 0 t) (iblk m c 1 t) (iblk m c 2 t) (iblk m c 3 t) (iblk m c 4 t) (sc m c (t.val - 1) (Nat.lt_of_le_of_lt (Nat.sub_le _ _) t.isLt)).1 (sc m c (t.val - 1) (Nat.lt_of_le_of_lt (Nat.sub_le _ _) t.isLt)).2)).trans (valC_LS1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hc1 t).mp h)) ((hc2 t).mpr h5) (fun h => h6 ((hc3 t).mp h)) (iblk m c 0 t) (iblk m c 1 t) (iblk m c 2 t) (iblk m c 3 t) (iblk m c 4 t) (sc m c (t.val - 1) (Nat.lt_of_le_of_lt (Nat.sub_le _ _) t.isLt)).1 (sc m c (t.val - 1) (Nat.lt_of_le_of_lt (Nat.sub_le _ _) t.isLt)).2)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · iapply (left5_live m c t h5); unfold fin; rw [sc_next m c t h0]; unfold scNext; dsimp only
          unfold owns; iexists _; isplitr
          swap; · iexact H5
          ipureintro; exact (View.read_writes_of_cover _ _ _ _ _ (covC_L5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hc1 t).mp h)) ((hc2 t).mpr h5) (fun h => h6 ((hc3 t).mp h)) (iblk m c 0 t) (iblk m c 1 t) (iblk m c 2 t) (iblk m c 3 t) (iblk m c 4 t) (sc m c (t.val - 1) (Nat.lt_of_le_of_lt (Nat.sub_le _ _) t.isLt)).1 (sc m c (t.val - 1) (Nat.lt_of_le_of_lt (Nat.sub_le _ _) t.isLt)).2)).trans (valC_L5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hc1 t).mp h)) ((hc2 t).mpr h5) (fun h => h6 ((hc3 t).mp h)) (iblk m c 0 t) (iblk m c 1 t) (iblk m c 2 t) (iblk m c 3 t) (iblk m c 4 t) (sc m c (t.val - 1) (Nat.lt_of_le_of_lt (Nat.sub_le _ _) t.isLt)).1 (sc m c (t.val - 1) (Nat.lt_of_le_of_lt (Nat.sub_le _ _) t.isLt)).2)
        · iapply (left6_idle m c t h6 d6); iexact H6
      · have h5 : ¬(t.val % 8 = 7 ∧ t.val < 256) := by omega
        have h6 : t.val % 8 = 7 ∧ 256 ≤ t.val := by omega
        rw [PhiS_castSucc m c t, PhiS_pos m c _ _ hz, sc_next m c t h0]
        unfold scNext
        dsimp only
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hc1 t).mp h)) (fun h => h5 ((hc2 t).mp h)) ((hc3 t).mpr h6) (iblk m c 0 t) (iblk m c 1 t) (iblk m c 2 t) (iblk m c 3 t) (iblk m c 4 t) (sc m c (t.val - 1) (Nat.lt_of_le_of_lt (Nat.sub_le _ _) t.isLt)).1 (sc m c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [H6]; · iexists _; iexact H6
        iintro ⟨H0, H1, H2, H3, H4, HS0, ⟨%earg10, HS1⟩, ⟨%earg8, H6⟩⟩
        isplitl [HS0 HS1 Hg]
        · isplitl [HS0 HS1]
          · isplitl [HS0]
            · iexact HS0
            unfold owns; iexists _; isplitr
            swap; · iexact HS1
            ipureintro; exact (View.read_writes_of_cover _ _ _ _ _ (covD_LS1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hc1 t).mp h)) (fun h => h5 ((hc2 t).mp h)) ((hc3 t).mpr h6) (iblk m c 0 t) (iblk m c 1 t) (iblk m c 2 t) (iblk m c 3 t) (iblk m c 4 t) (sc m c (t.val - 1) (Nat.lt_of_le_of_lt (Nat.sub_le _ _) t.isLt)).1 (sc m c (t.val - 1) (Nat.lt_of_le_of_lt (Nat.sub_le _ _) t.isLt)).2)).trans (valD_LS1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hc1 t).mp h)) (fun h => h5 ((hc2 t).mp h)) ((hc3 t).mpr h6) (iblk m c 0 t) (iblk m c 1 t) (iblk m c 2 t) (iblk m c 3 t) (iblk m c 4 t) (sc m c (t.val - 1) (Nat.lt_of_le_of_lt (Nat.sub_le _ _) t.isLt)).1 (sc m c (t.val - 1) (Nat.lt_of_le_of_lt (Nat.sub_le _ _) t.isLt)).2)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · iapply (left5_idle m c t h5 d5); iexact H5
        · iapply (left6_live m c t h6); unfold fin; rw [sc_next m c t h0]; unfold scNext; dsimp only
          unfold owns; iexists _; isplitr
          swap; · iexact H6
          ipureintro; exact (View.read_writes_of_cover _ _ _ _ _ (covD_L6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hc1 t).mp h)) (fun h => h5 ((hc2 t).mp h)) ((hc3 t).mpr h6) (iblk m c 0 t) (iblk m c 1 t) (iblk m c 2 t) (iblk m c 3 t) (iblk m c 4 t) (sc m c (t.val - 1) (Nat.lt_of_le_of_lt (Nat.sub_le _ _) t.isLt)).1 (sc m c (t.val - 1) (Nat.lt_of_le_of_lt (Nat.sub_le _ _) t.isLt)).2)).trans (valD_L6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hc1 t).mp h)) (fun h => h5 ((hc2 t).mp h)) ((hc3 t).mpr h6) (iblk m c 0 t) (iblk m c 1 t) (iblk m c 2 t) (iblk m c 3 t) (iblk m c 4 t) (sc m c (t.val - 1) (Nat.lt_of_le_of_lt (Nat.sub_le _ _) t.isLt)).1 (sc m c (t.val - 1) (Nat.lt_of_le_of_lt (Nat.sub_le _ _) t.isLt)).2)
    · have h5 : ¬(t.val % 8 = 7 ∧ t.val < 256) := by omega
      have h6 : ¬(t.val % 8 = 7 ∧ 256 ≤ t.val) := by omega
      rw [PhiS_castSucc m c t, PhiS_pos m c _ _ hz, sc_next m c t h0]
      unfold scNext
      dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hc1 t).mp h)) (fun h => h5 ((hc2 t).mp h)) (fun h => h6 ((hc3 t).mp h)) (iblk m c 0 t) (iblk m c 1 t) (iblk m c 2 t) (iblk m c 3 t) (iblk m c 4 t) (sc m c (t.val - 1) (Nat.lt_of_le_of_lt (Nat.sub_le _ _) t.isLt)).1 (sc m c (t.val - 1) (Nat.lt_of_le_of_lt (Nat.sub_le _ _) t.isLt)).2).2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, ⟨%earg10, HS1⟩⟩
      isplitl [HS0 HS1 Hg]
      · isplitl [HS0 HS1]
        · isplitl [HS0]
          · iexact HS0
          unfold owns; iexists _; isplitr
          swap; · iexact HS1
          ipureintro; exact (View.read_writes_of_cover _ _ _ _ _ (covB_LS1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hc1 t).mp h)) (fun h => h5 ((hc2 t).mp h)) (fun h => h6 ((hc3 t).mp h)) (iblk m c 0 t) (iblk m c 1 t) (iblk m c 2 t) (iblk m c 3 t) (iblk m c 4 t) (sc m c (t.val - 1) (Nat.lt_of_le_of_lt (Nat.sub_le _ _) t.isLt)).1 (sc m c (t.val - 1) (Nat.lt_of_le_of_lt (Nat.sub_le _ _) t.isLt)).2)).trans (valB_LS1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hc1 t).mp h)) (fun h => h5 ((hc2 t).mp h)) (fun h => h6 ((hc3 t).mp h)) (iblk m c 0 t) (iblk m c 1 t) (iblk m c 2 t) (iblk m c 3 t) (iblk m c 4 t) (sc m c (t.val - 1) (Nat.lt_of_le_of_lt (Nat.sub_le _ _) t.isLt)).1 (sc m c (t.val - 1) (Nat.lt_of_le_of_lt (Nat.sub_le _ _) t.isLt)).2)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · iapply (left5_idle m c t h5 d5); iexact H5
      · iapply (left6_idle m c t h6 d6); iexact H6

/-- The body the pipeline calls at a point. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratches at launch give the first invariant. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The last invariant gives the scratches back. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

/-! ## The run -/

set_option backward.isDefEq.respectTransparency.types false in
/-- The whole program from any memory: it ends, with every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole program from any memory ends as the pipeline leaves it. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The program ends with its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.MlpFinalIdeal.Body

end
-- ==== Proof.MlpFinalArr.lean ====
/- Hand-written: the two result arrays of the last network kernel as functions of its arguments. -/
module
public import proofs.«01_k».proof.Proof.MlpFinalIdealFrame
public import proofs.«01_k».proof.Proof.MlpSpec
public import proofs.«01_k».proof.Proof.RunSum
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlpFinalIdeal.Arr

open Cert.MlpFinalIdeal Cert.MlpFinalIdeal.Gen Cert.MlpFinalIdeal.Body Cert.Row

/-- A row of the results: the row with the last layer's network added, normalised under the final weights. -/
def outRow (X : FVec Ideal S18432x2048 .f32) (g : FVec Ideal S2048 .f32) (U : FVec Ideal S4x2048x8192 .f32) (D : FVec Ideal S4x8192x2048 .f32)
    (gf : FVec Ideal S2048 .f32) (r : Fin 18432) (n : Fin 2048) : EReal :=
  rms (fun n => mlp (fun k => X (ix2 r k)) (fun k => g (ix1 k)) (fun k f => U (ix3 3 k f)) (fun f n => D (ix3 3 f n)) n) (fun k => gf (ix1 k)) n

/-- The first result: the first 16384 rows. -/
def outA (X : FVec Ideal S18432x2048 .f32) (g : FVec Ideal S2048 .f32) (U : FVec Ideal S4x2048x8192 .f32) (D : FVec Ideal S4x8192x2048 .f32)
    (gf : FVec Ideal S2048 .f32) : FVec Ideal S16384x2048 .f32 :=
  fun j => outRow X g U D gf ⟨(j 0).val, Nat.lt_trans (j 0).isLt (by decide)⟩ (j 1)

/-- The second result: the other 2048 rows. -/
def outB (X : FVec Ideal S18432x2048 .f32) (g : FVec Ideal S2048 .f32) (U : FVec Ideal S4x2048x8192 .f32) (D : FVec Ideal S4x8192x2048 .f32)
    (gf : FVec Ideal S2048 .f32) : FVec Ideal S2048x2048 .f32 :=
  fun j => outRow X g U D gf ⟨16384 + (j 0).val, Nat.add_lt_add_left (j 0).isLt 16384⟩ (j 1)

/-- The normalised rows a run stores in its scratch. -/
theorem norm_at (x : FVec Ideal S512x2048 .f32) (g : FVec Ideal S1x2048 .f32) (j : S512x2048.Idx) :
    k0_pay1 (F := Ideal) x g j = rms (fun k => x (ix2 (j 0) k)) (fun k => g (ix2 0 k)) (j 1) := by
  idx_vars j
  pointwise [k0_pay1, rms]

/-- One step adds the part of the network that passes through the step's 1024 hidden units. -/
theorem step_at (h : FVec Ideal S512x2048 .bf16) (u : FVec Ideal S1x2048x1024 .bf16) (a : FVec Ideal S512x2048 .f32)
    (d : FVec Ideal S1x1024x2048 .bf16) (j : S512x2048.Idx) :
    k0_pay2 (F := Ideal) h u a d j
      = a j + ∑ f : Fin 1024, sqUnit (fun k => h (ix2 (j 0) k)) (fun k => u (ix3 0 k f)) * d (ix3 0 f (j 1)) := by
  idx_vars j
  pointwise [k0_pay2, sqUnit]

/-- The same, for a scratch whose rows are known. -/
theorem step_of (h : FVec Ideal S512x2048 .bf16) (u : FVec Ideal S1x2048x1024 .bf16) (a : FVec Ideal S512x2048 .f32)
    (d : FVec Ideal S1x1024x2048 .bf16) (j : S512x2048.Idx) (n : Fin 2048 → EReal) (hn : ∀ k, h (ix2 (j 0) k) = n k) :
    k0_pay2 (F := Ideal) h u a d j = a j + ∑ f : Fin 1024, sqUnit n (fun k => u (ix3 0 k f)) * d (ix3 0 f (j 1)) := by
  rw [step_at]
  obtain rfl : (fun k => h (ix2 (j 0) k)) = n := funext hn
  rfl

/-- The results are the running sums, normalised. -/
theorem last_at (a : FVec Ideal S512x2048 .f32) (g : FVec Ideal S1x2048 .f32) (j : S512x2048.Idx) :
    k0_pay3 (F := Ideal) a g j = rms (fun k => a (ix2 (j 0) k)) (fun k => g (ix2 0 k)) (j 1) := by
  idx_vars j
  pointwise [k0_pay3, rms]

/-- The cast that starts a running sum keeps the rows. -/
theorem start_at (x : FVec Ideal S512x2048 .f32) (j : S512x2048.Idx) : k0_pay0 (F := Ideal) x j = x j := by
  idx_vars j
  pointwise [k0_pay0]

/-- The block each window is at, point by point. -/
theorem idx : ∀ t : Fin cfg0.N, win0_0.index t = ![t.val / 8, 0]
    ∧ win0_1.index t = ![0, 0]
    ∧ win0_2.index t = ![3, 0, t.val % 8]
    ∧ win0_3.index t = ![3, t.val % 8, 0]
    ∧ win0_4.index t = ![0, 0]
    ∧ win0_5.index t = ![min (t.val / 8) 31, 0]
    ∧ win0_6.index t = ![t.val / 8 - 32, 0] :=
  (by decide +kernel : ∀ t : Fin grid0.N, _)

variable (m : (ℓ : Loc nD τ sig) → Buf (Elt Ideal) ℓ)

/-- This array at launch, read from the arguments. -/
theorem g_read (c : Dev nD) (x : S1x2048.Idx) : V (F := Ideal) m c main_v0 x = m ((c : Thread nD τ).loc main_arg1) (ix1 (x 1)) := by
  entry_read
  idx_vars x
  pointwise

/-- This array at launch, read from the arguments. -/
theorem u_read (c : Dev nD) (x : S4x2048x8192.Idx) : V (F := Ideal) m c main_v1 x = m ((c : Thread nD τ).loc main_arg2) x := by
  entry_read
  idx_vars x
  pointwise

/-- This array at launch, read from the arguments. -/
theorem d_read (c : Dev nD) (x : S4x8192x2048.Idx) : V (F := Ideal) m c main_v2 x = m ((c : Thread nD τ).loc main_arg3) x := by
  entry_read
  idx_vars x
  pointwise

/-- This array at launch, read from the arguments. -/
theorem gf_read (c : Dev nD) (x : S1x2048.Idx) : V (F := Ideal) m c main_v3 x = m ((c : Thread nD τ).loc main_arg4) (ix1 (x 1)) := by
  entry_read
  idx_vars x
  pointwise

/-- The scratch holds the normalised rows of the run's block. -/
theorem norm_run (c : Dev nD) (t : Fin cfg0.N) (j : S512x2048.Idx) :
    (sc m c t.val t.isLt).1 j = rms (fun k => iblk m c 0 t (ix2 (j 0) k)) (fun k => iblk m c 1 t (ix2 0 k)) (j 1) := by
  refine (Pipeline.eq_of_write_hold_apply (fun n h => (sc m c n h).1) 8
    (fun t j => rms (fun k => iblk m c 0 t (ix2 (j 0) k)) (fun k => iblk m c 1 t (ix2 0 k)) (j 1))
    (fun t h j => by rw [sc_first m c t h]; unfold scFirst; dsimp only; exact norm_at _ _ j)
    (fun t h j => by rw [sc_next m c t h]; rfl) t j).trans ?_
  refine rms_congr (fun k => ?_) (fun k => ?_) rfl
  · blk_ext [iblk, V, idx t, idx ⟨8 * (t.val / 8), Pipeline.run_start_lt t⟩]
  · blk_simp [iblk]; rw [g_read, g_read]; blk_ext [idx t, idx ⟨8 * (t.val / 8), Pipeline.run_start_lt t⟩]

/-- What one grid point adds to its block. -/
abbrev part (c : Dev nD) (t : Fin cfg0.N) (j : S512x2048.Idx) : EReal :=
  ∑ f : Fin 1024, sqUnit (rms (fun k => (show FVec Ideal S512x2048 .f32 from iblk m c 0 t) (ix2 (j 0) k)) (fun k => (show FVec Ideal S1x2048 .f32 from iblk m c 1 t) (ix2 0 k)))
    (fun k => (show FVec Ideal S1x2048x1024 .bf16 from iblk m c 2 t) (ix3 0 k f)) * (show FVec Ideal S1x1024x2048 .bf16 from iblk m c 3 t) (ix3 0 f (j 1))

/-- The row of the argument that a row of a point's block is. -/
def row (t : Fin cfg0.N) (i : Fin 512) : Fin 18432 :=
  ⟨512 * (t.val / 8) + i.val, by have := lt_of_lt_of_eq t.isLt (show cfg0.N = 288 from N_0); have := i.isLt; omega⟩

/-- After a block's last point the running sum is the block's rows with the network added. -/
theorem acc_run (c : Dev nD) (t : Fin cfg0.N) (hr : t.val % 8 = 7) (j : S512x2048.Idx) : (sc m c t.val t.isLt).2 j
    = mlp (fun k => (show FVec Ideal S18432x2048 .f32 from m ((c : Thread nD τ).loc main_arg0)) (ix2 (row t (j 0)) k))
        (fun k => (show FVec Ideal S2048 .f32 from m ((c : Thread nD τ).loc main_arg1)) (ix1 k))
        (fun k f => (show FVec Ideal S4x2048x8192 .f32 from m ((c : Thread nD τ).loc main_arg2)) (ix3 3 k f))
        (fun f n => (show FVec Ideal S4x8192x2048 .f32 from m ((c : Thread nD τ).loc main_arg3)) (ix3 3 f n)) (j 1) := by
  have ht : t.val < 288 := lt_of_lt_of_eq t.isLt N_0
  refine (RunSum.run_sum (M := EReal) (fun n h => (sc m c n h).2) 8 (fun t => iblk m c 0 t) (part m c)
    (fun t h j => ?_) (fun t h j => ?_) t hr _).trans ?_
  · rw [sc_first m c t h]; unfold scFirst; dsimp only
    refine (step_of _ _ _ _ j _ fun k => norm_at _ _ _).trans ?_
    exact congrArg (· + _) (start_at _ _)
  · rw [sc_next m c t h]; unfold scNext; dsimp only
    refine step_of _ _ _ _ j _ fun k => ?_
    refine (norm_run m c ⟨t.val - 1, Nat.lt_of_le_of_lt (Nat.sub_le _ _) t.isLt⟩ _).trans (rms_congr (fun k => ?_) (fun k => ?_) rfl)
    · have h1 : (t.val - 1) / 8 = t.val / 8 := by omega
      blk_ext [iblk, V, idx t, idx ⟨t.val - 1, Nat.lt_of_le_of_lt (Nat.sub_le _ _) t.isLt⟩]
    · blk_simp [iblk]; rw [g_read, g_read]; blk_ext [idx t, idx ⟨t.val - 1, Nat.lt_of_le_of_lt (Nat.sub_le _ _) t.isLt⟩]
  · unfold mlp
    refine congrArg₂ (· + ·) ?_ (Fin.sum_mul_add_congr fun s f hl => ?_)
    · unfold row
      blk_ext [iblk, V, idx ⟨8 * (t.val / 8), Pipeline.run_start_lt t⟩]
    · have e := idx ⟨_, Pipeline.run_point_lt_of_flush t hr s⟩
      refine congrArg₂ (· * ·) (sqUnit_congr (fun k => rms_congr (fun k => ?_) (fun k => ?_) rfl) fun k => ?_) ?_
      · unfold row
        blk_ext [iblk, V, e]
      · blk_simp [iblk]; rw [g_read]; blk_ext [e]
      · blk_simp [iblk]; rw [u_read]; blk_ext [e]
      · blk_simp [iblk]; rw [d_read]; blk_ext [e]

/-- The block of a result that its last point leaves in the result's buffer. -/
theorem fin_run (c : Dev nD) (t : Fin cfg0.N) (hr : t.val % 8 = 7) (j : S512x2048.Idx) : fin m c t j
    = outRow (m ((c : Thread nD τ).loc main_arg0)) (m ((c : Thread nD τ).loc main_arg1)) (m ((c : Thread nD τ).loc main_arg2))
        (m ((c : Thread nD τ).loc main_arg3)) (m ((c : Thread nD τ).loc main_arg4)) (row t (j 0)) (j 1) := by
  unfold fin outRow
  refine (last_at _ _ j).trans (rms_congr (fun k => ?_) (fun k => ?_) rfl)
  · exact acc_run m c t hr _
  · blk_simp [iblk]; rw [gf_read]; blk_ext [idx t]

/-- Equal ingredients give equal values. -/
theorem outRow_congr (X : FVec Ideal S18432x2048 .f32) (g : FVec Ideal S2048 .f32) (U : FVec Ideal S4x2048x8192 .f32) (D : FVec Ideal S4x8192x2048 .f32)
    (gf : FVec Ideal S2048 .f32) {r r' : Fin 18432} {n n' : Fin 2048} (hr : r.val = r'.val) (hn : n.val = n'.val) :
    outRow X g U D gf r n = outRow X g U D gf r' n' := by
  obtain rfl := Fin.ext hr
  obtain rfl := Fin.ext hn
  rfl

/-- The first result's array. -/
theorem outs0 (c : Dev nD) : (dats m 0 c).arrAt 5 (cfgs 0).N
    = outA (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have ht : t.val < 288 := lt_of_lt_of_eq t.isLt N_0
  have hr := (flush5 t).mp hf
  have hc : (clip t).val % 8 = 7 := by show min t.val 255 % 8 = 7; omega
  blk_simp; rw [after0_5]
  refine (fin_run m c (clip t) hc _).trans (outRow_congr _ _ _ _ _ ?_ ?_)
  · unfold row clip
    blk_simp [idx t]
    dsimp only
    omega
  · blk_simp [idx t]
    try omega

/-- The second result's array. -/
theorem outs1 (c : Dev nD) : (dats m 0 c).arrAt 6 (cfgs 0).N
    = outB (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have ht : t.val < 288 := lt_of_lt_of_eq t.isLt N_0
  have hr := (flush6 t).mp hf
  blk_simp; rw [after0_6]
  refine (fin_run m c t hr.1 _).trans (outRow_congr _ _ _ _ _ ?_ ?_)
  · unfold row
    blk_simp [idx t]
    dsimp only
    omega
  · blk_simp [idx t]
    try omega

variable (ρ : Dev nD → PrngReg)

/-- The kernel's run: the two results at those arrays, the arguments unchanged. -/
theorem run : θ_run defs (onTc (τ := τ) (main (F := Ideal))) ⟨m, fun _ => 0, ρ⟩ fun r => ∀ c : Dev nD,
      r.2.mem ((c : Thread nD τ).loc main_v4_0) = outA (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_v4_1) = outB (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (outs0 m c), ((h.1 c).1 6).trans (outs1 m c), h.2 c⟩)
    (θ_run_and (run_main m ρ) (unchanged m ρ))

end Cert.MlpFinalIdeal.Arr

end
-- ==== Proof.MlpFinalRef.lean ====
/- Hand-written: the reference's two results as the same functions of its arguments. -/
module
public import proofs.«01_k».proof.Proof.Gen.MlpFinalRefIdeal.Run
public import proofs.«01_k».proof.Proof.MlpFinalArr

@[expose] public section

set_option maxRecDepth 16384

noncomputable section

open Idealize.ShloMosaic Idealize.ShloMosaic.TcCoe Idealize.SL.Sem

namespace Cert.MlpFinalRefIdeal.RefValue

open Cert.MlpFinalRefIdeal Cert.MlpFinalRefIdeal.Gen Cert.MlpFinalIdeal.Arr Cert.Row

/-! ## The first rows -/

/-- The first rows of the argument. -/
def rowsA (a0 : FVec Ideal S18432x2048 .f32) : FVec Ideal S16384x2048 .f32 :=
  extractStridedSlice S16384x2048 ![0, 0] a0 slices_S18432x2048_S16384x2048_0_0

/-- Rows under the normalisation and its weights. -/
def normA (x : FVec Ideal S16384x2048 .f32) (g : FVec Ideal S2048 .f32) : FVec Ideal S16384x2048 .f32 :=
  mulf (F := Ideal) (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 g))

/-- The positive parts of the hidden units. -/
def hidA (h : FVec Ideal S16384x2048 .f32) (a2 : FVec Ideal S4x2048x8192 .f32) : FVec Ideal S16384x8192 .f32 :=
  maximumf (F := Ideal) (Host.dotGeneral dot_S16384x2048_S2048x8192_S16384x8192_1_0_0_1_n_n none h (shapeCast _ (extractStridedSlice S1x2048x8192 ![3, 0, 0] a2 slices_S4x2048x8192_S1x2048x8192_3_0_0) shapeCasts_S1x2048x8192_S2048x8192)) (broadcastInDim S16384x8192 ![] bcast_S_S16384x8192 (constant S_ .f32 0x00000000#32))

/-- The rows with the network of given hidden units added. -/
def sumA (x : FVec Ideal S16384x2048 .f32) (h : FVec Ideal S16384x8192 .f32) (a3 : FVec Ideal S4x8192x2048 .f32) : FVec Ideal S16384x2048 .f32 :=
  addf (F := Ideal) x (Host.dotGeneral dot_S16384x8192_S8192x2048_S16384x2048_1_0_0_1_n_n none (mulf h h) (shapeCast _ (extractStridedSlice S1x8192x2048 ![3, 0, 0] a3 slices_S4x8192x2048_S1x8192x2048_3_0_0) shapeCasts_S1x8192x2048_S8192x2048))

/-- The composition of these. -/
def refA (a0 : FVec Ideal S18432x2048 .f32) (a1 : FVec Ideal S2048 .f32) (a2 : FVec Ideal S4x2048x8192 .f32) (a3 : FVec Ideal S4x8192x2048 .f32) (a4 : FVec Ideal S2048 .f32) : FVec Ideal S16384x2048 .f32 :=
  normA (sumA (rowsA a0) (hidA (normA (rowsA a0) a1) a2) a3) a4

/-- The same, entry by entry. -/
theorem rowsA_at (a0 : FVec Ideal S18432x2048 .f32) (x : S16384x2048.Idx) : rowsA a0 x = a0 (ix2 ⟨(x 0).val, Nat.lt_trans (x 0).isLt (by decide)⟩ (x 1)) := by
  idx_vars x
  pointwise [rowsA]

/-- The same, entry by entry. -/
theorem normA_at (a : FVec Ideal S16384x2048 .f32) (g : FVec Ideal S2048 .f32) (x : S16384x2048.Idx) :
    normA a g x = rms (fun k => a (ix2 (x 0) k)) (fun k => g (ix1 k)) (x 1) := by
  idx_vars x
  pointwise [normA, rms]

/-- The same, entry by entry. -/
theorem hidA_at (h : FVec Ideal S16384x2048 .f32) (a2 : FVec Ideal S4x2048x8192 .f32) (x : S16384x8192.Idx) :
    hidA h a2 x = max (∑ k : Fin 2048, h (ix2 (x 0) k) * a2 (ix3 3 k (x 1))) 0 := by
  idx_vars x
  pointwise [hidA]

/-- The same, entry by entry. -/
theorem sumA_at (a : FVec Ideal S16384x2048 .f32) (h : FVec Ideal S16384x8192 .f32) (a3 : FVec Ideal S4x8192x2048 .f32) (x : S16384x2048.Idx) :
    sumA a h a3 x = a x + ∑ f : Fin 8192, h (ix2 (x 0) f) * h (ix2 (x 0) f) * a3 (ix3 3 f (x 1)) := by
  idx_vars x
  pointwise [sumA]

/-- The reference's result on the first rows. -/
theorem outsA (a0 : FVec Ideal S18432x2048 .f32) (a1 : FVec Ideal S2048 .f32) (a2 : FVec Ideal S4x2048x8192 .f32) (a3 : FVec Ideal S4x8192x2048 .f32) (a4 : FVec Ideal S2048 .f32) : refA a0 a1 a2 a3 a4 = outA a0 a1 a2 a3 a4 := by
  funext x
  unfold refA outA outRow
  refine (normA_at _ _ x).trans (rms_congr (fun n => ?_) (fun _ => rfl) rfl)
  refine (sumA_at _ _ _ _).trans ?_
  unfold mlp
  refine congrArg₂ (· + ·) (rowsA_at _ _) (Finset.sum_congr rfl fun f _ => congrArg (· * _) ?_)
  have e : hidA (normA (rowsA a0) a1) a2 (ix2 (x 0) f)
      = max (∑ k : Fin 2048, rms (fun k => a0 (ix2 ⟨(x 0).val, Nat.lt_trans (x 0).isLt (by decide)⟩ k)) (fun k => a1 (ix1 k)) k * a2 (ix3 3 k f)) 0 := by
    refine (hidA_at _ _ _).trans (congrArg (max · 0) (Finset.sum_congr rfl fun k _ => congrArg (· * _) ?_))
    exact (normA_at _ _ _).trans (rms_congr (fun k => rowsA_at _ _) (fun _ => rfl) rfl)
  exact congrArg₂ (· * ·) e e

set_option maxHeartbeats 1000000 in
/-- The reference's run ends with this composition. -/
theorem runA (m : (ℓ : Loc nD τ sig) → Buf (Elt Ideal) ℓ) (c : Dev nD) : Value.res_main_v58 (F := Ideal) m c
    = outA (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine Eq.trans ?_ (outsA _ _ _ _ _)
  unfold Value.res_main_v58
  rfl

/-! ## The other rows -/

/-- The other rows of the argument. -/
def rowsB (a0 : FVec Ideal S18432x2048 .f32) : FVec Ideal S2048x2048 .f32 :=
  extractStridedSlice S2048x2048 ![16384, 0] a0 slices_S18432x2048_S2048x2048_16384_0

/-- Rows under the normalisation and its weights. -/
def normB (x : FVec Ideal S2048x2048 .f32) (g : FVec Ideal S2048 .f32) : FVec Ideal S2048x2048 .f32 :=
  mulf (F := Ideal) (mulf x (broadcastInDim S2048x2048 ![0, 1] bcast_S2048x1_S2048x2048_0_1 (Host.rsqrt (addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x3727C5AC#32)))))) (broadcastInDim S2048x2048 ![0, 1] bcast_S1x2048_S2048x2048_0_1 (broadcastInDim S1x2048 ![1] bcast_S2048_S1x2048_1 g))

/-- The positive parts of the hidden units. -/
def hidB (h : FVec Ideal S2048x2048 .f32) (a2 : FVec Ideal S4x2048x8192 .f32) : FVec Ideal S2048x8192 .f32 :=
  maximumf (F := Ideal) (Host.dotGeneral dot_S2048x2048_S2048x8192_S2048x8192_1_0_0_1_n_n none h (shapeCast _ (extractStridedSlice S1x2048x8192 ![3, 0, 0] a2 slices_S4x2048x8192_S1x2048x8192_3_0_0) shapeCasts_S1x2048x8192_S2048x8192)) (broadcastInDim S2048x8192 ![] bcast_S_S2048x8192 (constant S_ .f32 0x00000000#32))

/-- The rows with the network of given hidden units added. -/
def sumB (x : FVec Ideal S2048x2048 .f32) (h : FVec Ideal S2048x8192 .f32) (a3 : FVec Ideal S4x8192x2048 .f32) : FVec Ideal S2048x2048 .f32 :=
  addf (F := Ideal) x (Host.dotGeneral dot_S2048x8192_S8192x2048_S2048x2048_1_0_0_1_n_n none (mulf h h) (shapeCast _ (extractStridedSlice S1x8192x2048 ![3, 0, 0] a3 slices_S4x8192x2048_S1x8192x2048_3_0_0) shapeCasts_S1x8192x2048_S8192x2048))

/-- The composition of these. -/
def refB (a0 : FVec Ideal S18432x2048 .f32) (a1 : FVec Ideal S2048 .f32) (a2 : FVec Ideal S4x2048x8192 .f32) (a3 : FVec Ideal S4x8192x2048 .f32) (a4 : FVec Ideal S2048 .f32) : FVec Ideal S2048x2048 .f32 :=
  normB (sumB (rowsB a0) (hidB (normB (rowsB a0) a1) a2) a3) a4

/-- The same, entry by entry. -/
theorem rowsB_at (a0 : FVec Ideal S18432x2048 .f32) (x : S2048x2048.Idx) : rowsB a0 x = a0 (ix2 ⟨16384 + (x 0).val, Nat.add_lt_add_left (x 0).isLt 16384⟩ (x 1)) := by
  idx_vars x
  pointwise [rowsB]

/-- The same, entry by entry. -/
theorem normB_at (a : FVec Ideal S2048x2048 .f32) (g : FVec Ideal S2048 .f32) (x : S2048x2048.Idx) :
    normB a g x = rms (fun k => a (ix2 (x 0) k)) (fun k => g (ix1 k)) (x 1) := by
  idx_vars x
  pointwise [normB, rms]

/-- The same, entry by entry. -/
theorem hidB_at (h : FVec Ideal S2048x2048 .f32) (a2 : FVec Ideal S4x2048x8192 .f32) (x : S2048x8192.Idx) :
    hidB h a2 x = max (∑ k : Fin 2048, h (ix2 (x 0) k) * a2 (ix3 3 k (x 1))) 0 := by
  idx_vars x
  pointwise [hidB]

/-- The same, entry by entry. -/
theorem sumB_at (a : FVec Ideal S2048x2048 .f32) (h : FVec Ideal S2048x8192 .f32) (a3 : FVec Ideal S4x8192x2048 .f32) (x : S2048x2048.Idx) :
    sumB a h a3 x = a x + ∑ f : Fin 8192, h (ix2 (x 0) f) * h (ix2 (x 0) f) * a3 (ix3 3 f (x 1)) := by
  idx_vars x
  pointwise [sumB]

/-- The reference's result on the other rows. -/
theorem outsB (a0 : FVec Ideal S18432x2048 .f32) (a1 : FVec Ideal S2048 .f32) (a2 : FVec Ideal S4x2048x8192 .f32) (a3 : FVec Ideal S4x8192x2048 .f32) (a4 : FVec Ideal S2048 .f32) : refB a0 a1 a2 a3 a4 = outB a0 a1 a2 a3 a4 := by
  funext x
  unfold refB outB outRow
  refine (normB_at _ _ x).trans (rms_congr (fun n => ?_) (fun _ => rfl) rfl)
  refine (sumB_at _ _ _ _).trans ?_
  unfold mlp
  refine congrArg₂ (· + ·) (rowsB_at _ _) (Finset.sum_congr rfl fun f _ => congrArg (· * _) ?_)
  have e : hidB (normB (rowsB a0) a1) a2 (ix2 (x 0) f)
      = max (∑ k : Fin 2048, rms (fun k => a0 (ix2 ⟨16384 + (x 0).val, Nat.add_lt_add_left (x 0).isLt 16384⟩ k)) (fun k => a1 (ix1 k)) k * a2 (ix3 3 k f)) 0 := by
    refine (hidB_at _ _ _).trans (congrArg (max · 0) (Finset.sum_congr rfl fun k _ => congrArg (· * _) ?_))
    exact (normB_at _ _ _).trans (rms_congr (fun k => rowsB_at _ _) (fun _ => rfl) rfl)
  exact congrArg₂ (· * ·) e e

set_option maxHeartbeats 1000000 in
/-- The reference's run ends with this composition. -/
theorem runB (m : (ℓ : Loc nD τ sig) → Buf (Elt Ideal) ℓ) (c : Dev nD) : Value.res_main_v71 (F := Ideal) m c
    = outB (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine Eq.trans ?_ (outsB _ _ _ _ _)
  unfold Value.res_main_v71
  rfl

end Cert.MlpFinalRefIdeal.RefValue

end
-- ==== Proof.MlpFinalClaim.lean ====
/- Hand-written: the claims about the last network call. -/
module
public import proofs.«01_k».proof.Defs
public import proofs.«01_k».proof.Proof.Gen.MlpFinal
public import proofs.«01_k».proof.Proof.MlpFinalFrame
public import proofs.«01_k».proof.Proof.MlpFinalRef
public import Idealize.ShloMosaic.Adequacy
public import Idealize.ShloMosaic.Init

@[expose] public section

noncomputable section

namespace Cert.Proof.MlpFinal

open Idealize.ShloMosaic Idealize.ShloMosaic.TcCoe Idealize.SL.Sem

/-- The kernel runs, keeps its arguments and ends with every counter at zero. -/
theorem frame_P : Cert.quiescent_MlpFinal (hMlpFinal := Cert.MlpFinal.Gen.facts) := fun m g _ => Cert.MlpFinal.Body.frame m g

/-- So does its idealisation. -/
theorem frame_PI : Cert.quiescent_MlpFinalIdeal (hMlpFinalIdeal := Cert.MlpFinalIdeal.Gen.facts) := fun m g _ => Cert.MlpFinalIdeal.Body.frame m g

/-- So does the reference, which has no counters. -/
theorem frame_RI : Cert.quiescent_MlpFinalRefIdeal (hMlpFinalRefIdeal := Cert.MlpFinalRefIdeal.Gen.facts) := fun m g _ =>
  (θ_run _ _ _).mono (fun r h => ⟨fun c => (h c).2.2, sem_eq_zero_of_no_sems (by decide) r.2⟩) (Cert.MlpFinalRefIdeal.Value.run (F := Ideal) m g)

/-- Kernel and reference end with equal results, for any arguments. -/
theorem algebraic : Cert.algebraic_MlpFinalIdeal_MlpFinalRefIdeal (hMlpFinalIdeal := Cert.MlpFinalIdeal.Gen.facts)
    (hMlpFinalRefIdeal := Cert.MlpFinalRefIdeal.Gen.facts) := by
  intro m g m' g' _ hagree
  refine ⟨_, _, (θ_run _ _ _).mono (fun r h c => h c) (Cert.MlpFinalIdeal.Arr.run m g),
    (θ_run _ _ _).mono (fun r h c => ⟨((h c).1).trans ?_, ((h c).2.1).trans ?_, (h c).2.2⟩) (Cert.MlpFinalRefIdeal.Value.run (F := Ideal) m' g')⟩
  · refine (Cert.MlpFinalRefIdeal.RefValue.runA m' c).trans ?_
    rw [(hagree c).1, (hagree c).2.1, (hagree c).2.2.1, (hagree c).2.2.2.1, (hagree c).2.2.2.2]
  · refine (Cert.MlpFinalRefIdeal.RefValue.runB m' c).trans ?_
    rw [(hagree c).1, (hagree c).2.1, (hagree c).2.2.1, (hagree c).2.2.2.1, (hagree c).2.2.2.2]

end Cert.Proof.MlpFinal

end
-- ==== Proof.AttnSpec.lean ====
/- Hand-written: attention over a window of 192 keys with one sink score, and why dividing after the weighted sum gives the same value. -/
module
public import Idealize.ShloMosaic.Lib.Pointwise
public import Mathlib.Data.EReal.Inv

@[expose] public section

noncomputable section

open Idealize.ShloMosaic

namespace Cert.Attn

/-- The greatest of a row of scores, from −∞. -/
def top {n : ℕ} (s : Fin n → EReal) : EReal := Finset.fold max (Ideal.ofBits .f32 4286578688#32) s Finset.univ

/-- A score's weight before the division: the exponential of its distance to the greatest. -/
def wt {n : ℕ} (s : Fin n → EReal) (c : Fin n) : EReal := Ideal.exp (s c - top s)

/-- Softmax over 192 keys' scores and the sink's, the last; the weights of the keys are applied to their values. -/
def att (s : Fin 193 → EReal) (v : Fin 192 → EReal) : EReal :=
  ∑ c : Fin 192, Ideal.div (wt s ⟨c, by omega⟩) (∑ x : Fin 193, wt s x) * v c

/-- The same over 256 columns, with the division after the sum. -/
def quo (s w : Fin 256 → EReal) : EReal := Ideal.div (∑ c : Fin 256, wt s c * w c) (∑ c : Fin 256, wt s c)

/-- The literal the greatest starts from is −∞. -/
theorem low : Ideal.ofBits .f32 4286578688#32 = (⊥ : EReal) := by
  simp [Ideal.ofBits, Ideal.ieee]

/-- About the greatest score of a row. -/
theorem top_eq {n : ℕ} (s : Fin n → EReal) : top s = Finset.univ.sup s := by
  unfold top; rw [low]; rfl

/-- About the greatest score of a row. -/
theorem le_top {n : ℕ} (s : Fin n → EReal) (c : Fin n) : s c ≤ top s := by
  rw [top_eq]; exact Finset.le_sup (Finset.mem_univ c)

/-- About the greatest score of a row. -/
theorem top_lt {n : ℕ} (s : Fin n → EReal) (h : ∀ c, s c ≠ ⊤) : top s ≠ ⊤ := by
  rw [top_eq]
  exact ((Finset.sup_lt_iff (bot_lt_top (α := EReal))).2 fun c _ => lt_top_iff_ne_top.2 (h c)).ne

/-- Multiplying by a real that is not negative passes through a sum. -/
theorem sum_mul {n : ℕ} (f : Fin n → EReal) (z : ℝ) (hz : 0 ≤ z) : (∑ c, f c) * (z : EReal) = ∑ c, f c * (z : EReal) := by
  have h0 : (0 : EReal) ≤ (z : EReal) := by exact_mod_cast hz
  let φ : EReal →+ EReal :=
    { toFun := fun x => x * (z : EReal)
      map_zero' := zero_mul _
      map_add' := fun x y => EReal.right_distrib_of_nonneg_of_ne_top h0 (EReal.coe_ne_top z) x y }
  exact map_sum φ f Finset.univ

/-- A sum over 256 columns whose last 63 are nought is the sum over the first 193. -/
theorem sum_193 (f : Fin 256 → EReal) (h : ∀ c : Fin 256, 193 ≤ (c : ℕ) → f c = 0) : ∑ c, f c = ∑ c : Fin 193, f ⟨c, by omega⟩ := by
  have e := Fin.sum_univ_add (a := 193) (b := 63) (fun c : Fin (193 + 63) => f c)
  refine e.trans ?_
  rw [Finset.sum_eq_zero (f := fun i : Fin 63 => f (Fin.natAdd 193 i)) (fun i _ => h _ (by simp)), add_zero]
  rfl

/-- A sum over 193 columns whose last is nought is the sum over the first 192. -/
theorem sum_192 (f : Fin 193 → EReal) (h : f 192 = 0) : ∑ c, f c = ∑ c : Fin 192, f ⟨c, by omega⟩ := by
  rw [Fin.sum_univ_castSucc, show f (Fin.last 192) = 0 from h, add_zero]
  rfl

/-- The greatest over the padded columns is the greatest over the keys and the sink. -/
theorem top_pad (s : Fin 193 → EReal) (s' : Fin 256 → EReal) (h1 : ∀ (c : Fin 256) (h : (c : ℕ) < 193), s' c = s ⟨c, h⟩)
    (h2 : ∀ c : Fin 256, 193 ≤ (c : ℕ) → s' c = ⊥) : top s' = top s := by
  apply le_antisymm
  · rw [top_eq s']
    refine Finset.sup_le fun c _ => ?_
    by_cases h : (c : ℕ) < 193
    · rw [h1 c h]; exact le_top s _
    · rw [h2 c (by omega)]; exact bot_le
  · rw [top_eq s]
    refine Finset.sup_le fun c _ => ?_
    have := le_top s' ⟨c, by omega⟩
    rwa [h1 ⟨c, by omega⟩ c.2] at this

/-- A score of −∞ weighs nothing when the greatest is finite. -/
theorem wt_bot {n : ℕ} (s : Fin n → EReal) (c : Fin n) (h : s c = ⊥) : wt s c = 0 := by
  unfold wt; rw [h, EReal.bot_sub]; exact Ideal.exp_bot

/-- Every weight is a real that is not negative. -/
theorem wt_real {n : ℕ} (s : Fin n → EReal) (c : Fin n) (h : ∀ c, s c ≠ ⊤) (ht : top s ≠ ⊥) : ∃ r : ℝ, 0 ≤ r ∧ wt s c = (r : EReal) ∧ (s c ≠ ⊥ → 0 < r) := by
  by_cases hb : s c = ⊥
  · exact ⟨0, le_refl _, wt_bot s c hb, fun h' => absurd hb h'⟩
  · obtain ⟨a, ha⟩ : ∃ a : ℝ, s c = (a : EReal) := ⟨(s c).toReal, (EReal.coe_toReal (h c) hb).symm⟩
    obtain ⟨b, hb'⟩ : ∃ b : ℝ, top s = (b : EReal) := ⟨(top s).toReal, (EReal.coe_toReal (top_lt s h) ht).symm⟩
    refine ⟨Real.exp (a - b), (Real.exp_pos _).le, ?_, fun _ => Real.exp_pos _⟩
    unfold wt
    rw [ha, hb', ← EReal.coe_sub]
    rfl

/-- A sum of reals read as extended reals. -/
theorem coe_sum {n : ℕ} (r : Fin n → ℝ) : ∑ i, (r i : EReal) = ((∑ i, r i : ℝ) : EReal) := by
  let φ : ℝ →+ EReal := { toFun := fun x => (x : EReal), map_zero' := rfl, map_add' := fun x y => EReal.coe_add x y }
  exact (map_sum φ r Finset.univ).symm

/-- With finite scores and a finite sink, dividing after the sum is dividing every weight. -/
theorem quo_eq (s : Fin 193 → EReal) (v : Fin 192 → EReal) (s' w : Fin 256 → EReal) (hs : ∀ c, s c ≠ ⊤) (hz : s 192 ≠ ⊥)
    (h1 : ∀ (c : Fin 256) (h : (c : ℕ) < 193), s' c = s ⟨c, h⟩) (h2 : ∀ c : Fin 256, 193 ≤ (c : ℕ) → s' c = ⊥)
    (hw : ∀ (c : Fin 256) (h : (c : ℕ) < 192), s' c ≠ ⊥ → w c = v ⟨c, h⟩) (hw0 : ∀ c : Fin 256, 192 ≤ (c : ℕ) → w c = 0) :
    quo s' w = att s v := by
  have ht : top s ≠ ⊥ := fun e => hz (le_bot_iff.1 (e ▸ le_top s 192))
  have e1 : ∀ (c : Fin 256) (h : (c : ℕ) < 193), wt s' c = wt s ⟨c, h⟩ := fun c h => by
    unfold wt; rw [top_pad s s' h1 h2, h1 c h]
  have e2 : ∀ c : Fin 256, 193 ≤ (c : ℕ) → wt s' c = 0 := fun c h => wt_bot s' c (h2 c h)
  choose r r0 hr rp using fun c => wt_real s c hs ht
  have hZ : ∑ x : Fin 193, wt s x = ((∑ x, r x : ℝ) : EReal) := by
    rw [Finset.sum_congr rfl fun x _ => hr x]
    exact coe_sum r
  have hpos : 0 < ∑ x, r x := Finset.sum_pos' (fun x _ => r0 x) ⟨192, Finset.mem_univ _, rp 192 hz⟩
  have hd : ∀ a : EReal, Ideal.div a ((∑ x, r x : ℝ) : EReal) = a * (((∑ x, r x)⁻¹ : ℝ) : EReal) := fun a => by
    unfold Ideal.div
    rw [if_neg (by exact_mod_cast hpos.ne'), EReal.coe_inv]
  unfold quo att
  rw [sum_193 (fun c => wt s' c) (fun c h => e2 c h),
    sum_193 (fun c => wt s' c * w c) (fun c h => by rw [e2 c h, zero_mul]),
    sum_192 (fun c : Fin 193 => wt s' ⟨c, by omega⟩ * w ⟨c, by omega⟩) (by rw [hw0 _ (le_refl 192), mul_zero])]
  have hZ' : ∑ c : Fin 193, wt s' ⟨c, by omega⟩ = ((∑ x, r x : ℝ) : EReal) := by
    rw [← hZ]; exact Finset.sum_congr rfl fun c _ => e1 ⟨c, by omega⟩ c.2
  rw [hZ', hZ, hd, sum_mul _ _ (inv_nonneg.2 hpos.le)]
  refine Finset.sum_congr rfl fun c _ => ?_
  rw [hd, e1 ⟨c, by omega⟩ (by simp only; omega)]
  by_cases hb : s' ⟨c, by omega⟩ = ⊥
  · have : wt s ⟨c, by omega⟩ = 0 := wt_bot s _ (by rw [← h1 ⟨c, by omega⟩ (by simp only; omega)]; exact hb)
    rw [this, zero_mul, zero_mul, zero_mul]
  · rw [hw ⟨c, by omega⟩ c.2 hb]
    ring_nf
    try rw [mul_right_comm]

/-- The key, or value, at column `c` of chunk `t`'s window of 192: for the prompt's chunks the 128 rows before the chunk and
    its own, nought before the first; for the sample chunks the cache's 128 and the chunk's own. -/
def keyAt (new : Fin 18432 → Fin 256 → EReal) (old : Fin 32 → Fin 128 → Fin 4 → Fin 64 → EReal) (t : Fin 288) (kv : Fin 4)
    (c : Fin 192) (d : Fin 64) : EReal :=
  if h : (t : ℕ) < 256 then
    if 64 * (t : ℕ) + (c : ℕ) < 128 then 0 else new ⟨64 * (t : ℕ) + (c : ℕ) - 128, by omega⟩ ⟨64 * (kv : ℕ) + d, by omega⟩
  else if hc : (c : ℕ) < 128 then old ⟨(t : ℕ) - 256, by omega⟩ ⟨c, hc⟩ kv d
  else new ⟨64 * (t : ℕ) + (c : ℕ) - 128, by omega⟩ ⟨64 * (kv : ℕ) + d, by omega⟩

/-- Scores of a query row: keys before the first prompt row are masked, the last score is the sink's. -/
def scores (q : Fin 64 → EReal) (new : Fin 18432 → Fin 256 → EReal) (old : Fin 32 → Fin 128 → Fin 4 → Fin 64 → EReal) (t : Fin 288)
    (kv : Fin 4) (sink : EReal) (c : Fin 193) : EReal :=
  if h : (c : ℕ) < 192 then
    if (t : ℕ) < 256 ∧ 64 * (t : ℕ) + (c : ℕ) < 128 then ⊥ else ∑ d : Fin 64, q d * keyAt new old t kv ⟨c, h⟩ d
  else sink

/-- Attention's output at a row and a column. -/
def attend (Q : Fin 18432 → Fin 2048 → EReal) (K V : Fin 18432 → Fin 256 → EReal) (oK oV : Fin 32 → Fin 128 → Fin 4 → Fin 64 → EReal)
    (S : Fin 32 → EReal) (r : Fin 18432) (n : Fin 2048) : EReal :=
  att (scores (fun d => Q r ⟨64 * ((n : ℕ) / 64) + d, by omega⟩) K oK ⟨(r : ℕ) / 64, by omega⟩ ⟨(n : ℕ) / 512, by omega⟩ (S ⟨(n : ℕ) / 64, by omega⟩))
    (fun c => keyAt V oV ⟨(r : ℕ) / 64, by omega⟩ ⟨(n : ℕ) / 512, by omega⟩ c ⟨(n : ℕ) % 64, by omega⟩)

/-- Products and sums of finite values are finite. -/
theorem dot_real {n : ℕ} (f g : Fin n → EReal) (hf : ∀ i, f i ≠ ⊤ ∧ f i ≠ ⊥) (hg : ∀ i, g i ≠ ⊤ ∧ g i ≠ ⊥) : ∑ i, f i * g i ≠ ⊤ := by
  have e : ∀ i, f i * g i = (((f i).toReal * (g i).toReal : ℝ) : EReal) := fun i => by
    rw [EReal.coe_mul, EReal.coe_toReal (hf i).1 (hf i).2, EReal.coe_toReal (hg i).1 (hg i).2]
  rw [Finset.sum_congr rfl fun i _ => e i, coe_sum]
  exact EReal.coe_ne_top _

/-- With finite queries, keys and sink no score is +∞. -/
theorem scores_ne_top (q : Fin 64 → EReal) (new : Fin 18432 → Fin 256 → EReal) (old : Fin 32 → Fin 128 → Fin 4 → Fin 64 → EReal) (t : Fin 288)
    (kv : Fin 4) (sink : EReal) (hq : ∀ d, q d ≠ ⊤ ∧ q d ≠ ⊥) (hn : ∀ r n, new r n ≠ ⊤ ∧ new r n ≠ ⊥)
    (ho : ∀ b c k d, old b c k d ≠ ⊤ ∧ old b c k d ≠ ⊥) (hs : sink ≠ ⊤) (c : Fin 193) : scores q new old t kv sink c ≠ ⊤ := by
  unfold scores
  split_ifs with h h'
  · exact bot_ne_top
  · refine dot_real _ _ hq fun d => ?_
    unfold keyAt
    split_ifs
    · exact ⟨EReal.zero_ne_top, EReal.zero_ne_bot⟩
    · exact hn _ _
    · exact ho _ _ _ _
    · exact hn _ _
  · exact hs

end Cert.Attn
-- ==== Proof.AttnCorePieces.lean ====
/- Hand-written: what one grid step of the attention kernel stores, read at an index. -/
module
public import proofs.«01_k».proof.Proof.Gen.AttnCoreIdeal.Value
public import proofs.«01_k».proof.Proof.AttnSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AttnCoreIdeal.Pieces

open Cert.AttnCoreIdeal Cert.AttnCoreIdeal.Gen Cert.Attn

/-- Choosing by the half of a 128-column pair. -/
theorem sel (x : Fin 128) (a b : EReal) :
    Scalar.select (IntOp.cmpi CmpIPredicate.slt (BitVec.ofNat 32 x) 64#32) a b = if (x : ℕ) < 64 then a else b := by
  have h : ∀ x : Fin 128, IntOp.cmpi CmpIPredicate.slt (BitVec.ofNat 32 x) 64#32 = if (x : ℕ) < 64 then 1#1 else 0#1 := by decide +kernel
  rw [h x]
  by_cases hx : (x : ℕ) < 64
  · rw [if_pos hx, if_pos hx]; rfl
  · rw [if_neg hx, if_neg hx]; rfl

/-- A product with the upper half cleared is the product over the lower. -/
theorem half_lo (f g : Fin 128 → EReal) :
    ∑ x : Fin 128, Scalar.select (IntOp.cmpi CmpIPredicate.slt (BitVec.ofNat 32 x) 64#32) (f x) 0 * g x
      = ∑ d : Fin 64, f ⟨d, by omega⟩ * g ⟨d, by omega⟩ := by
  simp only [sel]
  refine (Fin.sum_univ_add (a := 64) (b := 64) (fun x : Fin (64 + 64) => (if (x : ℕ) < 64 then f x else 0) * g x)).trans ?_
  rw [Finset.sum_eq_zero (s := Finset.univ) (f := fun i : Fin 64 => (if ((Fin.natAdd 64 i : Fin (64 + 64)) : ℕ) < 64 then f (Fin.natAdd 64 i) else 0) * g (Fin.natAdd 64 i))
    (fun i _ => by rw [if_neg (by simp), zero_mul]), add_zero]
  refine Finset.sum_congr rfl fun d _ => ?_
  rw [if_pos (by simp)]
  rfl

/-- A product with the lower half cleared is the product over the upper. -/
theorem half_hi (f g : Fin 128 → EReal) :
    ∑ x : Fin 128, Scalar.select (IntOp.cmpi CmpIPredicate.slt (BitVec.ofNat 32 x) 64#32) 0 (f x) * g x
      = ∑ d : Fin 64, f ⟨64 + d, by omega⟩ * g ⟨64 + d, by omega⟩ := by
  simp only [sel]
  refine (Fin.sum_univ_add (a := 64) (b := 64) (fun x : Fin (64 + 64) => (if (x : ℕ) < 64 then 0 else f x) * g x)).trans ?_
  rw [Finset.sum_eq_zero (s := Finset.univ) (f := fun i : Fin 64 => (if ((Fin.castAdd 64 i : Fin (64 + 64)) : ℕ) < 64 then 0 else f (Fin.castAdd 64 i)) * g (Fin.castAdd 64 i))
    (fun i _ => by rw [if_pos (by simp), zero_mul]), zero_add]
  refine Finset.sum_congr rfl fun d _ => ?_
  rw [if_neg (by simp)]
  rfl

/-- The keys a step reads: two blocks of the cache or of the rows before, its own, and 64 rows of nought. -/
theorem keys (i : grid0.Coords) (y0 y1 y2 y3 y4 : FVec Ideal S64x512 .bf16) (c : Fin 256) (n : Fin 512) :
    k0_pay4 (F := Ideal) i y0 y1 y2 y3 y4 (ix2 c n) =
      if h : (c : ℕ) < 64 then Scalar.select (Scalar.cmpi CmpIPredicate.sge (BitVec.ofNat 32 (i 0 : ℕ)) 256#32) (y0 (ix2 ⟨c, h⟩ n)) (y1 (ix2 ⟨c, h⟩ n))
      else if h : (c : ℕ) - 64 < 64 then
        Scalar.select (Scalar.cmpi CmpIPredicate.sge (BitVec.ofNat 32 (i 0 : ℕ)) 256#32) (y2 (ix2 ⟨(c : ℕ) - 64, h⟩ n)) (y3 (ix2 ⟨(c : ℕ) - 64, h⟩ n))
      else if h : (c : ℕ) - 64 - 64 < 64 then y4 (ix2 ⟨(c : ℕ) - 64 - 64, h⟩ n) else 0 := by
  pointwise [k0_pay4, k0_pay3]

/-- The values a step reads, in the same order. -/
theorem vals (i : grid0.Coords) (y0 y1 y2 y3 y4 : FVec Ideal S64x512 .bf16) (c : Fin 256) (n : Fin 512) :
    k0_pay5 (F := Ideal) i y0 y1 y2 y3 y4 (ix2 c n) =
      if h : (c : ℕ) < 64 then Scalar.select (Scalar.cmpi CmpIPredicate.sge (BitVec.ofNat 32 (i 0 : ℕ)) 256#32) (y0 (ix2 ⟨c, h⟩ n)) (y1 (ix2 ⟨c, h⟩ n))
      else if h : (c : ℕ) - 64 < 64 then
        Scalar.select (Scalar.cmpi CmpIPredicate.sge (BitVec.ofNat 32 (i 0 : ℕ)) 256#32) (y2 (ix2 ⟨(c : ℕ) - 64, h⟩ n)) (y3 (ix2 ⟨(c : ℕ) - 64, h⟩ n))
      else if h : (c : ℕ) - 64 - 64 < 64 then y4 (ix2 ⟨(c : ℕ) - 64 - 64, h⟩ n) else 0 := by
  pointwise [k0_pay5, k0_pay3]

section Scores

variable (Q : FVec Ideal S64x2048 .bf16) (k : FVec Ideal S256x512 .bf16) (q0 q1 q2 q3 : FVec Ideal S64x128 .bf16) (b : FVec Ideal S1x1x512x256 .f32)

/-- A product of a query's and a key's entry, by their positions. -/
theorem qk {i i' : Fin 64} {n n' : Fin 2048} {c : Fin 256} {a a' : Fin 512} (hi : (i : ℕ) = i') (hn : (n : ℕ) = n') (ha : (a : ℕ) = a') :
    Q (ix2 i n) * k (ix2 c a) = Q (ix2 i' n') * k (ix2 c a') := by
  obtain rfl := Fin.ext hi; obtain rfl := Fin.ext hn; obtain rfl := Fin.ext ha; rfl

/-- One score of a step before its bias: the head's 64 query columns against the key's. Row `r` of a group's 512 is the row `r % 64`
    of the step's block under the group's head `r / 64`. -/
def dotAt (g : ℕ) (hg : g < 4) (r : Fin 512) (c : Fin 256) : EReal :=
  ∑ d : Fin 64, Q (ix2 ⟨(r : ℕ) % 64, by omega⟩ ⟨512 * g + 64 * ((r : ℕ) / 64) + d, by omega⟩)
    * k (ix2 c ⟨128 * g + 64 * ((r : ℕ) / 64 % 2) + d, by omega⟩)

/-- The scores of group 0. -/
theorem score0 (a0 : ∀ (i : Fin 64) (n : Fin 128), q0 (ix2 i n) = Q (ix2 i ⟨n, by omega⟩))
    (a1 : ∀ (i : Fin 64) (n : Fin 128), q1 (ix2 i n) = Q (ix2 i ⟨128 + n, by omega⟩))
    (a2 : ∀ (i : Fin 64) (n : Fin 128), q2 (ix2 i n) = Q (ix2 i ⟨256 + n, by omega⟩))
    (a3 : ∀ (i : Fin 64) (n : Fin 128), q3 (ix2 i n) = Q (ix2 i ⟨384 + n, by omega⟩))
    (r : Fin 512) (c : Fin 256) :
    k0_pay10 (F := Ideal) (k0_pay8 k0_pay6 q0 q1 q2 q3) (k0_pay9 k) (constant S512x256 .f32 0x00000000#32) b (ix2 r c)
      = dotAt Q k 0 (by omega) r c + b (ix4 0 0 r c) := by
  pointwise [k0_pay6, k0_pay8, k0_pay9, k0_pay10]
  unfold dotAt
  refine congrArg (· + b (ix4 0 0 r c)) ?_
  obtain h | h | h | h | h | h | h | h : ((r : ℕ) < 64) ∨ (64 ≤ (r : ℕ) ∧ (r : ℕ) < 128) ∨ (128 ≤ (r : ℕ) ∧ (r : ℕ) < 192) ∨ (192 ≤ (r : ℕ) ∧ (r : ℕ) < 256)
      ∨ (256 ≤ (r : ℕ) ∧ (r : ℕ) < 320) ∨ (320 ≤ (r : ℕ) ∧ (r : ℕ) < 384) ∨ (384 ≤ (r : ℕ) ∧ (r : ℕ) < 448) ∨ (448 ≤ (r : ℕ)) := by omega
  · simp only [dif_pos (show (r : ℕ) < 64 by omega)]
    refine (half_lo (fun n => q0 (ix2 _ n)) _).trans (Finset.sum_congr rfl fun d _ => ?_)
    rw [a0]
    exact qk Q k (by simp only; omega) (by simp only; omega) (by simp only; omega)
  · simp only [dif_neg (show ¬ ((r : ℕ) < 64) by omega), dif_pos (show (r : ℕ) - 64 < 64 by omega)]
    refine (half_hi (fun n => q0 (ix2 _ n)) _).trans (Finset.sum_congr rfl fun d _ => ?_)
    rw [a0]
    exact qk Q k (by simp only; omega) (by simp only; omega) (by simp only; omega)
  · simp only [dif_neg (show ¬ ((r : ℕ) < 64) by omega), dif_neg (show ¬ ((r : ℕ) - 64 < 64) by omega), dif_pos (show (r : ℕ) - 64 - 64 < 64 by omega)]
    refine (half_lo (fun n => q1 (ix2 _ n)) _).trans (Finset.sum_congr rfl fun d _ => ?_)
    rw [a1]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_pos (show (r : ℕ) - 64 - 64 - 64 < 64 by omega)]
    refine (half_hi (fun n => q1 (ix2 _ n)) _).trans (Finset.sum_congr rfl fun d _ => ?_)
    rw [a1]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_pos (show (r : ℕ) - 64 - 64 - 64 - 64 < 64 by omega)]
    refine (half_lo (fun n => q2 (ix2 _ n)) _).trans (Finset.sum_congr rfl fun d _ => ?_)
    rw [a2]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_neg (show ¬ ((r : ℕ) - 64 - 64 - 64 - 64 < 64) by omega), dif_pos (show (r : ℕ) - 64 - 64 - 64 - 64 - 64 < 64 by omega)]
    refine (half_hi (fun n => q2 (ix2 _ n)) _).trans (Finset.sum_congr rfl fun d _ => ?_)
    rw [a2]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_neg (show ¬ ((r : ℕ) - 64 - 64 - 64 - 64 < 64) by omega), dif_neg (show ¬ ((r : ℕ) - 64 - 64 - 64 - 64 - 64 < 64) by omega), dif_pos (show (r : ℕ) - 64 - 64 - 64 - 64 - 64 - 64 < 64 by omega)]
    refine (half_lo (fun n => q3 (ix2 _ n)) _).trans (Finset.sum_congr rfl fun d _ => ?_)
    rw [a3]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_neg (show ¬ ((r : ℕ) - 64 - 64 - 64 - 64 < 64) by omega), dif_neg (show ¬ ((r : ℕ) - 64 - 64 - 64 - 64 - 64 < 64) by omega), dif_neg (show ¬ ((r : ℕ) - 64 - 64 - 64 - 64 - 64 - 64 < 64) by omega)]
    refine (half_hi (fun n => q3 (ix2 _ n)) _).trans (Finset.sum_congr rfl fun d _ => ?_)
    rw [a3]
    exact qk Q k (by simp only; omega) (by simp only; omega) (by simp only; omega)

/-- The scores of group 1. -/
theorem score1 (a0 : ∀ (i : Fin 64) (n : Fin 128), q0 (ix2 i n) = Q (ix2 i ⟨512 + n, by omega⟩))
    (a1 : ∀ (i : Fin 64) (n : Fin 128), q1 (ix2 i n) = Q (ix2 i ⟨640 + n, by omega⟩))
    (a2 : ∀ (i : Fin 64) (n : Fin 128), q2 (ix2 i n) = Q (ix2 i ⟨768 + n, by omega⟩))
    (a3 : ∀ (i : Fin 64) (n : Fin 128), q3 (ix2 i n) = Q (ix2 i ⟨896 + n, by omega⟩))
    (r : Fin 512) (c : Fin 256) :
    k0_pay19 (F := Ideal) k k0_pay6 (k0_pay11 k0_pay6 q0) (k0_pay12 k0_pay6 q0) (k0_pay13 k0_pay6 q1) (k0_pay14 k0_pay6 q1) (k0_pay15 k0_pay6 q2) (k0_pay16 k0_pay6 q2) q3 (k0_pay17 (F := Ideal)) (k0_pay18 k0_pay6) b (ix2 r c)
      = dotAt Q k 1 (by omega) r c + b (ix4 0 0 r c) := by
  pointwise [k0_pay6, k0_pay11, k0_pay12, k0_pay13, k0_pay14, k0_pay15, k0_pay16, k0_pay17, k0_pay18, k0_pay19]
  unfold dotAt
  refine congrArg (· + b (ix4 0 0 r c)) ?_
  obtain h | h | h | h | h | h | h | h : ((r : ℕ) < 64) ∨ (64 ≤ (r : ℕ) ∧ (r : ℕ) < 128) ∨ (128 ≤ (r : ℕ) ∧ (r : ℕ) < 192) ∨ (192 ≤ (r : ℕ) ∧ (r : ℕ) < 256)
      ∨ (256 ≤ (r : ℕ) ∧ (r : ℕ) < 320) ∨ (320 ≤ (r : ℕ) ∧ (r : ℕ) < 384) ∨ (384 ≤ (r : ℕ) ∧ (r : ℕ) < 448) ∨ (448 ≤ (r : ℕ)) := by omega
  · simp only [dif_pos (show (r : ℕ) < 64 by omega)]
    refine (half_lo (fun n => q0 (ix2 _ n)) _).trans (Finset.sum_congr rfl fun d _ => ?_)
    rw [a0]
    exact qk Q k (by simp only; omega) (by simp only; omega) (by simp only; omega)
  · simp only [dif_neg (show ¬ ((r : ℕ) < 64) by omega), dif_pos (show (r : ℕ) - 64 < 64 by omega)]
    refine (half_hi (fun n => q0 (ix2 _ n)) _).trans (Finset.sum_congr rfl fun d _ => ?_)
    rw [a0]
    exact qk Q k (by simp only; omega) (by simp only; omega) (by simp only; omega)
  · simp only [dif_neg (show ¬ ((r : ℕ) < 64) by omega), dif_neg (show ¬ ((r : ℕ) - 64 < 64) by omega), dif_pos (show (r : ℕ) - 64 - 64 < 64 by omega)]
    refine (half_lo (fun n => q1 (ix2 _ n)) _).trans (Finset.sum_congr rfl fun d _ => ?_)
    rw [a1]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_pos (show (r : ℕ) - 64 - 64 - 64 < 64 by omega)]
    refine (half_hi (fun n => q1 (ix2 _ n)) _).trans (Finset.sum_congr rfl fun d _ => ?_)
    rw [a1]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_pos (show (r : ℕ) - 64 - 64 - 64 - 64 < 64 by omega)]
    refine (half_lo (fun n => q2 (ix2 _ n)) _).trans (Finset.sum_congr rfl fun d _ => ?_)
    rw [a2]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_neg (show ¬ ((r : ℕ) - 64 - 64 - 64 - 64 < 64) by omega), dif_pos (show (r : ℕ) - 64 - 64 - 64 - 64 - 64 < 64 by omega)]
    refine (half_hi (fun n => q2 (ix2 _ n)) _).trans (Finset.sum_congr rfl fun d _ => ?_)
    rw [a2]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_neg (show ¬ ((r : ℕ) - 64 - 64 - 64 - 64 < 64) by omega), dif_neg (show ¬ ((r : ℕ) - 64 - 64 - 64 - 64 - 64 < 64) by omega), dif_pos (show (r : ℕ) - 64 - 64 - 64 - 64 - 64 - 64 < 64 by omega)]
    refine (half_lo (fun n => q3 (ix2 _ n)) _).trans (Finset.sum_congr rfl fun d _ => ?_)
    rw [a3]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_neg (show ¬ ((r : ℕ) - 64 - 64 - 64 - 64 < 64) by omega), dif_neg (show ¬ ((r : ℕ) - 64 - 64 - 64 - 64 - 64 < 64) by omega), dif_neg (show ¬ ((r : ℕ) - 64 - 64 - 64 - 64 - 64 - 64 < 64) by omega)]
    refine (half_hi (fun n => q3 (ix2 _ n)) _).trans (Finset.sum_congr rfl fun d _ => ?_)
    rw [a3]
    exact qk Q k (by simp only; omega) (by simp only; omega) (by simp only; omega)

/-- The scores of group 2. -/
theorem score2 (a0 : ∀ (i : Fin 64) (n : Fin 128), q0 (ix2 i n) = Q (ix2 i ⟨1024 + n, by omega⟩))
    (a1 : ∀ (i : Fin 64) (n : Fin 128), q1 (ix2 i n) = Q (ix2 i ⟨1152 + n, by omega⟩))
    (a2 : ∀ (i : Fin 64) (n : Fin 128), q2 (ix2 i n) = Q (ix2 i ⟨1280 + n, by omega⟩))
    (a3 : ∀ (i : Fin 64) (n : Fin 128), q3 (ix2 i n) = Q (ix2 i ⟨1408 + n, by omega⟩))
    (r : Fin 512) (c : Fin 256) :
    k0_pay26 (F := Ideal) k k0_pay6 (k0_pay20 k0_pay6 q0) (k0_pay21 k0_pay6 q0) (k0_pay22 k0_pay6 q1) (k0_pay23 k0_pay6 q1) q2 (k0_pay24 k0_pay6 q2) (k0_pay25 (F := Ideal)) q3 b (ix2 r c)
      = dotAt Q k 2 (by omega) r c + b (ix4 0 0 r c) := by
  pointwise [k0_pay6, k0_pay20, k0_pay21, k0_pay22, k0_pay23, k0_pay24, k0_pay25, k0_pay26]
  unfold dotAt
  refine congrArg (· + b (ix4 0 0 r c)) ?_
  obtain h | h | h | h | h | h | h | h : ((r : ℕ) < 64) ∨ (64 ≤ (r : ℕ) ∧ (r : ℕ) < 128) ∨ (128 ≤ (r : ℕ) ∧ (r : ℕ) < 192) ∨ (192 ≤ (r : ℕ) ∧ (r : ℕ) < 256)
      ∨ (256 ≤ (r : ℕ) ∧ (r : ℕ) < 320) ∨ (320 ≤ (r : ℕ) ∧ (r : ℕ) < 384) ∨ (384 ≤ (r : ℕ) ∧ (r : ℕ) < 448) ∨ (448 ≤ (r : ℕ)) := by omega
  · simp only [dif_pos (show (r : ℕ) < 64 by omega)]
    refine (half_lo (fun n => q0 (ix2 _ n)) _).trans (Finset.sum_congr rfl fun d _ => ?_)
    rw [a0]
    exact qk Q k (by simp only; omega) (by simp only; omega) (by simp only; omega)
  · simp only [dif_neg (show ¬ ((r : ℕ) < 64) by omega), dif_pos (show (r : ℕ) - 64 < 64 by omega)]
    refine (half_hi (fun n => q0 (ix2 _ n)) _).trans (Finset.sum_congr rfl fun d _ => ?_)
    rw [a0]
    exact qk Q k (by simp only; omega) (by simp only; omega) (by simp only; omega)
  · simp only [dif_neg (show ¬ ((r : ℕ) < 64) by omega), dif_neg (show ¬ ((r : ℕ) - 64 < 64) by omega), dif_pos (show (r : ℕ) - 64 - 64 < 64 by omega)]
    refine (half_lo (fun n => q1 (ix2 _ n)) _).trans (Finset.sum_congr rfl fun d _ => ?_)
    rw [a1]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_pos (show (r : ℕ) - 64 - 64 - 64 < 64 by omega)]
    refine (half_hi (fun n => q1 (ix2 _ n)) _).trans (Finset.sum_congr rfl fun d _ => ?_)
    rw [a1]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_pos (show (r : ℕ) - 64 - 64 - 64 - 64 < 64 by omega)]
    refine (half_lo (fun n => q2 (ix2 _ n)) _).trans (Finset.sum_congr rfl fun d _ => ?_)
    rw [a2]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_neg (show ¬ ((r : ℕ) - 64 - 64 - 64 - 64 < 64) by omega), dif_pos (show (r : ℕ) - 64 - 64 - 64 - 64 - 64 < 64 by omega)]
    refine (half_hi (fun n => q2 (ix2 _ n)) _).trans (Finset.sum_congr rfl fun d _ => ?_)
    rw [a2]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_neg (show ¬ ((r : ℕ) - 64 - 64 - 64 - 64 < 64) by omega), dif_neg (show ¬ ((r : ℕ) - 64 - 64 - 64 - 64 - 64 < 64) by omega), dif_pos (show (r : ℕ) - 64 - 64 - 64 - 64 - 64 - 64 < 64 by omega)]
    refine (half_lo (fun n => q3 (ix2 _ n)) _).trans (Finset.sum_congr rfl fun d _ => ?_)
    rw [a3]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_neg (show ¬ ((r : ℕ) - 64 - 64 - 64 - 64 < 64) by omega), dif_neg (show ¬ ((r : ℕ) - 64 - 64 - 64 - 64 - 64 < 64) by omega), dif_neg (show ¬ ((r : ℕ) - 64 - 64 - 64 - 64 - 64 - 64 < 64) by omega)]
    refine (half_hi (fun n => q3 (ix2 _ n)) _).trans (Finset.sum_congr rfl fun d _ => ?_)
    rw [a3]
    exact qk Q k (by simp only; omega) (by simp only; omega) (by simp only; omega)

/-- The scores of group 3. -/
theorem score3 (a0 : ∀ (i : Fin 64) (n : Fin 128), q0 (ix2 i n) = Q (ix2 i ⟨1536 + n, by omega⟩))
    (a1 : ∀ (i : Fin 64) (n : Fin 128), q1 (ix2 i n) = Q (ix2 i ⟨1664 + n, by omega⟩))
    (a2 : ∀ (i : Fin 64) (n : Fin 128), q2 (ix2 i n) = Q (ix2 i ⟨1792 + n, by omega⟩))
    (a3 : ∀ (i : Fin 64) (n : Fin 128), q3 (ix2 i n) = Q (ix2 i ⟨1920 + n, by omega⟩))
    (r : Fin 512) (c : Fin 256) :
    k0_pay31 (F := Ideal) k k0_pay6 (k0_pay27 k0_pay6 q0) (k0_pay28 k0_pay6 q0) (k0_pay29 k0_pay6 q1) (k0_pay30 k0_pay6 q1) q2 q3 b (ix2 r c)
      = dotAt Q k 3 (by omega) r c + b (ix4 0 0 r c) := by
  pointwise [k0_pay6, k0_pay27, k0_pay28, k0_pay29, k0_pay30, k0_pay31]
  unfold dotAt
  refine congrArg (· + b (ix4 0 0 r c)) ?_
  obtain h | h | h | h | h | h | h | h : ((r : ℕ) < 64) ∨ (64 ≤ (r : ℕ) ∧ (r : ℕ) < 128) ∨ (128 ≤ (r : ℕ) ∧ (r : ℕ) < 192) ∨ (192 ≤ (r : ℕ) ∧ (r : ℕ) < 256)
      ∨ (256 ≤ (r : ℕ) ∧ (r : ℕ) < 320) ∨ (320 ≤ (r : ℕ) ∧ (r : ℕ) < 384) ∨ (384 ≤ (r : ℕ) ∧ (r : ℕ) < 448) ∨ (448 ≤ (r : ℕ)) := by omega
  · simp only [dif_pos (show (r : ℕ) < 64 by omega)]
    refine (half_lo (fun n => q0 (ix2 _ n)) _).trans (Finset.sum_congr rfl fun d _ => ?_)
    rw [a0]
    exact qk Q k (by simp only; omega) (by simp only; omega) (by simp only; omega)
  · simp only [dif_neg (show ¬ ((r : ℕ) < 64) by omega), dif_pos (show (r : ℕ) - 64 < 64 by omega)]
    refine (half_hi (fun n => q0 (ix2 _ n)) _).trans (Finset.sum_congr rfl fun d _ => ?_)
    rw [a0]
    exact qk Q k (by simp only; omega) (by simp only; omega) (by simp only; omega)
  · simp only [dif_neg (show ¬ ((r : ℕ) < 64) by omega), dif_neg (show ¬ ((r : ℕ) - 64 < 64) by omega), dif_pos (show (r : ℕ) - 64 - 64 < 64 by omega)]
    refine (half_lo (fun n => q1 (ix2 _ n)) _).trans (Finset.sum_congr rfl fun d _ => ?_)
    rw [a1]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_pos (show (r : ℕ) - 64 - 64 - 64 < 64 by omega)]
    refine (half_hi (fun n => q1 (ix2 _ n)) _).trans (Finset.sum_congr rfl fun d _ => ?_)
    rw [a1]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_pos (show (r : ℕ) - 64 - 64 - 64 - 64 < 64 by omega)]
    refine (half_lo (fun n => q2 (ix2 _ n)) _).trans (Finset.sum_congr rfl fun d _ => ?_)
    rw [a2]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_neg (show ¬ ((r : ℕ) - 64 - 64 - 64 - 64 < 64) by omega), dif_pos (show (r : ℕ) - 64 - 64 - 64 - 64 - 64 < 64 by omega)]
    refine (half_hi (fun n => q2 (ix2 _ n)) _).trans (Finset.sum_congr rfl fun d _ => ?_)
    rw [a2]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_neg (show ¬ ((r : ℕ) - 64 - 64 - 64 - 64 < 64) by omega), dif_neg (show ¬ ((r : ℕ) - 64 - 64 - 64 - 64 - 64 < 64) by omega), dif_pos (show (r : ℕ) - 64 - 64 - 64 - 64 - 64 - 64 < 64 by omega)]
    refine (half_lo (fun n => q3 (ix2 _ n)) _).trans (Finset.sum_congr rfl fun d _ => ?_)
    rw [a3]
    exact qk Q k (by simp only; omega) (by simp only; omega) (by simp only; omega)
  · simp only [dif_neg (show ¬ ((r : ℕ) < 64) by omega), dif_neg (show ¬ ((r : ℕ) - 64 < 64) by omega), dif_neg (show ¬ ((r : ℕ) - 64 - 64 < 64) by omega), dif_neg (show ¬ ((r : ℕ) - 64 - 64 - 64 < 64) by omega), dif_neg (show ¬ ((r : ℕ) - 64 - 64 - 64 - 64 < 64) by omega), dif_neg (show ¬ ((r : ℕ) - 64 - 64 - 64 - 64 - 64 < 64) by omega), dif_neg (show ¬ ((r : ℕ) - 64 - 64 - 64 - 64 - 64 - 64 < 64) by omega)]
    refine (half_hi (fun n => q3 (ix2 _ n)) _).trans (Finset.sum_congr rfl fun d _ => ?_)
    rw [a3]
    exact qk Q k (by simp only; omega) (by simp only; omega) (by simp only; omega)

end Scores

section Stores

variable (v : FVec Ideal S256x512 .bf16) (s : FVec Ideal S512x256 .f32)

/-- The block stored for pair 0 of group 0. -/
theorem store00 (x : S64x128.Idx) :
    k0_pay39 (F := Ideal) v k0_pay6 k0_pay7 (k0_pay32 s) x
      = quo (fun c => s (ix2 ⟨64 * ((x 1 : ℕ) / 64) + (x 0 : ℕ), by have := (x 0).isLt; have := (x 1).isLt; simp at *; omega⟩ c)) (fun c => v (ix2 c ⟨(x 1 : ℕ), by have := (x 1).isLt; simp at *; omega⟩)) := by
  idx_vars x
  pointwise [k0_pay6, k0_pay7, k0_pay32, k0_pay38, k0_pay39]
  rw [sel]
  split_ifs with h
  · have e : (⟨64 * ((x1 : ℕ) / 64) + (x0 : ℕ), by omega⟩ : Fin 512) = ⟨(x0 : ℕ), by omega⟩ := Fin.ext (by simp only; omega)
    simp only [e, quo, wt, top, zero_add, Nat.zero_add, Nat.add_zero]
  · have e : (⟨64 * ((x1 : ℕ) / 64) + (x0 : ℕ), by omega⟩ : Fin 512) = ⟨64 + (x0 : ℕ), by omega⟩ := Fin.ext (by simp only; omega)
    simp only [e, quo, wt, top, zero_add, Nat.zero_add, Nat.add_zero]

/-- The block stored for pair 1 of group 0. -/
theorem store01 (x : S64x128.Idx) :
    k0_pay40 (F := Ideal) v k0_pay6 k0_pay7 (k0_pay32 s) x
      = quo (fun c => s (ix2 ⟨128 + 64 * ((x 1 : ℕ) / 64) + (x 0 : ℕ), by have := (x 0).isLt; have := (x 1).isLt; simp at *; omega⟩ c)) (fun c => v (ix2 c ⟨(x 1 : ℕ), by have := (x 1).isLt; simp at *; omega⟩)) := by
  idx_vars x
  pointwise [k0_pay6, k0_pay7, k0_pay32, k0_pay38, k0_pay40]
  rw [sel]
  split_ifs with h
  · have e : (⟨128 + 64 * ((x1 : ℕ) / 64) + (x0 : ℕ), by omega⟩ : Fin 512) = ⟨128 + (x0 : ℕ), by omega⟩ := Fin.ext (by simp only; omega)
    simp only [e, quo, wt, top, zero_add, Nat.zero_add, Nat.add_zero]
  · have e : (⟨128 + 64 * ((x1 : ℕ) / 64) + (x0 : ℕ), by omega⟩ : Fin 512) = ⟨192 + (x0 : ℕ), by omega⟩ := Fin.ext (by simp only; omega)
    simp only [e, quo, wt, top, zero_add, Nat.zero_add, Nat.add_zero]

/-- The block stored for pair 2 of group 0. -/
theorem store02 (x : S64x128.Idx) :
    k0_pay41 (F := Ideal) v k0_pay6 k0_pay7 (k0_pay32 s) x
      = quo (fun c => s (ix2 ⟨256 + 64 * ((x 1 : ℕ) / 64) + (x 0 : ℕ), by have := (x 0).isLt; have := (x 1).isLt; simp at *; omega⟩ c)) (fun c => v (ix2 c ⟨(x 1 : ℕ), by have := (x 1).isLt; simp at *; omega⟩)) := by
  idx_vars x
  pointwise [k0_pay6, k0_pay7, k0_pay32, k0_pay38, k0_pay41]
  rw [sel]
  split_ifs with h
  · have e : (⟨256 + 64 * ((x1 : ℕ) / 64) + (x0 : ℕ), by omega⟩ : Fin 512) = ⟨256 + (x0 : ℕ), by omega⟩ := Fin.ext (by simp only; omega)
    simp only [e, quo, wt, top, zero_add, Nat.zero_add, Nat.add_zero]
  · have e : (⟨256 + 64 * ((x1 : ℕ) / 64) + (x0 : ℕ), by omega⟩ : Fin 512) = ⟨320 + (x0 : ℕ), by omega⟩ := Fin.ext (by simp only; omega)
    simp only [e, quo, wt, top, zero_add, Nat.zero_add, Nat.add_zero]

/-- The block stored for pair 3 of group 0. -/
theorem store03 (x : S64x128.Idx) :
    k0_pay44 (F := Ideal) k0_pay6 (k0_pay42 v k0_pay7 (k0_pay32 s)) (k0_pay43 v k0_pay7 (k0_pay32 s)) x
      = quo (fun c => s (ix2 ⟨384 + 64 * ((x 1 : ℕ) / 64) + (x 0 : ℕ), by have := (x 0).isLt; have := (x 1).isLt; simp at *; omega⟩ c)) (fun c => v (ix2 c ⟨(x 1 : ℕ), by have := (x 1).isLt; simp at *; omega⟩)) := by
  idx_vars x
  pointwise [k0_pay6, k0_pay7, k0_pay32, k0_pay38, k0_pay42, k0_pay43, k0_pay44]
  rw [sel]
  split_ifs with h
  · have e : (⟨384 + 64 * ((x1 : ℕ) / 64) + (x0 : ℕ), by omega⟩ : Fin 512) = ⟨384 + (x0 : ℕ), by omega⟩ := Fin.ext (by simp only; omega)
    simp only [e, quo, wt, top, zero_add, Nat.zero_add, Nat.add_zero]
  · have e : (⟨384 + 64 * ((x1 : ℕ) / 64) + (x0 : ℕ), by omega⟩ : Fin 512) = ⟨448 + (x0 : ℕ), by omega⟩ := Fin.ext (by simp only; omega)
    simp only [e, quo, wt, top, zero_add, Nat.zero_add, Nat.add_zero]

/-- The block stored for pair 0 of group 1. -/
theorem store10 (x : S64x128.Idx) :
    k0_pay46 (F := Ideal) k0_pay6 (k0_pay35 v k0_pay7 (k0_pay33 s)) x
      = quo (fun c => s (ix2 ⟨64 * ((x 1 : ℕ) / 64) + (x 0 : ℕ), by have := (x 0).isLt; have := (x 1).isLt; simp at *; omega⟩ c)) (fun c => v (ix2 c ⟨128 + (x 1 : ℕ), by have := (x 1).isLt; simp at *; omega⟩)) := by
  idx_vars x
  pointwise [k0_pay6, k0_pay7, k0_pay33, k0_pay35, k0_pay45, k0_pay46]
  rw [sel]
  split_ifs with h
  · have e : (⟨64 * ((x1 : ℕ) / 64) + (x0 : ℕ), by omega⟩ : Fin 512) = ⟨(x0 : ℕ), by omega⟩ := Fin.ext (by simp only; omega)
    simp only [e, quo, wt, top, zero_add, Nat.zero_add, Nat.add_zero]
  · have e : (⟨64 * ((x1 : ℕ) / 64) + (x0 : ℕ), by omega⟩ : Fin 512) = ⟨64 + (x0 : ℕ), by omega⟩ := Fin.ext (by simp only; omega)
    simp only [e, quo, wt, top, zero_add, Nat.zero_add, Nat.add_zero]

/-- The block stored for pair 1 of group 1. -/
theorem store11 (x : S64x128.Idx) :
    k0_pay47 (F := Ideal) k0_pay6 (k0_pay35 v k0_pay7 (k0_pay33 s)) x
      = quo (fun c => s (ix2 ⟨128 + 64 * ((x 1 : ℕ) / 64) + (x 0 : ℕ), by have := (x 0).isLt; have := (x 1).isLt; simp at *; omega⟩ c)) (fun c => v (ix2 c ⟨128 + (x 1 : ℕ), by have := (x 1).isLt; simp at *; omega⟩)) := by
  idx_vars x
  pointwise [k0_pay6, k0_pay7, k0_pay33, k0_pay35, k0_pay45, k0_pay47]
  rw [sel]
  split_ifs with h
  · have e : (⟨128 + 64 * ((x1 : ℕ) / 64) + (x0 : ℕ), by omega⟩ : Fin 512) = ⟨128 + (x0 : ℕ), by omega⟩ := Fin.ext (by simp only; omega)
    simp only [e, quo, wt, top, zero_add, Nat.zero_add, Nat.add_zero]
  · have e : (⟨128 + 64 * ((x1 : ℕ) / 64) + (x0 : ℕ), by omega⟩ : Fin 512) = ⟨192 + (x0 : ℕ), by omega⟩ := Fin.ext (by simp only; omega)
    simp only [e, quo, wt, top, zero_add, Nat.zero_add, Nat.add_zero]

/-- The block stored for pair 2 of group 1. -/
theorem store12 (x : S64x128.Idx) :
    k0_pay48 (F := Ideal) k0_pay6 (k0_pay35 v k0_pay7 (k0_pay33 s)) x
      = quo (fun c => s (ix2 ⟨256 + 64 * ((x 1 : ℕ) / 64) + (x 0 : ℕ), by have := (x 0).isLt; have := (x 1).isLt; simp at *; omega⟩ c)) (fun c => v (ix2 c ⟨128 + (x 1 : ℕ), by have := (x 1).isLt; simp at *; omega⟩)) := by
  idx_vars x
  pointwise [k0_pay6, k0_pay7, k0_pay33, k0_pay35, k0_pay45, k0_pay48]
  rw [sel]
  split_ifs with h
  · have e : (⟨256 + 64 * ((x1 : ℕ) / 64) + (x0 : ℕ), by omega⟩ : Fin 512) = ⟨256 + (x0 : ℕ), by omega⟩ := Fin.ext (by simp only; omega)
    simp only [e, quo, wt, top, zero_add, Nat.zero_add, Nat.add_zero]
  · have e : (⟨256 + 64 * ((x1 : ℕ) / 64) + (x0 : ℕ), by omega⟩ : Fin 512) = ⟨320 + (x0 : ℕ), by omega⟩ := Fin.ext (by simp only; omega)
    simp only [e, quo, wt, top, zero_add, Nat.zero_add, Nat.add_zero]

/-- The block stored for pair 3 of group 1. -/
theorem store13 (x : S64x128.Idx) :
    k0_pay49 (F := Ideal) k0_pay6 (k0_pay35 v k0_pay7 (k0_pay33 s)) x
      = quo (fun c => s (ix2 ⟨384 + 64 * ((x 1 : ℕ) / 64) + (x 0 : ℕ), by have := (x 0).isLt; have := (x 1).isLt; simp at *; omega⟩ c)) (fun c => v (ix2 c ⟨128 + (x 1 : ℕ), by have := (x 1).isLt; simp at *; omega⟩)) := by
  idx_vars x
  pointwise [k0_pay6, k0_pay7, k0_pay33, k0_pay35, k0_pay45, k0_pay49]
  rw [sel]
  split_ifs with h
  · have e : (⟨384 + 64 * ((x1 : ℕ) / 64) + (x0 : ℕ), by omega⟩ : Fin 512) = ⟨384 + (x0 : ℕ), by omega⟩ := Fin.ext (by simp only; omega)
    simp only [e, quo, wt, top, zero_add, Nat.zero_add, Nat.add_zero]
  · have e : (⟨384 + 64 * ((x1 : ℕ) / 64) + (x0 : ℕ), by omega⟩ : Fin 512) = ⟨448 + (x0 : ℕ), by omega⟩ := Fin.ext (by simp only; omega)
    simp only [e, quo, wt, top, zero_add, Nat.zero_add, Nat.add_zero]

/-- The block stored for pair 0 of group 2. -/
theorem store20 (x : S64x128.Idx) :
    k0_pay51 (F := Ideal) k0_pay6 (k0_pay36 v k0_pay7 (k0_pay34 s)) x
      = quo (fun c => s (ix2 ⟨64 * ((x 1 : ℕ) / 64) + (x 0 : ℕ), by have := (x 0).isLt; have := (x 1).isLt; simp at *; omega⟩ c)) (fun c => v (ix2 c ⟨256 + (x 1 : ℕ), by have := (x 1).isLt; simp at *; omega⟩)) := by
  idx_vars x
  pointwise [k0_pay6, k0_pay7, k0_pay34, k0_pay36, k0_pay50, k0_pay51]
  rw [sel]
  split_ifs with h
  · have e : (⟨64 * ((x1 : ℕ) / 64) + (x0 : ℕ), by omega⟩ : Fin 512) = ⟨(x0 : ℕ), by omega⟩ := Fin.ext (by simp only; omega)
    simp only [e, quo, wt, top, zero_add, Nat.zero_add, Nat.add_zero]
  · have e : (⟨64 * ((x1 : ℕ) / 64) + (x0 : ℕ), by omega⟩ : Fin 512) = ⟨64 + (x0 : ℕ), by omega⟩ := Fin.ext (by simp only; omega)
    simp only [e, quo, wt, top, zero_add, Nat.zero_add, Nat.add_zero]

/-- The block stored for pair 1 of group 2. -/
theorem store21 (x : S64x128.Idx) :
    k0_pay52 (F := Ideal) k0_pay6 (k0_pay50 (k0_pay36 v k0_pay7 (k0_pay34 s))) x
      = quo (fun c => s (ix2 ⟨128 + 64 * ((x 1 : ℕ) / 64) + (x 0 : ℕ), by have := (x 0).isLt; have := (x 1).isLt; simp at *; omega⟩ c)) (fun c => v (ix2 c ⟨256 + (x 1 : ℕ), by have := (x 1).isLt; simp at *; omega⟩)) := by
  idx_vars x
  pointwise [k0_pay6, k0_pay7, k0_pay34, k0_pay36, k0_pay50, k0_pay52]
  rw [sel]
  split_ifs with h
  · have e : (⟨128 + 64 * ((x1 : ℕ) / 64) + (x0 : ℕ), by omega⟩ : Fin 512) = ⟨128 + (x0 : ℕ), by omega⟩ := Fin.ext (by simp only; omega)
    simp only [e, quo, wt, top, zero_add, Nat.zero_add, Nat.add_zero]
  · have e : (⟨128 + 64 * ((x1 : ℕ) / 64) + (x0 : ℕ), by omega⟩ : Fin 512) = ⟨192 + (x0 : ℕ), by omega⟩ := Fin.ext (by simp only; omega)
    simp only [e, quo, wt, top, zero_add, Nat.zero_add, Nat.add_zero]

/-- The block stored for pair 2 of group 2. -/
theorem store22 (x : S64x128.Idx) :
    k0_pay53 (F := Ideal) k0_pay6 (k0_pay50 (k0_pay36 v k0_pay7 (k0_pay34 s))) x
      = quo (fun c => s (ix2 ⟨256 + 64 * ((x 1 : ℕ) / 64) + (x 0 : ℕ), by have := (x 0).isLt; have := (x 1).isLt; simp at *; omega⟩ c)) (fun c => v (ix2 c ⟨256 + (x 1 : ℕ), by have := (x 1).isLt; simp at *; omega⟩)) := by
  idx_vars x
  pointwise [k0_pay6, k0_pay7, k0_pay34, k0_pay36, k0_pay50, k0_pay53]
  rw [sel]
  split_ifs with h
  · have e : (⟨256 + 64 * ((x1 : ℕ) / 64) + (x0 : ℕ), by omega⟩ : Fin 512) = ⟨256 + (x0 : ℕ), by omega⟩ := Fin.ext (by simp only; omega)
    simp only [e, quo, wt, top, zero_add, Nat.zero_add, Nat.add_zero]
  · have e : (⟨256 + 64 * ((x1 : ℕ) / 64) + (x0 : ℕ), by omega⟩ : Fin 512) = ⟨320 + (x0 : ℕ), by omega⟩ := Fin.ext (by simp only; omega)
    simp only [e, quo, wt, top, zero_add, Nat.zero_add, Nat.add_zero]

/-- The block stored for pair 3 of group 2. -/
theorem store23 (x : S64x128.Idx) :
    k0_pay54 (F := Ideal) k0_pay6 (k0_pay50 (k0_pay36 v k0_pay7 (k0_pay34 s))) x
      = quo (fun c => s (ix2 ⟨384 + 64 * ((x 1 : ℕ) / 64) + (x 0 : ℕ), by have := (x 0).isLt; have := (x 1).isLt; simp at *; omega⟩ c)) (fun c => v (ix2 c ⟨256 + (x 1 : ℕ), by have := (x 1).isLt; simp at *; omega⟩)) := by
  idx_vars x
  pointwise [k0_pay6, k0_pay7, k0_pay34, k0_pay36, k0_pay50, k0_pay54]
  rw [sel]
  split_ifs with h
  · have e : (⟨384 + 64 * ((x1 : ℕ) / 64) + (x0 : ℕ), by omega⟩ : Fin 512) = ⟨384 + (x0 : ℕ), by omega⟩ := Fin.ext (by simp only; omega)
    simp only [e, quo, wt, top, zero_add, Nat.zero_add, Nat.add_zero]
  · have e : (⟨384 + 64 * ((x1 : ℕ) / 64) + (x0 : ℕ), by omega⟩ : Fin 512) = ⟨448 + (x0 : ℕ), by omega⟩ := Fin.ext (by simp only; omega)
    simp only [e, quo, wt, top, zero_add, Nat.zero_add, Nat.add_zero]

/-- The block stored for pair 0 of group 3. -/
theorem store30 (x : S64x128.Idx) :
    k0_pay56 (F := Ideal) k0_pay6 (k0_pay37 v k0_pay7 s) x
      = quo (fun c => s (ix2 ⟨64 * ((x 1 : ℕ) / 64) + (x 0 : ℕ), by have := (x 0).isLt; have := (x 1).isLt; simp at *; omega⟩ c)) (fun c => v (ix2 c ⟨384 + (x 1 : ℕ), by have := (x 1).isLt; simp at *; omega⟩)) := by
  idx_vars x
  pointwise [k0_pay6, k0_pay7, k0_pay37, k0_pay55, k0_pay56]
  rw [sel]
  split_ifs with h
  · have e : (⟨64 * ((x1 : ℕ) / 64) + (x0 : ℕ), by omega⟩ : Fin 512) = ⟨(x0 : ℕ), by omega⟩ := Fin.ext (by simp only; omega)
    simp only [e, quo, wt, top, zero_add, Nat.zero_add, Nat.add_zero]
  · have e : (⟨64 * ((x1 : ℕ) / 64) + (x0 : ℕ), by omega⟩ : Fin 512) = ⟨64 + (x0 : ℕ), by omega⟩ := Fin.ext (by simp only; omega)
    simp only [e, quo, wt, top, zero_add, Nat.zero_add, Nat.add_zero]

/-- The block stored for pair 1 of group 3. -/
theorem store31 (x : S64x128.Idx) :
    k0_pay57 (F := Ideal) k0_pay6 (k0_pay37 v k0_pay7 s) x
      = quo (fun c => s (ix2 ⟨128 + 64 * ((x 1 : ℕ) / 64) + (x 0 : ℕ), by have := (x 0).isLt; have := (x 1).isLt; simp at *; omega⟩ c)) (fun c => v (ix2 c ⟨384 + (x 1 : ℕ), by have := (x 1).isLt; simp at *; omega⟩)) := by
  idx_vars x
  pointwise [k0_pay6, k0_pay7, k0_pay37, k0_pay55, k0_pay57]
  rw [sel]
  split_ifs with h
  · have e : (⟨128 + 64 * ((x1 : ℕ) / 64) + (x0 : ℕ), by omega⟩ : Fin 512) = ⟨128 + (x0 : ℕ), by omega⟩ := Fin.ext (by simp only; omega)
    simp only [e, quo, wt, top, zero_add, Nat.zero_add, Nat.add_zero]
  · have e : (⟨128 + 64 * ((x1 : ℕ) / 64) + (x0 : ℕ), by omega⟩ : Fin 512) = ⟨192 + (x0 : ℕ), by omega⟩ := Fin.ext (by simp only; omega)
    simp only [e, quo, wt, top, zero_add, Nat.zero_add, Nat.add_zero]

/-- The block stored for pair 2 of group 3. -/
theorem store32 (x : S64x128.Idx) :
    k0_pay1 (F := Ideal) (k0_pay58 (k0_pay37 v k0_pay7 s)) (k0_pay59 (k0_pay37 v k0_pay7 s)) (k0_pay60 k0_pay6) x
      = quo (fun c => s (ix2 ⟨256 + 64 * ((x 1 : ℕ) / 64) + (x 0 : ℕ), by have := (x 0).isLt; have := (x 1).isLt; simp at *; omega⟩ c)) (fun c => v (ix2 c ⟨384 + (x 1 : ℕ), by have := (x 1).isLt; simp at *; omega⟩)) := by
  idx_vars x
  pointwise [k0_pay1, k0_pay6, k0_pay7, k0_pay37, k0_pay55, k0_pay58, k0_pay59, k0_pay60]
  rw [sel]
  split_ifs with h
  · have e : (⟨256 + 64 * ((x1 : ℕ) / 64) + (x0 : ℕ), by omega⟩ : Fin 512) = ⟨256 + (x0 : ℕ), by omega⟩ := Fin.ext (by simp only; omega)
    simp only [e, quo, wt, top, zero_add, Nat.zero_add, Nat.add_zero]
  · have e : (⟨256 + 64 * ((x1 : ℕ) / 64) + (x0 : ℕ), by omega⟩ : Fin 512) = ⟨320 + (x0 : ℕ), by omega⟩ := Fin.ext (by simp only; omega)
    simp only [e, quo, wt, top, zero_add, Nat.zero_add, Nat.add_zero]

/-- The block stored for pair 3 of group 3. -/
theorem store33 (x : S64x128.Idx) :
    k0_pay2 (F := Ideal) k0_pay6 (k0_pay55 (k0_pay37 v k0_pay7 s)) x
      = quo (fun c => s (ix2 ⟨384 + 64 * ((x 1 : ℕ) / 64) + (x 0 : ℕ), by have := (x 0).isLt; have := (x 1).isLt; simp at *; omega⟩ c)) (fun c => v (ix2 c ⟨384 + (x 1 : ℕ), by have := (x 1).isLt; simp at *; omega⟩)) := by
  idx_vars x
  pointwise [k0_pay2, k0_pay6, k0_pay7, k0_pay37, k0_pay55]
  rw [sel]
  split_ifs with h
  · have e : (⟨384 + 64 * ((x1 : ℕ) / 64) + (x0 : ℕ), by omega⟩ : Fin 512) = ⟨384 + (x0 : ℕ), by omega⟩ := Fin.ext (by simp only; omega)
    simp only [e, quo, wt, top, zero_add, Nat.zero_add, Nat.add_zero]
  · have e : (⟨384 + 64 * ((x1 : ℕ) / 64) + (x0 : ℕ), by omega⟩ : Fin 512) = ⟨448 + (x0 : ℕ), by omega⟩ := Fin.ext (by simp only; omega)
    simp only [e, quo, wt, top, zero_add, Nat.zero_add, Nat.add_zero]

end Stores

end Cert.AttnCoreIdeal.Pieces
-- ==== Proof.AttnCoreArr.lean ====
/- Hand-written: the result array of the attention kernel. -/
module
public import proofs.«01_k».proof.Proof.AttnCorePieces
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnCoreIdeal.Arr

open Cert.AttnCoreIdeal Cert.AttnCoreIdeal.Gen Cert.AttnCoreIdeal.Pieces Cert.Attn

variable (m : (ℓ : Loc nD τ sig) → Buf (Elt Ideal) ℓ)

/-- The bias a step adds to its scores, by the number of chunks before the step's (two at most). -/
def bias (S : FVec Ideal S32 .f32) (b : Fin 3) (g : Fin 4) (r : Fin 512) (c : Fin 256) : EReal :=
  if (c : ℕ) < (2 - (b : ℕ)) * 64 then ⊥ else if (c : ℕ) < 192 then 0
  else if (c : ℕ) = 192 then S (ix1 ⟨(g : ℕ) * 8 + (r : ℕ) / 64, by omega⟩) else ⊥

/-- The bias's three comparisons and its choice. -/
theorem bias_sel (b : Fin 3) (c : Fin 256) (e z s f : EReal) :
    Scalar.select (IntOp.cmpi CmpIPredicate.slt (BitVec.ofNat 32 c) (IntOp.muli (IntOp.subi (2#32) (BitVec.ofNat 32 b)) 64#32)) e
      (Scalar.select (IntOp.cmpi CmpIPredicate.slt (BitVec.ofNat 32 c) 192#32) z
        (Scalar.select (IntOp.cmpi CmpIPredicate.eq (BitVec.ofNat 32 c) 192#32) s f))
      = if (c : ℕ) < (2 - (b : ℕ)) * 64 then e else if (c : ℕ) < 192 then z else if (c : ℕ) = 192 then s else f := by
  have h1 : ∀ (b : Fin 3) (c : Fin 256), IntOp.cmpi CmpIPredicate.slt (BitVec.ofNat 32 c) (IntOp.muli (IntOp.subi (2#32) (BitVec.ofNat 32 b)) 64#32)
      = if (c : ℕ) < (2 - (b : ℕ)) * 64 then 1#1 else 0#1 := by decide +kernel
  have h2 : ∀ c : Fin 256, IntOp.cmpi CmpIPredicate.slt (BitVec.ofNat 32 c) 192#32 = if (c : ℕ) < 192 then 1#1 else 0#1 := by decide +kernel
  have h3 : ∀ c : Fin 256, IntOp.cmpi CmpIPredicate.eq (BitVec.ofNat 32 c) 192#32 = if (c : ℕ) = 192 then 1#1 else 0#1 := by decide +kernel
  rw [h1, h2, h3]
  split_ifs <;> rfl

set_option maxHeartbeats 1600000 in
/-- The host's bias. -/
theorem sink_read (c : Dev nD) (x : S3x4x512x256.Idx) :
    V (F := Ideal) m c main_v36 x = bias (m ((c : Thread nD τ).loc main_arg5)) (x 0) (x 1) (x 2) (x 3) := by
  unfold V; simp only [hostOps0, hostOps0_1, hostOps0_2, hostOps0_3, hostOps0_4, hostOps0_5, List.flatten_cons, List.flatten_nil, List.append_nil, List.cons_append,
    List.nil_append, StableHlo.TRef.unary, StableHlo.TRef.binary, StableHlo.TRef.nullary, StableHlo.TRef.ternary, StableHlo.TRef.toBuf, StableHlo.TRef.ofBuf, cast_eq]
  entry_read; idx_vars x; pointwise [bias]
  refine (bias_sel x0 x3 _ _ _ _).trans ?_
  rw [low]

/-- The rows' keys and values, each head's columns twice. -/
theorem kv_read (c : Dev nD) (x : S18432x1024.Idx) : V (F := Ideal) m c main_v6 x =
    if h : (x 1 : ℕ) < 512 then m ((c : Thread nD τ).loc main_arg1) (ix2 (x 0) ⟨(x 1 : ℕ) / 128 * 64 + (x 1 : ℕ) % 64, by have := (x 1).isLt; simp at this; omega⟩)
    else m ((c : Thread nD τ).loc main_arg2) (ix2 (x 0) ⟨((x 1 : ℕ) - 512) / 128 * 64 + ((x 1 : ℕ) - 512) % 64, by have := (x 1).isLt; simp at this; omega⟩) := by
  unfold V; simp only [hostOps0, hostOps0_1, hostOps0_2, hostOps0_3, hostOps0_4, hostOps0_5, List.flatten_cons, List.flatten_nil, List.append_nil, List.cons_append,
    List.nil_append, StableHlo.TRef.unary, StableHlo.TRef.binary, StableHlo.TRef.nullary, StableHlo.TRef.ternary, StableHlo.TRef.toBuf, StableHlo.TRef.ofBuf, cast_eq]
  entry_read; idx_vars x; pointwise

/-- The cache's keys, each head's columns twice. -/
theorem ck_read (c : Dev nD) (x : S4096x512.Idx) : V (F := Ideal) m c main_v10 x =
    m ((c : Thread nD τ).loc main_arg3) (ix4 ⟨(x 0 : ℕ) / 128, by have := (x 0).isLt; simp at this; omega⟩ ⟨(x 0 : ℕ) % 128, by omega⟩
      ⟨(x 1 : ℕ) / 128, by have := (x 1).isLt; simp at this; omega⟩ ⟨(x 1 : ℕ) % 64, by omega⟩) := by
  unfold V; simp only [hostOps0, hostOps0_1, hostOps0_2, hostOps0_3, hostOps0_4, hostOps0_5, List.flatten_cons, List.flatten_nil, List.append_nil, List.cons_append,
    List.nil_append, StableHlo.TRef.unary, StableHlo.TRef.binary, StableHlo.TRef.nullary, StableHlo.TRef.ternary, StableHlo.TRef.toBuf, StableHlo.TRef.ofBuf, cast_eq]
  entry_read; idx_vars x; pointwise

/-- The cache's values, each head's columns twice. -/
theorem cv_read (c : Dev nD) (x : S4096x512.Idx) : V (F := Ideal) m c main_v14 x =
    m ((c : Thread nD τ).loc main_arg4) (ix4 ⟨(x 0 : ℕ) / 128, by have := (x 0).isLt; simp at this; omega⟩ ⟨(x 0 : ℕ) % 128, by omega⟩
      ⟨(x 1 : ℕ) / 128, by have := (x 1).isLt; simp at this; omega⟩ ⟨(x 1 : ℕ) % 64, by omega⟩) := by
  unfold V; simp only [hostOps0, hostOps0_1, hostOps0_2, hostOps0_3, hostOps0_4, hostOps0_5, List.flatten_cons, List.flatten_nil, List.append_nil, List.cons_append,
    List.nil_append, StableHlo.TRef.unary, StableHlo.TRef.binary, StableHlo.TRef.nullary, StableHlo.TRef.ternary, StableHlo.TRef.toBuf, StableHlo.TRef.ofBuf, cast_eq]
  entry_read; idx_vars x; pointwise

/-- The blocks a step reads and writes. -/
theorem idx : ∀ t : Fin cfg0.N, win0_0.index t = ![min t.val 2, 0, 0, 0]
    ∧ win0_1.index t = ![t.val, 0]
    ∧ win0_2.index t = ![min t.val 255 - 2, 0]
    ∧ win0_3.index t = ![min t.val 255 - 1, 0]
    ∧ win0_4.index t = ![2 * (t.val - 256), 0]
    ∧ win0_5.index t = ![2 * (t.val - 256) + 1, 0]
    ∧ win0_6.index t = ![t.val, 0]
    ∧ win0_7.index t = ![min t.val 255 - 2, 1]
    ∧ win0_8.index t = ![min t.val 255 - 1, 1]
    ∧ win0_9.index t = ![2 * (t.val - 256), 0]
    ∧ win0_10.index t = ![2 * (t.val - 256) + 1, 0]
    ∧ win0_11.index t = ![t.val, 1]
    ∧ win0_12.index t = ![t.val, 0] :=
  (by decide +kernel : ∀ t : Fin grid0.N, _)

/-- What a step leaves at row `i` and column `n` of its block. -/
def blk (b : FVec Ideal S1x4x512x256 .f32) (Q : FVec Ideal S64x2048 .bf16) (k v : FVec Ideal S256x512 .bf16) (i : Fin 64) (n : Fin 2048) : EReal :=
  quo (fun c => dotAt Q k ((n : ℕ) / 512) (by omega) ⟨64 * ((n : ℕ) / 64 % 8) + i, by omega⟩ c
      + b (ix4 0 ⟨(n : ℕ) / 512, by omega⟩ ⟨64 * ((n : ℕ) / 64 % 8) + i, by omega⟩ c))
    (fun c => v (ix2 c ⟨128 * ((n : ℕ) / 512) + (n : ℕ) % 128, by omega⟩))

/-- A group's stored entry is the block's, when the scores are the group's. -/
theorem blk_of (b : FVec Ideal S1x4x512x256 .f32) (Q : FVec Ideal S64x2048 .bf16) (k v : FVec Ideal S256x512 .bf16) (i : Fin 64) (n : Fin 2048)
    (s : FVec Ideal S512x256 .f32) (b' : FVec Ideal S1x1x512x256 .f32) (g : ℕ) (hg : g < 4) (hs : ∀ r c, s (ix2 r c) = dotAt Q k g hg r c + b' (ix4 0 0 r c))
    (hb : ∀ r c, b' (ix4 0 0 r c) = b (ix4 0 ⟨g, hg⟩ r c))
    (r : Fin 512) (l : Fin 512) (hn : (n : ℕ) / 512 = g) (hr : (r : ℕ) = 64 * ((n : ℕ) / 64 % 8) + i) (hl : (l : ℕ) = 128 * ((n : ℕ) / 512) + (n : ℕ) % 128) :
    quo (fun c => s (ix2 r c)) (fun c => v (ix2 c l)) = blk b Q k v i n := by
  subst hn
  have er : r = ⟨64 * ((n : ℕ) / 64 % 8) + i, by omega⟩ := Fin.ext hr
  have el : l = ⟨128 * ((n : ℕ) / 512) + (n : ℕ) % 128, by omega⟩ := Fin.ext hl
  unfold blk
  rw [er, el]
  congr 1
  funext c
  rw [hs, hb]

set_option maxHeartbeats 3200000 in
/-- What a step stores. -/
theorem out_at (i : grid0.Coords) (x0 : Vec Ideal S1x4x512x256 .f32) (x1 : Vec Ideal S64x2048 .bf16) (x2 x3 x4 x5 x6 x7 x8 x9 x10 x11 : Vec Ideal S64x512 .bf16)
    (y : S64x2048.Idx) : out0_12 (F := Ideal) i x0 x1 x2 x3 x4 x5 x6 x7 x8 x9 x10 x11 y
      = blk x0 x1 (k0_pay61 i x0 x1 x2 x3 x4 x5 x6 x7 x8 x9 x10 x11) (k0_pay62 i x0 x1 x2 x3 x4 x5 x6 x7 x8 x9 x10 x11) (y 0) (y 1) := by
  unfold out0_12 k0_pay69 k0_pay68 k0_pay67 k0_pay66 k0_pay65 k0_pay64 k0_pay63
  have yl0 : (y 0 : ℕ) < 64 := (y 0).isLt
  have yl1 : (y 1 : ℕ) < 2048 := (y 1).isLt
  canon_tiles x h
  · have xl0 : (x 0 : ℕ) < 64 := (x 0).isLt
    have xl1 : (x 1 : ℕ) < 128 := (x 1).isLt
    refine (store33 _ _ x).trans (blk_of _ _ _ _ _ _ _ _ 3 (by omega) (fun r c => score3 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega
  · have xl0 : (x 0 : ℕ) < 64 := (x 0).isLt
    have xl1 : (x 1 : ℕ) < 128 := (x 1).isLt
    refine (store32 _ _ x).trans (blk_of _ _ _ _ _ _ _ _ 3 (by omega) (fun r c => score3 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega
  · have xl0 : (x 0 : ℕ) < 64 := (x 0).isLt
    have xl1 : (x 1 : ℕ) < 128 := (x 1).isLt
    refine (store31 _ _ x).trans (blk_of _ _ _ _ _ _ _ _ 3 (by omega) (fun r c => score3 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega
  · have xl0 : (x 0 : ℕ) < 64 := (x 0).isLt
    have xl1 : (x 1 : ℕ) < 128 := (x 1).isLt
    refine (store30 _ _ x).trans (blk_of _ _ _ _ _ _ _ _ 3 (by omega) (fun r c => score3 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega
  · have xl0 : (x 0 : ℕ) < 64 := (x 0).isLt
    have xl1 : (x 1 : ℕ) < 128 := (x 1).isLt
    refine (store23 _ _ x).trans (blk_of _ _ _ _ _ _ _ _ 2 (by omega) (fun r c => score2 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega
  · have xl0 : (x 0 : ℕ) < 64 := (x 0).isLt
    have xl1 : (x 1 : ℕ) < 128 := (x 1).isLt
    refine (store22 _ _ x).trans (blk_of _ _ _ _ _ _ _ _ 2 (by omega) (fun r c => score2 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega
  · have xl0 : (x 0 : ℕ) < 64 := (x 0).isLt
    have xl1 : (x 1 : ℕ) < 128 := (x 1).isLt
    refine (store21 _ _ x).trans (blk_of _ _ _ _ _ _ _ _ 2 (by omega) (fun r c => score2 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega
  · have xl0 : (x 0 : ℕ) < 64 := (x 0).isLt
    have xl1 : (x 1 : ℕ) < 128 := (x 1).isLt
    refine (store20 _ _ x).trans (blk_of _ _ _ _ _ _ _ _ 2 (by omega) (fun r c => score2 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega
  · have xl0 : (x 0 : ℕ) < 64 := (x 0).isLt
    have xl1 : (x 1 : ℕ) < 128 := (x 1).isLt
    refine (store13 _ _ x).trans (blk_of _ _ _ _ _ _ _ _ 1 (by omega) (fun r c => score1 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega
  · have xl0 : (x 0 : ℕ) < 64 := (x 0).isLt
    have xl1 : (x 1 : ℕ) < 128 := (x 1).isLt
    refine (store12 _ _ x).trans (blk_of _ _ _ _ _ _ _ _ 1 (by omega) (fun r c => score1 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega
  · have xl0 : (x 0 : ℕ) < 64 := (x 0).isLt
    have xl1 : (x 1 : ℕ) < 128 := (x 1).isLt
    refine (store11 _ _ x).trans (blk_of _ _ _ _ _ _ _ _ 1 (by omega) (fun r c => score1 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega
  · have xl0 : (x 0 : ℕ) < 64 := (x 0).isLt
    have xl1 : (x 1 : ℕ) < 128 := (x 1).isLt
    refine (store10 _ _ x).trans (blk_of _ _ _ _ _ _ _ _ 1 (by omega) (fun r c => score1 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega
  · have xl0 : (x 0 : ℕ) < 64 := (x 0).isLt
    have xl1 : (x 1 : ℕ) < 128 := (x 1).isLt
    refine (store03 _ _ x).trans (blk_of _ _ _ _ _ _ _ _ 0 (by omega) (fun r c => score0 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => (Nat.zero_add _).symm
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega
  · have xl0 : (x 0 : ℕ) < 64 := (x 0).isLt
    have xl1 : (x 1 : ℕ) < 128 := (x 1).isLt
    refine (store02 _ _ x).trans (blk_of _ _ _ _ _ _ _ _ 0 (by omega) (fun r c => score0 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => (Nat.zero_add _).symm
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega
  · have xl0 : (x 0 : ℕ) < 64 := (x 0).isLt
    have xl1 : (x 1 : ℕ) < 128 := (x 1).isLt
    refine (store01 _ _ x).trans (blk_of _ _ _ _ _ _ _ _ 0 (by omega) (fun r c => score0 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => (Nat.zero_add _).symm
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega
  · have xl0 : (x 0 : ℕ) < 64 := (x 0).isLt
    have xl1 : (x 1 : ℕ) < 128 := (x 1).isLt
    refine (store00 _ _ x).trans (blk_of _ _ _ _ _ _ _ _ 0 (by omega) (fun r c => score0 x1 _ _ _ _ _ _ ?_ ?_ ?_ ?_ r c) ?_ _ _ ?_ ?_ ?_)
    · exact fun i n => View.ld_unit_apply_of _ _ _ _ _ _ fun d => match d with
        | ⟨0, _⟩ => (Nat.zero_add _).symm
        | ⟨1, _⟩ => (Nat.zero_add _).symm
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun i n => View.ld_unit_apply_of _ _ _ _ _ _ fun d => match d with
        | ⟨0, _⟩ => (Nat.zero_add _).symm
        | ⟨1, _⟩ => rfl
    · exact fun r c => View.ld_unit_apply_of _ _ _ _ _ _ fun d => match d with
        | ⟨0, _⟩ => rfl
        | ⟨1, _⟩ => rfl
        | ⟨2, _⟩ => (Nat.zero_add _).symm
        | ⟨3, _⟩ => (Nat.zero_add _).symm
    · omega
    · simp only; omega
    · simp only; omega

/-- The grid has 288 steps. -/
theorem lt_N (t : Fin cfg0.N) : t.val < 288 := lt_of_lt_of_eq t.isLt N_0

/-- The bias depends on its positions alone. -/
theorem bias_congr (S : FVec Ideal S32 .f32) {b b' : Fin 3} {g g' : Fin 4} {r r' : Fin 512} {n n' : Fin 256} (hb : (b : ℕ) = b') (hg : (g : ℕ) = g')
    (hr : (r : ℕ) = r') (hn : (n : ℕ) = n') : bias S b g r n = bias S b' g' r' n' := by
  obtain rfl := Fin.ext hb; obtain rfl := Fin.ext hg; obtain rfl := Fin.ext hr; obtain rfl := Fin.ext hn; rfl

/-- A cache's entry depends on its positions alone. -/
theorem cache_congr (S : FVec Ideal S32x128x4x64 .bf16) {b b' : Fin 32} {g g' : Fin 128} {r r' : Fin 4} {n n' : Fin 64} (hb : (b : ℕ) = b') (hg : (g : ℕ) = g')
    (hr : (r : ℕ) = r') (hn : (n : ℕ) = n') : S (ix4 b g r n) = S (ix4 b' g' r' n') := by
  obtain rfl := Fin.ext hb; obtain rfl := Fin.ext hg; obtain rfl := Fin.ext hr; obtain rfl := Fin.ext hn; rfl

/-- The step's bias. -/
theorem b0 (c : Dev nD) (t : Fin cfg0.N) (g : Fin 4) (r : Fin 512) (n : Fin 256) : iblk m c 0 t (ix4 0 g r n)
    = bias (m ((c : Thread nD τ).loc main_arg5)) ⟨min t.val 2, by omega⟩ g r n := by
  blk_simp [iblk]
  rw [sink_read]
  exact bias_congr _ (by blk_simp [idx t]; rfl) (by blk_simp [idx t]) (by blk_simp [idx t]) (by blk_simp [idx t])

/-- The step's queries. -/
theorem b1 (c : Dev nD) (t : Fin cfg0.N) (i : Fin 64) (n : Fin 2048) : iblk m c 1 t (ix2 i n)
    = m ((c : Thread nD τ).loc main_arg0) (ix2 ⟨64 * t.val + i, by have := lt_N t; omega⟩ n) := by
  blk_ext [iblk, V, idx t]

/-- The keys two chunks before. -/
theorem b2 (c : Dev nD) (t : Fin cfg0.N) (i : Fin 64) (n : Fin 512) : iblk m c 2 t (ix2 i n)
    = m ((c : Thread nD τ).loc main_arg1) (ix2 ⟨64 * (min t.val 255 - 2) + i, by have := lt_N t; omega⟩ ⟨64 * ((n : ℕ) / 128) + (n : ℕ) % 64, by omega⟩) := by
  blk_simp [iblk]
  rw [kv_read, dif_pos (by blk_simp [idx t]; omega)]
  blk_ext [idx t]

/-- The keys one chunk before. -/
theorem b3 (c : Dev nD) (t : Fin cfg0.N) (i : Fin 64) (n : Fin 512) : iblk m c 3 t (ix2 i n)
    = m ((c : Thread nD τ).loc main_arg1) (ix2 ⟨64 * (min t.val 255 - 1) + i, by have := lt_N t; omega⟩ ⟨64 * ((n : ℕ) / 128) + (n : ℕ) % 64, by omega⟩) := by
  blk_simp [iblk]
  rw [kv_read, dif_pos (by blk_simp [idx t]; omega)]
  blk_ext [idx t]

/-- The step's own keys. -/
theorem b6 (c : Dev nD) (t : Fin cfg0.N) (i : Fin 64) (n : Fin 512) : iblk m c 6 t (ix2 i n)
    = m ((c : Thread nD τ).loc main_arg1) (ix2 ⟨64 * (t.val) + i, by have := lt_N t; omega⟩ ⟨64 * ((n : ℕ) / 128) + (n : ℕ) % 64, by omega⟩) := by
  blk_simp [iblk]
  rw [kv_read, dif_pos (by blk_simp [idx t]; omega)]
  blk_ext [idx t]

/-- The values two chunks before. -/
theorem b7 (c : Dev nD) (t : Fin cfg0.N) (i : Fin 64) (n : Fin 512) : iblk m c 7 t (ix2 i n)
    = m ((c : Thread nD τ).loc main_arg2) (ix2 ⟨64 * (min t.val 255 - 2) + i, by have := lt_N t; omega⟩ ⟨64 * ((n : ℕ) / 128) + (n : ℕ) % 64, by omega⟩) := by
  blk_simp [iblk]
  rw [kv_read, dif_neg (by blk_simp [idx t]; omega)]
  blk_ext [idx t]

/-- The values one chunk before. -/
theorem b8 (c : Dev nD) (t : Fin cfg0.N) (i : Fin 64) (n : Fin 512) : iblk m c 8 t (ix2 i n)
    = m ((c : Thread nD τ).loc main_arg2) (ix2 ⟨64 * (min t.val 255 - 1) + i, by have := lt_N t; omega⟩ ⟨64 * ((n : ℕ) / 128) + (n : ℕ) % 64, by omega⟩) := by
  blk_simp [iblk]
  rw [kv_read, dif_neg (by blk_simp [idx t]; omega)]
  blk_ext [idx t]

/-- The step's own values. -/
theorem b11 (c : Dev nD) (t : Fin cfg0.N) (i : Fin 64) (n : Fin 512) : iblk m c 11 t (ix2 i n)
    = m ((c : Thread nD τ).loc main_arg2) (ix2 ⟨64 * (t.val) + i, by have := lt_N t; omega⟩ ⟨64 * ((n : ℕ) / 128) + (n : ℕ) % 64, by omega⟩) := by
  blk_simp [iblk]
  rw [kv_read, dif_neg (by blk_simp [idx t]; omega)]
  blk_ext [idx t]

/-- The first half of the cache's keys. -/
theorem b4 (c : Dev nD) (t : Fin cfg0.N) (ht : 256 ≤ t.val) (i : Fin 64) (n : Fin 512) : iblk m c 4 t (ix2 i n)
    = m ((c : Thread nD τ).loc main_arg3) (ix4 ⟨t.val - 256, by have := lt_N t; omega⟩ ⟨i, by omega⟩ ⟨(n : ℕ) / 128, by omega⟩ ⟨(n : ℕ) % 64, by omega⟩) := by
  blk_simp [iblk]
  rw [ck_read]
  exact cache_congr _ (by blk_simp [idx t]; dsimp only; omega) (by blk_simp [idx t]; dsimp only; omega) (by blk_simp [idx t]) (by blk_simp [idx t])

/-- The second half of the cache's keys. -/
theorem b5 (c : Dev nD) (t : Fin cfg0.N) (ht : 256 ≤ t.val) (i : Fin 64) (n : Fin 512) : iblk m c 5 t (ix2 i n)
    = m ((c : Thread nD τ).loc main_arg3) (ix4 ⟨t.val - 256, by have := lt_N t; omega⟩ ⟨64 + i, by omega⟩ ⟨(n : ℕ) / 128, by omega⟩ ⟨(n : ℕ) % 64, by omega⟩) := by
  blk_simp [iblk]
  rw [ck_read]
  exact cache_congr _ (by blk_simp [idx t]; dsimp only; omega) (by blk_simp [idx t]; dsimp only; omega) (by blk_simp [idx t]) (by blk_simp [idx t])

/-- The first half of the cache's values. -/
theorem b9 (c : Dev nD) (t : Fin cfg0.N) (ht : 256 ≤ t.val) (i : Fin 64) (n : Fin 512) : iblk m c 9 t (ix2 i n)
    = m ((c : Thread nD τ).loc main_arg4) (ix4 ⟨t.val - 256, by have := lt_N t; omega⟩ ⟨i, by omega⟩ ⟨(n : ℕ) / 128, by omega⟩ ⟨(n : ℕ) % 64, by omega⟩) := by
  blk_simp [iblk]
  rw [cv_read]
  exact cache_congr _ (by blk_simp [idx t]; dsimp only; omega) (by blk_simp [idx t]; dsimp only; omega) (by blk_simp [idx t]) (by blk_simp [idx t])

/-- The second half of the cache's values. -/
theorem b10 (c : Dev nD) (t : Fin cfg0.N) (ht : 256 ≤ t.val) (i : Fin 64) (n : Fin 512) : iblk m c 10 t (ix2 i n)
    = m ((c : Thread nD τ).loc main_arg4) (ix4 ⟨t.val - 256, by have := lt_N t; omega⟩ ⟨64 + i, by omega⟩ ⟨(n : ℕ) / 128, by omega⟩ ⟨(n : ℕ) % 64, by omega⟩) := by
  blk_simp [iblk]
  rw [cv_read]
  exact cache_congr _ (by blk_simp [idx t]; dsimp only; omega) (by blk_simp [idx t]; dsimp only; omega) (by blk_simp [idx t]) (by blk_simp [idx t])

/-- Whether a step is a sample chunk's. -/
theorem cmp : ∀ t : Fin cfg0.N, Scalar.cmpi CmpIPredicate.sge (BitVec.ofNat 32 (grid0.coords t 0 : ℕ)) 256#32 = if 256 ≤ t.val then 1#1 else 0#1 :=
  (by decide +kernel : ∀ t : Fin grid0.N, _)

/-- Reading a whole block. -/
theorem whole (y : Vec Ideal S64x512 .bf16) : View.ld y r0_0 = y := View.ld_unit_lit _ y (by decide)

/-- A row's entry depends on its positions alone. -/
theorem row_congr (S : FVec Ideal S18432x256 .bf16) {r r' : Fin 18432} {n n' : Fin 256} (hr : (r : ℕ) = r') (hn : (n : ℕ) = n') :
    S (ix2 r n) = S (ix2 r' n') := by
  obtain rfl := Fin.ext hr; obtain rfl := Fin.ext hn; rfl

/-- The rows of the queries. -/
def queries (S : FVec Ideal S18432x2048 .bf16) : Fin 18432 → Fin 2048 → EReal := fun r n => S (ix2 r n)

/-- The rows of an array of keys or values. -/
def rows (S : FVec Ideal S18432x256 .bf16) : Fin 18432 → Fin 256 → EReal := fun r n => S (ix2 r n)

/-- The entries of a cache. -/
def olds (S : FVec Ideal S32x128x4x64 .bf16) : Fin 32 → Fin 128 → Fin 4 → Fin 64 → EReal := fun b c k d => S (ix4 b c k d)

/-- The keys past a step's window are nought. -/
theorem k_zero (c : Dev nD) (t : Fin cfg0.N) (x : Fin 256) (n : Fin 512) (hx : 192 ≤ (x : ℕ)) :
    k0_pay61 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 x n) = 0 := by
  unfold k0_pay61
  refine (keys _ _ _ _ _ _ x n).trans ?_
  rw [dif_neg (by omega), dif_neg (by omega), dif_neg (by omega)]

/-- The keys a step reads are its window's. -/
theorem k_at (c : Dev nD) (t : Fin cfg0.N) (x : Fin 256) (n : Fin 512) (g : Fin 4) (d : Fin 64) (hg : (n : ℕ) / 128 = g) (hd : (n : ℕ) % 64 = d)
    (hx : (x : ℕ) < 192) (hm : ¬ (t.val < 256 ∧ 64 * t.val + (x : ℕ) < 128)) :
    k0_pay61 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 x n)
      = keyAt (rows (m ((c : Thread nD τ).loc main_arg1))) (olds (m ((c : Thread nD τ).loc main_arg3))) ⟨t.val, lt_N t⟩ g ⟨x, hx⟩ d := by
  unfold k0_pay61
  refine (keys _ _ _ _ _ _ x n).trans ?_
  rw [cmp t, whole, whole, whole, whole, whole]
  unfold keyAt rows olds
  have := lt_N t
  by_cases ht : t.val < 256
  · rw [if_neg (show ¬ 256 ≤ t.val by omega), dif_pos (show ((⟨t.val, lt_N t⟩ : Fin 288) : ℕ) < 256 from ht), if_neg (by simp only; omega)]
    obtain h | h | h : (x : ℕ) < 64 ∨ (64 ≤ (x : ℕ) ∧ (x : ℕ) < 128) ∨ 128 ≤ (x : ℕ) := by omega
    · rw [dif_pos h]
      refine (b2 m c t ⟨x, h⟩ n).trans (row_congr _ ?_ ?_) <;> simp only <;> omega
    · rw [dif_neg (by omega), dif_pos (by omega)]
      refine (b3 m c t ⟨(x : ℕ) - 64, by omega⟩ n).trans (row_congr _ ?_ ?_) <;> simp only <;> omega
    · rw [dif_neg (by omega), dif_neg (by omega), dif_pos (by omega)]
      refine (b6 m c t ⟨(x : ℕ) - 64 - 64, by omega⟩ n).trans (row_congr _ ?_ ?_) <;> simp only <;> omega
  · rw [if_pos (show 256 ≤ t.val by omega), dif_neg (show ¬ ((⟨t.val, lt_N t⟩ : Fin 288) : ℕ) < 256 from ht)]
    obtain h | h | h : (x : ℕ) < 64 ∨ (64 ≤ (x : ℕ) ∧ (x : ℕ) < 128) ∨ 128 ≤ (x : ℕ) := by omega
    · rw [dif_pos h, dif_pos (show ((⟨x, hx⟩ : Fin 192) : ℕ) < 128 by simp only; omega)]
      refine (b4 m c t (by omega) ⟨x, h⟩ n).trans (cache_congr _ ?_ ?_ ?_ ?_) <;> simp only <;> omega
    · rw [dif_neg (by omega), dif_pos (by omega), dif_pos (show ((⟨x, hx⟩ : Fin 192) : ℕ) < 128 by simp only; omega)]
      refine (b5 m c t (by omega) ⟨(x : ℕ) - 64, by omega⟩ n).trans (cache_congr _ ?_ ?_ ?_ ?_) <;> simp only <;> omega
    · rw [dif_neg (by omega), dif_neg (by omega), dif_pos (by omega), dif_neg (show ¬ ((⟨x, hx⟩ : Fin 192) : ℕ) < 128 by simp only; omega)]
      refine (b6 m c t ⟨(x : ℕ) - 64 - 64, by omega⟩ n).trans (row_congr _ ?_ ?_) <;> simp only <;> omega

/-- The values past a step's window are nought. -/
theorem v_zero (c : Dev nD) (t : Fin cfg0.N) (x : Fin 256) (n : Fin 512) (hx : 192 ≤ (x : ℕ)) :
    k0_pay62 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 x n) = 0 := by
  unfold k0_pay62
  refine (vals _ _ _ _ _ _ x n).trans ?_
  rw [dif_neg (by omega), dif_neg (by omega), dif_neg (by omega)]

/-- The values a step reads are its window's. -/
theorem v_at (c : Dev nD) (t : Fin cfg0.N) (x : Fin 256) (n : Fin 512) (g : Fin 4) (d : Fin 64) (hg : (n : ℕ) / 128 = g) (hd : (n : ℕ) % 64 = d)
    (hx : (x : ℕ) < 192) (hm : ¬ (t.val < 256 ∧ 64 * t.val + (x : ℕ) < 128)) :
    k0_pay62 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 x n)
      = keyAt (rows (m ((c : Thread nD τ).loc main_arg2))) (olds (m ((c : Thread nD τ).loc main_arg4))) ⟨t.val, lt_N t⟩ g ⟨x, hx⟩ d := by
  unfold k0_pay62
  refine (vals _ _ _ _ _ _ x n).trans ?_
  rw [cmp t, whole, whole, whole, whole, whole]
  unfold keyAt rows olds
  have := lt_N t
  by_cases ht : t.val < 256
  · rw [if_neg (show ¬ 256 ≤ t.val by omega), dif_pos (show ((⟨t.val, lt_N t⟩ : Fin 288) : ℕ) < 256 from ht), if_neg (by simp only; omega)]
    obtain h | h | h : (x : ℕ) < 64 ∨ (64 ≤ (x : ℕ) ∧ (x : ℕ) < 128) ∨ 128 ≤ (x : ℕ) := by omega
    · rw [dif_pos h]
      refine (b7 m c t ⟨x, h⟩ n).trans (row_congr _ ?_ ?_) <;> simp only <;> omega
    · rw [dif_neg (by omega), dif_pos (by omega)]
      refine (b8 m c t ⟨(x : ℕ) - 64, by omega⟩ n).trans (row_congr _ ?_ ?_) <;> simp only <;> omega
    · rw [dif_neg (by omega), dif_neg (by omega), dif_pos (by omega)]
      refine (b11 m c t ⟨(x : ℕ) - 64 - 64, by omega⟩ n).trans (row_congr _ ?_ ?_) <;> simp only <;> omega
  · rw [if_pos (show 256 ≤ t.val by omega), dif_neg (show ¬ ((⟨t.val, lt_N t⟩ : Fin 288) : ℕ) < 256 from ht)]
    obtain h | h | h : (x : ℕ) < 64 ∨ (64 ≤ (x : ℕ) ∧ (x : ℕ) < 128) ∨ 128 ≤ (x : ℕ) := by omega
    · rw [dif_pos h, dif_pos (show ((⟨x, hx⟩ : Fin 192) : ℕ) < 128 by simp only; omega)]
      refine (b9 m c t (by omega) ⟨x, h⟩ n).trans (cache_congr _ ?_ ?_ ?_ ?_) <;> simp only <;> omega
    · rw [dif_neg (by omega), dif_pos (by omega), dif_pos (show ((⟨x, hx⟩ : Fin 192) : ℕ) < 128 by simp only; omega)]
      refine (b10 m c t (by omega) ⟨(x : ℕ) - 64, by omega⟩ n).trans (cache_congr _ ?_ ?_ ?_ ?_) <;> simp only <;> omega
    · rw [dif_neg (by omega), dif_neg (by omega), dif_pos (by omega), dif_neg (show ¬ ((⟨x, hx⟩ : Fin 192) : ℕ) < 128 by simp only; omega)]
      refine (b11 m c t ⟨(x : ℕ) - 64 - 64, by omega⟩ n).trans (row_congr _ ?_ ?_) <;> simp only <;> omega

/-- A step's score before its bias is added, over the step's blocks. -/
theorem dot_at (c : Dev nD) (t : Fin cfg0.N) (i : Fin 64) (n : Fin 2048) (x : Fin 256) (hx : (x : ℕ) < 192) (hm : ¬ (t.val < 256 ∧ 64 * t.val + (x : ℕ) < 128)) :
    dotAt (iblk m c 1 t) (k0_pay61 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) ((n : ℕ) / 512) (by omega) ⟨64 * ((n : ℕ) / 64 % 8) + i, by omega⟩ x
      = ∑ d : Fin 64, queries (m ((c : Thread nD τ).loc main_arg0)) ⟨64 * t.val + i, by have := lt_N t; omega⟩ ⟨64 * ((n : ℕ) / 64) + d, by omega⟩
          * keyAt (rows (m ((c : Thread nD τ).loc main_arg1))) (olds (m ((c : Thread nD τ).loc main_arg3))) ⟨t.val, lt_N t⟩ ⟨(n : ℕ) / 512, by omega⟩ ⟨x, hx⟩ d := by
  unfold dotAt
  refine Finset.sum_congr rfl fun d _ => congrArg₂ (· * ·) ?_ ?_
  · refine (b1 m c t _ _).trans (congrArg (m ((c : Thread nD τ).loc main_arg0)) (congrArg₂ ix2 (Fin.ext ?_) (Fin.ext ?_))) <;> simp only <;> omega
  · exact k_at m c t x _ _ d (by simp only; omega) (by simp only; omega) hx hm

/-- Without the window's keys the score is the bias. -/
theorem dot_zero (c : Dev nD) (t : Fin cfg0.N) (g : ℕ) (hg : g < 4) (r : Fin 512) (x : Fin 256) (hx : 192 ≤ (x : ℕ)) :
    dotAt (iblk m c 1 t) (k0_pay61 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) g hg r x = 0 := by
  unfold dotAt
  refine Finset.sum_eq_zero fun d _ => ?_
  rw [k_zero m c t x _ hx, mul_zero]

/-- A step's block over finite queries, keys and sinks. -/
theorem blk_at (c : Dev nD) (t : Fin cfg0.N) (i : Fin 64) (n : Fin 2048)
    (hQ : ∀ j, m ((c : Thread nD τ).loc main_arg0) j ≠ (⊤ : EReal) ∧ m ((c : Thread nD τ).loc main_arg0) j ≠ (⊥ : EReal))
    (hK : ∀ j, m ((c : Thread nD τ).loc main_arg1) j ≠ (⊤ : EReal) ∧ m ((c : Thread nD τ).loc main_arg1) j ≠ (⊥ : EReal))
    (hO : ∀ j, m ((c : Thread nD τ).loc main_arg3) j ≠ (⊤ : EReal) ∧ m ((c : Thread nD τ).loc main_arg3) j ≠ (⊥ : EReal))
    (hS : ∀ j, m ((c : Thread nD τ).loc main_arg5) j ≠ (⊤ : EReal) ∧ m ((c : Thread nD τ).loc main_arg5) j ≠ (⊥ : EReal)) :
    blk (iblk m c 0 t) (iblk m c 1 t) (k0_pay61 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay62 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) i n
      = att (scores (fun d => queries (m ((c : Thread nD τ).loc main_arg0)) ⟨64 * t.val + i, by have := lt_N t; omega⟩ ⟨64 * ((n : ℕ) / 64) + d, by omega⟩)
            (rows (m ((c : Thread nD τ).loc main_arg1))) (olds (m ((c : Thread nD τ).loc main_arg3))) ⟨t.val, lt_N t⟩ ⟨(n : ℕ) / 512, by omega⟩
            (m ((c : Thread nD τ).loc main_arg5) (ix1 ⟨(n : ℕ) / 64, by omega⟩)))
          (fun x => keyAt (rows (m ((c : Thread nD τ).loc main_arg2))) (olds (m ((c : Thread nD τ).loc main_arg4))) ⟨t.val, lt_N t⟩ ⟨(n : ℕ) / 512, by omega⟩ x ⟨(n : ℕ) % 64, by omega⟩) := by
  unfold blk
  have low_at : ∀ x : Fin 256, (t.val < 256 ∧ 64 * t.val + (x : ℕ) < 128) →
      bias (m ((c : Thread nD τ).loc main_arg5)) ⟨min t.val 2, by omega⟩ ⟨(n : ℕ) / 512, by omega⟩ ⟨64 * ((n : ℕ) / 64 % 8) + i, by omega⟩ x = ⊥ := fun x h => by
    unfold bias; rw [if_pos (by simp only; omega)]
  refine quo_eq _ _ _ _ (scores_ne_top _ _ _ _ _ _ (fun d => hQ _) (fun r n => hK _) (fun _ _ _ _ => hO _) (hS _).1) ?_ (fun x hx => ?_) (fun x hx => ?_)
    (fun x hx hne => ?_) (fun x hx => v_zero m c t x _ hx)
  · unfold scores; rw [dif_neg (by decide)]; exact (hS _).2
  · rw [b0]
    unfold scores
    by_cases h : (x : ℕ) < 192
    · rw [dif_pos (show ((⟨x, hx⟩ : Fin 193) : ℕ) < 192 from h)]
      by_cases hm : t.val < 256 ∧ 64 * t.val + (x : ℕ) < 128
      · rw [if_pos (show _ ∧ _ from hm), low_at x hm, EReal.add_bot]
      · rw [if_neg (show ¬ (_ ∧ _) from hm), dot_at m c t i n x h hm]
        unfold bias
        rw [if_neg (by have := lt_N t; simp only; omega), if_pos h, add_zero]
    · rw [dif_neg (show ¬ ((⟨x, hx⟩ : Fin 193) : ℕ) < 192 from h), dot_zero m c t _ _ _ x (by omega), zero_add]
      unfold bias
      rw [if_neg (by simp only; omega), if_neg h, if_pos (by omega)]
      refine congrArg (m ((c : Thread nD τ).loc main_arg5)) (congrArg ix1 (Fin.ext ?_))
      simp only; omega
  · rw [b0]
    unfold bias
    rw [if_neg (by simp only; omega), if_neg (by omega), if_neg (by omega), EReal.add_bot]
  · refine v_at m c t x _ _ _ (by simp only; omega) (by simp only; omega) hx fun hm => hne ?_
    rw [b0, low_at x hm, EReal.add_bot]

/-- The result: attention of every row's window. -/
def outArr (Q : FVec Ideal S18432x2048 .bf16) (K W : FVec Ideal S18432x256 .bf16) (oK oW : FVec Ideal S32x128x4x64 .bf16) (S : FVec Ideal S32 .f32) :
    FVec Ideal S18432x2048 .bf16 := fun j => attend (queries Q) (rows K) (rows W) (olds oK) (olds oW) (fun h => S (ix1 h)) (j 0) (j 1)

/-- The result at row `i` of chunk `t`. -/
theorem out_row (Q : FVec Ideal S18432x2048 .bf16) (K W : FVec Ideal S18432x256 .bf16) (oK oW : FVec Ideal S32x128x4x64 .bf16) (S : FVec Ideal S32 .f32)
    (t : Fin 288) (i : Fin 64) (n : Fin 2048) (j : S18432x2048.Idx) (h0 : (j 0 : ℕ) = 64 * (t : ℕ) + i) (h1 : (j 1 : ℕ) = n) :
    outArr Q K W oK oW S j = att (scores (fun d => queries Q ⟨64 * (t : ℕ) + i, by omega⟩ ⟨64 * ((n : ℕ) / 64) + d, by omega⟩) (rows K) (olds oK) t ⟨(n : ℕ) / 512, by omega⟩
        (S (ix1 ⟨(n : ℕ) / 64, by omega⟩)))
      (fun x => keyAt (rows W) (olds oW) t ⟨(n : ℕ) / 512, by omega⟩ x ⟨(n : ℕ) % 64, by omega⟩) := by
  have e0 : (j 0 : Fin 18432) = ⟨64 * (t : ℕ) + i, by omega⟩ := Fin.ext h0
  have e1 : (j 1 : Fin 2048) = n := Fin.ext h1
  unfold outArr attend
  rw [e0, e1]
  have et : (⟨((⟨64 * (t : ℕ) + i, by omega⟩ : Fin 18432) : ℕ) / 64, by simp only; omega⟩ : Fin 288) = t := Fin.ext (by simp only; omega)
  rw [et]
  rfl

/-- The kernel's result array, over finite queries, keys and sinks. -/
theorem outs (c : Dev nD)
    (hQ : ∀ j, m ((c : Thread nD τ).loc main_arg0) j ≠ (⊤ : EReal) ∧ m ((c : Thread nD τ).loc main_arg0) j ≠ (⊥ : EReal))
    (hK : ∀ j, m ((c : Thread nD τ).loc main_arg1) j ≠ (⊤ : EReal) ∧ m ((c : Thread nD τ).loc main_arg1) j ≠ (⊥ : EReal))
    (hO : ∀ j, m ((c : Thread nD τ).loc main_arg3) j ≠ (⊤ : EReal) ∧ m ((c : Thread nD τ).loc main_arg3) j ≠ (⊥ : EReal))
    (hS : ∀ j, m ((c : Thread nD τ).loc main_arg5) j ≠ (⊤ : EReal) ∧ m ((c : Thread nD τ).loc main_arg5) j ≠ (⊥ : EReal)) :
    (dats m 0 c).arrAt 12 (cfgs 0).N
      = outArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 12 _ (by decide +kernel) fun t hf y => ?_
  blk_simp; rw [after0_12]
  refine (out_at _ _ _ _ _ _ _ _ _ _ _ _ _ y).trans ?_
  refine (blk_at m c t (y 0) (y 1) hQ hK hO hS).trans (out_row _ _ _ _ _ _ ⟨t.val, lt_N t⟩ (y 0) (y 1) _ ?_ ?_).symm
  · blk_simp [idx t]; dsimp only; omega
  · blk_simp [idx t]

end Cert.AttnCoreIdeal.Arr
-- ==== Proof.AttnCoreRef.lean ====
/- Hand-written: the reference's attention as the same function of its arguments. -/
module
public import proofs.«01_k».proof.Proof.Gen.AttnCoreRefIdeal.Run
public import proofs.«01_k».proof.Proof.AttnCoreArr

@[expose] public section

set_option maxRecDepth 16384

noncomputable section

open Idealize.ShloMosaic Idealize.ShloMosaic.TcCoe Idealize.SL.Sem

namespace Cert.AttnCoreRefIdeal.RefValue

open Cert.AttnCoreRefIdeal Cert.AttnCoreRefIdeal.Gen Cert.Attn Cert.AttnCoreIdeal.Arr

/-- The chunk of a window's column, by the reference's integer operations. -/
def chunkOf : IVec S1x192 32 :=
  select (andi (cmpi .ne (signi (broadcastInDim S1x192 ![1] bcast_S192_S1x192_1 (iotaInDim S192 32 0))) (broadcastInDim S1x192 ![] bcast_S_S1x192 (signi (id (constantI S_ 32 64#32))))) (cmpi .ne (Host.remsi (broadcastInDim S1x192 ![1] bcast_S192_S1x192_1 (iotaInDim S192 32 0)) (broadcastInDim S1x192 ![] bcast_S_S1x192 (id (constantI S_ 32 64#32)))) (broadcastInDim S1x192 ![] bcast_S_S1x192 (constantI S_ 32 0#32)))) (subi (Host.divsi (broadcastInDim S1x192 ![1] bcast_S192_S1x192_1 (iotaInDim S192 32 0)) (broadcastInDim S1x192 ![] bcast_S_S1x192 (id (constantI S_ 32 64#32)))) (broadcastInDim S1x192 ![] bcast_S_S1x192 (constantI S_ 32 1#32))) (Host.divsi (broadcastInDim S1x192 ![1] bcast_S192_S1x192_1 (iotaInDim S192 32 0)) (broadcastInDim S1x192 ![] bcast_S_S1x192 (id (constantI S_ 32 64#32))))

/-- Whether a chunk's column lies at or after the first prompt row. -/
def maskP : IVec S256x192 1 :=
  cmpi .sge (subi (addi (broadcastInDim S256x192 ![0, 1] bcast_S256x1_S256x192_0_1 (broadcastInDim S256x1 ![0] bcast_S256_S256x1_0 (iotaInDim S256 32 0))) (broadcastInDim S256x192 ![0, 1] bcast_S1x192_S256x192_0_1 chunkOf)) (broadcastInDim S256x192 ![] bcast_S_S256x192 (constantI S_ 32 2#32))) (broadcastInDim S256x192 ![] bcast_S_S256x192 (constantI S_ 32 0#32))

/-- The prompt's keys or values after two chunks of nought. -/
def paddedP (x : FVec Ideal S18432x256 .bf16) : FVec Ideal S1x258x64x4x64 .f32 :=
  shapeCast _ (concatenate S1x16512x4x64 1 [⟨S1x128x4x64, (broadcastInDim S1x128x4x64 ![] bcast_S_S1x128x4x64 (constant S_ .f32 0x00000000#32))⟩, ⟨S1x16384x4x64, (shapeCast _ (extractStridedSlice S16384x256 ![0, 0] (extf .f32 x bitsLt_bf16_f32) slices_S18432x256_S16384x256_0_0) shapeCasts_S16384x256_S1x16384x4x64)⟩] concatenates_S1x128x4x64_S1x16384x4x64_S1x16512x4x64_d1) shapeCasts_S1x16512x4x64_S1x258x64x4x64

/-- Every chunk's window. -/
def bandP (y : FVec Ideal S1x258x64x4x64 .f32) : FVec Ideal S1x256x192x4x64 .f32 :=
  concatenate S1x256x192x4x64 2 [⟨S1x256x64x4x64, ((extractStridedSlice S1x256x64x4x64 ![0, 0, 0, 0, 0] y slices_S1x258x64x4x64_S1x256x64x4x64_0_0_0_0_0))⟩, ⟨S1x256x64x4x64, ((extractStridedSlice S1x256x64x4x64 ![0, 1, 0, 0, 0] y slices_S1x258x64x4x64_S1x256x64x4x64_0_1_0_0_0))⟩, ⟨S1x256x64x4x64, ((extractStridedSlice S1x256x64x4x64 ![0, 2, 0, 0, 0] y slices_S1x258x64x4x64_S1x256x64x4x64_0_2_0_0_0))⟩] concatenates_S1x256x64x4x64_S1x256x64x4x64_S1x256x64x4x64_S1x256x192x4x64_d2

/-- The products of queries and keys. -/
def rawP (k : FVec Ideal S1x256x192x4x64 .f32) (q : FVec Ideal S18432x2048 .bf16) : FVec Ideal S1x256x4x8x64x192 .f32 :=
  transpose S1x256x4x8x64x192 [0, 1, 2, 5, 4, 3] (Host.dotGeneral dot_S1x256x192x4x64_S1x256x64x4x8x64_S1x256x4x192x64x8_4_5_2_24_013_013 none (k) (shapeCast _ (extractStridedSlice S16384x2048 ![0, 0] (extf .f32 q bitsLt_bf16_f32) slices_S18432x2048_S16384x2048_0_0) shapeCasts_S16384x2048_S1x256x64x4x8x64)) transposes_S1x256x4x192x64x8_S1x256x4x8x64x192_0_1_2_5_4_3

/-- The masked scores and the sink's. -/
def scoresP (r : FVec Ideal S1x256x4x8x64x192 .f32) (b : IVec S256x192 1) (z : FVec Ideal S32 .f32) : FVec Ideal S1x256x4x8x64x193 .f32 :=
  concatenate S1x256x4x8x64x193 5 [⟨S1x256x4x8x64x192, (select (broadcastInDim S1x256x4x8x64x192 ![0, 1, 2, 3, 4, 5] bcast_S1x256x1x1x1x192_S1x256x4x8x64x192_0_1_2_3_4_5 (broadcastInDim S1x256x1x1x1x192 ![1, 5] bcast_S256x192_S1x256x1x1x1x192_1_5 b)) r (broadcastInDim S1x256x4x8x64x192 ![] bcast_S_S1x256x4x8x64x192 (id (constant S_ .f32 0xFF800000#32))))⟩, ⟨S1x256x4x8x64x1, (broadcastInDim S1x256x4x8x64x1 ![2, 3, 4, 5] bcast_S4x8x1x1_S1x256x4x8x64x1_2_3_4_5 (shapeCast _ z shapeCasts_S32_S4x8x1x1))⟩] concatenates_S1x256x4x8x64x192_S1x256x4x8x64x1_S1x256x4x8x64x193_d5

/-- The greatest score of a row. -/
def topP (s : FVec Ideal S1x256x4x8x64x193 .f32) : FVec Ideal S1x256x4x8x64 .f32 :=
  maximumf (broadcastInDim S1x256x4x8x64 ![] bcast_S_S1x256x4x8x64 (constant S_ .f32 0xFF800000#32)) (Host.reduce FloatOps.maximumf s (constant S_ .f32 0xFF800000#32) reducesTo_S1x256x4x8x64x193_S1x256x4x8x64_d5 h_S_)

/-- The exponentials. -/
def numP (s : FVec Ideal S1x256x4x8x64x193 .f32) (p : FVec Ideal S1x256x4x8x64 .f32) : FVec Ideal S1x256x4x8x64x193 .f32 :=
  Host.exp (subf s (broadcastInDim S1x256x4x8x64x193 ![0, 1, 2, 3, 4, 5] bcast_S1x256x4x8x64x1_S1x256x4x8x64x193_0_1_2_3_4_5 (broadcastInDim S1x256x4x8x64x1 ![0, 1, 2, 3, 4] bcast_S1x256x4x8x64_S1x256x4x8x64x1_0_1_2_3_4 p)))

/-- Their sum. -/
def sumP (e : FVec Ideal S1x256x4x8x64x193 .f32) : FVec Ideal S1x256x4x8x64 .f32 :=
  Host.reduceAdd e (constant S_ .f32 0x00000000#32) reducesTo_S1x256x4x8x64x193_S1x256x4x8x64_d5 h_S_

/-- The weights. -/
def wtsP (e : FVec Ideal S1x256x4x8x64x193 .f32) (d : FVec Ideal S1x256x4x8x64 .f32) : FVec Ideal S1x256x4x8x64x193 .f32 :=
  Host.divf e (broadcastInDim S1x256x4x8x64x193 ![0, 1, 2, 3, 4, 5] bcast_S1x256x4x8x64x1_S1x256x4x8x64x193_0_1_2_3_4_5 (broadcastInDim S1x256x4x8x64x1 ![0, 1, 2, 3, 4] bcast_S1x256x4x8x64_S1x256x4x8x64x1_0_1_2_3_4 d))

/-- The weights applied to the values, as rows. -/
def applyP (v : FVec Ideal S1x256x192x4x64 .f32) (w : FVec Ideal S1x256x4x8x64x193 .f32) : FVec Ideal S16384x2048 .f32 :=
  shapeCast _ (transpose S1x256x64x4x8x64 [0, 1, 5, 2, 4, 3] (Host.dotGeneral dot_S1x256x192x4x64_S1x256x4x8x64x192_S1x256x4x64x8x64_2_5_4_34_013_012 none (v) (extractStridedSlice S1x256x4x8x64x192 ![0, 0, 0, 0, 0, 0] w slices_S1x256x4x8x64x193_S1x256x4x8x64x192_0_0_0_0_0_0)) transposes_S1x256x4x64x8x64_S1x256x64x4x8x64_0_1_5_2_4_3) shapeCasts_S1x256x64x4x8x64_S16384x2048

/-- A sample's cache and its new keys or values. -/
def allS (o : FVec Ideal S32x128x4x64 .f32) (x : FVec Ideal S18432x256 .bf16) : FVec Ideal S32x1x192x4x64 .f32 :=
  broadcastInDim S32x1x192x4x64 ![0, 2, 3, 4] bcast_S32x192x4x64_S32x1x192x4x64_0_2_3_4 (concatenate S32x192x4x64 1 [⟨S32x128x4x64, o⟩, ⟨S32x64x4x64, (shapeCast _ (extractStridedSlice S2048x256 ![16384, 0] (extf .f32 x bitsLt_bf16_f32) slices_S18432x256_S2048x256_16384_0) shapeCasts_S2048x256_S32x64x4x64)⟩] concatenates_S32x128x4x64_S32x64x4x64_S32x192x4x64_d1)

/-- The samples' products of queries and keys. -/
def rawS (k : FVec Ideal S32x1x192x4x64 .f32) (q : FVec Ideal S18432x2048 .bf16) : FVec Ideal S32x1x4x8x64x192 .f32 :=
  transpose S32x1x4x8x64x192 [0, 1, 2, 5, 4, 3] (Host.dotGeneral dot_S32x1x192x4x64_S32x1x64x4x8x64_S32x1x4x192x64x8_4_5_2_24_013_013 none k (shapeCast _ (extractStridedSlice S2048x2048 ![16384, 0] (extf .f32 q bitsLt_bf16_f32) slices_S18432x2048_S2048x2048_16384_0) shapeCasts_S2048x2048_S32x1x64x4x8x64)) transposes_S32x1x4x192x64x8_S32x1x4x8x64x192_0_1_2_5_4_3

/-- The samples' scores and the sink's. -/
def scoresS (r : FVec Ideal S32x1x4x8x64x192 .f32) (z : FVec Ideal S32 .f32) : FVec Ideal S32x1x4x8x64x193 .f32 :=
  concatenate S32x1x4x8x64x193 5 [⟨S32x1x4x8x64x192, r⟩, ⟨S32x1x4x8x64x1, (broadcastInDim S32x1x4x8x64x1 ![2, 3, 4, 5] bcast_S4x8x1x1_S32x1x4x8x64x1_2_3_4_5 (shapeCast _ z shapeCasts_S32_S4x8x1x1))⟩] concatenates_S32x1x4x8x64x192_S32x1x4x8x64x1_S32x1x4x8x64x193_d5

/-- The greatest score of a sample's row. -/
def topS (s : FVec Ideal S32x1x4x8x64x193 .f32) : FVec Ideal S32x1x4x8x64 .f32 :=
  maximumf (broadcastInDim S32x1x4x8x64 ![] bcast_S_S32x1x4x8x64 (constant S_ .f32 0xFF800000#32)) (Host.reduce FloatOps.maximumf s (constant S_ .f32 0xFF800000#32) reducesTo_S32x1x4x8x64x193_S32x1x4x8x64_d5 h_S_)

/-- The samples' exponentials. -/
def numS (s : FVec Ideal S32x1x4x8x64x193 .f32) (p : FVec Ideal S32x1x4x8x64 .f32) : FVec Ideal S32x1x4x8x64x193 .f32 :=
  Host.exp (subf s (broadcastInDim S32x1x4x8x64x193 ![0, 1, 2, 3, 4, 5] bcast_S32x1x4x8x64x1_S32x1x4x8x64x193_0_1_2_3_4_5 (broadcastInDim S32x1x4x8x64x1 ![0, 1, 2, 3, 4] bcast_S32x1x4x8x64_S32x1x4x8x64x1_0_1_2_3_4 p)))

/-- Their sum. -/
def sumS (e : FVec Ideal S32x1x4x8x64x193 .f32) : FVec Ideal S32x1x4x8x64 .f32 :=
  Host.reduceAdd e (constant S_ .f32 0x00000000#32) reducesTo_S32x1x4x8x64x193_S32x1x4x8x64_d5 h_S_

/-- The samples' weights. -/
def wtsS (e : FVec Ideal S32x1x4x8x64x193 .f32) (d : FVec Ideal S32x1x4x8x64 .f32) : FVec Ideal S32x1x4x8x64x193 .f32 :=
  Host.divf e (broadcastInDim S32x1x4x8x64x193 ![0, 1, 2, 3, 4, 5] bcast_S32x1x4x8x64x1_S32x1x4x8x64x193_0_1_2_3_4_5 (broadcastInDim S32x1x4x8x64x1 ![0, 1, 2, 3, 4] bcast_S32x1x4x8x64_S32x1x4x8x64x1_0_1_2_3_4 d))

/-- The weights applied to the values, as rows. -/
def applyS (v : FVec Ideal S32x1x192x4x64 .f32) (w : FVec Ideal S32x1x4x8x64x193 .f32) : FVec Ideal S2048x2048 .f32 :=
  shapeCast _ (transpose S32x1x64x4x8x64 [0, 1, 5, 2, 4, 3] (Host.dotGeneral dot_S32x1x192x4x64_S32x1x4x8x64x192_S32x1x4x64x8x64_2_5_4_34_013_012 none v (extractStridedSlice S32x1x4x8x64x192 ![0, 0, 0, 0, 0, 0] w slices_S32x1x4x8x64x193_S32x1x4x8x64x192_0_0_0_0_0_0)) transposes_S32x1x4x64x8x64_S32x1x64x4x8x64_0_1_5_2_4_3) shapeCasts_S32x1x64x4x8x64_S2048x2048

/-- The prompt's rows and the samples'. -/
def both (p : FVec Ideal S16384x2048 .f32) (s : FVec Ideal S2048x2048 .f32) : FVec Ideal S18432x2048 .f32 :=
  concatenate S18432x2048 0 [⟨S16384x2048, p⟩, ⟨S2048x2048, s⟩] concatenates_S16384x2048_S2048x2048_S18432x2048_d0

/-- The prompt's rows. -/
def prompt (Q : FVec Ideal S18432x2048 .bf16) (K V : FVec Ideal S18432x256 .bf16) (z : FVec Ideal S32 .f32) : FVec Ideal S16384x2048 .f32 :=
  (applyP (bandP (paddedP V)) (wtsP (numP (scoresP (rawP (bandP (paddedP K)) Q) maskP z) (topP (scoresP (rawP (bandP (paddedP K)) Q) maskP z))) (sumP (numP (scoresP (rawP (bandP (paddedP K)) Q) maskP z) (topP (scoresP (rawP (bandP (paddedP K)) Q) maskP z))))))

/-- The samples' rows. -/
def samples (Q : FVec Ideal S18432x2048 .bf16) (K V : FVec Ideal S18432x256 .bf16) (oK oV : FVec Ideal S32x128x4x64 .f32) (z : FVec Ideal S32 .f32) : FVec Ideal S2048x2048 .f32 :=
  (applyS (allS oV V) (wtsS (numS (scoresS (rawS (allS oK K) Q) z) (topS (scoresS (rawS (allS oK K) Q) z))) (sumS (numS (scoresS (rawS (allS oK K) Q) z) (topS (scoresS (rawS (allS oK K) Q) z))))))

/-- The reference's result, from these. -/
theorem parts (m : (ℓ : Loc nD τ sig) → Buf (Elt Ideal) ℓ) (c : Dev nD) : Value.res_main_v88 (F := Ideal) m c =
    (truncf .bf16 (both (prompt (m ((c : Thread nD τ).loc main_arg0)) (m ((c : Thread nD τ).loc main_arg1)) (m ((c : Thread nD τ).loc main_arg2)) (m ((c : Thread nD τ).loc main_arg5))) (samples (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) bitsLt_bf16_f32 : FVec Ideal S18432x2048 .bf16) := by
  unfold Value.res_main_v88 both prompt samples applyS wtsS sumS numS topS scoresS rawS allS applyP wtsP sumP numP topP scoresP rawP bandP paddedP maskP chunkOf
  rfl

/-- The greater of two arrays, at an index. -/
theorem maxAt {s : Shape} (x y : FVec Ideal s .f32) (i : s.Idx) : maximumf x y i = max (x i) (y i) := by
  show FloatOps.maximumf (x i) (y i) = _
  rw [Ideal.maximumf_eq_max]

/-- A constant array at an index. -/
theorem constAt {s : Shape} (b : BitVec 32) (i : s.Idx) : constant (F := Ideal) s .f32 b i = Ideal.ofBits .f32 b := rfl

/-- The operation a reduction folds is the order's. -/
theorem maxOp : (FloatOps.maximumf : Ideal .f32 → Ideal .f32 → Ideal .f32) = (max : EReal → EReal → EReal) := Ideal.maximumf_eq_max

/-- The source indices a reduction of the last of six axes reads at an index. -/
theorem fiber6 {n0 n1 n2 n3 n4 n5 : ℕ} (h : (⟨6, ![n0, n1, n2, n3, n4, n5]⟩ : Shape).ReducesTo [5] ⟨5, ![n0, n1, n2, n3, n4]⟩)
    (a : Fin n0) (b : Fin n1) (c : Fin n2) (e : Fin n3) (f : Fin n4) (i : (⟨6, ![n0, n1, n2, n3, n4, n5]⟩ : Shape).Idx) :
    h.drop i = ix5 a b c e f ↔ ∃ k : Fin n5, ix6 a b c e f k = i := by
  constructor
  · intro p
    refine ⟨i 5, ?_⟩
    funext d; apply Fin.ext
    match d with
    | ⟨0, _⟩ => exact (congrArg Fin.val (congrFun p 0)).symm
    | ⟨1, _⟩ => exact (congrArg Fin.val (congrFun p 1)).symm
    | ⟨2, _⟩ => exact (congrArg Fin.val (congrFun p 2)).symm
    | ⟨3, _⟩ => exact (congrArg Fin.val (congrFun p 3)).symm
    | ⟨4, _⟩ => exact (congrArg Fin.val (congrFun p 4)).symm
    | ⟨5, _⟩ => rfl
  · rintro ⟨k, rfl⟩
    funext d
    apply Fin.ext
    match d with
    | ⟨0, _⟩ => rfl
    | ⟨1, _⟩ => rfl
    | ⟨2, _⟩ => rfl
    | ⟨3, _⟩ => rfl
    | ⟨4, _⟩ => rfl

/-- The greatest along the last of six axes. -/
theorem max6 {n0 n1 n2 n3 n4 n5 : ℕ} {u : Shape} (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : u.Idx → EReal) (hu : 0 < u.numel)
    (a : Fin n0) (b : Fin n1) (c : Fin n2) (e : Fin n3) (f : Fin n4) :
    Host.reduce (max : EReal → EReal → EReal) v init h hu (ix5 a b c e f) = Finset.fold max (init (Shape.Idx.first hu)) (fun k : Fin n5 => v (ix6 a b c e f k)) Finset.univ := by
  rw [Host.reduce_eq_fold]
  exact Finset.fold_filter_eq_fold_of_fiber max _ (fun k : Fin n5 => ix6 a b c e f k) (fun _ _ p => congrFun p 5) (fiber6 h a b c e f) _ v

/-- The sum along the last of six axes. -/
theorem sum6 {n0 n1 n2 n3 n4 n5 : ℕ} (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal)
    (a : Fin n0) (b : Fin n1) (c : Fin n2) (e : Fin n3) (f : Fin n4) :
    Ideal.hostReduceAdd h v init (ix5 a b c e f) = init + ∑ k : Fin n5, v (ix6 a b c e f k) :=
  congrArg (init + ·) (Finset.sum_filter_eq_sum_of_fiber _ (fun k : Fin n5 => ix6 a b c e f k) (fun _ _ p => congrFun p 5) (fiber6 h a b c e f) v)

/-- A row of both. -/
theorem both_at (p : FVec Ideal S16384x2048 .f32) (s : FVec Ideal S2048x2048 .f32) (r : Fin 18432) (n : Fin 2048) :
    both p s (ix2 r n) = if h : (r : ℕ) < 16384 then p (ix2 ⟨r, h⟩ n) else s (ix2 ⟨(r : ℕ) - 16384, by omega⟩ n) := by
  pointwise [both]

/-- A padded row. -/
theorem paddedP_at (x : FVec Ideal S18432x256 .bf16) (a : Fin 258) (b : Fin 64) (g : Fin 4) (d : Fin 64) :
    paddedP x (ix5 0 a b g d) = if h : (a : ℕ) * 64 + b < 128 then 0 else x (ix2 ⟨(a : ℕ) * 64 + b - 128, by omega⟩ ⟨(g : ℕ) * 64 + d, by omega⟩) := by
  pointwise [paddedP]

/-- A padded row depends on its position alone. -/
theorem pad_congr (y : FVec Ideal S1x258x64x4x64 .f32) {a a' : Fin 258} {b b' : Fin 64} (g : Fin 4) (d : Fin 64) (ha : (a : ℕ) = a') (hb : (b : ℕ) = b') :
    y (ix5 0 a b g d) = y (ix5 0 a' b' g d) := by
  obtain rfl := Fin.ext ha; obtain rfl := Fin.ext hb; rfl

/-- A window's row. -/
theorem bandP_at (y : FVec Ideal S1x258x64x4x64 .f32) (a : Fin 256) (j : Fin 192) (g : Fin 4) (d : Fin 64) :
    bandP y (ix5 0 a j g d) = y (ix5 0 ⟨(a : ℕ) + (j : ℕ) / 64, by omega⟩ ⟨(j : ℕ) % 64, by omega⟩ g d) := by
  pointwise [bandP]
  by_cases h : (j : ℕ) < 64
  · rw [dif_pos h]
    refine pad_congr y g d ?_ ?_ <;> simp only <;> omega
  rw [dif_neg h]
  by_cases h' : (j : ℕ) - 64 < 64
  · rw [dif_pos h']
    refine pad_congr y g d ?_ ?_ <;> simp only <;> omega
  · rw [dif_neg h']
    refine pad_congr y g d ?_ ?_ <;> simp only <;> omega

/-- A product. -/
theorem rawP_at (k : FVec Ideal S1x256x192x4x64 .f32) (q : FVec Ideal S18432x2048 .bf16) (a : Fin 256) (g : Fin 4) (h : Fin 8) (i : Fin 64) (j : Fin 192) :
    rawP k q (ix6 0 a g h i j) = ∑ d : Fin 64, k (ix5 0 a j g d) * q (ix2 ⟨(a : ℕ) * 64 + i, by omega⟩ ⟨(g : ℕ) * 512 + (h : ℕ) * 64 + d, by omega⟩) := by
  pointwise [rawP]

/-- A score. -/
theorem scoresP_at (r : FVec Ideal S1x256x4x8x64x192 .f32) (b : IVec S256x192 1) (z : FVec Ideal S32 .f32) (a : Fin 256) (g : Fin 4) (h : Fin 8) (i : Fin 64) (j : Fin 193) :
    scoresP r b z (ix6 0 a g h i j) = if hj : (j : ℕ) < 192 then Scalar.select (b (ix2 a ⟨j, hj⟩)) (r (ix6 0 a g h i ⟨j, hj⟩)) (Ideal.ofBits .f32 4286578688#32)
      else z (ix1 ⟨(g : ℕ) * 8 + h, by omega⟩) := by
  pointwise [scoresP, id_eq]

/-- A row's greatest score. -/
theorem topP_at (s : FVec Ideal S1x256x4x8x64x193 .f32) (a : Fin 256) (g : Fin 4) (h : Fin 8) (i : Fin 64) :
    topP s (ix5 0 a g h i) = top (fun j : Fin 193 => s (ix6 0 a g h i j)) := by
  unfold topP top
  rw [maxAt, maxOp, max6, constAt]
  exact (congrArg₂ max low rfl).trans (max_bot_left _)

/-- A row's sum. -/
theorem sumP_at (e : FVec Ideal S1x256x4x8x64x193 .f32) (a : Fin 256) (g : Fin 4) (h : Fin 8) (i : Fin 64) :
    sumP e (ix5 0 a g h i) = ∑ j : Fin 193, e (ix6 0 a g h i j) := by
  pointwise [sumP]
  rw [sum6, zero_add]

/-- An exponential. -/
theorem numP_at (s : FVec Ideal S1x256x4x8x64x193 .f32) (p : FVec Ideal S1x256x4x8x64 .f32) (a : Fin 256) (g : Fin 4) (h : Fin 8) (i : Fin 64) (j : Fin 193) :
    numP s p (ix6 0 a g h i j) = Ideal.exp (s (ix6 0 a g h i j) - p (ix5 0 a g h i)) := by
  pointwise [numP]

/-- A weight. -/
theorem wtsP_at (e : FVec Ideal S1x256x4x8x64x193 .f32) (d : FVec Ideal S1x256x4x8x64 .f32) (a : Fin 256) (g : Fin 4) (h : Fin 8) (i : Fin 64) (j : Fin 193) :
    wtsP e d (ix6 0 a g h i j) = Ideal.div (e (ix6 0 a g h i j)) (d (ix5 0 a g h i)) := by
  pointwise [wtsP]

/-- A result. -/
theorem applyP_at (v : FVec Ideal S1x256x192x4x64 .f32) (w : FVec Ideal S1x256x4x8x64x193 .f32) (r : Fin 16384) (n : Fin 2048) :
    applyP v w (ix2 r n) = ∑ j : Fin 192, v (ix5 0 ⟨(r : ℕ) / 64, by omega⟩ j ⟨(n : ℕ) / 512, by omega⟩ ⟨(n : ℕ) % 64, by omega⟩)
      * w (ix6 0 ⟨(r : ℕ) / 64, by omega⟩ ⟨(n : ℕ) / 512, by omega⟩ ⟨(n : ℕ) / 64 % 8, by omega⟩ ⟨(r : ℕ) % 64, by omega⟩ ⟨j, by omega⟩) := by
  pointwise [applyP]

/-- A sample's window's row. -/
theorem allS_at (o : FVec Ideal S32x128x4x64 .f32) (x : FVec Ideal S18432x256 .bf16) (a : Fin 32) (j : Fin 192) (g : Fin 4) (d : Fin 64) :
    allS o x (ix5 a 0 j g d) = if h : (j : ℕ) < 128 then o (ix4 a ⟨j, h⟩ g d) else x (ix2 ⟨16384 + ((a : ℕ) * 64 + ((j : ℕ) - 128)), by omega⟩ ⟨(g : ℕ) * 64 + d, by omega⟩) := by
  pointwise [allS]

/-- A product. -/
theorem rawS_at (k : FVec Ideal S32x1x192x4x64 .f32) (q : FVec Ideal S18432x2048 .bf16) (a : Fin 32) (g : Fin 4) (h : Fin 8) (i : Fin 64) (j : Fin 192) :
    rawS k q (ix6 a 0 g h i j) = ∑ d : Fin 64, k (ix5 a 0 j g d) * q (ix2 ⟨16384 + ((a : ℕ) * 64 + i), by omega⟩ ⟨(g : ℕ) * 512 + (h : ℕ) * 64 + d, by omega⟩) := by
  pointwise [rawS]

/-- A score. -/
theorem scoresS_at (r : FVec Ideal S32x1x4x8x64x192 .f32) (z : FVec Ideal S32 .f32) (a : Fin 32) (g : Fin 4) (h : Fin 8) (i : Fin 64) (j : Fin 193) :
    scoresS r z (ix6 a 0 g h i j) = if hj : (j : ℕ) < 192 then r (ix6 a 0 g h i ⟨j, hj⟩) else z (ix1 ⟨(g : ℕ) * 8 + h, by omega⟩) := by
  pointwise [scoresS]

/-- A row's greatest score. -/
theorem topS_at (s : FVec Ideal S32x1x4x8x64x193 .f32) (a : Fin 32) (g : Fin 4) (h : Fin 8) (i : Fin 64) :
    topS s (ix5 a 0 g h i) = top (fun j : Fin 193 => s (ix6 a 0 g h i j)) := by
  unfold topS top
  rw [maxAt, maxOp, max6, constAt]
  exact (congrArg₂ max low rfl).trans (max_bot_left _)

/-- A row's sum. -/
theorem sumS_at (e : FVec Ideal S32x1x4x8x64x193 .f32) (a : Fin 32) (g : Fin 4) (h : Fin 8) (i : Fin 64) :
    sumS e (ix5 a 0 g h i) = ∑ j : Fin 193, e (ix6 a 0 g h i j) := by
  pointwise [sumS]
  rw [sum6, zero_add]

/-- An exponential. -/
theorem numS_at (s : FVec Ideal S32x1x4x8x64x193 .f32) (p : FVec Ideal S32x1x4x8x64 .f32) (a : Fin 32) (g : Fin 4) (h : Fin 8) (i : Fin 64) (j : Fin 193) :
    numS s p (ix6 a 0 g h i j) = Ideal.exp (s (ix6 a 0 g h i j) - p (ix5 a 0 g h i)) := by
  pointwise [numS]

/-- A weight. -/
theorem wtsS_at (e : FVec Ideal S32x1x4x8x64x193 .f32) (d : FVec Ideal S32x1x4x8x64 .f32) (a : Fin 32) (g : Fin 4) (h : Fin 8) (i : Fin 64) (j : Fin 193) :
    wtsS e d (ix6 a 0 g h i j) = Ideal.div (e (ix6 a 0 g h i j)) (d (ix5 a 0 g h i)) := by
  pointwise [wtsS]

/-- A result. -/
theorem applyS_at (v : FVec Ideal S32x1x192x4x64 .f32) (w : FVec Ideal S32x1x4x8x64x193 .f32) (r : Fin 2048) (n : Fin 2048) :
    applyS v w (ix2 r n) = ∑ j : Fin 192, v (ix5 ⟨(r : ℕ) / 64, by omega⟩ 0 j ⟨(n : ℕ) / 512, by omega⟩ ⟨(n : ℕ) % 64, by omega⟩)
      * w (ix6 ⟨(r : ℕ) / 64, by omega⟩ 0 ⟨(n : ℕ) / 512, by omega⟩ ⟨(n : ℕ) / 64 % 8, by omega⟩ ⟨(r : ℕ) % 64, by omega⟩ ⟨j, by omega⟩) := by
  pointwise [applyS]

/-- The chunk of a column is the column over 64. -/
theorem chunk_at (j : Fin 192) : chunkOf (ix2 0 j) = BitVec.ofNat 32 ((j : ℕ) / 64) := by
  pointwise [chunkOf, id_eq]
  revert j
  decide +kernel

/-- The mask holds from the first prompt row on. -/
theorem mask_at (a : Fin 256) (j : Fin 192) : maskP (ix2 a j) = if 64 * (a : ℕ) + (j : ℕ) < 128 then 0#1 else 1#1 := by
  have e : ∀ (a : Fin 256) (k : Fin 3), IntOp.cmpi CmpIPredicate.sge (IntOp.subi (IntOp.addi (BitVec.ofNat 32 a) (BitVec.ofNat 32 k)) 2#32) 0#32
      = if (a : ℕ) + (k : ℕ) < 2 then 0#1 else 1#1 := by decide +kernel
  pointwise [maskP]
  rw [chunk_at]
  refine (e a ⟨(j : ℕ) / 64, by omega⟩).trans ?_
  by_cases h : 64 * (a : ℕ) + (j : ℕ) < 128
  · rw [if_pos h, if_pos (by simp only; omega)]
  · rw [if_neg h, if_neg (by simp only; omega)]

/-- A prompt chunk's window. -/
theorem window_at (K : FVec Ideal S18432x256 .bf16) (o : FVec Ideal S32x128x4x64 .f32) (a : Fin 256) (j : Fin 192) (g : Fin 4) (d : Fin 64) :
    bandP (paddedP K) (ix5 0 a j g d) = keyAt (rows K) (olds o) ⟨a, by omega⟩ g j d := by
  rw [bandP_at, paddedP_at]
  unfold keyAt rows
  rw [dif_pos (show ((⟨a, by omega⟩ : Fin 288) : ℕ) < 256 from a.2)]
  by_cases h : 64 * (a : ℕ) + (j : ℕ) < 128
  · rw [dif_pos (by simp only; omega), if_pos h]
  · rw [dif_neg (by simp only; omega), if_neg h]
    refine row_congr K ?_ ?_ <;> simp only <;> omega

/-- A sample's window. -/
theorem windowS_at (K : FVec Ideal S18432x256 .bf16) (o : FVec Ideal S32x128x4x64 .f32) (a : Fin 32) (j : Fin 192) (g : Fin 4) (d : Fin 64) :
    allS o K (ix5 a 0 j g d) = keyAt (rows K) (olds o) ⟨256 + (a : ℕ), by omega⟩ g j d := by
  rw [allS_at]
  unfold keyAt rows olds
  rw [dif_neg (show ¬ ((⟨256 + (a : ℕ), by omega⟩ : Fin 288) : ℕ) < 256 by simp only; omega)]
  by_cases h : (j : ℕ) < 128
  · rw [dif_pos h, dif_pos h]
    refine cache_congr o ?_ ?_ ?_ ?_ <;> simp only <;> omega
  · rw [dif_neg h, dif_neg h]
    refine row_congr K ?_ ?_ <;> simp only <;> omega

/-- A query's entry depends on its position alone. -/
theorem q_congr (Q : FVec Ideal S18432x2048 .bf16) {r r' : Fin 18432} {n n' : Fin 2048} (hr : (r : ℕ) = r') (hn : (n : ℕ) = n') : Q (ix2 r n) = Q (ix2 r' n') := by
  obtain rfl := Fin.ext hr; obtain rfl := Fin.ext hn; rfl

/-- A sink depends on its position alone. -/
theorem z_congr (z : FVec Ideal S32 .f32) {r r' : Fin 32} (hr : (r : ℕ) = r') : z (ix1 r) = z (ix1 r') := by
  obtain rfl := Fin.ext hr; rfl

/-- A reference score is attention's. -/
theorem scoreP (Q : FVec Ideal S18432x2048 .bf16) (K : FVec Ideal S18432x256 .bf16) (oK : FVec Ideal S32x128x4x64 .f32) (z : FVec Ideal S32 .f32)
    (r : Fin 16384) (n : Fin 2048) (j : Fin 193) :
    scoresP (rawP (bandP (paddedP K)) Q) maskP z (ix6 0 ⟨(r : ℕ) / 64, by omega⟩ ⟨(n : ℕ) / 512, by omega⟩ ⟨(n : ℕ) / 64 % 8, by omega⟩ ⟨(r : ℕ) % 64, by omega⟩ j) = scores (fun d => queries Q ⟨r, by omega⟩ ⟨64 * ((n : ℕ) / 64) + d, by omega⟩) (rows K) (olds oK) ⟨(r : ℕ) / 64, by omega⟩ ⟨(n : ℕ) / 512, by omega⟩ (z (ix1 ⟨(n : ℕ) / 64, by omega⟩)) j := by
  rw [scoresP_at]
  unfold scores
  by_cases hj : (j : ℕ) < 192
  · rw [dif_pos hj, dif_pos hj, mask_at]
    by_cases h : 64 * ((r : ℕ) / 64) + (j : ℕ) < 128
    · rw [if_pos h, if_pos (show _ ∧ _ from ⟨by simp only; omega, h⟩)]
      exact low
    · rw [if_neg h, if_neg (show ¬ (_ ∧ _) from fun q => h q.2)]
      refine Eq.trans (rawP_at _ _ _ _ _ _ _) (Finset.sum_congr rfl fun d _ => ?_)
      rw [window_at K oK, mul_comm]
      refine congrArg (· * _) (q_congr Q ?_ ?_) <;> simp only <;> omega
  · rw [dif_neg hj, dif_neg hj]
    refine z_congr z ?_
    simp only; omega

/-- A reference weight, from its row's scores. -/
theorem weightP (s : FVec Ideal S1x256x4x8x64x193 .f32) (r : Fin 16384) (n : Fin 2048) (f : Fin 193 → EReal)
    (hf : ∀ j, s (ix6 0 ⟨(r : ℕ) / 64, by omega⟩ ⟨(n : ℕ) / 512, by omega⟩ ⟨(n : ℕ) / 64 % 8, by omega⟩ ⟨(r : ℕ) % 64, by omega⟩ j) = f j) (j : Fin 193) :
    wtsP (numP s (topP s)) (sumP (numP s (topP s))) (ix6 0 ⟨(r : ℕ) / 64, by omega⟩ ⟨(n : ℕ) / 512, by omega⟩ ⟨(n : ℕ) / 64 % 8, by omega⟩ ⟨(r : ℕ) % 64, by omega⟩ j) = Ideal.div (wt f j) (∑ x : Fin 193, wt f x) := by
  obtain rfl : (fun j => s (ix6 0 ⟨(r : ℕ) / 64, by omega⟩ ⟨(n : ℕ) / 512, by omega⟩ ⟨(n : ℕ) / 64 % 8, by omega⟩ ⟨(r : ℕ) % 64, by omega⟩ j)) = f := funext hf
  rw [wtsP_at, sumP_at]
  simp only [numP_at, topP_at]
  rfl

/-- The rows are attention's. -/
theorem prompt_at (Q : FVec Ideal S18432x2048 .bf16) (K V : FVec Ideal S18432x256 .bf16) (oK oV : FVec Ideal S32x128x4x64 .f32) (z : FVec Ideal S32 .f32)
    (r : Fin 16384) (n : Fin 2048) :
    prompt Q K V z (ix2 r n) = att (scores (fun d => queries Q ⟨r, by omega⟩ ⟨64 * ((n : ℕ) / 64) + d, by omega⟩) (rows K) (olds oK) ⟨(r : ℕ) / 64, by omega⟩ ⟨(n : ℕ) / 512, by omega⟩ (z (ix1 ⟨(n : ℕ) / 64, by omega⟩))) (fun c => keyAt (rows V) (olds oV) ⟨(r : ℕ) / 64, by omega⟩ ⟨(n : ℕ) / 512, by omega⟩ c ⟨(n : ℕ) % 64, by omega⟩) := by
  unfold prompt
  refine (applyP_at _ _ r n).trans ?_
  unfold att
  refine Finset.sum_congr rfl fun c _ => ?_
  rw [weightP _ r n _ (scoreP Q K oK z r n), window_at V oV, mul_comm]

/-- A reference score is attention's. -/
theorem scoreS (Q : FVec Ideal S18432x2048 .bf16) (K : FVec Ideal S18432x256 .bf16) (oK : FVec Ideal S32x128x4x64 .f32) (z : FVec Ideal S32 .f32)
    (r : Fin 2048) (n : Fin 2048) (j : Fin 193) :
    scoresS (rawS (allS oK K) Q) z (ix6 ⟨(r : ℕ) / 64, by omega⟩ 0 ⟨(n : ℕ) / 512, by omega⟩ ⟨(n : ℕ) / 64 % 8, by omega⟩ ⟨(r : ℕ) % 64, by omega⟩ j) = scores (fun d => queries Q ⟨16384 + (r : ℕ), by omega⟩ ⟨64 * ((n : ℕ) / 64) + d, by omega⟩) (rows K) (olds oK) ⟨256 + (r : ℕ) / 64, by omega⟩ ⟨(n : ℕ) / 512, by omega⟩ (z (ix1 ⟨(n : ℕ) / 64, by omega⟩)) j := by
  rw [scoresS_at]
  unfold scores
  by_cases hj : (j : ℕ) < 192
  · rw [dif_pos hj, dif_pos hj, if_neg (show ¬ (_ ∧ _) from fun q => by have := q.1; simp only at this; omega)]
    rw [rawS_at]
    refine Finset.sum_congr rfl fun d _ => ?_
    rw [windowS_at K oK, mul_comm]
    refine congrArg (· * _) (q_congr Q ?_ ?_) <;> simp only <;> omega
  · rw [dif_neg hj, dif_neg hj]
    refine z_congr z ?_
    simp only; omega

/-- A reference weight, from its row's scores. -/
theorem weightS (s : FVec Ideal S32x1x4x8x64x193 .f32) (r : Fin 2048) (n : Fin 2048) (f : Fin 193 → EReal)
    (hf : ∀ j, s (ix6 ⟨(r : ℕ) / 64, by omega⟩ 0 ⟨(n : ℕ) / 512, by omega⟩ ⟨(n : ℕ) / 64 % 8, by omega⟩ ⟨(r : ℕ) % 64, by omega⟩ j) = f j) (j : Fin 193) :
    wtsS (numS s (topS s)) (sumS (numS s (topS s))) (ix6 ⟨(r : ℕ) / 64, by omega⟩ 0 ⟨(n : ℕ) / 512, by omega⟩ ⟨(n : ℕ) / 64 % 8, by omega⟩ ⟨(r : ℕ) % 64, by omega⟩ j) = Ideal.div (wt f j) (∑ x : Fin 193, wt f x) := by
  obtain rfl : (fun j => s (ix6 ⟨(r : ℕ) / 64, by omega⟩ 0 ⟨(n : ℕ) / 512, by omega⟩ ⟨(n : ℕ) / 64 % 8, by omega⟩ ⟨(r : ℕ) % 64, by omega⟩ j)) = f := funext hf
  rw [wtsS_at, sumS_at]
  simp only [numS_at, topS_at]
  rfl

/-- The rows are attention's. -/
theorem samples_at (Q : FVec Ideal S18432x2048 .bf16) (K V : FVec Ideal S18432x256 .bf16) (oK oV : FVec Ideal S32x128x4x64 .f32) (z : FVec Ideal S32 .f32)
    (r : Fin 2048) (n : Fin 2048) :
    samples Q K V oK oV z (ix2 r n) = att (scores (fun d => queries Q ⟨16384 + (r : ℕ), by omega⟩ ⟨64 * ((n : ℕ) / 64) + d, by omega⟩) (rows K) (olds oK) ⟨256 + (r : ℕ) / 64, by omega⟩ ⟨(n : ℕ) / 512, by omega⟩ (z (ix1 ⟨(n : ℕ) / 64, by omega⟩))) (fun c => keyAt (rows V) (olds oV) ⟨256 + (r : ℕ) / 64, by omega⟩ ⟨(n : ℕ) / 512, by omega⟩ c ⟨(n : ℕ) % 64, by omega⟩) := by
  unfold samples
  refine (applyS_at _ _ r n).trans ?_
  unfold att
  refine Finset.sum_congr rfl fun c _ => ?_
  rw [weightS _ r n _ (scoreS Q K oK z r n), windowS_at V oV, mul_comm]

/-- The reference's result is attention of every row's window. -/
theorem out_eq (Q : FVec Ideal S18432x2048 .bf16) (K V : FVec Ideal S18432x256 .bf16) (oK oV : FVec Ideal S32x128x4x64 .f32) (z : FVec Ideal S32 .f32)
    (x : S18432x2048.Idx) : both (prompt Q K V z) (samples Q K V oK oV z) x = outArr Q K V oK oV z x := by
  idx_vars x
  rw [both_at]
  have e := out_row Q K V oK oV z ⟨(x0 : ℕ) / 64, by omega⟩ ⟨(x0 : ℕ) % 64, by omega⟩ x1 (ix2 x0 x1) (by show (x0 : ℕ) = 64 * ((x0 : ℕ) / 64) + (x0 : ℕ) % 64; omega) rfl
  rw [e]
  have er : (⟨64 * ((⟨(x0 : ℕ) / 64, by omega⟩ : Fin 288) : ℕ) + ((⟨(x0 : ℕ) % 64, by omega⟩ : Fin 64) : ℕ), by simp only; omega⟩ : Fin 18432) = x0 := Fin.ext (by simp only; omega)
  rw [er]
  by_cases h : (x0 : ℕ) < 16384
  · rw [dif_pos h]
    exact prompt_at Q K V oK oV z ⟨x0, h⟩ x1
  · rw [dif_neg h, samples_at Q K V oK oV z]
    have e1 : (⟨16384 + ((x0 : ℕ) - 16384), by omega⟩ : Fin 18432) = x0 := Fin.ext (by simp only; omega)
    have e2 : (⟨256 + ((x0 : ℕ) - 16384) / 64, by omega⟩ : Fin 288) = ⟨(x0 : ℕ) / 64, by omega⟩ := Fin.ext (by simp only; omega)
    simp only [e1, e2]

/-- The same of a run's memory; the narrowing to bfloat16 is exact here. -/
theorem outs_run (m : (ℓ : Loc nD τ sig) → Buf (Elt Ideal) ℓ) (c : Dev nD) (Q : FVec Ideal S18432x2048 .bf16) (K V : FVec Ideal S18432x256 .bf16)
    (oK oV : FVec Ideal S32x128x4x64 .f32) (z : FVec Ideal S32 .f32) (h0 : m ((c : Thread nD τ).loc main_arg0) = Q) (h1 : m ((c : Thread nD τ).loc main_arg1) = K)
    (h2 : m ((c : Thread nD τ).loc main_arg2) = V) (h3 : m ((c : Thread nD τ).loc main_arg3) = oK) (h4 : m ((c : Thread nD τ).loc main_arg4) = oV)
    (h5 : m ((c : Thread nD τ).loc main_arg5) = z) : Value.res_main_v88 (F := Ideal) m c = outArr Q K V oK oV z := by
  rw [parts, h0, h1, h2, h3, h4, h5]
  funext x
  exact out_eq Q K V oK oV z x

end Cert.AttnCoreRefIdeal.RefValue

end
-- ==== Proof.AttnCoreClaim.lean ====
/- Hand-written: the claims about the attention's core. -/
module
public import proofs.«01_k».proof.Defs
public import proofs.«01_k».proof.Proof.Gen.Pre_finite_scores
public import proofs.«01_k».proof.Proof.Gen.AttnCore
public import proofs.«01_k».proof.Proof.Gen.AttnCore.Frame
public import proofs.«01_k».proof.Proof.AttnCoreRef
public import Idealize.ShloMosaic.Adequacy
public import Idealize.ShloMosaic.Init

@[expose] public section

noncomputable section

namespace Cert.Proof.AttnCore

open Idealize.ShloMosaic Idealize.ShloMosaic.TcCoe Idealize.SL.Sem

/-- The kernel runs, keeps its arguments and ends with every counter at zero. -/
theorem frame_P : Cert.quiescent_AttnCore (hAttnCore := Cert.AttnCore.Gen.facts) := fun m g _ => Cert.AttnCore.Gen.frame m g

/-- So does its idealisation. -/
theorem frame_PI : Cert.quiescent_AttnCoreIdeal (hAttnCoreIdeal := Cert.AttnCoreIdeal.Gen.facts) := fun m g _ => Cert.AttnCoreIdeal.Gen.frame m g

/-- The same of finite arguments. -/
theorem frame_PI_pre : Cert.quiescent_AttnCoreIdeal_pre_finite_scores (hAttnCoreIdeal := Cert.AttnCoreIdeal.Gen.facts)
    (hPre_finite_scores := Cert.Pre_finite_scores.Gen.facts) := fun m g _ => Cert.AttnCoreIdeal.Gen.frame m g

/-- So does the reference, which has no counters. -/
theorem frame_RI : Cert.quiescent_AttnCoreRefIdeal (hAttnCoreRefIdeal := Cert.AttnCoreRefIdeal.Gen.facts) := fun m g _ =>
  (θ_run _ _ _).mono (fun r h => ⟨fun c => (h c).2, sem_eq_zero_of_no_sems (by decide) r.2⟩) (Cert.AttnCoreRefIdeal.Value.run (F := Ideal) m g)

/-- The same of finite arguments. -/
theorem frame_RI_pre : Cert.quiescent_AttnCoreRefIdeal_pre_finite_scores (hAttnCoreRefIdeal := Cert.AttnCoreRefIdeal.Gen.facts)
    (hPre_finite_scores := Cert.Pre_finite_scores.Gen.facts) := fun m g _ => frame_RI m g trivial

/-- A number whose absolute value is below infinity is finite. -/
theorem finite_of (x : EReal) (h : (FloatOps.cmpf .olt (FloatOps.hostAbsf (x : Ideal .f32)) (Ideal.ofBits .f32 2139095040#32) : BitVec 1) = 1#1) : x ≠ (⊤ : EReal) ∧ x ≠ (⊥ : EReal) := by
  have e : Ideal.ofBits .f32 2139095040#32 = (⊤ : EReal) := by simp [Ideal.ofBits, Ideal.ieee]
  rw [e] at h
  constructor <;> rintro rfl <;> revert h <;> simp [FloatOps.cmpf, FloatOps.hostAbsf, Ideal.cmp]

/-- Kernel and reference end with equal results, for finite queries, keys and sinks. -/
theorem algebraic : Cert.algebraic_AttnCoreIdeal_AttnCoreRefIdeal_pre_finite_scores (hAttnCoreIdeal := Cert.AttnCoreIdeal.Gen.facts)
    (hAttnCoreRefIdeal := Cert.AttnCoreRefIdeal.Gen.facts) (hPre_finite_scores := Cert.Pre_finite_scores.Gen.facts) := by
  intro m g m' g' hpre hagree
  refine ⟨_, (θ_run _ _ _).mono (fun r h c => ⟨((h c).1).trans (Cert.AttnCoreIdeal.Arr.outs m c (fun j => finite_of _ (congrFun (hpre c).1 j))
      (fun j => finite_of _ (congrFun (hpre c).2.1 j)) (fun j => finite_of _ (congrFun (hpre c).2.2.1 j)) (fun j => finite_of _ (congrFun (hpre c).2.2.2 j))), (h c).2⟩)
      (Cert.AttnCoreIdeal.Value.run_blocks (F := Ideal) m g),
    (θ_run _ _ _).mono (fun r h c => ⟨((h c).1).trans ?_, (h c).2⟩) (Cert.AttnCoreRefIdeal.Value.run (F := Ideal) m' g')⟩
  exact Cert.AttnCoreRefIdeal.RefValue.outs_run m' c _ _ _ _ _ _ (hagree c).1 (hagree c).2.1 (hagree c).2.2.1 (hagree c).2.2.2.1 (hagree c).2.2.2.2.1 (hagree c).2.2.2.2.2

end Cert.Proof.AttnCore

end
-- ==== Proof.lean ====
module

public import proofs.«01_k».proof.Defs
public import proofs.«01_k».proof.Proof.RetSampleClaim
public import proofs.«01_k».proof.Proof.MlpClaim
public import proofs.«01_k».proof.Proof.RetOutClaim
public import proofs.«01_k».proof.Proof.AttnOutClaim
public import proofs.«01_k».proof.Proof.RwkvOutClaim
public import proofs.«01_k».proof.Proof.RetProjClaim
public import proofs.«01_k».proof.Proof.MlpFinalClaim
public import proofs.«01_k».proof.Proof.AttnCoreClaim

@[expose] public section

noncomputable section

namespace Cert.Proof

open Idealize.ShloMosaic Idealize.SL.Sem

theorem claim : Cert.Claim :=
  ⟨Cert.RetSample.Gen.facts, Cert.RetSampleIdeal.Gen.facts, Cert.RetSampleRefIdeal.Gen.facts,
    Cert.Mlp.Gen.facts, Cert.MlpIdeal.Gen.facts, Cert.MlpRefIdeal.Gen.facts,
    Cert.RetOut.Gen.facts, Cert.RetOutIdeal.Gen.facts, Cert.RetOutRefIdeal.Gen.facts,
    Cert.AttnOut.Gen.facts, Cert.AttnOutIdeal.Gen.facts, Cert.AttnOutRefIdeal.Gen.facts,
    Cert.RwkvOut.Gen.facts, Cert.RwkvOutIdeal.Gen.facts, Cert.RwkvOutRefIdeal.Gen.facts,
    Cert.RetProj.Gen.facts, Cert.RetProjIdeal.Gen.facts, Cert.RetProjRefIdeal.Gen.facts,
    Cert.MlpFinal.Gen.facts, Cert.MlpFinalIdeal.Gen.facts, Cert.MlpFinalRefIdeal.Gen.facts,
    Cert.AttnCore.Gen.facts, Cert.AttnCoreIdeal.Gen.facts, Cert.AttnCoreRefIdeal.Gen.facts, Cert.Pre_finite_scores.Gen.facts,
    RetSample.frame_P, RetSample.frame_PI, RetSample.frame_RI,
    Mlp.frame_P, Mlp.frame_PI, Mlp.frame_RI,
    RetOut.frame_P, RetOut.frame_PI, RetOut.frame_RI,
    AttnOut.frame_P, AttnOut.frame_PI, AttnOut.frame_RI,
    RwkvOut.frame_P, RwkvOut.frame_PI, RwkvOut.frame_RI,
    RetProj.frame_P, RetProj.frame_PI, RetProj.frame_RI,
    MlpFinal.frame_P, MlpFinal.frame_PI, MlpFinal.frame_RI,
    AttnCore.frame_P, AttnCore.frame_PI, AttnCore.frame_PI_pre, AttnCore.frame_RI, AttnCore.frame_RI_pre,
    trivial, RetSample.algebraic,
    trivial, Mlp.algebraic,
    trivial, RetOut.algebraic,
    trivial, AttnOut.algebraic,
    trivial, RwkvOut.algebraic,
    trivial, RetProj.algebraic,
    trivial, MlpFinal.algebraic,
    trivial, AttnCore.algebraic⟩

end Cert.Proof

end
